-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_2)) (v2 : (c : Dev Cert.KernelIdeal.nD) → Buf (Elt Ideal) ((c.tc : Thread Cert.KernelIdeal.nD Cert.KernelIdeal.τ).loc Cert.KernelIdeal.main_v10_3)) (v3 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_v10_3) = v2 c
          ∧ r.2.mem ((c.tc : Thread Cert.KernelIdeal.nD Cert.KernelIdeal.τ).loc Cert.KernelIdeal.main_v10_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_inputs_fit : Cert.Pre_inputs_fit.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S64x768x1536 : Shape := ⟨3, ![64, 768, 1536]⟩
abbrev S64x768x12 : Shape := ⟨3, ![64, 768, 12]⟩
abbrev S64 : Shape := ⟨1, ![64]⟩
abbrev S1536x128 : Shape := ⟨2, ![1536, 128]⟩
abbrev S128 : Shape := ⟨1, ![128]⟩
abbrev S3072x128 : Shape := ⟨2, ![3072, 128]⟩
abbrev S128x1536 : Shape := ⟨2, ![128, 1536]⟩
abbrev S3072 : Shape := ⟨1, ![3072]⟩
abbrev S3072x192 : Shape := ⟨2, ![3072, 192]⟩
abbrev S192 : Shape := ⟨1, ![192]⟩
abbrev S_ : Shape := ⟨0, ![]⟩

class Facts : Prop where
  bcast_S_S64 : S_.BroadcastsInDim S64 (![] : Fin 0 → Fin S64.rank)
  bcast_S_S64x768x1536 : S_.BroadcastsInDim S64x768x1536 (![] : Fin 0 → Fin S64x768x1536.rank)
  bcast_S_S64x768x12 : S_.BroadcastsInDim S64x768x12 (![] : Fin 0 → Fin S64x768x12.rank)
  bitsLt_bf16_f32 : FTy.bits .bf16 < FTy.bits .f32
  bcast_S_S128x1536 : S_.BroadcastsInDim S128x1536 (![] : Fin 0 → Fin S128x1536.rank)

variable [Facts]

def fn {F : FTy → Type} [FloatOps F] (main_arg0 : FVec F S64x768x1536 .f32) (main_arg1 : FVec F S64x768x12 .f32) (main_arg2 : IVec S64 32) (main_arg3 : FVec F S1536x128 .fp8e4m3) (main_arg4 : FVec F S128 .f32) (main_arg5 : FVec F S3072x128 .fp8e4m3) (main_arg6 : FVec F S128 .f32) (main_arg7 : FVec F S128 .f32) (main_arg8 : FVec F S128 .f32) (main_arg9 : FVec F S128 .f32) (main_arg10 : FVec F S128x1536 .bf16) (main_arg11 : FVec F S3072 .f32) (main_arg12 : FVec F S3072 .f32) (main_arg13 : FVec F S3072x192 .fp8e4m3) (main_arg14 : FVec F S192 .f32) (main_arg15 : FVec F S192 .f32) : IVec S64 1 × IVec S64 1 × IVec S64x768x1536 1 × IVec S64x768x12 1 × IVec S128x1536 1 :=
  let main_c : IVec S_ 32 := constantI S_ 32 768#32
  let main_v0 : IVec S64 32 := broadcastInDim S64 ![] bcast_S_S64 main_c
  let main_v1 : IVec S64 1 := cmpi .sle main_arg2 main_v0
  let main_c_0 : IVec S_ 32 := constantI S_ 32 1#32
  let main_v2 : IVec S64 32 := broadcastInDim S64 ![] bcast_S_S64 main_c_0
  let main_v3 : IVec S64 1 := cmpi .sge main_arg2 main_v2
  let main_v4 : FVec F S64x768x1536 .f32 := Host.absf main_arg0
  let main_cst : FVec F S_ .f32 := constant S_ .f32 0x43E00000#32
  let main_v5 : FVec F S64x768x1536 .f32 := broadcastInDim S64x768x1536 ![] bcast_S_S64x768x1536 main_cst
  let main_v6 : IVec S64x768x1536 1 := cmpf .ole main_v4 main_v5
  let main_v7 : FVec F S64x768x12 .f32 := Host.absf main_arg1
  let main_cst_1 : FVec F S_ .f32 := constant S_ .f32 0x5D800000#32
  let main_v8 : FVec F S64x768x12 .f32 := broadcastInDim S64x768x12 ![] bcast_S_S64x768x12 main_cst_1
  let main_v9 : IVec S64x768x12 1 := cmpf .ole main_v7 main_v8
  let main_v10 : FVec F S128x1536 .f32 := (extf .f32 · bitsLt_bf16_f32) main_arg10
  let main_v11 : FVec F S128x1536 .f32 := Host.absf main_v10
  let main_cst_2 : FVec F S_ .f32 := constant S_ .f32 0x7F800000#32
  let main_v12 : FVec F S128x1536 .f32 := broadcastInDim S128x1536 ![] bcast_S_S128x1536 main_cst_2
  let main_v13 : IVec S128x1536 1 := cmpf .olt main_v11 main_v12
  (main_v1, main_v3, main_v6, main_v9, main_v13)
-- ==== Pre_lengths_fit.lean ====
abbrev S64x768x1536 : Shape := ⟨3, ![64, 768, 1536]⟩
abbrev S64x768x12 : Shape := ⟨3, ![64, 768, 12]⟩
abbrev S64 : Shape := ⟨1, ![64]⟩
abbrev S1536x128 : Shape := ⟨2, ![1536, 128]⟩
abbrev S128 : Shape := ⟨1, ![128]⟩
abbrev S3072x128 : Shape := ⟨2, ![3072, 128]⟩
abbrev S128x1536 : Shape := ⟨2, ![128, 1536]⟩
abbrev S3072 : Shape := ⟨1, ![3072]⟩
abbrev S3072x192 : Shape := ⟨2, ![3072, 192]⟩
abbrev S192 : Shape := ⟨1, ![192]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x768x1536 .f32) (main_arg1 : FVec F S64x768x12 .f32) (main_arg2 : IVec S64 32) (main_arg3 : FVec F S1536x128 .fp8e4m3) (main_arg4 : FVec F S128 .f32) (main_arg5 : FVec F S3072x128 .fp8e4m3) (main_arg6 : FVec F S128 .f32) (main_arg7 : FVec F S128 .f32) (main_arg8 : FVec F S128 .f32) (main_arg9 : FVec F S128 .f32) (main_arg10 : FVec F S128x1536 .bf16) (main_arg11 : FVec F S3072 .f32) (main_arg12 : FVec F S3072 .f32) (main_arg13 : FVec F S3072x192 .fp8e4m3) (main_arg14 : FVec F S192 .f32) (main_arg15 : FVec F S192 .f32) : IVec S64 1 :=
  let main_c : IVec S_ 32 := constantI S_ 32 768#32
  let main_v0 : IVec S64 32 := broadcastInDim S64 ![] bcast_S_S64 main_c
  let main_v1 : IVec S64 1 := cmpi .sle main_arg2 main_v0
  main_v1
-- ==== Kernel.lean ====
abbrev S64x768x1536 : Shape := ⟨3, ![64, 768, 1536]⟩
abbrev S64x768x12 : Shape := ⟨3, ![64, 768, 12]⟩
abbrev S64 : Shape := ⟨1, ![64]⟩
abbrev S1536x128 : Shape := ⟨2, ![1536, 128]⟩
abbrev S128 : Shape := ⟨1, ![128]⟩
abbrev S3072x128 : Shape := ⟨2, ![3072, 128]⟩
abbrev S128x1536 : Shape := ⟨2, ![128, 1536]⟩
abbrev S3072 : Shape := ⟨1, ![3072]⟩
abbrev S3072x192 : Shape := ⟨2, ![3072, 192]⟩
abbrev S192 : Shape := ⟨1, ![192]⟩
abbrev S1x128 : Shape := ⟨2, ![1, 128]⟩
abbrev S1x3072 : Shape := ⟨2, ![1, 3072]⟩
abbrev S1x192 : Shape := ⟨2, ![1, 192]⟩
abbrev S64x192 : Shape := ⟨2, ![64, 192]⟩
abbrev S64x3072 : Shape := ⟨2, ![64, 3072]⟩
abbrev S64x768x128 : Shape := ⟨3, ![64, 768, 128]⟩
abbrev S64x128 : Shape := ⟨2, ![64, 128]⟩
abbrev S1x768x1536 : Shape := ⟨3, ![1, 768, 1536]⟩
abbrev S1x768x12 : Shape := ⟨3, ![1, 768, 12]⟩
abbrev S1x768x128 : Shape := ⟨3, ![1, 768, 128]⟩
abbrev S768x1536 : Shape := ⟨2, ![768, 1536]⟩
abbrev S768x128 : Shape := ⟨2, ![768, 128]⟩
abbrev S2x8x1536 : Shape := ⟨3, ![2, 8, 1536]⟩
abbrev S3x8x1536 : Shape := ⟨3, ![3, 8, 1536]⟩
abbrev S1 : Shape := ⟨1, ![1]⟩
abbrev S128x12 : Shape := ⟨2, ![128, 12]⟩
abbrev S1x128x12 : Shape := ⟨3, ![1, 128, 12]⟩
abbrev S128x1 : Shape := ⟨2, ![128, 1]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S16x8x128 : Shape := ⟨3, ![16, 8, 128]⟩
abbrev S1x8x1536 : Shape := ⟨3, ![1, 8, 1536]⟩
abbrev S8x1536 : Shape := ⟨2, ![8, 1536]⟩
abbrev S1536 : Shape := ⟨1, ![1536]⟩
abbrev S1x1536 : Shape := ⟨2, ![1, 1536]⟩
abbrev S1x1 : Shape := ⟨2, ![1, 1]⟩
abbrev S1x256 : Shape := ⟨2, ![1, 256]⟩
abbrev S64x1 : Shape := ⟨2, ![64, 1]⟩
abbrev S64x256 : Shape := ⟨2, ![64, 256]⟩

abbrev nBuf : Space → Nat
  | .hbm => 32
  | .vmem => 29
  | .smem => 1
  | _ => 0

abbrev bufTy : (tb : Table) → Fin (tcTables nBuf tb) → BufTy
  | .hbm, ⟨0, _⟩ => ⟨S64x768x1536, .f32⟩
  | .hbm, ⟨1, _⟩ => ⟨S64x768x12, .f32⟩
  | .hbm, ⟨2, _⟩ => ⟨S1536x128, .fp8e4m3⟩
  | .hbm, ⟨3, _⟩ => ⟨S128, .f32⟩
  | .hbm, ⟨4, _⟩ => ⟨S3072x128, .fp8e4m3⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x1536, .bf16⟩
  | .hbm, ⟨10, _⟩ => ⟨S3072, .f32⟩
  | .hbm, ⟨11, _⟩ => ⟨S3072, .f32⟩
  | .hbm, ⟨12, _⟩ => ⟨S3072x192, .fp8e4m3⟩
  | .hbm, ⟨13, _⟩ => ⟨S192, .f32⟩
  | .hbm, ⟨14, _⟩ => ⟨S192, .f32⟩
  | .hbm, ⟨15, _⟩ => ⟨S64x768x1536, .fp8e4m3⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x3072, .f32⟩
  | .hbm, ⟨22, _⟩ => ⟨S1x3072, .f32⟩
  | .hbm, ⟨23, _⟩ => ⟨S1x192, .f32⟩
  | .hbm, ⟨24, _⟩ => ⟨S1x192, .f32⟩
  | .hbm, ⟨25, _⟩ => ⟨S64x192, .bf16⟩
  | .hbm, ⟨26, _⟩ => ⟨S64x3072, .f32⟩
  | .hbm, ⟨27, _⟩ => ⟨S64x768x128, .f32⟩
  | .hbm, ⟨28, _⟩ => ⟨S64x3072, .f32⟩
  | .hbm, ⟨29, _⟩ => ⟨S64x128, .f32⟩
  | .hbm, ⟨30, _⟩ => ⟨S64x3072, .fp8e4m3⟩
  | .hbm, ⟨31, _⟩ => ⟨S64x128, .f32⟩
  | .local _ .vmem, ⟨0, _⟩ => ⟨S1x768x1536, .fp8e4m3⟩
  | .local _ .vmem, ⟨1, _⟩ => ⟨S1x768x1536, .fp8e4m3⟩
  | .local _ .vmem, ⟨2, _⟩ => ⟨S1x768x12, .f32⟩
  | .local _ .vmem, ⟨3, _⟩ => ⟨S1x768x12, .f32⟩
  | .local _ .vmem, ⟨4, _⟩ => ⟨S1536x128, .fp8e4m3⟩
  | .local _ .vmem, ⟨5, _⟩ => ⟨S1x128, .f32⟩
  | .local _ .vmem, ⟨6, _⟩ => ⟨S3072x128, .fp8e4m3⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x1536, .bf16⟩
  | .local _ .vmem, ⟨12, _⟩ => ⟨S1x3072, .f32⟩
  | .local _ .vmem, ⟨13, _⟩ => ⟨S1x3072, .f32⟩
  | .local _ .vmem, ⟨14, _⟩ => ⟨S3072x192, .fp8e4m3⟩
  | .local _ .vmem, ⟨15, _⟩ => ⟨S1x192, .f32⟩
  | .local _ .vmem, ⟨16, _⟩ => ⟨S1x192, .f32⟩
  | .local _ .vmem, ⟨17, _⟩ => ⟨S64x192, .bf16⟩
  | .local _ .vmem, ⟨18, _⟩ => ⟨S64x3072, .f32⟩
  | .local _ .vmem, ⟨19, _⟩ => ⟨S1x768x128, .f32⟩
  | .local _ .vmem, ⟨20, _⟩ => ⟨S1x768x128, .f32⟩
  | .local _ .vmem, ⟨21, _⟩ => ⟨S64x3072, .f32⟩
  | .local _ .vmem, ⟨22, _⟩ => ⟨S64x128, .f32⟩
  | .local _ .vmem, ⟨23, _⟩ => ⟨S64x3072, .fp8e4m3⟩
  | .local _ .vmem, ⟨24, _⟩ => ⟨S64x128, .f32⟩
  | .local _ .vmem, ⟨25, _⟩ => ⟨S768x1536, .bf16⟩
  | .local _ .vmem, ⟨26, _⟩ => ⟨S768x128, .f32⟩
  | .local _ .vmem, ⟨27, _⟩ => ⟨S2x8x1536, .f32⟩
  | .local _ .vmem, ⟨28, _⟩ => ⟨S3x8x1536, .f32⟩
  | .local _ .smem, ⟨0, _⟩ => ⟨S64, .i32⟩
  | _, _ => ⟨S64x768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem19_0 : DmaSem sig := 22
abbrev cc0_sem20_0 : DmaSem sig := 23
abbrev cc0_sem21_0 : DmaSem sig := 24

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_9 : BitVec 32 := 1#32
  ⟨c0_i32_7, v19, c1_i32_9⟩

def k0_mult1 (v1 : BitVec 32) (k0_t1 : Fin (k0_t1_loop v1).trips) : BitVec 32 :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  v130
def k0_off2 (v1 : BitVec 32) (k0_t1 : Fin (k0_t1_loop v1).trips) : Fin 3 → Nat :=
  let c0_65 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v137 : Index := Scalar.indexCast v131
  let c0_66 : Index := 0#32
  ![0, v137.toNat, 0]
def k0_off3 (v1 : BitVec 32) (k0_t1 : Fin (k0_t1_loop v1).trips) : Fin 3 → Nat :=
  let c0_68 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v146 : Index := Scalar.indexCast v131
  let c0_69 : Index := 0#32
  ![0, v146.toNat, 0]
def k0_off4 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v151 : Index := Scalar.indexCast v131
  let c0_70 : Index := 0#32
  ![v151.toNat, 0]
def k0_off5 (v1 : BitVec 32) (k0_t1 : Fin (k0_t1_loop v1).trips) : Fin 3 → Nat :=
  let c0_85 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v176 : Index := Scalar.indexCast v131
  let c128 : Index := 128#32
  ![0, v176.toNat, 128]
def k0_off6 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v181 : Index := Scalar.indexCast v131
  let c128_86 : Index := 128#32
  ![v181.toNat, 128]
def k0_off7 (v1 : BitVec 32) (k0_t1 : Fin (k0_t1_loop v1).trips) : Fin 3 → Nat :=
  let c0_101 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v206 : Index := Scalar.indexCast v131
  let c256 : Index := 256#32
  ![0, v206.toNat, 256]
def k0_off8 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v211 : Index := Scalar.indexCast v131
  let c256_102 : Index := 256#32
  ![v211.toNat, 256]
def k0_off9 (v1 : BitVec 32) (k0_t1 : Fin (k0_t1_loop v1).trips) : Fin 3 → Nat :=
  let c0_117 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v236 : Index := Scalar.indexCast v131
  let c384 : Index := 384#32
  ![0, v236.toNat, 384]
def k0_off10 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v241 : Index := Scalar.indexCast v131
  let c384_118 : Index := 384#32
  ![v241.toNat, 384]
def k0_off11 (v1 : BitVec 32) (k0_t1 : Fin (k0_t1_loop v1).trips) : Fin 3 → Nat :=
  let c0_133 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v266 : Index := Scalar.indexCast v131
  let c512 : Index := 512#32
  ![0, v266.toNat, 512]
def k0_off12 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v271 : Index := Scalar.indexCast v131
  let c512_134 : Index := 512#32
  ![v271.toNat, 512]
def k0_off13 (v1 : BitVec 32) (k0_t1 : Fin (k0_t1_loop v1).trips) : Fin 3 → Nat :=
  let c0_149 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v296 : Index := Scalar.indexCast v131
  let c640 : Index := 640#32
  ![0, v296.toNat, 640]
def k0_off14 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v301 : Index := Scalar.indexCast v131
  let c640_150 : Index := 640#32
  ![v301.toNat, 640]
def k0_off15 (v1 : BitVec 32) (k0_t1 : Fin (k0_t1_loop v1).trips) : Fin 3 → Nat :=
  let c0_165 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v326 : Index := Scalar.indexCast v131
  let c768 : Index := 768#32
  ![0, v326.toNat, 768]
def k0_off16 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v331 : Index := Scalar.indexCast v131
  let c768_166 : Index := 768#32
  ![v331.toNat, 768]
def k0_off17 (v1 : BitVec 32) (k0_t1 : Fin (k0_t1_loop v1).trips) : Fin 3 → Nat :=
  let c0_181 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v356 : Index := Scalar.indexCast v131
  let c896 : Index := 896#32
  ![0, v356.toNat, 896]
def k0_off18 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v361 : Index := Scalar.indexCast v131
  let c896_182 : Index := 896#32
  ![v361.toNat, 896]
def k0_off19 (v1 : BitVec 32) (k0_t1 : Fin (k0_t1_loop v1).trips) : Fin 3 → Nat :=
  let c0_197 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v386 : Index := Scalar.indexCast v131
  let c1024 : Index := 1024#32
  ![0, v386.toNat, 1024]
def k0_off20 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v391 : Index := Scalar.indexCast v131
  let c1024_198 : Index := 1024#32
  ![v391.toNat, 1024]
def k0_off21 (v1 : BitVec 32) (k0_t1 : Fin (k0_t1_loop v1).trips) : Fin 3 → Nat :=
  let c0_213 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v416 : Index := Scalar.indexCast v131
  let c1152 : Index := 1152#32
  ![0, v416.toNat, 1152]
def k0_off22 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v421 : Index := Scalar.indexCast v131
  let c1152_214 : Index := 1152#32
  ![v421.toNat, 1152]
def k0_off23 (v1 : BitVec 32) (k0_t1 : Fin (k0_t1_loop v1).trips) : Fin 3 → Nat :=
  let c0_229 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v446 : Index := Scalar.indexCast v131
  let c1280 : Index := 1280#32
  ![0, v446.toNat, 1280]
def k0_off24 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v451 : Index := Scalar.indexCast v131
  let c1280_230 : Index := 1280#32
  ![v451.toNat, 1280]
def k0_off25 (v1 : BitVec 32) (k0_t1 : Fin (k0_t1_loop v1).trips) : Fin 3 → Nat :=
  let c0_245 : Index := 0#32
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v476 : Index := Scalar.indexCast v131
  let c1408 : Index := 1408#32
  ![0, v476.toNat, 1408]
def k0_off26 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v481 : Index := Scalar.indexCast v131
  let c1408_246 : Index := 1408#32
  ![v481.toNat, 1408]
def k0_off27 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v503 : Index := Scalar.indexCast v131
  let c0_261 : Index := 0#32
  ![v503.toNat, 0]
def k0_off28 (v1 : BitVec 32) (k0_t1 : Fin (k0_t1_loop v1).trips) : Fin 2 → Nat :=
  let c0_i32_7 : BitVec 32 := 0#32
  let c1_i32_9 : BitVec 32 := 1#32
  let arg28 : BitVec 32 := Scf.iv c0_i32_7 c1_i32_9 k0_t1
  let c128_i32_64 : BitVec 32 := 128#32
  let v130 : BitVec 32 := Scalar.muli arg28 c128_i32_64
  let v131 : BitVec 32 := v130
  let v508 : Index := Scalar.indexCast v131
  let c0_265 : Index := 0#32
  ![v508.toNat, 0]
@[reducible] def k0_t2_loop (v1 : BitVec 32) : Scf.Loop 32 :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let v16 : BitVec 32 := Scalar.addi c0_i32_7 v15
  let c1_i32_10 : BitVec 32 := 1#32
  ⟨v19, v16, c1_i32_10⟩
def k0_mult2 (v1 : BitVec 32) (k0_t2 : Fin (k0_t2_loop v1).trips) : BitVec 32 :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  v130
def k0_off29 (v1 : BitVec 32) (k0_t2 : Fin (k0_t2_loop v1).trips) : Fin 3 → Nat :=
  let c0_65 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v137 : Index := Scalar.indexCast v131
  let c0_66 : Index := 0#32
  ![0, v137.toNat, 0]
def k0_off30 (v1 : BitVec 32) (k0_t2 : Fin (k0_t2_loop v1).trips) : Fin 3 → Nat :=
  let c0_68 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v146 : Index := Scalar.indexCast v131
  let c0_69 : Index := 0#32
  ![0, v146.toNat, 0]
def k0_off31 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v151 : Index := Scalar.indexCast v131
  let c0_70 : Index := 0#32
  ![v151.toNat, 0]
def k0_off32 (v1 : BitVec 32) (k0_t2 : Fin (k0_t2_loop v1).trips) : Fin 3 → Nat :=
  let c0_85 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v176 : Index := Scalar.indexCast v131
  let c128 : Index := 128#32
  ![0, v176.toNat, 128]
def k0_off33 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v181 : Index := Scalar.indexCast v131
  let c128_86 : Index := 128#32
  ![v181.toNat, 128]
def k0_off34 (v1 : BitVec 32) (k0_t2 : Fin (k0_t2_loop v1).trips) : Fin 3 → Nat :=
  let c0_101 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v206 : Index := Scalar.indexCast v131
  let c256 : Index := 256#32
  ![0, v206.toNat, 256]
def k0_off35 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v211 : Index := Scalar.indexCast v131
  let c256_102 : Index := 256#32
  ![v211.toNat, 256]
def k0_off36 (v1 : BitVec 32) (k0_t2 : Fin (k0_t2_loop v1).trips) : Fin 3 → Nat :=
  let c0_117 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v236 : Index := Scalar.indexCast v131
  let c384 : Index := 384#32
  ![0, v236.toNat, 384]
def k0_off37 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v241 : Index := Scalar.indexCast v131
  let c384_118 : Index := 384#32
  ![v241.toNat, 384]
def k0_off38 (v1 : BitVec 32) (k0_t2 : Fin (k0_t2_loop v1).trips) : Fin 3 → Nat :=
  let c0_133 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v266 : Index := Scalar.indexCast v131
  let c512 : Index := 512#32
  ![0, v266.toNat, 512]
def k0_off39 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v271 : Index := Scalar.indexCast v131
  let c512_134 : Index := 512#32
  ![v271.toNat, 512]
def k0_off40 (v1 : BitVec 32) (k0_t2 : Fin (k0_t2_loop v1).trips) : Fin 3 → Nat :=
  let c0_149 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v296 : Index := Scalar.indexCast v131
  let c640 : Index := 640#32
  ![0, v296.toNat, 640]
def k0_off41 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v301 : Index := Scalar.indexCast v131
  let c640_150 : Index := 640#32
  ![v301.toNat, 640]
def k0_off42 (v1 : BitVec 32) (k0_t2 : Fin (k0_t2_loop v1).trips) : Fin 3 → Nat :=
  let c0_165 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v326 : Index := Scalar.indexCast v131
  let c768 : Index := 768#32
  ![0, v326.toNat, 768]
def k0_off43 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v331 : Index := Scalar.indexCast v131
  let c768_166 : Index := 768#32
  ![v331.toNat, 768]
def k0_off44 (v1 : BitVec 32) (k0_t2 : Fin (k0_t2_loop v1).trips) : Fin 3 → Nat :=
  let c0_181 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v356 : Index := Scalar.indexCast v131
  let c896 : Index := 896#32
  ![0, v356.toNat, 896]
def k0_off45 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v361 : Index := Scalar.indexCast v131
  let c896_182 : Index := 896#32
  ![v361.toNat, 896]
def k0_off46 (v1 : BitVec 32) (k0_t2 : Fin (k0_t2_loop v1).trips) : Fin 3 → Nat :=
  let c0_197 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v386 : Index := Scalar.indexCast v131
  let c1024 : Index := 1024#32
  ![0, v386.toNat, 1024]
def k0_off47 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v391 : Index := Scalar.indexCast v131
  let c1024_198 : Index := 1024#32
  ![v391.toNat, 1024]
def k0_off48 (v1 : BitVec 32) (k0_t2 : Fin (k0_t2_loop v1).trips) : Fin 3 → Nat :=
  let c0_213 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v416 : Index := Scalar.indexCast v131
  let c1152 : Index := 1152#32
  ![0, v416.toNat, 1152]
def k0_off49 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v421 : Index := Scalar.indexCast v131
  let c1152_214 : Index := 1152#32
  ![v421.toNat, 1152]
def k0_off50 (v1 : BitVec 32) (k0_t2 : Fin (k0_t2_loop v1).trips) : Fin 3 → Nat :=
  let c0_229 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v446 : Index := Scalar.indexCast v131
  let c1280 : Index := 1280#32
  ![0, v446.toNat, 1280]
def k0_off51 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v451 : Index := Scalar.indexCast v131
  let c1280_230 : Index := 1280#32
  ![v451.toNat, 1280]
def k0_off52 (v1 : BitVec 32) (k0_t2 : Fin (k0_t2_loop v1).trips) : Fin 3 → Nat :=
  let c0_245 : Index := 0#32
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v476 : Index := Scalar.indexCast v131
  let c1408 : Index := 1408#32
  ![0, v476.toNat, 1408]
def k0_off53 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v481 : Index := Scalar.indexCast v131
  let c1408_246 : Index := 1408#32
  ![v481.toNat, 1408]
def k0_off54 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v503 : Index := Scalar.indexCast v131
  let c0_261 : Index := 0#32
  ![v503.toNat, 0]
def k0_off55 (v1 : BitVec 32) (k0_t2 : Fin (k0_t2_loop v1).trips) : Fin 2 → Nat :=
  let c0_i32_7 : BitVec 32 := 0#32
  let c127_i32 : BitVec 32 := 127#32
  let v2 : BitVec 32 := Scalar.addi v1 c127_i32
  let c128_i32 : BitVec 32 := 128#32
  let v3 : BitVec 32 := Scalar.divsi v2 c128_i32
  let v15 : BitVec 32 := Scalar.subi v3 c0_i32_7
  let c1_i32_8 : BitVec 32 := 1#32
  let v17 : BitVec 32 := Scalar.divsi v15 c1_i32_8
  let v18 : BitVec 32 := Scalar.muli v17 c1_i32_8
  let v19 : BitVec 32 := Scalar.addi c0_i32_7 v18
  let c1_i32_10 : BitVec 32 := 1#32
  let arg28 : BitVec 32 := Scf.iv v19 c1_i32_10 k0_t2
  let c128_i32_64 : BitVec 32 := 128#32
  let v130 : BitVec 32 := Scalar.muli arg28 c128_i32_64
  let v131 : BitVec 32 := v130
  let v508 : Index := Scalar.indexCast v131
  let c0_265 : Index := 0#32
  ![v508.toNat, 0]
def k0_off56 (i : grid0.Coords) : Fin 2 → Nat :=
  let arg0 : BitVec 32 := BitVec.ofNat 32 (i 0).val
  let v79 : Index := Scalar.indexCast arg0
  let c0_31 : Index := 0#32
  ![v79.toNat, 0]
def k0_off57 (i : grid0.Coords) : Fin 2 → Nat :=
  let arg0 : BitVec 32 := BitVec.ofNat 32 (i 0).val
  let v83 : Index := Scalar.indexCast arg0
  let c0_32 : Index := 0#32
  ![v83.toNat, 0]
@[reducible] def k0_t3_loop (v1 : BitVec 32) : Scf.Loop 32 :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_47 : BitVec 32 := 1#32
  ⟨c0_i32_45, v101, c1_i32_47⟩
def k0_mult3 (v1 : BitVec 32) (k0_t3 : Fin (k0_t3_loop v1).trips) : BitVec 32 :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  v130
def k0_off58 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v132 : Index := Scalar.indexCast v131
  let c0_65 : Index := 0#32
  ![v132.toNat, 0]
def k0_off59 (v1 : BitVec 32) (k0_t3 : Fin (k0_t3_loop v1).trips) : Fin 3 → Nat :=
  let c0_74 : Index := 0#32
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v158 : Index := Scalar.indexCast v131
  let c0_75 : Index := 0#32
  ![0, v158.toNat, 0]
def k0_off60 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v168 : Index := Scalar.indexCast v131
  let c0_80 : Index := 0#32
  ![v168.toNat, 0]
def k0_off61 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v202 : Index := Scalar.indexCast v131
  let c128_105 : Index := 128#32
  ![v202.toNat, 128]
def k0_off62 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v236 : Index := Scalar.indexCast v131
  let c256_130 : Index := 256#32
  ![v236.toNat, 256]
def k0_off63 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v270 : Index := Scalar.indexCast v131
  let c384_155 : Index := 384#32
  ![v270.toNat, 384]
def k0_off64 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v304 : Index := Scalar.indexCast v131
  let c512_180 : Index := 512#32
  ![v304.toNat, 512]
def k0_off65 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v338 : Index := Scalar.indexCast v131
  let c640_205 : Index := 640#32
  ![v338.toNat, 640]
def k0_off66 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v372 : Index := Scalar.indexCast v131
  let c768_230 : Index := 768#32
  ![v372.toNat, 768]
def k0_off67 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v406 : Index := Scalar.indexCast v131
  let c896_255 : Index := 896#32
  ![v406.toNat, 896]
def k0_off68 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v440 : Index := Scalar.indexCast v131
  let c1024_280 : Index := 1024#32
  ![v440.toNat, 1024]
def k0_off69 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v474 : Index := Scalar.indexCast v131
  let c1152_305 : Index := 1152#32
  ![v474.toNat, 1152]
def k0_off70 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v508 : Index := Scalar.indexCast v131
  let c1280_330 : Index := 1280#32
  ![v508.toNat, 1280]
def k0_off71 (v1 : BitVec 32) (k0_t3 : Fin (k0_t3_loop v1).trips) : Fin 2 → Nat :=
  let c0_i32_45 : BitVec 32 := 0#32
  let c1_i32_47 : BitVec 32 := 1#32
  let arg28 : BitVec 32 := Scf.iv c0_i32_45 c1_i32_47 k0_t3
  let c128_i32_64 : BitVec 32 := 128#32
  let v130 : BitVec 32 := Scalar.muli arg28 c128_i32_64
  let v131 : BitVec 32 := v130
  let v542 : Index := Scalar.indexCast v131
  let c1408_355 : Index := 1408#32
  ![v542.toNat, 1408]
@[reducible] def k0_t4_loop (v1 : BitVec 32) : Scf.Loop 32 :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let v98 : BitVec 32 := Scalar.addi c0_i32_45 v97
  let c1_i32_48 : BitVec 32 := 1#32
  ⟨v101, v98, c1_i32_48⟩
def k0_mult4 (v1 : BitVec 32) (k0_t4 : Fin (k0_t4_loop v1).trips) : BitVec 32 :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  v130
def k0_off72 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v132 : Index := Scalar.indexCast v131
  let c0_65 : Index := 0#32
  ![v132.toNat, 0]
def k0_off73 (v1 : BitVec 32) (k0_t4 : Fin (k0_t4_loop v1).trips) : Fin 3 → Nat :=
  let c0_74 : Index := 0#32
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v158 : Index := Scalar.indexCast v131
  let c0_75 : Index := 0#32
  ![0, v158.toNat, 0]
def k0_off74 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v168 : Index := Scalar.indexCast v131
  let c0_80 : Index := 0#32
  ![v168.toNat, 0]
def k0_off75 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v202 : Index := Scalar.indexCast v131
  let c128_105 : Index := 128#32
  ![v202.toNat, 128]
def k0_off76 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v236 : Index := Scalar.indexCast v131
  let c256_130 : Index := 256#32
  ![v236.toNat, 256]
def k0_off77 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v270 : Index := Scalar.indexCast v131
  let c384_155 : Index := 384#32
  ![v270.toNat, 384]
def k0_off78 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v304 : Index := Scalar.indexCast v131
  let c512_180 : Index := 512#32
  ![v304.toNat, 512]
def k0_off79 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v338 : Index := Scalar.indexCast v131
  let c640_205 : Index := 640#32
  ![v338.toNat, 640]
def k0_off80 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v372 : Index := Scalar.indexCast v131
  let c768_230 : Index := 768#32
  ![v372.toNat, 768]
def k0_off81 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v406 : Index := Scalar.indexCast v131
  let c896_255 : Index := 896#32
  ![v406.toNat, 896]
def k0_off82 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v440 : Index := Scalar.indexCast v131
  let c1024_280 : Index := 1024#32
  ![v440.toNat, 1024]
def k0_off83 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v474 : Index := Scalar.indexCast v131
  let c1152_305 : Index := 1152#32
  ![v474.toNat, 1152]
def k0_off84 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v508 : Index := Scalar.indexCast v131
  let c1280_330 : Index := 1280#32
  ![v508.toNat, 1280]
def k0_off85 (v1 : BitVec 32) (k0_t4 : Fin (k0_t4_loop v1).trips) : Fin 2 → Nat :=
  let c0_i32_45 : BitVec 32 := 0#32
  let c127_i32 : BitVec 32 := 127#32
  let v2 : BitVec 32 := Scalar.addi v1 c127_i32
  let c128_i32 : BitVec 32 := 128#32
  let v3 : BitVec 32 := Scalar.divsi v2 c128_i32
  let v97 : BitVec 32 := Scalar.subi v3 c0_i32_45
  let c1_i32_46 : BitVec 32 := 1#32
  let v99 : BitVec 32 := Scalar.divsi v97 c1_i32_46
  let v100 : BitVec 32 := Scalar.muli v99 c1_i32_46
  let v101 : BitVec 32 := Scalar.addi c0_i32_45 v100
  let c1_i32_48 : BitVec 32 := 1#32
  let arg28 : BitVec 32 := Scf.iv v101 c1_i32_48 k0_t4
  let c128_i32_64 : BitVec 32 := 128#32
  let v130 : BitVec 32 := Scalar.muli arg28 c128_i32_64
  let v131 : BitVec 32 := v130
  let v542 : Index := Scalar.indexCast v131
  let c1408_355 : Index := 1408#32
  ![v542.toNat, 1408]

def k0_chk1_0 (v1 : BitVec 32) : Prop :=
  ((k0_t1_loop v1).OK) ∧
  (∀ k0_t1 : Fin (k0_t1_loop v1).trips, 128 ∣ (k0_mult1 v1 k0_t1).toNat) ∧
  (∀ k0_t1 : Fin (k0_t1_loop v1).trips, ∀ a, (k0_off2 v1 k0_t1) a + S1x128x12.size a ≤ S1x768x12.size a) ∧
  (∀ k0_t1 : Fin (k0_t1_loop v1).trips, ∀ a, (k0_off3 v1 k0_t1) a + S1x128x128.size a ≤ S1x768x1536.size a) ∧
  (∀ k0_t1 : Fin (k0_t1_loop v1).trips, ∀ a, (k0_off4 v1 k0_t1) a + S128x128.size a ≤ S768x1536.size a) ∧
  (∀ k0_t1 : Fin (k0_t1_loop v1).trips, ∀ (hinb : ∀ a, (k0_off4 v1 k0_t1) a + S128x128.size a ≤ S768x1536.size a), (Rect.unit (s := S768x1536) (k0_off4 v1 k0_t1) S128x128.size hinb).PackedRows (EltTy.packing .bf16)) ∧
  (∀ k0_t1 : Fin (k0_t1_loop v1).trips, ∀ a, (k0_off5 v1 k0_t1) a + S1x128x128.size a ≤ S1x768x1536.size a) ∧
  (∀ k0_t1 : Fin (k0_t1_loop v1).trips, ∀ a, (k0_off6 v1 k0_t1) a + S128x128.size a ≤ S768x1536.size a) ∧
  (∀ k0_t1 : Fin (k0_t1_loop v1).trips, ∀ (hinb : ∀ a, (k0_off6 v1 k0_t1) a + S128x128.size a ≤ S768x1536.size a), (Rect.unit (s := S768x1536) (k0_off6 v1 k0_t1) S128x128.size hinb).PackedRows (EltTy.packing .bf16)) ∧
  (∀ k0_t1 : Fin (k0_t1_loop v1).trips, ∀ a, (k0_off7 v1 k0_t1) a + S1x128x128.size a ≤ S1x768x1536.size a) ∧
  (∀ k0_t1 : Fin (k0_t1_loop v1).trips, ∀ a, (k0_off8 v1 k0_t1) a + S128x128.size a ≤ S768x1536.size a) ∧
  (∀ k0_t1 : Fin (k0_t1_loop v1).trips, ∀ (hinb : ∀ a, (k0_off8 v1 k0_t1) a + S128x128.size a ≤ S768x1536.size a), (Rect.unit (s := S768x1536) (k0_off8 v1 k0_t1) S128x128.size hinb).PackedRows (EltTy.packing .bf16)) ∧
  (∀ k0_t1 : Fin (k0_t1_loop v1).trips, ∀ a, (k0_off9 v1 k0_t1) a + S1x128x128.size a ≤ S1x768x1536.size a) ∧
  (∀ k0_t1 : Fin (k0_t1_loop v1).trips, ∀ a, (k0_off10 v1 k0_t1) a + S128x128.size a ≤ S768x1536.size a) ∧
  (∀ k0_t1 : Fin (k0_t1_loop v1).trips, ∀ (hinb : ∀ a, (k0_off10 v1 k0_t1) a + S128x128.size a ≤ S768x1536.size a), (Rect.unit (s := S768x1536) (k0_off10 v1 k0_t1) S128x128.size hinb).PackedRows (EltTy.packing .bf16)) ∧
  (∀ k0_t1 : Fin (k0_t1_loop v1).trips, ∀ a, (k0_off11 v1 k0_t1) a + S1x128x128.size a ≤ S1x768x1536.size a) ∧
  (∀ k0_t1 : Fin (k0_t1_loop v1).trips, ∀ a, (k0_off12 v1 k0_t1) a + S128x128.size a ≤ S768x1536.size a) ∧
  (∀ k0_t1 : Fin (k0_t1_loop v1).trips, ∀ (hinb : ∀ a, (k0_off12 v1 k0_t1) a + S128x128.size a ≤ S768x1536.size a), (Rect.unit (s := S768x1536) (k0_off12 v1 k0_t1) S128x128.size hinb).PackedRows (EltTy.packing .bf16)) ∧
  (∀ k0_t1 : Fin (k0_t1_loop v1).trips, ∀ a, (k0_off13 v1 k0_t1) a + S1x128x128.size a ≤ S1x768x1536.size a) ∧
  (∀ k0_t1 : Fin (k0_t1_loop v1).trips, ∀ a, (k0_off14 v1 k0_t1) a + S128x128.size a ≤ S768x1536.size a) ∧
  (∀ k0_t1 : Fin (k0_t1_loop v1).trips, ∀ (hinb : ∀ a, (k0_off14 v1 k0_t1) a + S128x128.size a ≤ S768x1536.size a), (Rect.unit (s := S768x1536) (k0_off14 v1 k0_t1) S128x128.size hinb).PackedRows (EltTy.packing .bf16)) ∧
  (∀ k0_t1 : Fin (k0_t1_loop v1).trips, ∀ a, (k0_off15 v1 k0_t1) a + S1x128x128.size a ≤ S1x768x1536.size a) ∧
  (∀ k0_t1 : Fin (k0_t1_loop v1).trips, ∀ a, (k0_off16 v1 k0_t1) a + S128x128.size a ≤ S768x1536.size a) ∧
  (∀ k0_t1 : Fin (k0_t1_loop v1).trips, ∀ (hinb : ∀ a, (k0_off16 v1 k0_t1) a + S128x128.size a ≤ S768x1536.size a), (Rect.unit (s := S768x1536) (k0_off16 v1 k0_t1) S128x128.size hinb).PackedRows (EltTy.packing .bf16)) ∧
  (∀ k0_t1 : Fin (k0_t1_loop v1).trips, ∀ a, (k0_off17 v1 k0_t1) a + S1x128x128.size a ≤ S1x768x1536.size a) ∧
  (∀ k0_t1 : Fin (k0_t1_loop v1).trips, ∀ a, (k0_off18 v1 k0_t1) a + S128x128.size a ≤ S768x1536.size a) ∧
  (∀ k0_t1 : Fin (k0_t1_loop v1).trips, ∀ (hinb : ∀ a, (k0_off18 v1 k0_t1) a + S128x128.size a ≤ S768x1536.size a), (Rect.unit (s := S768x1536) (k0_off18 v1 k0_t1) S128x128.size hinb).PackedRows (EltTy.packing .bf16)) ∧
  (∀ k0_t1 : Fin (k0_t1_loop v1).trips, ∀ a, (k0_off19 v1 k0_t1) a + S1x128x128.size a ≤ S1x768x1536.size a) ∧
  (∀ k0_t1 : Fin (k0_t1_loop v1).trips, ∀ a, (k0_off20 v1 k0_t1) a + S128x128.size a ≤ S768x1536.size a) ∧
  (∀ k0_t1 : Fin (k0_t1_loop v1).trips, ∀ (hinb : ∀ a, (k0_off20 v1 k0_t1) a + S128x128.size a ≤ S768x1536.size a), (Rect.unit (s := S768x1536) (k0_off20 v1 k0_t1) S128x128.size hinb).PackedRows (EltTy.packing .bf16)) ∧
  (∀ k0_t1 : Fin (k0_t1_loop v1).trips, ∀ a, (k0_off21 v1 k0_t1) a + S1x128x128.size a ≤ S1x768x1536.size a) ∧
  (∀ k0_t1 : Fin (k0_t1_loop v1).trips, ∀ a, (k0_off22 v1 k0_t1) a + S128x128.size a ≤ S768x1536.size a)
def k0_chk1_1 (v1 : BitVec 32) : Prop :=
  (∀ k0_t1 : Fin (k0_t1_loop v1).trips, ∀ (hinb : ∀ a, (k0_off22 v1 k0_t1) a + S128x128.size a ≤ S768x1536.size a), (Rect.unit (s := S768x1536) (k0_off22 v1 k0_t1) S128x128.size hinb).PackedRows (EltTy.packing .bf16)) ∧
  (∀ k0_t1 : Fin (k0_t1_loop v1).trips, ∀ a, (k0_off23 v1 k0_t1) a + S1x128x128.size a ≤ S1x768x1536.size a) ∧
  (∀ k0_t1 : Fin (k0_t1_loop v1).trips, ∀ a, (k0_off24 v1 k0_t1) a + S128x128.size a ≤ S768x1536.size a) ∧
  (∀ k0_t1 : Fin (k0_t1_loop v1).trips, ∀ (hinb : ∀ a, (k0_off24 v1 k0_t1) a + S128x128.size a ≤ S768x1536.size a), (Rect.unit (s := S768x1536) (k0_off24 v1 k0_t1) S128x128.size hinb).PackedRows (EltTy.packing .bf16)) ∧
  (∀ k0_t1 : Fin (k0_t1_loop v1).trips, ∀ a, (k0_off25 v1 k0_t1) a + S1x128x128.size a ≤ S1x768x1536.size a) ∧
  (∀ k0_t1 : Fin (k0_t1_loop v1).trips, ∀ a, (k0_off26 v1 k0_t1) a + S128x128.size a ≤ S768x1536.size a) ∧
  (∀ k0_t1 : Fin (k0_t1_loop v1).trips, ∀ (hinb : ∀ a, (k0_off26 v1 k0_t1) a + S128x128.size a ≤ S768x1536.size a), (Rect.unit (s := S768x1536) (k0_off26 v1 k0_t1) S128x128.size hinb).PackedRows (EltTy.packing .bf16)) ∧
  (∀ k0_t1 : Fin (k0_t1_loop v1).trips, ∀ a, (k0_off27 v1 k0_t1) a + S128x1536.size a ≤ S768x1536.size a) ∧
  (∀ k0_t1 : Fin (k0_t1_loop v1).trips, ∀ a, (k0_off28 v1 k0_t1) a + S128x128.size a ≤ S768x128.size a) ∧
  ((k0_t2_loop v1).OK) ∧
  (∀ k0_t2 : Fin (k0_t2_loop v1).trips, 128 ∣ (k0_mult2 v1 k0_t2).toNat) ∧
  (∀ k0_t2 : Fin (k0_t2_loop v1).trips, ∀ a, (k0_off29 v1 k0_t2) a + S1x128x12.size a ≤ S1x768x12.size a) ∧
  (∀ k0_t2 : Fin (k0_t2_loop v1).trips, ∀ a, (k0_off30 v1 k0_t2) a + S1x128x128.size a ≤ S1x768x1536.size a) ∧
  (∀ k0_t2 : Fin (k0_t2_loop v1).trips, ∀ a, (k0_off31 v1 k0_t2) a + S128x128.size a ≤ S768x1536.size a) ∧
  (∀ k0_t2 : Fin (k0_t2_loop v1).trips, ∀ (hinb : ∀ a, (k0_off31 v1 k0_t2) a + S128x128.size a ≤ S768x1536.size a), (Rect.unit (s := S768x1536) (k0_off31 v1 k0_t2) S128x128.size hinb).PackedRows (EltTy.packing .bf16)) ∧
  (∀ k0_t2 : Fin (k0_t2_loop v1).trips, ∀ a, (k0_off32 v1 k0_t2) a + S1x128x128.size a ≤ S1x768x1536.size a) ∧
  (∀ k0_t2 : Fin (k0_t2_loop v1).trips, ∀ a, (k0_off33 v1 k0_t2) a + S128x128.size a ≤ S768x1536.size a) ∧
  (∀ k0_t2 : Fin (k0_t2_loop v1).trips, ∀ (hinb : ∀ a, (k0_off33 v1 k0_t2) a + S128x128.size a ≤ S768x1536.size a), (Rect.unit (s := S768x1536) (k0_off33 v1 k0_t2) S128x128.size hinb).PackedRows (EltTy.packing .bf16)) ∧
  (∀ k0_t2 : Fin (k0_t2_loop v1).trips, ∀ a, (k0_off34 v1 k0_t2) a + S1x128x128.size a ≤ S1x768x1536.size a) ∧
  (∀ k0_t2 : Fin (k0_t2_loop v1).trips, ∀ a, (k0_off35 v1 k0_t2) a + S128x128.size a ≤ S768x1536.size a) ∧
  (∀ k0_t2 : Fin (k0_t2_loop v1).trips, ∀ (hinb : ∀ a, (k0_off35 v1 k0_t2) a + S128x128.size a ≤ S768x1536.size a), (Rect.unit (s := S768x1536) (k0_off35 v1 k0_t2) S128x128.size hinb).PackedRows (EltTy.packing .bf16)) ∧
  (∀ k0_t2 : Fin (k0_t2_loop v1).trips, ∀ a, (k0_off36 v1 k0_t2) a + S1x128x128.size a ≤ S1x768x1536.size a) ∧
  (∀ k0_t2 : Fin (k0_t2_loop v1).trips, ∀ a, (k0_off37 v1 k0_t2) a + S128x128.size a ≤ S768x1536.size a) ∧
  (∀ k0_t2 : Fin (k0_t2_loop v1).trips, ∀ (hinb : ∀ a, (k0_off37 v1 k0_t2) a + S128x128.size a ≤ S768x1536.size a), (Rect.unit (s := S768x1536) (k0_off37 v1 k0_t2) S128x128.size hinb).PackedRows (EltTy.packing .bf16)) ∧
  (∀ k0_t2 : Fin (k0_t2_loop v1).trips, ∀ a, (k0_off38 v1 k0_t2) a + S1x128x128.size a ≤ S1x768x1536.size a) ∧
  (∀ k0_t2 : Fin (k0_t2_loop v1).trips, ∀ a, (k0_off39 v1 k0_t2) a + S128x128.size a ≤ S768x1536.size a) ∧
  (∀ k0_t2 : Fin (k0_t2_loop v1).trips, ∀ (hinb : ∀ a, (k0_off39 v1 k0_t2) a + S128x128.size a ≤ S768x1536.size a), (Rect.unit (s := S768x1536) (k0_off39 v1 k0_t2) S128x128.size hinb).PackedRows (EltTy.packing .bf16)) ∧
  (∀ k0_t2 : Fin (k0_t2_loop v1).trips, ∀ a, (k0_off40 v1 k0_t2) a + S1x128x128.size a ≤ S1x768x1536.size a) ∧
  (∀ k0_t2 : Fin (k0_t2_loop v1).trips, ∀ a, (k0_off41 v1 k0_t2) a + S128x128.size a ≤ S768x1536.size a) ∧
  (∀ k0_t2 : Fin (k0_t2_loop v1).trips, ∀ (hinb : ∀ a, (k0_off41 v1 k0_t2) a + S128x128.size a ≤ S768x1536.size a), (Rect.unit (s := S768x1536) (k0_off41 v1 k0_t2) S128x128.size hinb).PackedRows (EltTy.packing .bf16)) ∧
  (∀ k0_t2 : Fin (k0_t2_loop v1).trips, ∀ a, (k0_off42 v1 k0_t2) a + S1x128x128.size a ≤ S1x768x1536.size a) ∧
  (∀ k0_t2 : Fin (k0_t2_loop v1).trips, ∀ a, (k0_off43 v1 k0_t2) a + S128x128.size a ≤ S768x1536.size a)
def k0_chk1_2 (v1 : BitVec 32) : Prop :=
  (∀ k0_t2 : Fin (k0_t2_loop v1).trips, ∀ (hinb : ∀ a, (k0_off43 v1 k0_t2) a + S128x128.size a ≤ S768x1536.size a), (Rect.unit (s := S768x1536) (k0_off43 v1 k0_t2) S128x128.size hinb).PackedRows (EltTy.packing .bf16)) ∧
  (∀ k0_t2 : Fin (k0_t2_loop v1).trips, ∀ a, (k0_off44 v1 k0_t2) a + S1x128x128.size a ≤ S1x768x1536.size a) ∧
  (∀ k0_t2 : Fin (k0_t2_loop v1).trips, ∀ a, (k0_off45 v1 k0_t2) a + S128x128.size a ≤ S768x1536.size a) ∧
  (∀ k0_t2 : Fin (k0_t2_loop v1).trips, ∀ (hinb : ∀ a, (k0_off45 v1 k0_t2) a + S128x128.size a ≤ S768x1536.size a), (Rect.unit (s := S768x1536) (k0_off45 v1 k0_t2) S128x128.size hinb).PackedRows (EltTy.packing .bf16)) ∧
  (∀ k0_t2 : Fin (k0_t2_loop v1).trips, ∀ a, (k0_off46 v1 k0_t2) a + S1x128x128.size a ≤ S1x768x1536.size a) ∧
  (∀ k0_t2 : Fin (k0_t2_loop v1).trips, ∀ a, (k0_off47 v1 k0_t2) a + S128x128.size a ≤ S768x1536.size a) ∧
  (∀ k0_t2 : Fin (k0_t2_loop v1).trips, ∀ (hinb : ∀ a, (k0_off47 v1 k0_t2) a + S128x128.size a ≤ S768x1536.size a), (Rect.unit (s := S768x1536) (k0_off47 v1 k0_t2) S128x128.size hinb).PackedRows (EltTy.packing .bf16)) ∧
  (∀ k0_t2 : Fin (k0_t2_loop v1).trips, ∀ a, (k0_off48 v1 k0_t2) a + S1x128x128.size a ≤ S1x768x1536.size a) ∧
  (∀ k0_t2 : Fin (k0_t2_loop v1).trips, ∀ a, (k0_off49 v1 k0_t2) a + S128x128.size a ≤ S768x1536.size a) ∧
  (∀ k0_t2 : Fin (k0_t2_loop v1).trips, ∀ (hinb : ∀ a, (k0_off49 v1 k0_t2) a + S128x128.size a ≤ S768x1536.size a), (Rect.unit (s := S768x1536) (k0_off49 v1 k0_t2) S128x128.size hinb).PackedRows (EltTy.packing .bf16)) ∧
  (∀ k0_t2 : Fin (k0_t2_loop v1).trips, ∀ a, (k0_off50 v1 k0_t2) a + S1x128x128.size a ≤ S1x768x1536.size a) ∧
  (∀ k0_t2 : Fin (k0_t2_loop v1).trips, ∀ a, (k0_off51 v1 k0_t2) a + S128x128.size a ≤ S768x1536.size a) ∧
  (∀ k0_t2 : Fin (k0_t2_loop v1).trips, ∀ (hinb : ∀ a, (k0_off51 v1 k0_t2) a + S128x128.size a ≤ S768x1536.size a), (Rect.unit (s := S768x1536) (k0_off51 v1 k0_t2) S128x128.size hinb).PackedRows (EltTy.packing .bf16)) ∧
  (∀ k0_t2 : Fin (k0_t2_loop v1).trips, ∀ a, (k0_off52 v1 k0_t2) a + S1x128x128.size a ≤ S1x768x1536.size a) ∧
  (∀ k0_t2 : Fin (k0_t2_loop v1).trips, ∀ a, (k0_off53 v1 k0_t2) a + S128x128.size a ≤ S768x1536.size a) ∧
  (∀ k0_t2 : Fin (k0_t2_loop v1).trips, ∀ (hinb : ∀ a, (k0_off53 v1 k0_t2) a + S128x128.size a ≤ S768x1536.size a), (Rect.unit (s := S768x1536) (k0_off53 v1 k0_t2) S128x128.size hinb).PackedRows (EltTy.packing .bf16)) ∧
  (∀ k0_t2 : Fin (k0_t2_loop v1).trips, ∀ a, (k0_off54 v1 k0_t2) a + S128x1536.size a ≤ S768x1536.size a) ∧
  (∀ k0_t2 : Fin (k0_t2_loop v1).trips, ∀ a, (k0_off55 v1 k0_t2) a + S128x128.size a ≤ S768x128.size a) ∧
  ((k0_t3_loop v1).OK) ∧
  (∀ k0_t3 : Fin (k0_t3_loop v1).trips, 128 ∣ (k0_mult3 v1 k0_t3).toNat) ∧
  (∀ k0_t3 : Fin (k0_t3_loop v1).trips, ∀ a, (k0_off58 v1 k0_t3) a + S128x128.size a ≤ S768x128.size a) ∧
  (∀ k0_t3 : Fin (k0_t3_loop v1).trips, ∀ a, (k0_off59 v1 k0_t3) a + S1x128x128.size a ≤ S1x768x128.size a) ∧
  (∀ k0_t3 : Fin (k0_t3_loop v1).trips, ∀ a, (k0_off60 v1 k0_t3) a + S128x128.size a ≤ S768x1536.size a) ∧
  (∀ k0_t3 : Fin (k0_t3_loop v1).trips, ∀ a, (k0_off61 v1 k0_t3) a + S128x128.size a ≤ S768x1536.size a) ∧
  (∀ k0_t3 : Fin (k0_t3_loop v1).trips, ∀ a, (k0_off62 v1 k0_t3) a + S128x128.size a ≤ S768x1536.size a) ∧
  (∀ k0_t3 : Fin (k0_t3_loop v1).trips, ∀ a, (k0_off63 v1 k0_t3) a + S128x128.size a ≤ S768x1536.size a) ∧
  (∀ k0_t3 : Fin (k0_t3_loop v1).trips, ∀ a, (k0_off64 v1 k0_t3) a + S128x128.size a ≤ S768x1536.size a) ∧
  (∀ k0_t3 : Fin (k0_t3_loop v1).trips, ∀ a, (k0_off65 v1 k0_t3) a + S128x128.size a ≤ S768x1536.size a) ∧
  (∀ k0_t3 : Fin (k0_t3_loop v1).trips, ∀ a, (k0_off66 v1 k0_t3) a + S128x128.size a ≤ S768x1536.size a) ∧
  (∀ k0_t3 : Fin (k0_t3_loop v1).trips, ∀ a, (k0_off67 v1 k0_t3) a + S128x128.size a ≤ S768x1536.size a) ∧
  (∀ k0_t3 : Fin (k0_t3_loop v1).trips, ∀ a, (k0_off68 v1 k0_t3) a + S128x128.size a ≤ S768x1536.size a) ∧
  (∀ k0_t3 : Fin (k0_t3_loop v1).trips, ∀ a, (k0_off69 v1 k0_t3) a + S128x128.size a ≤ S768x1536.size a)
def k0_chk1_3 (v1 : BitVec 32) : Prop :=
  (∀ k0_t3 : Fin (k0_t3_loop v1).trips, ∀ a, (k0_off70 v1 k0_t3) a + S128x128.size a ≤ S768x1536.size a) ∧
  (∀ k0_t3 : Fin (k0_t3_loop v1).trips, ∀ a, (k0_off71 v1 k0_t3) a + S128x128.size a ≤ S768x1536.size a) ∧
  ((k0_t4_loop v1).OK) ∧
  (∀ k0_t4 : Fin (k0_t4_loop v1).trips, 128 ∣ (k0_mult4 v1 k0_t4).toNat) ∧
  (∀ k0_t4 : Fin (k0_t4_loop v1).trips, ∀ a, (k0_off72 v1 k0_t4) a + S128x128.size a ≤ S768x128.size a) ∧
  (∀ k0_t4 : Fin (k0_t4_loop v1).trips, ∀ a, (k0_off73 v1 k0_t4) a + S1x128x128.size a ≤ S1x768x128.size a) ∧
  (∀ k0_t4 : Fin (k0_t4_loop v1).trips, ∀ a, (k0_off74 v1 k0_t4) a + S128x128.size a ≤ S768x1536.size a) ∧
  (∀ k0_t4 : Fin (k0_t4_loop v1).trips, ∀ a, (k0_off75 v1 k0_t4) a + S128x128.size a ≤ S768x1536.size a) ∧
  (∀ k0_t4 : Fin (k0_t4_loop v1).trips, ∀ a, (k0_off76 v1 k0_t4) a + S128x128.size a ≤ S768x1536.size a) ∧
  (∀ k0_t4 : Fin (k0_t4_loop v1).trips, ∀ a, (k0_off77 v1 k0_t4) a + S128x128.size a ≤ S768x1536.size a) ∧
  (∀ k0_t4 : Fin (k0_t4_loop v1).trips, ∀ a, (k0_off78 v1 k0_t4) a + S128x128.size a ≤ S768x1536.size a) ∧
  (∀ k0_t4 : Fin (k0_t4_loop v1).trips, ∀ a, (k0_off79 v1 k0_t4) a + S128x128.size a ≤ S768x1536.size a) ∧
  (∀ k0_t4 : Fin (k0_t4_loop v1).trips, ∀ a, (k0_off80 v1 k0_t4) a + S128x128.size a ≤ S768x1536.size a) ∧
  (∀ k0_t4 : Fin (k0_t4_loop v1).trips, ∀ a, (k0_off81 v1 k0_t4) a + S128x128.size a ≤ S768x1536.size a) ∧
  (∀ k0_t4 : Fin (k0_t4_loop v1).trips, ∀ a, (k0_off82 v1 k0_t4) a + S128x128.size a ≤ S768x1536.size a) ∧
  (∀ k0_t4 : Fin (k0_t4_loop v1).trips, ∀ a, (k0_off83 v1 k0_t4) a + S128x128.size a ≤ S768x1536.size a) ∧
  (∀ k0_t4 : Fin (k0_t4_loop v1).trips, ∀ a, (k0_off84 v1 k0_t4) a + S128x128.size a ≤ S768x1536.size a) ∧
  (∀ k0_t4 : Fin (k0_t4_loop v1).trips, ∀ a, (k0_off85 v1 k0_t4) a + S128x128.size a ≤ S768x1536.size a)
def k0_chk1 (v1 : BitVec 32) : Prop :=
  k0_chk1_0 v1 ∧
  k0_chk1_1 v1 ∧
  k0_chk1_2 v1 ∧
  k0_chk1_3 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 128 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x128x12.size a ≤ S1x768x12.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x128x128.size a ≤ S1x768x1536.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S128x128.size a ≤ S768x1536.size a := fun v1 k0_hw1 k0_t1 => k0_hw1.1.2.2.2.2.1 k0_t1
theorem k0_off4_packedbf16 : ∀ (v1 : BitVec 32) (k0_hw1 : k0_chk1 v1) (k0_t1 : Fin (k0_t1_loop v1).trips), (Rect.unit (s := S768x1536) (k0_off4 v1 k0_t1) S128x128.size (k0_off4_inb v1 k0_hw1 k0_t1)).PackedRows (EltTy.packing .bf16) := fun v1 k0_hw1 k0_t1 => k0_hw1.1.2.2.2.2.2.1 k0_t1 (k0_off4_inb v1 k0_hw1 k0_t1)
theorem k0_off5_inb : ∀ (v1 : BitVec 32) (k0_hw1 : k0_chk1 v1) (k0_t1 : Fin (k0_t1_loop v1).trips), ∀ a, (k0_off5 v1 k0_t1) a + S1x128x128.size a ≤ S1x768x1536.size a := fun v1 k0_hw1 k0_t1 => k0_hw1.1.2.2.2.2.2.2.1 k0_t1
theorem k0_off6_inb : ∀ (v1 : BitVec 32) (k0_hw1 : k0_chk1 v1) (k0_t1 : Fin (k0_t1_loop v1).trips), ∀ a, (k0_off6 v1 k0_t1) a + S128x128.size a ≤ S768x1536.size a := fun v1 k0_hw1 k0_t1 => k0_hw1.1.2.2.2.2.2.2.2.1 k0_t1
theorem k0_off6_packedbf16 : ∀ (v1 : BitVec 32) (k0_hw1 : k0_chk1 v1) (k0_t1 : Fin (k0_t1_loop v1).trips), (Rect.unit (s := S768x1536) (k0_off6 v1 k0_t1) S128x128.size (k0_off6_inb v1 k0_hw1 k0_t1)).PackedRows (EltTy.packing .bf16) := fun v1 k0_hw1 k0_t1 => k0_hw1.1.2.2.2.2.2.2.2.2.1 k0_t1 (k0_off6_inb v1 k0_hw1 k0_t1)
theorem k0_off7_inb : ∀ (v1 : BitVec 32) (k0_hw1 : k0_chk1 v1) (k0_t1 : Fin (k0_t1_loop v1).trips), ∀ a, (k0_off7 v1 k0_t1) a + S1x128x128.size a ≤ S1x768x1536.size a := fun v1 k0_hw1 k0_t1 => k0_hw1.1.2.2.2.2.2.2.2.2.2.1 k0_t1
theorem k0_off8_inb : ∀ (v1 : BitVec 32) (k0_hw1 : k0_chk1 v1) (k0_t1 : Fin (k0_t1_loop v1).trips), ∀ a, (k0_off8 v1 k0_t1) a + S128x128.size a ≤ S768x1536.size a := fun v1 k0_hw1 k0_t1 => k0_hw1.1.2.2.2.2.2.2.2.2.2.2.1 k0_t1
theorem k0_off8_packedbf16 : ∀ (v1 : BitVec 32) (k0_hw1 : k0_chk1 v1) (k0_t1 : Fin (k0_t1_loop v1).trips), (Rect.unit (s := S768x1536) (k0_off8 v1 k0_t1) S128x128.size (k0_off8_inb v1 k0_hw1 k0_t1)).PackedRows (EltTy.packing .bf16) := fun v1 k0_hw1 k0_t1 => k0_hw1.1.2.2.2.2.2.2.2.2.2.2.2.1 k0_t1 (k0_off8_inb v1 k0_hw1 k0_t1)
theorem k0_off9_inb : ∀ (v1 : BitVec 32) (k0_hw1 : k0_chk1 v1) (k0_t1 : Fin (k0_t1_loop v1).trips), ∀ a, (k0_off9 v1 k0_t1) a + S1x128x128.size a ≤ S1x768x1536.size a := fun v1 k0_hw1 k0_t1 => k0_hw1.1.2.2.2.2.2.2.2.2.2.2.2.2.1 k0_t1
theorem k0_off10_inb : ∀ (v1 : BitVec 32) (k0_hw1 : k0_chk1 v1) (k0_t1 : Fin (k0_t1_loop v1).trips), ∀ a, (k0_off10 v1 k0_t1) a + S128x128.size a ≤ S768x1536.size a := fun v1 k0_hw1 k0_t1 => k0_hw1.1.2.2.2.2.2.2.2.2.2.2.2.2.2.1 k0_t1
theorem k0_off10_packedbf16 : ∀ (v1 : BitVec 32) (k0_hw1 : k0_chk1 v1) (k0_t1 : Fin (k0_t1_loop v1).trips), (Rect.unit (s := S768x1536) (k0_off10 v1 k0_t1) S128x128.size (k0_off10_inb v1 k0_hw1 k0_t1)).PackedRows (EltTy.packing .bf16) := fun v1 k0_hw1 k0_t1 => k0_hw1.1.2.2.2.2.2.2.2.2.2.2.2.2.2.2.1 k0_t1 (k0_off10_inb v1 k0_hw1 k0_t1)
theorem k0_off11_inb : ∀ (v1 : BitVec 32) (k0_hw1 : k0_chk1 v1) (k0_t1 : Fin (k0_t1_loop v1).trips), ∀ a, (k0_off11 v1 k0_t1) a + S1x128x128.size a ≤ S1x768x1536.size a := fun v1 k0_hw1 k0_t1 => k0_hw1.1.2.2.2.2.2.2.2.2.2.2.2.2.2.2.2.1 k0_t1
theorem k0_off12_inb : ∀ (v1 : BitVec 32) (k0_hw1 : k0_chk1 v1) (k0_t1 : Fin (k0_t1_loop v1).trips), ∀ a, (k0_off12 v1 k0_t1) a + S128x128.size a ≤ S768x1536.size a := fun v1 k0_hw1 k0_t1 => k0_hw1.1.2.2.2.2.2.2.2.2.2.2.2.2.2.2.2.2.1 k0_t1
theorem k0_off12_packedbf16 : ∀ (v1 : BitVec 32) (k0_hw1 : k0_chk1 v1) (k0_t1 : Fin (k0_t1_loop v1).trips), (Rect.unit (s := S768x1536) (k0_off12 v1 k0_t1) S128x128.size (k0_off12_inb v1 k0_hw1 k0_t1)).PackedRows (EltTy.packing .bf16) := fun v1 k0_hw1 k0_t1 => k0_hw1.1.2.2.2.2.2.2.2.2.2.2.2.2.2.2.2.2.2.1 k0_t1 (k0_off12_inb v1 k0_hw1 k0_t1)
theorem k0_off13_inb : ∀ (v1 : BitVec 32) (k0_hw1 : k0_chk1 v1) (k0_t1 : Fin (k0_t1_loop v1).trips), ∀ a, (k0_off13 v1 k0_t1) a + S1x128x128.size a ≤ S1x768x1536.size a := fun v1 k0_hw1 k0_t1 => k0_hw1.1.2.2.2.2.2.2.2.2.2.2.2.2.2.2.2.2.2.2.1 k0_t1
theorem k0_off14_inb : ∀ (v1 : BitVec 32) (k0_hw1 : k0_chk1 v1) (k0_t1 : Fin (k0_t1_loop v1).trips), ∀ a, (k0_off14 v1 k0_t1) a + S128x128.size a ≤ S768x1536.size a := fun v1 k0_hw1 k0_t1 => k0_hw1.1.2.2.2.2.2.2.2.2.2.2.2.2.2.2.2.2.2.2.2.1 k0_t1
theorem k0_off14_packedbf16 : ∀ (v1 : BitVec 32) (k0_hw1 : k0_chk1 v1) (k0_t1 : Fin (k0_t1_loop v1).trips), (Rect.unit (s := S768x1536) (k0_off14 v1 k0_t1) S128x128.size (k0_off14_inb v1 k0_hw1 k0_t1)).PackedRows (EltTy.packing .bf16) := fun v1 k0_hw1 k0_t1 => k0_hw1.1.2.2.2.2.2.2.2.2.2.2.2.2.2.2.2.2.2.2.2.2.1 k0_t1 (k0_off14_inb v1 k0_hw1 k0_t1)
theorem k0_off15_inb : ∀ (v1 : BitVec 32) (k0_hw1 : k0_chk1 v1) (k0_t1 : Fin (k0_t1_loop v1).trips), ∀ a, (k0_off15 v1 k0_t1) a + S1x128x128.size a ≤ S1x768x1536.size a := fun v1 k0_hw1 k0_t1 => k0_hw1.1.2.2.2.2.2.2.2.2.2.2.2.2.2.2.2.2.2.2.2.2.2.1 k0_t1
theorem k0_off16_inb : ∀ (v1 : BitVec 32) (k0_hw1 : k0_chk1 v1) (k0_t1 : Fin (k0_t1_loop v1).trips), ∀ a, (k0_off16 v1 k0_t1) a + S128x128.size a ≤ S768x1536.size a := fun v1 k0_hw1 k0_t1 => k0_hw1.1.2.2.2.2.2.2.2.2.2.2.2.2.2.2.2.2.2.2.2.2.2.2.1 k0_t1
theorem k0_off16_packedbf16 : ∀ (v1 : BitVec 32) (k0_hw1 : k0_chk1 v1) (k0_t1 : Fin (k0_t1_loop v1).trips), (Rect.unit (s := S768x1536) (k0_off16 v1 k0_t1) S128x128.size (k0_off16_inb v1 k0_hw1 k0_t1)).PackedRows (EltTy.packing .bf16) := fun v1 k0_hw1 k0_t1 => k0_hw1.1.2.2.2.2.2.2.2.2.2.2.2.2.2.2.2.2.2.2.2.2.2.2.2.1 k0_t1 (k0_off16_inb v1 k0_hw1 k0_t1)
theorem k0_off17_inb : ∀ (v1 : BitVec 32) (k0_hw1 : k0_chk1 v1) (k0_t1 : Fin (k0_t1_loop v1).trips), ∀ a, (k0_off17 v1 k0_t1) a + S1x128x128.size a ≤ S1x768x1536.size a := fun v1 k0_hw1 k0_t1 => k0_hw1.1.2.2.2.2.2.2.2.2.2.2.2.2.2.2.2.2.2.2.2.2.2.2.2.2.1 k0_t1
theorem k0_off18_inb : ∀ (v1 : BitVec 32) (k0_hw1 : k0_chk1 v1) (k0_t1 : Fin (k0_t1_loop v1).trips), ∀ a, (k0_off18 v1 k0_t1) a + S128x128.size a ≤ S768x1536.size a := fun v1 k0_hw1 k0_t1 => k0_hw1.1.2.2.2.2.2.2.2.2.2.2.2.2.2.2.2.2.2.2.2.2.2.2.2.2.2.1 k0_t1
theorem k0_off18_packedbf16 : ∀ (v1 : BitVec 32) (k0_hw1 : k0_chk1 v1) (k0_t1 : Fin (k0_t1_loop v1).trips), (Rect.unit (s := S768x1536) (k0_off18 v1 k0_t1) S128x128.size (k0_off18_inb v1 k0_hw1 k0_t1)).PackedRows (EltTy.packing .bf16) := fun v1 k0_hw1 k0_t1 => k0_hw1.1.2.2.2.2.2.2.2.2.2.2.2.2.2.2.2.2.2.2.2.2.2.2.2.2.2.2.1 k0_t1 (k0_off18_inb v1 k0_hw1 k0_t1)
theorem k0_off19_inb : ∀ (v1 : BitVec 32) (k0_hw1 : k0_chk1 v1) (k0_t1 : Fin (k0_t1_loop v1).trips), ∀ a, (k0_off19 v1 k0_t1) a + S1x128x128.size a ≤ S1x768x1536.size a := fun v1 k0_hw1 k0_t1 => k0_hw1.1.2.2.2.2.2.2.2.2.2.2.2.2.2.2.2.2.2.2.2.2.2.2.2.2.2.2.2.1 k0_t1
theorem k0_off20_inb : ∀ (v1 : BitVec 32) (k0_hw1 : k0_chk1 v1) (k0_t1 : Fin (k0_t1_loop v1).trips), ∀ a, (k0_off20 v1 k0_t1) a + S128x128.size a ≤ S768x1536.size a := fun v1 k0_hw1 k0_t1 => k0_hw1.1.2.2.2.2.2.2.2.2.2.2.2.2.2.2.2.2.2.2.2.2.2.2.2.2.2.2.2.2.1 k0_t1
theorem k0_off20_packedbf16 : ∀ (v1 : BitVec 32) (k0_hw1 : k0_chk1 v1) (k0_t1 : Fin (k0_t1_loop v1).trips), (Rect.unit (s := S768x1536) (k0_off20 v1 k0_t1) S128x128.size (k0_off20_inb v1 k0_hw1 k0_t1)).PackedRows (EltTy.packing .bf16) := fun v1 k0_hw1 k0_t1 => k0_hw1.1.2.2.2.2.2.2.2.2.2.2.2.2.2.2.2.2.2.2.2.2.2.2.2.2.2.2.2.2.2.1 k0_t1 (k0_off20_inb v1 k0_hw1 k0_t1)
theorem k0_off21_inb : ∀ (v1 : BitVec 32) (k0_hw1 : k0_chk1 v1) (k0_t1 : Fin (k0_t1_loop v1).trips), ∀ a, (k0_off21 v1 k0_t1) a + S1x128x128.size a ≤ S1x768x1536.size a := fun v1 k0_hw1 k0_t1 => k0_hw1.1.2.2.2.2.2.2.2.2.2.2.2.2.2.2.2.2.2.2.2.2.2.2.2.2.2.2.2.2.2.2.1 k0_t1
theorem k0_off22_inb : ∀ (v1 : BitVec 32) (k0_hw1 : k0_chk1 v1) (k0_t1 : Fin (k0_t1_loop v1).trips), ∀ a, (k0_off22 v1 k0_t1) a + S128x128.size a ≤ S768x1536.size a := fun v1 k0_hw1 k0_t1 => k0_hw1.1.2.2.2.2.2.2.2.2.2.2.2.2.2.2.2.2.2.2.2.2.2.2.2.2.2.2.2.2.2.2.2 k0_t1
theorem k0_off22_packedbf16 : ∀ (v1 : BitVec 32) (k0_hw1 : k0_chk1 v1) (k0_t1 : Fin (k0_t1_loop v1).trips), (Rect.unit (s := S768x1536) (k0_off22 v1 k0_t1) S128x128.size (k0_off22_inb v1 k0_hw1 k0_t1)).PackedRows (EltTy.packing .bf16) := fun v1 k0_hw1 k0_t1 => k0_hw1.2.1.1 k0_t1 (k0_off22_inb v1 k0_hw1 k0_t1)
theorem k0_off23_inb : ∀ (v1 : BitVec 32) (k0_hw1 : k0_chk1 v1) (k0_t1 : Fin (k0_t1_loop v1).trips), ∀ a, (k0_off23 v1 k0_t1) a + S1x128x128.size a ≤ S1x768x1536.size a := fun v1 k0_hw1 k0_t1 => k0_hw1.2.1.2.1 k0_t1
theorem k0_off24_inb : ∀ (v1 : BitVec 32) (k0_hw1 : k0_chk1 v1) (k0_t1 : Fin (k0_t1_loop v1).trips), ∀ a, (k0_off24 v1 k0_t1) a + S128x128.size a ≤ S768x1536.size a := fun v1 k0_hw1 k0_t1 => k0_hw1.2.1.2.2.1 k0_t1
theorem k0_off24_packedbf16 : ∀ (v1 : BitVec 32) (k0_hw1 : k0_chk1 v1) (k0_t1 : Fin (k0_t1_loop v1).trips), (Rect.unit (s := S768x1536) (k0_off24 v1 k0_t1) S128x128.size (k0_off24_inb v1 k0_hw1 k0_t1)).PackedRows (EltTy.packing .bf16) := fun v1 k0_hw1 k0_t1 => k0_hw1.2.1.2.2.2.1 k0_t1 (k0_off24_inb v1 k0_hw1 k0_t1)
theorem k0_off25_inb : ∀ (v1 : BitVec 32) (k0_hw1 : k0_chk1 v1) (k0_t1 : Fin (k0_t1_loop v1).trips), ∀ a, (k0_off25 v1 k0_t1) a + S1x128x128.size a ≤ S1x768x1536.size a := fun v1 k0_hw1 k0_t1 => k0_hw1.2.1.2.2.2.2.1 k0_t1
theorem k0_off26_inb : ∀ (v1 : BitVec 32) (k0_hw1 : k0_chk1 v1) (k0_t1 : Fin (k0_t1_loop v1).trips), ∀ a, (k0_off26 v1 k0_t1) a + S128x128.size a ≤ S768x1536.size a := fun v1 k0_hw1 k0_t1 => k0_hw1.2.1.2.2.2.2.2.1 k0_t1
theorem k0_off26_packedbf16 : ∀ (v1 : BitVec 32) (k0_hw1 : k0_chk1 v1) (k0_t1 : Fin (k0_t1_loop v1).trips), (Rect.unit (s := S768x1536) (k0_off26 v1 k0_t1) S128x128.size (k0_off26_inb v1 k0_hw1 k0_t1)).PackedRows (EltTy.packing .bf16) := fun v1 k0_hw1 k0_t1 => k0_hw1.2.1.2.2.2.2.2.2.1 k0_t1 (k0_off26_inb v1 k0_hw1 k0_t1)
theorem k0_off27_inb : ∀ (v1 : BitVec 32) (k0_hw1 : k0_chk1 v1) (k0_t1 : Fin (k0_t1_loop v1).trips), ∀ a, (k0_off27 v1 k0_t1) a + S128x1536.size a ≤ S768x1536.size a := fun v1 k0_hw1 k0_t1 => k0_hw1.2.1.2.2.2.2.2.2.2.1 k0_t1
theorem k0_off28_inb : ∀ (v1 : BitVec 32) (k0_hw1 : k0_chk1 v1) (k0_t1 : Fin (k0_t1_loop v1).trips), ∀ a, (k0_off28 v1 k0_t1) a + S128x128.size a ≤ S768x128.size a := fun v1 k0_hw1 k0_t1 => k0_hw1.2.1.2.2.2.2.2.2.2.2.1 k0_t1
theorem k0_t2_ok : ∀ (v1 : BitVec 32) (k0_hw1 : k0_chk1 v1), (k0_t2_loop v1).OK := fun v1 k0_hw1 => k0_hw1.2.1.2.2.2.2.2.2.2.2.2.1
theorem k0_mult2_dvd : ∀ (v1 : BitVec 32) (k0_hw1 : k0_chk1 v1) (k0_t2 : Fin (k0_t2_loop v1).trips), 128 ∣ (k0_mult2 v1 k0_t2).toNat := fun v1 k0_hw1 k0_t2 => k0_hw1.2.1.2.2.2.2.2.2.2.2.2.2.1 k0_t2
theorem k0_off29_inb : ∀ (v1 : BitVec 32) (k0_hw1 : k0_chk1 v1) (k0_t2 : Fin (k0_t2_loop v1).trips), ∀ a, (k0_off29 v1 k0_t2) a + S1x128x12.size a ≤ S1x768x12.size a := fun v1 k0_hw1 k0_t2 => k0_hw1.2.1.2.2.2.2.2.2.2.2.2.2.2.1 k0_t2
theorem k0_off30_inb : ∀ (v1 : BitVec 32) (k0_hw1 : k0_chk1 v1) (k0_t2 : Fin (k0_t2_loop v1).trips), ∀ a, (k0_off30 v1 k0_t2) a + S1x128x128.size a ≤ S1x768x1536.size a := fun v1 k0_hw1 k0_t2 => k0_hw1.2.1.2.2.2.2.2.2.2.2.2.2.2.2.1 k0_t2
theorem k0_off31_inb : ∀ (v1 : BitVec 32) (k0_hw1 : k0_chk1 v1) (k0_t2 : Fin (k0_t2_loop v1).trips), ∀ a, (k0_off31 v1 k0_t2) a + S128x128.size a ≤ S768x1536.size a := fun v1 k0_hw1 k0_t2 => k0_hw1.2.1.2.2.2.2.2.2.2.2.2.2.2.2.2.1 k0_t2
theorem k0_off31_packedbf16 : ∀ (v1 : BitVec 32) (k0_hw1 : k0_chk1 v1) (k0_t2 : Fin (k0_t2_loop v1).trips), (Rect.unit (s := S768x1536) (k0_off31 v1 k0_t2) S128x128.size (k0_off31_inb v1 k0_hw1 k0_t2)).PackedRows (EltTy.packing .bf16) := fun v1 k0_hw1 k0_t2 => k0_hw1.2.1.2.2.2.2.2.2.2.2.2.2.2.2.2.2.1 k0_t2 (k0_off31_inb v1 k0_hw1 k0_t2)
theorem k0_off32_inb : ∀ (v1 : BitVec 32) (k0_hw1 : k0_chk1 v1) (k0_t2 : Fin (k0_t2_loop v1).trips), ∀ a, (k0_off32 v1 k0_t2) a + S1x128x128.size a ≤ S1x768x1536.size a := fun v1 k0_hw1 k0_t2 => k0_hw1.2.1.2.2.2.2.2.2.2.2.2.2.2.2.2.2.2.1 k0_t2
theorem k0_off33_inb : ∀ (v1 : BitVec 32) (k0_hw1 : k0_chk1 v1) (k0_t2 : Fin (k0_t2_loop v1).trips), ∀ a, (k0_off33 v1 k0_t2) a + S128x128.size a ≤ S768x1536.size a := fun v1 k0_hw1 k0_t2 => k0_hw1.2.1.2.2.2.2.2.2.2.2.2.2.2.2.2.2.2.2.1 k0_t2
theorem k0_off33_packedbf16 : ∀ (v1 : BitVec 32) (k0_hw1 : k0_chk1 v1) (k0_t2 : Fin (k0_t2_loop v1).trips), (Rect.unit (s := S768x1536) (k0_off33 v1 k0_t2) S128x128.size (k0_off33_inb v1 k0_hw1 k0_t2)).PackedRows (EltTy.packing .bf16) := fun v1 k0_hw1 k0_t2 => k0_hw1.2.1.2.2.2.2.2.2.2.2.2.2.2.2.2.2.2.2.2.1 k0_t2 (k0_off33_inb v1 k0_hw1 k0_t2)
theorem k0_off34_inb : ∀ (v1 : BitVec 32) (k0_hw1 : k0_chk1 v1) (k0_t2 : Fin (k0_t2_loop v1).trips), ∀ a, (k0_off34 v1 k0_t2) a + S1x128x128.size a ≤ S1x768x1536.size a := fun v1 k0_hw1 k0_t2 => k0_hw1.2.1.2.2.2.2.2.2.2.2.2.2.2.2.2.2.2.2.2.2.1 k0_t2
theorem k0_off35_inb : ∀ (v1 : BitVec 32) (k0_hw1 : k0_chk1 v1) (k0_t2 : Fin (k0_t2_loop v1).trips), ∀ a, (k0_off35 v1 k0_t2) a + S128x128.size a ≤ S768x1536.size a := fun v1 k0_hw1 k0_t2 => k0_hw1.2.1.2.2.2.2.2.2.2.2.2.2.2.2.2.2.2.2.2.2.2.1 k0_t2
theorem k0_off35_packedbf16 : ∀ (v1 : BitVec 32) (k0_hw1 : k0_chk1 v1) (k0_t2 : Fin (k0_t2_loop v1).trips), (Rect.unit (s := S768x1536) (k0_off35 v1 k0_t2) S128x128.size (k0_off35_inb v1 k0_hw1 k0_t2)).PackedRows (EltTy.packing .bf16) := fun v1 k0_hw1 k0_t2 => k0_hw1.2.1.2.2.2.2.2.2.2.2.2.2.2.2.2.2.2.2.2.2.2.2.1 k0_t2 (k0_off35_inb v1 k0_hw1 k0_t2)
theorem k0_off36_inb : ∀ (v1 : BitVec 32) (k0_hw1 : k0_chk1 v1) (k0_t2 : Fin (k0_t2_loop v1).trips), ∀ a, (k0_off36 v1 k0_t2) a + S1x128x128.size a ≤ S1x768x1536.size a := fun v1 k0_hw1 k0_t2 => k0_hw1.2.1.2.2.2.2.2.2.2.2.2.2.2.2.2.2.2.2.2.2.2.2.2.1 k0_t2
theorem k0_off37_inb : ∀ (v1 : BitVec 32) (k0_hw1 : k0_chk1 v1) (k0_t2 : Fin (k0_t2_loop v1).trips), ∀ a, (k0_off37 v1 k0_t2) a + S128x128.size a ≤ S768x1536.size a := fun v1 k0_hw1 k0_t2 => k0_hw1.2.1.2.2.2.2.2.2.2.2.2.2.2.2.2.2.2.2.2.2.2.2.2.2.1 k0_t2
theorem k0_off37_packedbf16 : ∀ (v1 : BitVec 32) (k0_hw1 : k0_chk1 v1) (k0_t2 : Fin (k0_t2_loop v1).trips), (Rect.unit (s := S768x1536) (k0_off37 v1 k0_t2) S128x128.size (k0_off37_inb v1 k0_hw1 k0_t2)).PackedRows (EltTy.packing .bf16) := fun v1 k0_hw1 k0_t2 => k0_hw1.2.1.2.2.2.2.2.2.2.2.2.2.2.2.2.2.2.2.2.2.2.2.2.2.2.1 k0_t2 (k0_off37_inb v1 k0_hw1 k0_t2)
theorem k0_off38_inb : ∀ (v1 : BitVec 32) (k0_hw1 : k0_chk1 v1) (k0_t2 : Fin (k0_t2_loop v1).trips), ∀ a, (k0_off38 v1 k0_t2) a + S1x128x128.size a ≤ S1x768x1536.size a := fun v1 k0_hw1 k0_t2 => k0_hw1.2.1.2.2.2.2.2.2.2.2.2.2.2.2.2.2.2.2.2.2.2.2.2.2.2.2.1 k0_t2
theorem k0_off39_inb : ∀ (v1 : BitVec 32) (k0_hw1 : k0_chk1 v1) (k0_t2 : Fin (k0_t2_loop v1).trips), ∀ a, (k0_off39 v1 k0_t2) a + S128x128.size a ≤ S768x1536.size a := fun v1 k0_hw1 k0_t2 => k0_hw1.2.1.2.2.2.2.2.2.2.2.2.2.2.2.2.2.2.2.2.2.2.2.2.2.2.2.2.1 k0_t2
theorem k0_off39_packedbf16 : ∀ (v1 : BitVec 32) (k0_hw1 : k0_chk1 v1) (k0_t2 : Fin (k0_t2_loop v1).trips), (Rect.unit (s := S768x1536) (k0_off39 v1 k0_t2) S128x128.size (k0_off39_inb v1 k0_hw1 k0_t2)).PackedRows (EltTy.packing .bf16) := fun v1 k0_hw1 k0_t2 => k0_hw1.2.1.2.2.2.2.2.2.2.2.2.2.2.2.2.2.2.2.2.2.2.2.2.2.2.2.2.2.1 k0_t2 (k0_off39_inb v1 k0_hw1 k0_t2)
theorem k0_off40_inb : ∀ (v1 : BitVec 32) (k0_hw1 : k0_chk1 v1) (k0_t2 : Fin (k0_t2_loop v1).trips), ∀ a, (k0_off40 v1 k0_t2) a + S1x128x128.size a ≤ S1x768x1536.size a := fun v1 k0_hw1 k0_t2 => k0_hw1.2.1.2.2.2.2.2.2.2.2.2.2.2.2.2.2.2.2.2.2.2.2.2.2.2.2.2.2.2.1 k0_t2
theorem k0_off41_inb : ∀ (v1 : BitVec 32) (k0_hw1 : k0_chk1 v1) (k0_t2 : Fin (k0_t2_loop v1).trips), ∀ a, (k0_off41 v1 k0_t2) a + S128x128.size a ≤ S768x1536.size a := fun v1 k0_hw1 k0_t2 => k0_hw1.2.1.2.2.2.2.2.2.2.2.2.2.2.2.2.2.2.2.2.2.2.2.2.2.2.2.2.2.2.2.1 k0_t2
theorem k0_off41_packedbf16 : ∀ (v1 : BitVec 32) (k0_hw1 : k0_chk1 v1) (k0_t2 : Fin (k0_t2_loop v1).trips), (Rect.unit (s := S768x1536) (k0_off41 v1 k0_t2) S128x128.size (k0_off41_inb v1 k0_hw1 k0_t2)).PackedRows (EltTy.packing .bf16) := fun v1 k0_hw1 k0_t2 => k0_hw1.2.1.2.2.2.2.2.2.2.2.2.2.2.2.2.2.2.2.2.2.2.2.2.2.2.2.2.2.2.2.2.1 k0_t2 (k0_off41_inb v1 k0_hw1 k0_t2)
theorem k0_off42_inb : ∀ (v1 : BitVec 32) (k0_hw1 : k0_chk1 v1) (k0_t2 : Fin (k0_t2_loop v1).trips), ∀ a, (k0_off42 v1 k0_t2) a + S1x128x128.size a ≤ S1x768x1536.size a := fun v1 k0_hw1 k0_t2 => k0_hw1.2.1.2.2.2.2.2.2.2.2.2.2.2.2.2.2.2.2.2.2.2.2.2.2.2.2.2.2.2.2.2.2.1 k0_t2
theorem k0_off43_inb : ∀ (v1 : BitVec 32) (k0_hw1 : k0_chk1 v1) (k0_t2 : Fin (k0_t2_loop v1).trips), ∀ a, (k0_off43 v1 k0_t2) a + S128x128.size a ≤ S768x1536.size a := fun v1 k0_hw1 k0_t2 => k0_hw1.2.1.2.2.2.2.2.2.2.2.2.2.2.2.2.2.2.2.2.2.2.2.2.2.2.2.2.2.2.2.2.2.2 k0_t2
theorem k0_off43_packedbf16 : ∀ (v1 : BitVec 32) (k0_hw1 : k0_chk1 v1) (k0_t2 : Fin (k0_t2_loop v1).trips), (Rect.unit (s := S768x1536) (k0_off43 v1 k0_t2) S128x128.size (k0_off43_inb v1 k0_hw1 k0_t2)).PackedRows (EltTy.packing .bf16) := fun v1 k0_hw1 k0_t2 => k0_hw1.2.2.1.1 k0_t2 (k0_off43_inb v1 k0_hw1 k0_t2)
theorem k0_off44_inb : ∀ (v1 : BitVec 32) (k0_hw1 : k0_chk1 v1) (k0_t2 : Fin (k0_t2_loop v1).trips), ∀ a, (k0_off44 v1 k0_t2) a + S1x128x128.size a ≤ S1x768x1536.size a := fun v1 k0_hw1 k0_t2 => k0_hw1.2.2.1.2.1 k0_t2
theorem k0_off45_inb : ∀ (v1 : BitVec 32) (k0_hw1 : k0_chk1 v1) (k0_t2 : Fin (k0_t2_loop v1).trips), ∀ a, (k0_off45 v1 k0_t2) a + S128x128.size a ≤ S768x1536.size a := fun v1 k0_hw1 k0_t2 => k0_hw1.2.2.1.2.2.1 k0_t2
theorem k0_off45_packedbf16 : ∀ (v1 : BitVec 32) (k0_hw1 : k0_chk1 v1) (k0_t2 : Fin (k0_t2_loop v1).trips), (Rect.unit (s := S768x1536) (k0_off45 v1 k0_t2) S128x128.size (k0_off45_inb v1 k0_hw1 k0_t2)).PackedRows (EltTy.packing .bf16) := fun v1 k0_hw1 k0_t2 => k0_hw1.2.2.1.2.2.2.1 k0_t2 (k0_off45_inb v1 k0_hw1 k0_t2)
theorem k0_off46_inb : ∀ (v1 : BitVec 32) (k0_hw1 : k0_chk1 v1) (k0_t2 : Fin (k0_t2_loop v1).trips), ∀ a, (k0_off46 v1 k0_t2) a + S1x128x128.size a ≤ S1x768x1536.size a := fun v1 k0_hw1 k0_t2 => k0_hw1.2.2.1.2.2.2.2.1 k0_t2
theorem k0_off47_inb : ∀ (v1 : BitVec 32) (k0_hw1 : k0_chk1 v1) (k0_t2 : Fin (k0_t2_loop v1).trips), ∀ a, (k0_off47 v1 k0_t2) a + S128x128.size a ≤ S768x1536.size a := fun v1 k0_hw1 k0_t2 => k0_hw1.2.2.1.2.2.2.2.2.1 k0_t2
theorem k0_off47_packedbf16 : ∀ (v1 : BitVec 32) (k0_hw1 : k0_chk1 v1) (k0_t2 : Fin (k0_t2_loop v1).trips), (Rect.unit (s := S768x1536) (k0_off47 v1 k0_t2) S128x128.size (k0_off47_inb v1 k0_hw1 k0_t2)).PackedRows (EltTy.packing .bf16) := fun v1 k0_hw1 k0_t2 => k0_hw1.2.2.1.2.2.2.2.2.2.1 k0_t2 (k0_off47_inb v1 k0_hw1 k0_t2)
theorem k0_off48_inb : ∀ (v1 : BitVec 32) (k0_hw1 : k0_chk1 v1) (k0_t2 : Fin (k0_t2_loop v1).trips), ∀ a, (k0_off48 v1 k0_t2) a + S1x128x128.size a ≤ S1x768x1536.size a := fun v1 k0_hw1 k0_t2 => k0_hw1.2.2.1.2.2.2.2.2.2.2.1 k0_t2
theorem k0_off49_inb : ∀ (v1 : BitVec 32) (k0_hw1 : k0_chk1 v1) (k0_t2 : Fin (k0_t2_loop v1).trips), ∀ a, (k0_off49 v1 k0_t2) a + S128x128.size a ≤ S768x1536.size a := fun v1 k0_hw1 k0_t2 => k0_hw1.2.2.1.2.2.2.2.2.2.2.2.1 k0_t2
theorem k0_off49_packedbf16 : ∀ (v1 : BitVec 32) (k0_hw1 : k0_chk1 v1) (k0_t2 : Fin (k0_t2_loop v1).trips), (Rect.unit (s := S768x1536) (k0_off49 v1 k0_t2) S128x128.size (k0_off49_inb v1 k0_hw1 k0_t2)).PackedRows (EltTy.packing .bf16) := fun v1 k0_hw1 k0_t2 => k0_hw1.2.2.1.2.2.2.2.2.2.2.2.2.1 k0_t2 (k0_off49_inb v1 k0_hw1 k0_t2)
theorem k0_off50_inb : ∀ (v1 : BitVec 32) (k0_hw1 : k0_chk1 v1) (k0_t2 : Fin (k0_t2_loop v1).trips), ∀ a, (k0_off50 v1 k0_t2) a + S1x128x128.size a ≤ S1x768x1536.size a := fun v1 k0_hw1 k0_t2 => k0_hw1.2.2.1.2.2.2.2.2.2.2.2.2.2.1 k0_t2
theorem k0_off51_inb : ∀ (v1 : BitVec 32) (k0_hw1 : k0_chk1 v1) (k0_t2 : Fin (k0_t2_loop v1).trips), ∀ a, (k0_off51 v1 k0_t2) a + S128x128.size a ≤ S768x1536.size a := fun v1 k0_hw1 k0_t2 => k0_hw1.2.2.1.2.2.2.2.2.2.2.2.2.2.2.1 k0_t2
theorem k0_off51_packedbf16 : ∀ (v1 : BitVec 32) (k0_hw1 : k0_chk1 v1) (k0_t2 : Fin (k0_t2_loop v1).trips), (Rect.unit (s := S768x1536) (k0_off51 v1 k0_t2) S128x128.size (k0_off51_inb v1 k0_hw1 k0_t2)).PackedRows (EltTy.packing .bf16) := fun v1 k0_hw1 k0_t2 => k0_hw1.2.2.1.2.2.2.2.2.2.2.2.2.2.2.2.1 k0_t2 (k0_off51_inb v1 k0_hw1 k0_t2)
theorem k0_off52_inb : ∀ (v1 : BitVec 32) (k0_hw1 : k0_chk1 v1) (k0_t2 : Fin (k0_t2_loop v1).trips), ∀ a, (k0_off52 v1 k0_t2) a + S1x128x128.size a ≤ S1x768x1536.size a := fun v1 k0_hw1 k0_t2 => k0_hw1.2.2.1.2.2.2.2.2.2.2.2.2.2.2.2.2.1 k0_t2
theorem k0_off53_inb : ∀ (v1 : BitVec 32) (k0_hw1 : k0_chk1 v1) (k0_t2 : Fin (k0_t2_loop v1).trips), ∀ a, (k0_off53 v1 k0_t2) a + S128x128.size a ≤ S768x1536.size a := fun v1 k0_hw1 k0_t2 => k0_hw1.2.2.1.2.2.2.2.2.2.2.2.2.2.2.2.2.2.1 k0_t2
theorem k0_off53_packedbf16 : ∀ (v1 : BitVec 32) (k0_hw1 : k0_chk1 v1) (k0_t2 : Fin (k0_t2_loop v1).trips), (Rect.unit (s := S768x1536) (k0_off53 v1 k0_t2) S128x128.size (k0_off53_inb v1 k0_hw1 k0_t2)).PackedRows (EltTy.packing .bf16) := fun v1 k0_hw1 k0_t2 => k0_hw1.2.2.1.2.2.2.2.2.2.2.2.2.2.2.2.2.2.2.1 k0_t2 (k0_off53_inb v1 k0_hw1 k0_t2)
theorem k0_off54_inb : ∀ (v1 : BitVec 32) (k0_hw1 : k0_chk1 v1) (k0_t2 : Fin (k0_t2_loop v1).trips), ∀ a, (k0_off54 v1 k0_t2) a + S128x1536.size a ≤ S768x1536.size a := fun v1 k0_hw1 k0_t2 => k0_hw1.2.2.1.2.2.2.2.2.2.2.2.2.2.2.2.2.2.2.2.1 k0_t2
theorem k0_off55_inb : ∀ (v1 : BitVec 32) (k0_hw1 : k0_chk1 v1) (k0_t2 : Fin (k0_t2_loop v1).trips), ∀ a, (k0_off55 v1 k0_t2) a + S128x128.size a ≤ S768x128.size a := fun v1 k0_hw1 k0_t2 => k0_hw1.2.2.1.2.2.2.2.2.2.2.2.2.2.2.2.2.2.2.2.2.1 k0_t2
theorem k0_t3_ok : ∀ (v1 : BitVec 32) (k0_hw1 : k0_chk1 v1), (k0_t3_loop v1).OK := fun v1 k0_hw1 => k0_hw1.2.2.1.2.2.2.2.2.2.2.2.2.2.2.2.2.2.2.2.2.2.1
theorem k0_mult3_dvd : ∀ (v1 : BitVec 32) (k0_hw1 : k0_chk1 v1) (k0_t3 : Fin (k0_t3_loop v1).trips), 128 ∣ (k0_mult3 v1 k0_t3).toNat := fun v1 k0_hw1 k0_t3 => k0_hw1.2.2.1.2.2.2.2.2.2.2.2.2.2.2.2.2.2.2.2.2.2.2.1 k0_t3
theorem k0_off58_inb : ∀ (v1 : BitVec 32) (k0_hw1 : k0_chk1 v1) (k0_t3 : Fin (k0_t3_loop v1).trips), ∀ a, (k0_off58 v1 k0_t3) a + S128x128.size a ≤ S768x128.size a := fun v1 k0_hw1 k0_t3 => k0_hw1.2.2.1.2.2.2.2.2.2.2.2.2.2.2.2.2.2.2.2.2.2.2.2.1 k0_t3
theorem k0_off59_inb : ∀ (v1 : BitVec 32) (k0_hw1 : k0_chk1 v1) (k0_t3 : Fin (k0_t3_loop v1).trips), ∀ a, (k0_off59 v1 k0_t3) a + S1x128x128.size a ≤ S1x768x128.size a := fun v1 k0_hw1 k0_t3 => k0_hw1.2.2.1.2.2.2.2.2.2.2.2.2.2.2.2.2.2.2.2.2.2.2.2.2.1 k0_t3
theorem k0_off60_inb : ∀ (v1 : BitVec 32) (k0_hw1 : k0_chk1 v1) (k0_t3 : Fin (k0_t3_loop v1).trips), ∀ a, (k0_off60 v1 k0_t3) a + S128x128.size a ≤ S768x1536.size a := fun v1 k0_hw1 k0_t3 => k0_hw1.2.2.1.2.2.2.2.2.2.2.2.2.2.2.2.2.2.2.2.2.2.2.2.2.2.1 k0_t3
theorem k0_off61_inb : ∀ (v1 : BitVec 32) (k0_hw1 : k0_chk1 v1) (k0_t3 : Fin (k0_t3_loop v1).trips), ∀ a, (k0_off61 v1 k0_t3) a + S128x128.size a ≤ S768x1536.size a := fun v1 k0_hw1 k0_t3 => k0_hw1.2.2.1.2.2.2.2.2.2.2.2.2.2.2.2.2.2.2.2.2.2.2.2.2.2.2.1 k0_t3
theorem k0_off62_inb : ∀ (v1 : BitVec 32) (k0_hw1 : k0_chk1 v1) (k0_t3 : Fin (k0_t3_loop v1).trips), ∀ a, (k0_off62 v1 k0_t3) a + S128x128.size a ≤ S768x1536.size a := fun v1 k0_hw1 k0_t3 => k0_hw1.2.2.1.2.2.2.2.2.2.2.2.2.2.2.2.2.2.2.2.2.2.2.2.2.2.2.2.1 k0_t3
theorem k0_off63_inb : ∀ (v1 : BitVec 32) (k0_hw1 : k0_chk1 v1) (k0_t3 : Fin (k0_t3_loop v1).trips), ∀ a, (k0_off63 v1 k0_t3) a + S128x128.size a ≤ S768x1536.size a := fun v1 k0_hw1 k0_t3 => k0_hw1.2.2.1.2.2.2.2.2.2.2.2.2.2.2.2.2.2.2.2.2.2.2.2.2.2.2.2.2.1 k0_t3
theorem k0_off64_inb : ∀ (v1 : BitVec 32) (k0_hw1 : k0_chk1 v1) (k0_t3 : Fin (k0_t3_loop v1).trips), ∀ a, (k0_off64 v1 k0_t3) a + S128x128.size a ≤ S768x1536.size a := fun v1 k0_hw1 k0_t3 => k0_hw1.2.2.1.2.2.2.2.2.2.2.2.2.2.2.2.2.2.2.2.2.2.2.2.2.2.2.2.2.2.1 k0_t3
theorem k0_off65_inb : ∀ (v1 : BitVec 32) (k0_hw1 : k0_chk1 v1) (k0_t3 : Fin (k0_t3_loop v1).trips), ∀ a, (k0_off65 v1 k0_t3) a + S128x128.size a ≤ S768x1536.size a := fun v1 k0_hw1 k0_t3 => k0_hw1.2.2.1.2.2.2.2.2.2.2.2.2.2.2.2.2.2.2.2.2.2.2.2.2.2.2.2.2.2.2.1 k0_t3
theorem k0_off66_inb : ∀ (v1 : BitVec 32) (k0_hw1 : k0_chk1 v1) (k0_t3 : Fin (k0_t3_loop v1).trips), ∀ a, (k0_off66 v1 k0_t3) a + S128x128.size a ≤ S768x1536.size a := fun v1 k0_hw1 k0_t3 => k0_hw1.2.2.1.2.2.2.2.2.2.2.2.2.2.2.2.2.2.2.2.2.2.2.2.2.2.2.2.2.2.2.2.1 k0_t3
theorem k0_off67_inb : ∀ (v1 : BitVec 32) (k0_hw1 : k0_chk1 v1) (k0_t3 : Fin (k0_t3_loop v1).trips), ∀ a, (k0_off67 v1 k0_t3) a + S128x128.size a ≤ S768x1536.size a := fun v1 k0_hw1 k0_t3 => k0_hw1.2.2.1.2.2.2.2.2.2.2.2.2.2.2.2.2.2.2.2.2.2.2.2.2.2.2.2.2.2.2.2.2.1 k0_t3
theorem k0_off68_inb : ∀ (v1 : BitVec 32) (k0_hw1 : k0_chk1 v1) (k0_t3 : Fin (k0_t3_loop v1).trips), ∀ a, (k0_off68 v1 k0_t3) a + S128x128.size a ≤ S768x1536.size a := fun v1 k0_hw1 k0_t3 => k0_hw1.2.2.1.2.2.2.2.2.2.2.2.2.2.2.2.2.2.2.2.2.2.2.2.2.2.2.2.2.2.2.2.2.2.1 k0_t3
theorem k0_off69_inb : ∀ (v1 : BitVec 32) (k0_hw1 : k0_chk1 v1) (k0_t3 : Fin (k0_t3_loop v1).trips), ∀ a, (k0_off69 v1 k0_t3) a + S128x128.size a ≤ S768x1536.size a := fun v1 k0_hw1 k0_t3 => k0_hw1.2.2.1.2.2.2.2.2.2.2.2.2.2.2.2.2.2.2.2.2.2.2.2.2.2.2.2.2.2.2.2.2.2.2 k0_t3
theorem k0_off70_inb : ∀ (v1 : BitVec 32) (k0_hw1 : k0_chk1 v1) (k0_t3 : Fin (k0_t3_loop v1).trips), ∀ a, (k0_off70 v1 k0_t3) a + S128x128.size a ≤ S768x1536.size a := fun v1 k0_hw1 k0_t3 => k0_hw1.2.2.2.1 k0_t3
theorem k0_off71_inb : ∀ (v1 : BitVec 32) (k0_hw1 : k0_chk1 v1) (k0_t3 : Fin (k0_t3_loop v1).trips), ∀ a, (k0_off71 v1 k0_t3) a + S128x128.size a ≤ S768x1536.size a := fun v1 k0_hw1 k0_t3 => k0_hw1.2.2.2.2.1 k0_t3
theorem k0_t4_ok : ∀ (v1 : BitVec 32) (k0_hw1 : k0_chk1 v1), (k0_t4_loop v1).OK := fun v1 k0_hw1 => k0_hw1.2.2.2.2.2.1
theorem k0_mult4_dvd : ∀ (v1 : BitVec 32) (k0_hw1 : k0_chk1 v1) (k0_t4 : Fin (k0_t4_loop v1).trips), 128 ∣ (k0_mult4 v1 k0_t4).toNat := fun v1 k0_hw1 k0_t4 => k0_hw1.2.2.2.2.2.2.1 k0_t4
theorem k0_off72_inb : ∀ (v1 : BitVec 32) (k0_hw1 : k0_chk1 v1) (k0_t4 : Fin (k0_t4_loop v1).trips), ∀ a, (k0_off72 v1 k0_t4) a + S128x128.size a ≤ S768x128.size a := fun v1 k0_hw1 k0_t4 => k0_hw1.2.2.2.2.2.2.2.1 k0_t4
theorem k0_off73_inb : ∀ (v1 : BitVec 32) (k0_hw1 : k0_chk1 v1) (k0_t4 : Fin (k0_t4_loop v1).trips), ∀ a, (k0_off73 v1 k0_t4) a + S1x128x128.size a ≤ S1x768x128.size a := fun v1 k0_hw1 k0_t4 => k0_hw1.2.2.2.2.2.2.2.2.1 k0_t4
theorem k0_off74_inb : ∀ (v1 : BitVec 32) (k0_hw1 : k0_chk1 v1) (k0_t4 : Fin (k0_t4_loop v1).trips), ∀ a, (k0_off74 v1 k0_t4) a + S128x128.size a ≤ S768x1536.size a := fun v1 k0_hw1 k0_t4 => k0_hw1.2.2.2.2.2.2.2.2.2.1 k0_t4
theorem k0_off75_inb : ∀ (v1 : BitVec 32) (k0_hw1 : k0_chk1 v1) (k0_t4 : Fin (k0_t4_loop v1).trips), ∀ a, (k0_off75 v1 k0_t4) a + S128x128.size a ≤ S768x1536.size a := fun v1 k0_hw1 k0_t4 => k0_hw1.2.2.2.2.2.2.2.2.2.2.1 k0_t4
theorem k0_off76_inb : ∀ (v1 : BitVec 32) (k0_hw1 : k0_chk1 v1) (k0_t4 : Fin (k0_t4_loop v1).trips), ∀ a, (k0_off76 v1 k0_t4) a + S128x128.size a ≤ S768x1536.size a := fun v1 k0_hw1 k0_t4 => k0_hw1.2.2.2.2.2.2.2.2.2.2.2.1 k0_t4
theorem k0_off77_inb : ∀ (v1 : BitVec 32) (k0_hw1 : k0_chk1 v1) (k0_t4 : Fin (k0_t4_loop v1).trips), ∀ a, (k0_off77 v1 k0_t4) a + S128x128.size a ≤ S768x1536.size a := fun v1 k0_hw1 k0_t4 => k0_hw1.2.2.2.2.2.2.2.2.2.2.2.2.1 k0_t4
theorem k0_off78_inb : ∀ (v1 : BitVec 32) (k0_hw1 : k0_chk1 v1) (k0_t4 : Fin (k0_t4_loop v1).trips), ∀ a, (k0_off78 v1 k0_t4) a + S128x128.size a ≤ S768x1536.size a := fun v1 k0_hw1 k0_t4 => k0_hw1.2.2.2.2.2.2.2.2.2.2.2.2.2.1 k0_t4
theorem k0_off79_inb : ∀ (v1 : BitVec 32) (k0_hw1 : k0_chk1 v1) (k0_t4 : Fin (k0_t4_loop v1).trips), ∀ a, (k0_off79 v1 k0_t4) a + S128x128.size a ≤ S768x1536.size a := fun v1 k0_hw1 k0_t4 => k0_hw1.2.2.2.2.2.2.2.2.2.2.2.2.2.2.1 k0_t4
theorem k0_off80_inb : ∀ (v1 : BitVec 32) (k0_hw1 : k0_chk1 v1) (k0_t4 : Fin (k0_t4_loop v1).trips), ∀ a, (k0_off80 v1 k0_t4) a + S128x128.size a ≤ S768x1536.size a := fun v1 k0_hw1 k0_t4 => k0_hw1.2.2.2.2.2.2.2.2.2.2.2.2.2.2.2.1 k0_t4
theorem k0_off81_inb : ∀ (v1 : BitVec 32) (k0_hw1 : k0_chk1 v1) (k0_t4 : Fin (k0_t4_loop v1).trips), ∀ a, (k0_off81 v1 k0_t4) a + S128x128.size a ≤ S768x1536.size a := fun v1 k0_hw1 k0_t4 => k0_hw1.2.2.2.2.2.2.2.2.2.2.2.2.2.2.2.2.1 k0_t4
theorem k0_off82_inb : ∀ (v1 : BitVec 32) (k0_hw1 : k0_chk1 v1) (k0_t4 : Fin (k0_t4_loop v1).trips), ∀ a, (k0_off82 v1 k0_t4) a + S128x128.size a ≤ S768x1536.size a := fun v1 k0_hw1 k0_t4 => k0_hw1.2.2.2.2.2.2.2.2.2.2.2.2.2.2.2.2.2.1 k0_t4
theorem k0_off83_inb : ∀ (v1 : BitVec 32) (k0_hw1 : k0_chk1 v1) (k0_t4 : Fin (k0_t4_loop v1).trips), ∀ a, (k0_off83 v1 k0_t4) a + S128x128.size a ≤ S768x1536.size a := fun v1 k0_hw1 k0_t4 => k0_hw1.2.2.2.2.2.2.2.2.2.2.2.2.2.2.2.2.2.2.1 k0_t4
theorem k0_off84_inb : ∀ (v1 : BitVec 32) (k0_hw1 : k0_chk1 v1) (k0_t4 : Fin (k0_t4_loop v1).trips), ∀ a, (k0_off84 v1 k0_t4) a + S128x128.size a ≤ S768x1536.size a := fun v1 k0_hw1 k0_t4 => k0_hw1.2.2.2.2.2.2.2.2.2.2.2.2.2.2.2.2.2.2.2.1 k0_t4
theorem k0_off85_inb : ∀ (v1 : BitVec 32) (k0_hw1 : k0_chk1 v1) (k0_t4 : Fin (k0_t4_loop v1).trips), ∀ a, (k0_off85 v1 k0_t4) a + S128x128.size a ≤ S768x1536.size a := fun v1 k0_hw1 k0_t4 => k0_hw1.2.2.2.2.2.2.2.2.2.2.2.2.2.2.2.2.2.2.2.2 k0_t4

def k0_off86 (i : grid0.Coords) : Fin 2 → Nat :=
  let arg0 : BitVec 32 := BitVec.ofNat 32 (i 0).val
  let v122 : Index := Scalar.indexCast arg0
  let c0_62 : Index := 0#32
  ![v122.toNat, 0]
def k0_off87 (i : grid0.Coords) : Fin 2 → Nat :=
  let arg0 : BitVec 32 := BitVec.ofNat 32 (i 0).val
  let v125 : Index := Scalar.indexCast arg0
  let c1536 : Index := 1536#32
  ![v125.toNat, 1536]
def k0_cond1 (i : grid0.Coords) : BitVec 1 :=
  let arg0 : BitVec 32 := BitVec.ofNat 32 (i 0).val
  let c63_i32 : BitVec 32 := 63#32
  let v127 : BitVec 1 := Scalar.cmpi .eq arg0 c63_i32
  let v128 : BitVec 32 := Scalar.extui v127
  let c0_i32_63 : BitVec 32 := 0#32
  let v129 : BitVec 1 := Scalar.cmpi .ne v128 c0_i32_63
  v129

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x768x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x192 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x192 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x768x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S64x3072 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x3072 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S64x768x1536 : Shape := ⟨3, ![64, 768, 1536]⟩
abbrev S64x768x12 : Shape := ⟨3, ![64, 768, 12]⟩
abbrev S64 : Shape := ⟨1, ![64]⟩
abbrev S1536x128 : Shape := ⟨2, ![1536, 128]⟩
abbrev S128 : Shape := ⟨1, ![128]⟩
abbrev S3072x128 : Shape := ⟨2, ![3072, 128]⟩
abbrev S128x1536 : Shape := ⟨2, ![128, 1536]⟩
abbrev S3072 : Shape := ⟨1, ![3072]⟩
abbrev S3072x192 : Shape := ⟨2, ![3072, 192]⟩
abbrev S192 : Shape := ⟨1, ![192]⟩
abbrev S64x1 : Shape := ⟨2, ![64, 1]⟩
abbrev S1x128 : Shape := ⟨2, ![1, 128]⟩
abbrev S64x3072 : Shape := ⟨2, ![64, 3072]⟩
abbrev S64x768x128 : Shape := ⟨3, ![64, 768, 128]⟩
abbrev S64x128 : Shape := ⟨2, ![64, 128]⟩
abbrev S64x768x12x128 : Shape := ⟨4, ![64, 768, 12, 128]⟩
abbrev S64x768x12x1 : Shape := ⟨4, ![64, 768, 12, 1]⟩
abbrev S64x768x1 : Shape := ⟨3, ![64, 768, 1]⟩
abbrev S64x1x1 : Shape := ⟨3, ![64, 1, 1]⟩
abbrev S64x1536 : Shape := ⟨2, ![64, 1536]⟩
abbrev S64x1x1536 : Shape := ⟨3, ![64, 1, 1536]⟩
abbrev S1x256 : Shape := ⟨2, ![1, 256]⟩
abbrev S64x256 : Shape := ⟨2, ![64, 256]⟩
abbrev S49152x1536 : Shape := ⟨2, ![49152, 1536]⟩
abbrev S49152x128 : Shape := ⟨2, ![49152, 128]⟩
abbrev S1x1x128 : Shape := ⟨3, ![1, 1, 128]⟩
abbrev S64x1x128 : Shape := ⟨3, ![64, 1, 128]⟩

abbrev nBuf : Space → Nat
  | .hbm => 27
  | .vmem => 15
  | .smem => 0
  | _ => 0

abbrev bufTy : (tb : Table) → Fin (tcTables nBuf tb) → BufTy
  | .hbm, ⟨0, _⟩ => ⟨S64x768x1536, .f32⟩
  | .hbm, ⟨1, _⟩ => ⟨S64x768x12, .f32⟩
  | .hbm, ⟨2, _⟩ => ⟨S64, .i32⟩
  | .hbm, ⟨3, _⟩ => ⟨S1536x128, .fp8e4m3⟩
  | .hbm, ⟨4, _⟩ => ⟨S128, .f32⟩
  | .hbm, ⟨5, _⟩ => ⟨S3072x128, .fp8e4m3⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1536, .bf16⟩
  | .hbm, ⟨11, _⟩ => ⟨S3072, .f32⟩
  | .hbm, ⟨12, _⟩ => ⟨S3072, .f32⟩
  | .hbm, ⟨13, _⟩ => ⟨S3072x192, .fp8e4m3⟩
  | .hbm, ⟨14, _⟩ => ⟨S192, .f32⟩
  | .hbm, ⟨15, _⟩ => ⟨S192, .f32⟩
  | .hbm, ⟨16, _⟩ => ⟨S64x768x1536, .fp8e4m3⟩
  | .hbm, ⟨17, _⟩ => ⟨S64x1, .i32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S64x3072, .f32⟩
  | .hbm, ⟨24, _⟩ => ⟨S64x768x128, .f32⟩
  | .hbm, ⟨25, _⟩ => ⟨S64x3072, .f32⟩
  | .hbm, ⟨26, _⟩ => ⟨S64x128, .f32⟩
  | .local _ .vmem, ⟨0, _⟩ => ⟨S64x768x1536, .fp8e4m3⟩
  | .local _ .vmem, ⟨1, _⟩ => ⟨S64x768x12, .f32⟩
  | .local _ .vmem, ⟨2, _⟩ => ⟨S64x1, .i32⟩
  | .local _ .vmem, ⟨3, _⟩ => ⟨S1536x128, .fp8e4m3⟩
  | .local _ .vmem, ⟨4, _⟩ => ⟨S1x128, .f32⟩
  | .local _ .vmem, ⟨5, _⟩ => ⟨S3072x128, .fp8e4m3⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x1536, .bf16⟩
  | .local _ .vmem, ⟨11, _⟩ => ⟨S64x3072, .f32⟩
  | .local _ .vmem, ⟨12, _⟩ => ⟨S64x768x128, .f32⟩
  | .local _ .vmem, ⟨13, _⟩ => ⟨S64x3072, .f32⟩
  | .local _ .vmem, ⟨14, _⟩ => ⟨S64x128, .f32⟩
  | _, _ => ⟨S64x768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x768x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x768x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Lengths.lean ====
module

public import proofs.«01_k».proof.Defs

@[expose] public section

/-!
The precondition read: it says of the array of lengths that each is at most 768.
-/

namespace Cert.Run

open Idealize.ShloMosaic

theorem ofBool_eq_one (p : Bool) : (BitVec.ofBool p = 1#1) ↔ p = true := by cases p <;> decide

theorem lengths_of_pre_Kernel [Cert.Pre_lengths_fit.Facts] (m : (ℓ : Loc Cert.Kernel.nD Cert.Kernel.τ Cert.Kernel.sig) → Buf (Elt Bits) ℓ)
    (h : Cert.Pre_Kernel m) (x) : (m ((0 : Dev Cert.Kernel.nD).tc.loc Cert.Kernel.main_arg2) x : BitVec 32).toInt ≤ 768 := by
  have e := congrFun (h 0) x
  simp only [Pre_lengths_fit.fn, cmpi, broadcastInDim, constantI, IntOp.cmpi, ofBool_eq_one] at e
  simp only [BitVec.sle, decide_eq_true_eq] at e
  exact e

theorem lengths_of_pre_KernelIdeal [Cert.Pre_lengths_fit.Facts] (m : (ℓ : Loc Cert.KernelIdeal.nD Cert.KernelIdeal.τ Cert.KernelIdeal.sig) → Buf (Elt Ideal) ℓ)
    (h : Cert.Pre_KernelIdeal m) (x) : (m ((0 : Dev Cert.KernelIdeal.nD).tc.loc Cert.KernelIdeal.main_arg2) x : BitVec 32).toInt ≤ 768 := by
  have e := congrFun (h 0) x
  simp only [Pre_lengths_fit.fn, cmpi, broadcastInDim, constantI, IntOp.cmpi, ofBool_eq_one] at e
  simp only [BitVec.sle, decide_eq_true_eq] at e
  exact e

end Cert.Run
-- ==== Proof.Inputs.lean ====
module

public import proofs.«01_k».proof.Defs

@[expose] public section

/-!
The second precondition read: each length is from 1 to 768, each code at most 448 in magnitude, each scale at most
2^60, each entry of w2 finite.
-/

noncomputable section

namespace Cert.Run

open Idealize.ShloMosaic

theorem one_of_ofBool {p : Bool} (h : BitVec.ofBool p = 1#1) : p = true := by cases p <;> simp_all

theorem bits_448 : Ideal.ofBits FTy.f32 0x43E00000#32 = ((448 : ℝ) : EReal) := by
  simp [Ideal.ofBits, Ideal.ieee, -EReal.coe_mul]; norm_num

theorem bits_60 : Ideal.ofBits FTy.f32 0x5D800000#32 = ((2 ^ 60 : ℝ) : EReal) := by
  rw [show (2 ^ 60 : ℝ) = 1152921504606846976 by norm_num]
  simp [Ideal.ofBits, Ideal.ieee, -EReal.coe_mul]; norm_num

theorem real_of {x : EReal} {K : ℝ} (h : max x (-x) ≤ (K : EReal)) : ∃ X : ℝ, x = (X : EReal) ∧ |X| ≤ K := by
  induction x with
  | bot => exact absurd (le_trans (le_max_right _ _) h) (by simp)
  | top => exact absurd (le_trans (le_max_left _ _) h) (by simp)
  | coe X =>
    refine ⟨X, rfl, abs_le'.mpr ⟨EReal.coe_le_coe_iff.mp (le_trans (le_max_left _ _) h), ?_⟩⟩
    have := le_trans (le_max_right _ _) h
    rw [← EReal.coe_neg] at this
    exact EReal.coe_le_coe_iff.mp this

theorem le_of (x : EReal) (w : BitVec 32) [Decidable (max x (-x) ≤ Ideal.ofBits FTy.f32 w)]
    (h : BitVec.ofBool (decide (max x (-x) ≤ Ideal.ofBits FTy.f32 w)) = 1#1) : max x (-x) ≤ Ideal.ofBits FTy.f32 w :=
  of_decide_eq_true (one_of_ofBool h)

variable [Cert.Pre_inputs_fit.Facts] (m : (ℓ : Loc Cert.KernelIdeal.nD Cert.KernelIdeal.τ Cert.KernelIdeal.sig) → Buf (Elt Ideal) ℓ)

theorem lengths_of_inputs (h : Cert.Pre_KernelIdeal_inputs_fit m) (x) : (m ((0 : Dev Cert.KernelIdeal.nD).tc.loc Cert.KernelIdeal.main_arg2) x : BitVec 32).toInt ≤ 768 := by
  have e := congrFun (h 0).1 x
  simp only [Pre_inputs_fit.fn, cmpi, broadcastInDim, constantI, IntOp.cmpi] at e
  have e := one_of_ofBool e
  simp only [BitVec.sle, decide_eq_true_eq] at e
  exact e

theorem ones_of_inputs (h : Cert.Pre_KernelIdeal_inputs_fit m) (x) : 1 ≤ (m ((0 : Dev Cert.KernelIdeal.nD).tc.loc Cert.KernelIdeal.main_arg2) x : BitVec 32).toInt := by
  have e := congrFun (h 0).2.1 x
  simp only [Pre_inputs_fit.fn, cmpi, broadcastInDim, constantI, IntOp.cmpi] at e
  have e := one_of_ofBool e
  simp only [BitVec.sle, decide_eq_true_eq] at e
  exact e

theorem lt_of (x : EReal) (w : BitVec 32) [Decidable (max x (-x) < Ideal.ofBits FTy.f32 w)]
    (h : BitVec.ofBool (decide (max x (-x) < Ideal.ofBits FTy.f32 w)) = 1#1) : max x (-x) < Ideal.ofBits FTy.f32 w :=
  of_decide_eq_true (one_of_ofBool h)

theorem finite_of {x : EReal} (h : max x (-x) < ⊤) : ∃ X : ℝ, x = (X : EReal) := by
  induction x with
  | bot => exact absurd h (by simp)
  | top => exact absurd h (by simp)
  | coe X => exact ⟨X, rfl⟩

theorem bits_inf : Ideal.ofBits FTy.f32 0x7F800000#32 = ⊤ := by
  simp [Ideal.ofBits, Ideal.ieee]

theorem w2_of_inputs (h : Cert.Pre_KernelIdeal_inputs_fit m) (x) : ∃ X : ℝ, (m ((0 : Dev Cert.KernelIdeal.nD).tc.loc Cert.KernelIdeal.main_arg10) x : EReal) = (X : EReal) := by
  have e := lt_of (m ((0 : Dev Cert.KernelIdeal.nD).tc.loc Cert.KernelIdeal.main_arg10) x) 0x7F800000#32 (congrFun (h 0).2.2.2.2 x)
  rw [bits_inf] at e
  exact finite_of e

theorem codes_of_inputs (h : Cert.Pre_KernelIdeal_inputs_fit m) (x) : ∃ X : ℝ, (m ((0 : Dev Cert.KernelIdeal.nD).tc.loc Cert.KernelIdeal.main_arg0) x : EReal) = (X : EReal) ∧ |X| ≤ 448 := by
  have e := le_of (m ((0 : Dev Cert.KernelIdeal.nD).tc.loc Cert.KernelIdeal.main_arg0) x) 0x43E00000#32 (congrFun (h 0).2.2.1 x)
  rw [bits_448] at e
  exact real_of e

theorem scales_of_inputs (h : Cert.Pre_KernelIdeal_inputs_fit m) (x) : ∃ X : ℝ, (m ((0 : Dev Cert.KernelIdeal.nD).tc.loc Cert.KernelIdeal.main_arg1) x : EReal) = (X : EReal) ∧ |X| ≤ 2 ^ 60 := by
  have e := le_of (m ((0 : Dev Cert.KernelIdeal.nD).tc.loc Cert.KernelIdeal.main_arg1) x) 0x5D800000#32 (congrFun (h 0).2.2.2.1 x)
  rw [bits_60] at e
  exact real_of e

end Cert.Run

end
-- ==== Proof.KernelWords.lean ====
module
public import proofs.«01_k».proof.Kernel

@[expose] public section

/-!
The side condition of the kernel body, from the bound on the length: the chunks of 128 rows which the
two loops visit lie inside the 768 rows of the buffers, every chunk starts at a multiple of 128, and
the remainder loops make no trip.
-/

set_option maxRecDepth 16384

open Idealize.ShloMosaic

namespace Cert.Kernel.Run

/-- The number of chunks of 128 rows, as the kernel computes it. -/
abbrev chunks (v1 : BitVec 32) : BitVec 32 := Scalar.divsi (Scalar.addi v1 127#32) 128#32

theorem tdiv_bounds (x : ℤ) : x ≤ 128 * x.tdiv 128 + 127 ∧ 128 * x.tdiv 128 ≤ x + 127 ∧ (0 ≤ x → x.tdiv 128 = x / 128) := by
  rw [Int.tdiv_eq_ediv]
  have : (128 : ℤ).sign = 1 := rfl
  rw [this]
  split_ifs <;> omega

theorem chunks_toInt {v1 : BitVec 32} (h : v1.toInt ≤ 768) : (chunks v1).toInt = (v1.toInt + 127).tdiv 128 := by
  have hlo := BitVec.le_toInt v1
  have hc : ¬ IntOp.SDivCorner (v1 + 127#32) 128#32 := by
    simp [IntOp.SDivCorner]
  have e : (v1 + 127#32).toInt = v1.toInt + 127 := by
    rw [BitVec.toInt_add]
    have : (127#32 : BitVec 32).toInt = 127 := rfl
    rw [this]
    apply Int.bmod_eq_of_le <;> omega
  show (IntOp.divsi .scalar (v1 + 127#32) 128#32).toInt = _
  unfold IntOp.divsi
  rw [if_neg hc, BitVec.toInt_sdiv, e]
  have : (128#32 : BitVec 32).toInt = 128 := rfl
  rw [this]
  have := tdiv_bounds (v1.toInt + 127)
  apply Int.bmod_eq_of_le <;> omega

theorem chunks_le {v1 : BitVec 32} (h : v1.toInt ≤ 768) : (chunks v1).toInt ≤ 6 := by
  rw [chunks_toInt h]; have := tdiv_bounds (v1.toInt + 127); omega

theorem one_div (x : BitVec 32) : Scalar.addi 0#32 (Scalar.muli (Scalar.divsi (Scalar.subi x 0#32) 1#32) 1#32) = x := by
  show 0#32 + (IntOp.divsi .scalar (x - 0#32) 1#32) * 1#32 = x
  unfold IntOp.divsi
  rw [if_neg (by simp [IntOp.SDivCorner]), BitVec.sdiv_one]
  simp

theorem full_loop (v1 : BitVec 32) : k0_t1_loop v1 = ⟨0#32, chunks v1, 1#32⟩ := by
  unfold k0_t1_loop; dsimp only; rw [one_div]

theorem rest_loop (v1 : BitVec 32) : k0_t2_loop v1 = ⟨chunks v1, chunks v1, 1#32⟩ := by
  unfold k0_t2_loop; dsimp only; rw [one_div]
  show (⟨chunks v1, 0#32 + (chunks v1 - 0#32), 1#32⟩ : Scf.Loop 32) = _
  simp

theorem full_trips (v1 : BitVec 32) : (k0_t1_loop v1).trips = (chunks v1).toInt.toNat := by
  rw [full_loop]
  show ((((chunks v1).toInt - (0#32 : BitVec 32).toInt + (1#32 : BitVec 32).toInt - 1) / (1#32 : BitVec 32).toInt).toNat) = _
  have h0 : (0#32 : BitVec 32).toInt = 0 := rfl
  have h1 : (1#32 : BitVec 32).toInt = 1 := rfl
  rw [h0, h1]; congr 1; omega

theorem rest_trips (v1 : BitVec 32) : (k0_t2_loop v1).trips = 0 := by
  rw [rest_loop]
  show ((((chunks v1).toInt - (chunks v1).toInt + (1#32 : BitVec 32).toInt - 1) / (1#32 : BitVec 32).toInt).toNat) = _
  have h1 : (1#32 : BitVec 32).toInt = 1 := rfl
  rw [h1]; simp

theorem full_lt {v1 : BitVec 32} (h : v1.toInt ≤ 768) (k : Fin (k0_t1_loop v1).trips) : k.val < 6 := by
  have h1 := Nat.lt_of_lt_of_eq k.isLt (full_trips v1)
  have h2 := chunks_le h
  omega

theorem rest_empty (v1 : BitVec 32) (k : Fin (k0_t2_loop v1).trips) : False := by
  have h1 := Nat.lt_of_lt_of_eq k.isLt (rest_trips v1)
  omega

theorem full_ok {v1 : BitVec 32} (h : v1.toInt ≤ 768) : (k0_t1_loop v1).OK := by
  have h2 := chunks_le h
  have e := full_trips v1
  rw [full_loop] at e ⊢
  refine ⟨show 0 < (1#32 : BitVec 32).toInt by decide, ?_⟩
  show (0#32 : BitVec 32).toInt + (Scf.Loop.trips ⟨0#32, chunks v1, 1#32⟩ : ℕ) * (1#32 : BitVec 32).toInt < 2 ^ (32 - 1)
  rw [e]
  have h0 : (0#32 : BitVec 32).toInt = 0 := rfl
  have h1 : (1#32 : BitVec 32).toInt = 1 := rfl
  rw [h0, h1]; omega

theorem rest_ok {v1 : BitVec 32} (h : v1.toInt ≤ 768) : (k0_t2_loop v1).OK := by
  have h2 := chunks_le h
  have e := rest_trips v1
  rw [rest_loop] at e ⊢
  refine ⟨show 0 < (1#32 : BitVec 32).toInt by decide, ?_⟩
  show (chunks v1).toInt + (Scf.Loop.trips ⟨chunks v1, chunks v1, 1#32⟩ : ℕ) * (1#32 : BitVec 32).toInt < 2 ^ (32 - 1)
  rw [e]
  have h1 : (1#32 : BitVec 32).toInt = 1 := rfl
  rw [h1]; omega

/-- The first row of chunk `k`, as the kernel computes it, -/
abbrev row (k : ℕ) : ℕ := (Scalar.indexCast (Scalar.muli (Scf.iv 0#32 1#32 k) 128#32)).toNat

theorem row_eq {k : ℕ} (h : k < 6) : row k = 128 * k := by
  match k, h with
  | 0, _ => rfl
  | 1, _ => rfl
  | 2, _ => rfl
  | 3, _ => rfl
  | 4, _ => rfl
  | 5, _ => rfl
  | n + 6, h => omega

theorem row_dvd {k : ℕ} (h : k < 6) : 128 ∣ row k := ⟨k, row_eq h⟩

theorem row_le {k : ℕ} (h : k < 6) : row k + 128 ≤ 768 := by rw [row_eq h]; omega

theorem inb_scales {r : ℕ} (hr : r + 128 ≤ 768) (a : Fin 3) :
    (![0, r, 0] : Fin 3 → ℕ) a + S1x128x12.size a ≤ S1x768x12.size a :=
  match a with | 0 => Nat.le_refl _ | 1 => hr | 2 => Nat.le_refl _

theorem inb_x {r c : ℕ} (hr : r + 128 ≤ 768) (hc : c + 128 ≤ 1536) (a : Fin 3) :
    (![0, r, c] : Fin 3 → ℕ) a + S1x128x128.size a ≤ S1x768x1536.size a :=
  match a with | 0 => Nat.le_refl _ | 1 => hr | 2 => hc

theorem inb_z {r : ℕ} (hr : r + 128 ≤ 768) (a : Fin 3) :
    (![0, r, 0] : Fin 3 → ℕ) a + S1x128x128.size a ≤ S1x768x128.size a :=
  match a with | 0 => Nat.le_refl _ | 1 => hr | 2 => Nat.le_refl _

theorem inb_hb {r c : ℕ} (hr : r + 128 ≤ 768) (hc : c + 128 ≤ 1536) (a : Fin 2) :
    (![r, c] : Fin 2 → ℕ) a + S128x128.size a ≤ S768x1536.size a :=
  match a with | 0 => hr | 1 => hc

theorem inb_row {r : ℕ} (hr : r + 128 ≤ 768) (a : Fin 2) :
    (![r, 0] : Fin 2 → ℕ) a + S128x1536.size a ≤ S768x1536.size a :=
  match a with | 0 => hr | 1 => Nat.le_refl _

theorem inb_fr {r : ℕ} (hr : r + 128 ≤ 768) (a : Fin 2) :
    (![r, 0] : Fin 2 → ℕ) a + S128x128.size a ≤ S768x128.size a :=
  match a with | 0 => hr | 1 => Nat.le_refl _

theorem packed_rows {r c : ℕ} (hr : 128 ∣ r) {hinb : ∀ a, (![r, c] : Fin 2 → ℕ) a + S128x128.size a ≤ S768x1536.size a} :
    (Rect.unit (s := S768x1536) ![r, c] S128x128.size hinb).PackedRows (EltTy.packing .bf16) := by
  refine .inr ⟨by decide, rfl, .inl ⟨?_, ?_⟩⟩
  · exact Dvd.dvd.trans (by decide : (2 : ℕ) ∣ 128) hr
  · show (2 : ℕ) ∣ 128
    decide

theorem chk_0 {v1 : BitVec 32} (h : v1.toInt ≤ 768) : k0_chk1_0 v1 :=
  ⟨full_ok h,
   fun k => row_dvd (full_lt h k),
   fun k => inb_scales (row_le (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide)⟩

theorem chk_1 {v1 : BitVec 32} (h : v1.toInt ≤ 768) : k0_chk1_1 v1 :=
  ⟨fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_row (row_le (full_lt h k)),
   fun k => inb_fr (row_le (full_lt h k)),
   rest_ok h,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim⟩

theorem chk_2 {v1 : BitVec 32} (h : v1.toInt ≤ 768) : k0_chk1_2 v1 :=
  ⟨fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   full_ok h,
   fun k => row_dvd (full_lt h k),
   fun k => inb_fr (row_le (full_lt h k)),
   fun k => inb_z (row_le (full_lt h k)),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide)⟩

theorem chk_3 {v1 : BitVec 32} (h : v1.toInt ≤ 768) : k0_chk1_3 v1 :=
  ⟨fun k => inb_hb (row_le (full_lt h k)) (by decide),
   fun k => inb_hb (row_le (full_lt h k)) (by decide),
   rest_ok h,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim⟩

/-- The side condition of the body holds whenever the length is at most the 768 rows there are. -/
theorem chk {v1 : BitVec 32} (h : v1.toInt ≤ 768) : k0_chk1 v1 := ⟨chk_0 h, chk_1 h, chk_2 h, chk_3 h⟩

end Cert.Kernel.Run
-- ==== Proof.KernelBody.lean ====
module

public import proofs.«01_k».proof.Proof.Gen.Kernel.Loops
public import proofs.«01_k».proof.Proof.KernelWords

@[expose] public section

/-!
One run of the kernel body at a grid point: from the blocks staged and the scratch at anything, it ends
with every input block as it was and every output block and scratch buffer at something, provided every
length is at most 768.
-/

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄G" => MT nD τ sig Unit (Elt F) ℕ (UR sig nD τ) ℕ

set_option maxHeartbeats 4000000 in
/-- The run of the body. -/
theorem bodyRun (c : Dev nD) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (q : PosShare TreeShare) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hlen : ∀ x, (arg1.view.read (Elt F) f1 x : BitVec 32).toInt ≤ 768) (Q : PUnit → sProp 𝕄G) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27)
      ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∃ g, arg17.view.loc (c : Thread nD τ) ↦[arg17.view.set]{fullShare} g) ∗ (∃ g, arg18.view.loc (c : Thread nD τ) ↦[arg18.view.set]{fullShare} g) ∗ (∃ g, arg19.view.loc (c : Thread nD τ) ↦[arg19.view.set]{fullShare} g) ∗ (∃ g, arg20.view.loc (c : Thread nD τ) ↦[arg20.view.set]{fullShare} g) ∗ (∃ g, arg21.view.loc (c : Thread nD τ) ↦[arg21.view.set]{fullShare} g) ∗ (∃ g, arg22.view.loc (c : Thread nD τ) ↦[arg22.view.set]{fullShare} g) ∗ (∃ g, arg23.view.loc (c : Thread nD τ) ↦[arg23.view.set]{fullShare} g) ∗ (∃ g, arg24.view.loc (c : Thread nD τ) ↦[arg24.view.set]{fullShare} g) ∗ (∃ g, arg25.view.loc (c : Thread nD τ) ↦[arg25.view.set]{fullShare} g) ∗ (∃ g, arg26.view.loc (c : Thread nD τ) ↦[arg26.view.set]{fullShare} g) ∗ (∃ g, arg27.view.loc (c : Thread nD τ) ↦[arg27.view.set]{fullShare} g)) -∗ Q ⟨⟩))
    ⊢ wp frame (wpE (defs₀ (F := F)) Variants.none (c : Thread nD τ) none) Set.univ (cc0_attstat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  rw [cc0_attstat_eq_skeleton]
  iintro ⟨H1, H2, H3, H4, H5, H6, H7, H8, H9, H10, H11, H12, H13, H14, H15, H16, H17, H18, H19, H20, H21, H22, H23, H24, H25, H26, H27, Hk⟩
  sl_exec (disch := exact chk (hlen _))
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iexists _; iexact H27

end Cert.Kernel.Run

end
-- ==== Proof.KernelRun.lean ====
module

public import proofs.«01_k».proof.Proof.Gen.Kernel.Launch
public import proofs.«01_k».proof.Proof.KernelBody
public import Idealize.ShloMosaic.Lib.Pipeline.Frame

@[expose] public section

/-!
The launch of the kernel: the cast and the nine reshapes of the host, then the pipeline over the 64 points.  `launch`
takes any relational proof data whose invariant is the scratch at anything beside the table of lengths;
`frame_run` is the run in which nothing is said of the results.
-/

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄G" => MT nD τ sig Unit (Elt F) ℕ (UR sig nD τ) ℕ

variable (m : (ℓ : Loc nD τ sig) → Buf (Elt F) ℓ) (g : Dev nD → PrngReg)

/-- The buffers of core `c` when the kernel is entered: the host has cast and reshaped. -/
abbrev V (c : Dev nD) (b : Ref sig .tc) : Buf (Elt F) ((c.tc : Thread nD τ).loc b) :=
  StableHlo.after hostOps0 (fun b => m (c, b)) b

/-- No operation of the host writes an argument. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    ∀ op ∈ (hostOps0 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.reshape_writes, Finset.mem_singleton] <;>
    exact StableHlo.devRef_ne_of_ne ‹_›

/-- So each argument reaches the kernel, and the end, as launched. -/
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) hostOps0 (fun b => m (c, b)) (not_written b hb)

/-- The table of lengths the pipeline is entered with. -/
abbrev adm : (p : Fin 1) → (pcfgs (F := F) p).Adm := fun _ => ⟨fun k => V m 0 (pre0.ref k), trivial⟩

/-- The body's invariant: the scratch buffers at anything, and half of the table of lengths. -/
abbrev Φ (c : Dev nD) : sProp 𝕄G :=
  iprop(Pipeline.ΦA spec0 c ∗ Pipeline.ΦT pre0 (adm m 0).1 c)

/-- The launch: from the body obligation at every point, the run of the program. -/
theorem launch (rdat : (c : Dev nD) → RDat τ (Elt F) Unit ℕ (UR sig nD τ) ℕ (cfg0 (adm m 0)) c)
    (hbody : ∀ c, (rdat c).BodyObligation (defs₀ (F := F)) Variants.none () Set.univ)
    (hshare : ∀ c w, (rdat c).share w = fullShare) (howed : ∀ c t, (rdat c).owed t = 0)
    (hA : ∀ c w, (rdat c).A w = V m c (Pipeline.arrRef spec0 w)) (hΦ : ∀ c t, (rdat c).Φ t = Φ m c)
    (Q' : PUnit × MemSt nD τ sig (Elt F) → Prop)
    (hQ' : ∀ r, Pipeline.RDat.FramePost (cfg0 (adm m 0)) rdat (V m) r ∧ r.2.sem = (fun _ => 0) → Q' r) :
    θ_run (defs (F := F)) (onTc (τ := τ) (main (F := F))) ⟨m, fun _ => 0, g⟩ Q' :=
  Pipeline.RDat.θ_run_frameP_track (pcfgs (F := F)) (adm m) 0 launch0 defs₀ Variants.none rdat m g main hbody hshare howed (V m)
    (Pipeline.hmainP_prefix (pcfgs (F := F)) 0 defs₀ Variants.none m main hostOps0 hostOps0_sub
      ⟨rfl, rfl, rfl, rfl, rfl, rfl, rfl, rfl, rfl, rfl⟩ main_chain)
    hA (fun c k => by rw [Subsingleton.elim c 0]) (fun c => by rw [hΦ]) (fun c => by rw [hΦ]; iintro ⟨H, -⟩; iexact H) Q' hQ'

/-- A buffer that no window moves bypasses the pipeline. -/
theorem rest_mem (b : Ref sig .tc) (hs : b.isScoped = false) (h : ∀ w, (spec0 w).arr.view.ref ≠ b) :
    b ∈ Pipeline.restRefs sig (cfg0 (adm m 0)).spec := Pipeline.mem_restRefs_of b hs h

/-- The proof data of the frame: an input block stays as found; of an output nothing is said. -/
def frameDat (c : Dev nD) : RDat τ (Elt F) Unit ℕ (UR sig nD τ) ℕ (cfg0 (adm m 0)) c where
  A w := V m c (Pipeline.arrRef spec0 w)
  after w _ Y X := (spec0 w).isOut = false → X = Y
  Φ _ := Φ m c
  q _ := fullShare
  owed _ := 0

set_option maxHeartbeats 4000000 in
/-- The body obligation of the frame. -/
theorem frame_body (hlen : ∀ x, (V m 0 main_arg2 x : BitVec 32).toInt ≤ 768) (c : Dev nD) :
    (frameDat m c).BodyObligation (defs₀ (F := F)) Variants.none () Set.univ := by
  intro t Y hY
  obtain rfl : c = 0 := Subsingleton.elim c 0
  rw [bigSep_W0, bigSep_W0]
  rw [show (frameDat m 0).Φ t.castSucc = Φ m 0 from rfl, show (frameDat m 0).Φ t.succ = Φ m 0 from rfl]
  unfold Φ Pipeline.ΦA Pipeline.ΦT Pipeline.prefHeld RDat.owesAt Pipeline.owesWithin owns
  rw [scopedRest0_eq, show (Finset.univ : Finset (Fin pre0.K)) = {0} from rfl, bigSep_singleton]
  rw [show (frameDat m 0).owed t.castSucc = 0 from rfl, show (frameDat m 0).owed t.succ = 0 from rfl]
  iintro ⟨⟨⟨⟨⟨%s0, S0⟩, ⟨%s1, S1⟩, ⟨%s2, S2⟩, ⟨%s3, S3⟩⟩, HP⟩, HT⟩, ⟨%W, %hW, HO⟩, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩
  iapply (bodyRun (F := F) 0 (grid0.coords t) (Memref.whole main_arg2) (Memref.isWhole_whole _) (spec0_0.stage (((cfg0 (adm m 0)).slots t 0))) (hstage0_0 ((((cfg0 (adm m 0)).slots t 0)).cast nbuf0_0)) (spec0_1.stage (((cfg0 (adm m 0)).slots t 1))) (hstage0_1 ((((cfg0 (adm m 0)).slots t 1)).cast nbuf0_1)) (spec0_2.stage (((cfg0 (adm m 0)).slots t 2))) (hstage0_2 ((((cfg0 (adm m 0)).slots t 2)).cast nbuf0_2)) (spec0_3.stage (((cfg0 (adm m 0)).slots t 3))) (hstage0_3 ((((cfg0 (adm m 0)).slots t 3)).cast nbuf0_3)) (spec0_4.stage (((cfg0 (adm m 0)).slots t 4))) (hstage0_4 ((((cfg0 (adm m 0)).slots t 4)).cast nbuf0_4)) (spec0_5.stage (((cfg0 (adm m 0)).slots t 5))) (hstage0_5 ((((cfg0 (adm m 0)).slots t 5)).cast nbuf0_5)) (spec0_6.stage (((cfg0 (adm m 0)).slots t 6))) (hstage0_6 ((((cfg0 (adm m 0)).slots t 6)).cast nbuf0_6)) (spec0_7.stage (((cfg0 (adm m 0)).slots t 7))) (hstage0_7 ((((cfg0 (adm m 0)).slots t 7)).cast nbuf0_7)) (spec0_8.stage (((cfg0 (adm m 0)).slots t 8))) (hstage0_8 ((((cfg0 (adm m 0)).slots t 8)).cast nbuf0_8)) (spec0_9.stage (((cfg0 (adm m 0)).slots t 9))) (hstage0_9 ((((cfg0 (adm m 0)).slots t 9)).cast nbuf0_9)) (spec0_10.stage (((cfg0 (adm m 0)).slots t 10))) (hstage0_10 ((((cfg0 (adm m 0)).slots t 10)).cast nbuf0_10)) (spec0_11.stage (((cfg0 (adm m 0)).slots t 11))) (hstage0_11 ((((cfg0 (adm m 0)).slots t 11)).cast nbuf0_11)) (spec0_12.stage (((cfg0 (adm m 0)).slots t 12))) (hstage0_12 ((((cfg0 (adm m 0)).slots t 12)).cast nbuf0_12)) (spec0_13.stage (((cfg0 (adm m 0)).slots t 13))) (hstage0_13 ((((cfg0 (adm m 0)).slots t 13)).cast nbuf0_13)) (spec0_14.stage (((cfg0 (adm m 0)).slots t 14))) (hstage0_14 ((((cfg0 (adm m 0)).slots t 14)).cast nbuf0_14)) (spec0_15.stage (((cfg0 (adm m 0)).slots t 15))) (hstage0_15 ((((cfg0 (adm m 0)).slots t 15)).cast nbuf0_15)) (spec0_16.stage (((cfg0 (adm m 0)).slots t 16))) (hstage0_16 ((((cfg0 (adm m 0)).slots t 16)).cast nbuf0_16)) (spec0_17.stage (((cfg0 (adm m 0)).slots t 17))) (hstage0_17 ((((cfg0 (adm m 0)).slots t 17)).cast nbuf0_17)) (spec0_18.stage (((cfg0 (adm m 0)).slots t 18))) (hstage0_18 ((((cfg0 (adm m 0)).slots t 18)).cast nbuf0_18)) (spec0_19.stage (((cfg0 (adm m 0)).slots t 19))) (hstage0_19 ((((cfg0 (adm m 0)).slots t 19)).cast nbuf0_19)) (spec0_20.stage (((cfg0 (adm m 0)).slots t 20))) (hstage0_20 ((((cfg0 (adm m 0)).slots t 20)).cast nbuf0_20)) (spec0_21.stage (((cfg0 (adm m 0)).slots t 21))) (hstage0_21 ((((cfg0 (adm m 0)).slots t 21)).cast nbuf0_21))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    fullShare.right (V m 0 main_arg2) f0 f1 f2 f3 f4 f5 f6 f7 f8 f9 f10 f11 f12 f13 f14 f15 f16 f17 f18 f19 f20 f21 s0 s1 s2 s3 hlen)
  simp only [View.set_whole]
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  isplitl [S2]; · iexact S2
  isplitl [S3]; · iexact S3
  iintro ⟨HT, H0, H1, H2, H3, H4, H5, H6, H7, H8, H9, H10, H11, H12, H13, H14, ⟨%g15, H15⟩, ⟨%g16, H16⟩, ⟨%g17, H17⟩, ⟨%g18, H18⟩, ⟨%g19, H19⟩, ⟨%g20, H20⟩, ⟨%g21, H21⟩, S0, S1, S2, S3⟩
  isplitl [S0 S1 S2 S3 HP HT]
  · isplitl [S0 S1 S2 S3 HP]
    · isplitl [S0 S1 S2 S3]
      · isplitl [S0]; · iexact S0
        isplitl [S1]; · iexact S1
        isplitl [S2]; · iexact S2
        iexact S3
      iexact HP
    iexact HT
  isplitl [HO]
  · iexists W; isplitr; · ipureintro; exact fun _ _ => Or.inl trivial
    iexact HO
  isplitl [H0]
  · iexists (Y 0); isplitr; · ipureintro; exact fun _ => rfl
    iexists f0; isplitr; · ipureintro; exact h0
    iexact H0
  isplitl [H1]
  · iexists (Y 1); isplitr; · ipureintro; exact fun _ => rfl
    iexists f1; isplitr; · ipureintro; exact h1
    iexact H1
  isplitl [H2]
  · iexists (Y 2); isplitr; · ipureintro; exact fun _ => rfl
    iexists f2; isplitr; · ipureintro; exact h2
    iexact H2
  isplitl [H3]
  · iexists (Y 3); isplitr; · ipureintro; exact fun _ => rfl
    iexists f3; isplitr; · ipureintro; exact h3
    iexact H3
  isplitl [H4]
  · iexists (Y 4); isplitr; · ipureintro; exact fun _ => rfl
    iexists f4; isplitr; · ipureintro; exact h4
    iexact H4
  isplitl [H5]
  · iexists (Y 5); isplitr; · ipureintro; exact fun _ => rfl
    iexists f5; isplitr; · ipureintro; exact h5
    iexact H5
  isplitl [H6]
  · iexists (Y 6); isplitr; · ipureintro; exact fun _ => rfl
    iexists f6; isplitr; · ipureintro; exact h6
    iexact H6
  isplitl [H7]
  · iexists (Y 7); isplitr; · ipureintro; exact fun _ => rfl
    iexists f7; isplitr; · ipureintro; exact h7
    iexact H7
  isplitl [H8]
  · iexists (Y 8); isplitr; · ipureintro; exact fun _ => rfl
    iexists f8; isplitr; · ipureintro; exact h8
    iexact H8
  isplitl [H9]
  · iexists (Y 9); isplitr; · ipureintro; exact fun _ => rfl
    iexists f9; isplitr; · ipureintro; exact h9
    iexact H9
  isplitl [H10]
  · iexists (Y 10); isplitr; · ipureintro; exact fun _ => rfl
    iexists f10; isplitr; · ipureintro; exact h10
    iexact H10
  isplitl [H11]
  · iexists (Y 11); isplitr; · ipureintro; exact fun _ => rfl
    iexists f11; isplitr; · ipureintro; exact h11
    iexact H11
  isplitl [H12]
  · iexists (Y 12); isplitr; · ipureintro; exact fun _ => rfl
    iexists f12; isplitr; · ipureintro; exact h12
    iexact H12
  isplitl [H13]
  · iexists (Y 13); isplitr; · ipureintro; exact fun _ => rfl
    iexists f13; isplitr; · ipureintro; exact h13
    iexact H13
  isplitl [H14]
  · iexists (Y 14); isplitr; · ipureintro; exact fun _ => rfl
    iexists f14; isplitr; · ipureintro; exact h14
    iexact H14
  isplitl [H15]
  · iexists ((spec0_15.stage (((cfg0 (adm m 0)).slots t 15))).view.read (Elt F) g15); isplitr; · ipureintro; exact fun h => absurd h (by decide)
    iexists g15; isplitr; · ipureintro; rfl
    iexact H15
  isplitl [H16]
  · iexists ((spec0_16.stage (((cfg0 (adm m 0)).slots t 16))).view.read (Elt F) g16); isplitr; · ipureintro; exact fun h => absurd h (by decide)
    iexists g16; isplitr; · ipureintro; rfl
    iexact H16
  isplitl [H17]
  · iexists ((spec0_17.stage (((cfg0 (adm m 0)).slots t 17))).view.read (Elt F) g17); isplitr; · ipureintro; exact fun h => absurd h (by decide)
    iexists g17; isplitr; · ipureintro; rfl
    iexact H17
  isplitl [H18]
  · iexists ((spec0_18.stage (((cfg0 (adm m 0)).slots t 18))).view.read (Elt F) g18); isplitr; · ipureintro; exact fun h => absurd h (by decide)
    iexists g18; isplitr; · ipureintro; rfl
    iexact H18
  isplitl [H19]
  · iexists ((spec0_19.stage (((cfg0 (adm m 0)).slots t 19))).view.read (Elt F) g19); isplitr; · ipureintro; exact fun h => absurd h (by decide)
    iexists g19; isplitr; · ipureintro; rfl
    iexact H19
  isplitl [H20]
  · iexists ((spec0_20.stage (((cfg0 (adm m 0)).slots t 20))).view.read (Elt F) g20); isplitr; · ipureintro; exact fun h => absurd h (by decide)
    iexists g20; isplitr; · ipureintro; rfl
    iexact H20
  iexists ((spec0_21.stage (((cfg0 (adm m 0)).slots t 21))).view.read (Elt F) g21); isplitr; · ipureintro; exact fun h => absurd h (by decide)
  iexists g21; isplitr; · ipureintro; rfl
  iexact H21

/-- The run of the program: it ends with every argument as launched and every semaphore counter at zero. -/
theorem frame_run (hlen : ∀ x, (m ((0 : Dev nD).tc.loc main_arg2) x : BitVec 32).toInt ≤ 768) :
    θ_run (defs (F := F)) (onTc (τ := τ) (main (F := F))) ⟨m, fun _ => 0, g⟩
      (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  launch m g (frameDat m) (frame_body m (by rw [V_arg m 0 main_arg2 (by decide)]; exact hlen))
    (fun c w => by unfold RDat.share; split <;> rfl) (fun _ _ => rfl) (fun _ _ => rfl) (fun _ _ => rfl) _
    (fun r h => ⟨fun c => ⟨((h.1 c).2 main_arg0 (rest_mem m main_arg0 rfl (by decide))).trans (V_arg m c main_arg0 (by decide)),
      (h.1.arr_in c 1 rfl).trans (V_arg m c main_arg1 (by decide)),
      ((h.1 c).2 main_arg2 (rest_mem m main_arg2 rfl (by decide))).trans (V_arg m c main_arg2 (by decide)),
      (h.1.arr_in c 2 rfl).trans (V_arg m c main_arg3 (by decide)),
      ((h.1 c).2 main_arg4 (rest_mem m main_arg4 rfl (by decide))).trans (V_arg m c main_arg4 (by decide)),
      (h.1.arr_in c 4 rfl).trans (V_arg m c main_arg5 (by decide)),
      ((h.1 c).2 main_arg6 (rest_mem m main_arg6 rfl (by decide))).trans (V_arg m c main_arg6 (by decide)),
      ((h.1 c).2 main_arg7 (rest_mem m main_arg7 rfl (by decide))).trans (V_arg m c main_arg7 (by decide)),
      ((h.1 c).2 main_arg8 (rest_mem m main_arg8 rfl (by decide))).trans (V_arg m c main_arg8 (by decide)),
      ((h.1 c).2 main_arg9 (rest_mem m main_arg9 rfl (by decide))).trans (V_arg m c main_arg9 (by decide)),
      (h.1.arr_in c 9 rfl).trans (V_arg m c main_arg10 (by decide)),
      ((h.1 c).2 main_arg11 (rest_mem m main_arg11 rfl (by decide))).trans (V_arg m c main_arg11 (by decide)),
      ((h.1 c).2 main_arg12 (rest_mem m main_arg12 rfl (by decide))).trans (V_arg m c main_arg12 (by decide)),
      (h.1.arr_in c 12 rfl).trans (V_arg m c main_arg13 (by decide)),
      ((h.1 c).2 main_arg14 (rest_mem m main_arg14 rfl (by decide))).trans (V_arg m c main_arg14 (by decide)),
      ((h.1 c).2 main_arg15 (rest_mem m main_arg15 rfl (by decide))).trans (V_arg m c main_arg15 (by decide))⟩, h.2⟩)

end Cert.Kernel.Run

end
-- ==== Proof.KernelIdealWords.lean ====
module
public import proofs.«01_k».proof.KernelIdeal

@[expose] public section

/-!
The side condition of the kernel body, from the bound on the length: the chunks of 128 rows which the
two loops visit lie inside the 768 rows of the buffers, every chunk starts at a multiple of 128, and
the remainder loops make no trip.
-/

set_option maxRecDepth 16384

open Idealize.ShloMosaic

namespace Cert.KernelIdeal.Run

/-- The number of chunks of 128 rows, as the kernel computes it. -/
abbrev chunks (v1 : BitVec 32) : BitVec 32 := Scalar.divsi (Scalar.addi v1 127#32) 128#32

theorem tdiv_bounds (x : ℤ) : x ≤ 128 * x.tdiv 128 + 127 ∧ 128 * x.tdiv 128 ≤ x + 127 ∧ (0 ≤ x → x.tdiv 128 = x / 128) := by
  rw [Int.tdiv_eq_ediv]
  have : (128 : ℤ).sign = 1 := rfl
  rw [this]
  split_ifs <;> omega

theorem chunks_toInt {v1 : BitVec 32} (h : v1.toInt ≤ 768) : (chunks v1).toInt = (v1.toInt + 127).tdiv 128 := by
  have hlo := BitVec.le_toInt v1
  have hc : ¬ IntOp.SDivCorner (v1 + 127#32) 128#32 := by
    simp [IntOp.SDivCorner]
  have e : (v1 + 127#32).toInt = v1.toInt + 127 := by
    rw [BitVec.toInt_add]
    have : (127#32 : BitVec 32).toInt = 127 := rfl
    rw [this]
    apply Int.bmod_eq_of_le <;> omega
  show (IntOp.divsi .scalar (v1 + 127#32) 128#32).toInt = _
  unfold IntOp.divsi
  rw [if_neg hc, BitVec.toInt_sdiv, e]
  have : (128#32 : BitVec 32).toInt = 128 := rfl
  rw [this]
  have := tdiv_bounds (v1.toInt + 127)
  apply Int.bmod_eq_of_le <;> omega

theorem chunks_le {v1 : BitVec 32} (h : v1.toInt ≤ 768) : (chunks v1).toInt ≤ 6 := by
  rw [chunks_toInt h]; have := tdiv_bounds (v1.toInt + 127); omega

theorem one_div (x : BitVec 32) : Scalar.addi 0#32 (Scalar.muli (Scalar.divsi (Scalar.subi x 0#32) 1#32) 1#32) = x := by
  show 0#32 + (IntOp.divsi .scalar (x - 0#32) 1#32) * 1#32 = x
  unfold IntOp.divsi
  rw [if_neg (by simp [IntOp.SDivCorner]), BitVec.sdiv_one]
  simp

theorem full_loop (v1 : BitVec 32) : k0_t1_loop v1 = ⟨0#32, chunks v1, 1#32⟩ := by
  unfold k0_t1_loop; dsimp only; rw [one_div]

theorem rest_loop (v1 : BitVec 32) : k0_t2_loop v1 = ⟨chunks v1, chunks v1, 1#32⟩ := by
  unfold k0_t2_loop; dsimp only; rw [one_div]
  show (⟨chunks v1, 0#32 + (chunks v1 - 0#32), 1#32⟩ : Scf.Loop 32) = _
  simp

theorem full_trips (v1 : BitVec 32) : (k0_t1_loop v1).trips = (chunks v1).toInt.toNat := by
  rw [full_loop]
  show ((((chunks v1).toInt - (0#32 : BitVec 32).toInt + (1#32 : BitVec 32).toInt - 1) / (1#32 : BitVec 32).toInt).toNat) = _
  have h0 : (0#32 : BitVec 32).toInt = 0 := rfl
  have h1 : (1#32 : BitVec 32).toInt = 1 := rfl
  rw [h0, h1]; congr 1; omega

theorem rest_trips (v1 : BitVec 32) : (k0_t2_loop v1).trips = 0 := by
  rw [rest_loop]
  show ((((chunks v1).toInt - (chunks v1).toInt + (1#32 : BitVec 32).toInt - 1) / (1#32 : BitVec 32).toInt).toNat) = _
  have h1 : (1#32 : BitVec 32).toInt = 1 := rfl
  rw [h1]; simp

theorem full_lt {v1 : BitVec 32} (h : v1.toInt ≤ 768) (k : Fin (k0_t1_loop v1).trips) : k.val < 6 := by
  have h1 := Nat.lt_of_lt_of_eq k.isLt (full_trips v1)
  have h2 := chunks_le h
  omega

theorem rest_empty (v1 : BitVec 32) (k : Fin (k0_t2_loop v1).trips) : False := by
  have h1 := Nat.lt_of_lt_of_eq k.isLt (rest_trips v1)
  omega

theorem full_ok {v1 : BitVec 32} (h : v1.toInt ≤ 768) : (k0_t1_loop v1).OK := by
  have h2 := chunks_le h
  have e := full_trips v1
  rw [full_loop] at e ⊢
  refine ⟨show 0 < (1#32 : BitVec 32).toInt by decide, ?_⟩
  show (0#32 : BitVec 32).toInt + (Scf.Loop.trips ⟨0#32, chunks v1, 1#32⟩ : ℕ) * (1#32 : BitVec 32).toInt < 2 ^ (32 - 1)
  rw [e]
  have h0 : (0#32 : BitVec 32).toInt = 0 := rfl
  have h1 : (1#32 : BitVec 32).toInt = 1 := rfl
  rw [h0, h1]; omega

theorem rest_ok {v1 : BitVec 32} (h : v1.toInt ≤ 768) : (k0_t2_loop v1).OK := by
  have h2 := chunks_le h
  have e := rest_trips v1
  rw [rest_loop] at e ⊢
  refine ⟨show 0 < (1#32 : BitVec 32).toInt by decide, ?_⟩
  show (chunks v1).toInt + (Scf.Loop.trips ⟨chunks v1, chunks v1, 1#32⟩ : ℕ) * (1#32 : BitVec 32).toInt < 2 ^ (32 - 1)
  rw [e]
  have h1 : (1#32 : BitVec 32).toInt = 1 := rfl
  rw [h1]; omega

/-- The first row of chunk `k`, as the kernel computes it, -/
abbrev row (k : ℕ) : ℕ := (Scalar.indexCast (Scalar.muli (Scf.iv 0#32 1#32 k) 128#32)).toNat

theorem row_eq {k : ℕ} (h : k < 6) : row k = 128 * k := by
  match k, h with
  | 0, _ => rfl
  | 1, _ => rfl
  | 2, _ => rfl
  | 3, _ => rfl
  | 4, _ => rfl
  | 5, _ => rfl
  | n + 6, h => omega

theorem row_dvd {k : ℕ} (h : k < 6) : 128 ∣ row k := ⟨k, row_eq h⟩

theorem row_le {k : ℕ} (h : k < 6) : row k + 128 ≤ 768 := by rw [row_eq h]; omega

theorem inb_scales {r : ℕ} (hr : r + 128 ≤ 768) (a : Fin 3) :
    (![0, r, 0] : Fin 3 → ℕ) a + S1x128x12.size a ≤ S1x768x12.size a :=
  match a with | 0 => Nat.le_refl _ | 1 => hr | 2 => Nat.le_refl _

theorem inb_x {r c : ℕ} (hr : r + 128 ≤ 768) (hc : c + 128 ≤ 1536) (a : Fin 3) :
    (![0, r, c] : Fin 3 → ℕ) a + S1x128x128.size a ≤ S1x768x1536.size a :=
  match a with | 0 => Nat.le_refl _ | 1 => hr | 2 => hc

theorem inb_z {r : ℕ} (hr : r + 128 ≤ 768) (a : Fin 3) :
    (![0, r, 0] : Fin 3 → ℕ) a + S1x128x128.size a ≤ S1x768x128.size a :=
  match a with | 0 => Nat.le_refl _ | 1 => hr | 2 => Nat.le_refl _

theorem inb_hb {r c : ℕ} (hr : r + 128 ≤ 768) (hc : c + 128 ≤ 1536) (a : Fin 2) :
    (![r, c] : Fin 2 → ℕ) a + S128x128.size a ≤ S768x1536.size a :=
  match a with | 0 => hr | 1 => hc

theorem inb_row {r : ℕ} (hr : r + 128 ≤ 768) (a : Fin 2) :
    (![r, 0] : Fin 2 → ℕ) a + S128x1536.size a ≤ S768x1536.size a :=
  match a with | 0 => hr | 1 => Nat.le_refl _

theorem inb_fr {r : ℕ} (hr : r + 128 ≤ 768) (a : Fin 2) :
    (![r, 0] : Fin 2 → ℕ) a + S128x128.size a ≤ S768x128.size a :=
  match a with | 0 => hr | 1 => Nat.le_refl _

theorem packed_rows {r c : ℕ} (hr : 128 ∣ r) {hinb : ∀ a, (![r, c] : Fin 2 → ℕ) a + S128x128.size a ≤ S768x1536.size a} :
    (Rect.unit (s := S768x1536) ![r, c] S128x128.size hinb).PackedRows (EltTy.packing .bf16) := by
  refine .inr ⟨by decide, rfl, .inl ⟨?_, ?_⟩⟩
  · exact Dvd.dvd.trans (by decide : (2 : ℕ) ∣ 128) hr
  · show (2 : ℕ) ∣ 128
    decide

theorem chk_0 {v1 : BitVec 32} (h : v1.toInt ≤ 768) : k0_chk1_0 v1 :=
  ⟨full_ok h,
   fun k => row_dvd (full_lt h k),
   fun k => inb_scales (row_le (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide)⟩

theorem chk_1 {v1 : BitVec 32} (h : v1.toInt ≤ 768) : k0_chk1_1 v1 :=
  ⟨fun k _ => packed_rows (row_dvd (full_lt h k)),
   fun k => inb_x (row_le (full_lt h k)) (by decide),
   fun k => inb_hb (row_le (full_lt h k)) (by decide),
   fun k _ => packed_rows (row_dvd (full_lt h k)),
   fun k => inb_x (row_le (full_lt h k)) (by decide),
   fun k => inb_hb (row_le (full_lt h k)) (by decide),
   fun k _ => packed_rows (row_dvd (full_lt h k)),
   fun k => inb_row (row_le (full_lt h k)),
   fun k => inb_fr (row_le (full_lt h k)),
   rest_ok h,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim⟩

theorem chk_2 {v1 : BitVec 32} (h : v1.toInt ≤ 768) : k0_chk1_2 v1 :=
  ⟨fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   full_ok h,
   fun k => row_dvd (full_lt h k),
   fun k => inb_fr (row_le (full_lt h k)),
   fun k => inb_z (row_le (full_lt h k)),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide),
   fun k => inb_hb (row_le (full_lt h k)) (by decide)⟩

theorem chk_3 {v1 : BitVec 32} (h : v1.toInt ≤ 768) : k0_chk1_3 v1 :=
  ⟨fun k => inb_hb (row_le (full_lt h k)) (by decide),
   fun k => inb_hb (row_le (full_lt h k)) (by decide),
   rest_ok h,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim,
   fun k => (rest_empty v1 k).elim⟩

/-- The side condition of the body holds whenever the length is at most the 768 rows there are. -/
theorem chk {v1 : BitVec 32} (h : v1.toInt ≤ 768) : k0_chk1 v1 := ⟨chk_0 h, chk_1 h, chk_2 h, chk_3 h⟩

end Cert.KernelIdeal.Run
-- ==== Proof.KernelIdealBody.lean ====
module

public import proofs.«01_k».proof.Proof.Gen.KernelIdeal.Loops
public import proofs.«01_k».proof.Proof.KernelIdealWords

@[expose] public section

/-!
One run of the kernel body at a grid point: from the blocks staged and the scratch at anything, it ends
with every input block as it was and every output block and scratch buffer at something, provided every
length is at most 768.
-/

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄G" => MT nD τ sig Unit (Elt F) ℕ (UR sig nD τ) ℕ

set_option maxHeartbeats 4000000 in
/-- The run of the body. -/
theorem bodyRun (c : Dev nD) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (q : PosShare TreeShare) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hlen : ∀ x, (arg1.view.read (Elt F) f1 x : BitVec 32).toInt ≤ 768) (Q : PUnit → sProp 𝕄G) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27)
      ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∃ g, arg17.view.loc (c : Thread nD τ) ↦[arg17.view.set]{fullShare} g) ∗ (∃ g, arg18.view.loc (c : Thread nD τ) ↦[arg18.view.set]{fullShare} g) ∗ (∃ g, arg19.view.loc (c : Thread nD τ) ↦[arg19.view.set]{fullShare} g) ∗ (∃ g, arg20.view.loc (c : Thread nD τ) ↦[arg20.view.set]{fullShare} g) ∗ (∃ g, arg21.view.loc (c : Thread nD τ) ↦[arg21.view.set]{fullShare} g) ∗ (∃ g, arg22.view.loc (c : Thread nD τ) ↦[arg22.view.set]{fullShare} g) ∗ (∃ g, arg23.view.loc (c : Thread nD τ) ↦[arg23.view.set]{fullShare} g) ∗ (∃ g, arg24.view.loc (c : Thread nD τ) ↦[arg24.view.set]{fullShare} g) ∗ (∃ g, arg25.view.loc (c : Thread nD τ) ↦[arg25.view.set]{fullShare} g) ∗ (∃ g, arg26.view.loc (c : Thread nD τ) ↦[arg26.view.set]{fullShare} g) ∗ (∃ g, arg27.view.loc (c : Thread nD τ) ↦[arg27.view.set]{fullShare} g)) -∗ Q ⟨⟩))
    ⊢ wp frame (wpE (defs₀ (F := F)) Variants.none (c : Thread nD τ) none) Set.univ (cc0_attstat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  rw [cc0_attstat_eq_skeleton]
  iintro ⟨H1, H2, H3, H4, H5, H6, H7, H8, H9, H10, H11, H12, H13, H14, H15, H16, H17, H18, H19, H20, H21, H22, H23, H24, H25, H26, H27, Hk⟩
  sl_exec (disch := exact chk (hlen _))
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iexists _; iexact H27

end Cert.KernelIdeal.Run

end
-- ==== Proof.KernelIdealRun.lean ====
module

public import proofs.«01_k».proof.Proof.Gen.KernelIdeal.Launch
public import proofs.«01_k».proof.Proof.KernelIdealBody
public import Idealize.ShloMosaic.Lib.Pipeline.Frame

@[expose] public section

/-!
The launch of the kernel: the cast and the nine reshapes of the host, then the pipeline over the 64 points.  `launch`
takes any relational proof data whose invariant is the scratch at anything beside the table of lengths;
`frame_run` is the run in which nothing is said of the results.
-/

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄G" => MT nD τ sig Unit (Elt F) ℕ (UR sig nD τ) ℕ

variable (m : (ℓ : Loc nD τ sig) → Buf (Elt F) ℓ) (g : Dev nD → PrngReg)

/-- The buffers of core `c` when the kernel is entered: the host has cast and reshaped. -/
abbrev V (c : Dev nD) (b : Ref sig .tc) : Buf (Elt F) ((c.tc : Thread nD τ).loc b) :=
  StableHlo.after hostOps0 (fun b => m (c, b)) b

/-- No operation of the host writes an argument. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    ∀ op ∈ (hostOps0 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.reshape_writes, Finset.mem_singleton] <;>
    exact StableHlo.devRef_ne_of_ne ‹_›

/-- So each argument reaches the kernel, and the end, as launched. -/
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) hostOps0 (fun b => m (c, b)) (not_written b hb)

/-- The table of lengths the pipeline is entered with. -/
abbrev adm : (p : Fin 1) → (pcfgs (F := F) p).Adm := fun _ => ⟨fun k => V m 0 (pre0.ref k), trivial⟩

/-- The body's invariant: the scratch buffers at anything, and half of the table of lengths. -/
abbrev Φ (c : Dev nD) : sProp 𝕄G :=
  iprop(Pipeline.ΦA spec0 c ∗ Pipeline.ΦT pre0 (adm m 0).1 c)

/-- The launch: from the body obligation at every point, the run of the program. -/
theorem launch (rdat : (c : Dev nD) → RDat τ (Elt F) Unit ℕ (UR sig nD τ) ℕ (cfg0 (adm m 0)) c)
    (hbody : ∀ c, (rdat c).BodyObligation (defs₀ (F := F)) Variants.none () Set.univ)
    (hshare : ∀ c w, (rdat c).share w = fullShare) (howed : ∀ c t, (rdat c).owed t = 0)
    (hA : ∀ c w, (rdat c).A w = V m c (Pipeline.arrRef spec0 w)) (hΦ : ∀ c t, (rdat c).Φ t = Φ m c)
    (Q' : PUnit × MemSt nD τ sig (Elt F) → Prop)
    (hQ' : ∀ r, Pipeline.RDat.FramePost (cfg0 (adm m 0)) rdat (V m) r ∧ r.2.sem = (fun _ => 0) → Q' r) :
    θ_run (defs (F := F)) (onTc (τ := τ) (main (F := F))) ⟨m, fun _ => 0, g⟩ Q' :=
  Pipeline.RDat.θ_run_frameP_track (pcfgs (F := F)) (adm m) 0 launch0 defs₀ Variants.none rdat m g main hbody hshare howed (V m)
    (Pipeline.hmainP_prefix (pcfgs (F := F)) 0 defs₀ Variants.none m main hostOps0 hostOps0_sub
      ⟨rfl, rfl, rfl, rfl, rfl, rfl, rfl, rfl, rfl, rfl⟩ main_chain)
    hA (fun c k => by rw [Subsingleton.elim c 0]) (fun c => by rw [hΦ]) (fun c => by rw [hΦ]; iintro ⟨H, -⟩; iexact H) Q' hQ'

/-- A buffer that no window moves bypasses the pipeline. -/
theorem rest_mem (b : Ref sig .tc) (hs : b.isScoped = false) (h : ∀ w, (spec0 w).arr.view.ref ≠ b) :
    b ∈ Pipeline.restRefs sig (cfg0 (adm m 0)).spec := Pipeline.mem_restRefs_of b hs h

/-- The proof data of the frame: an input block stays as found; of an output nothing is said. -/
def frameDat (c : Dev nD) : RDat τ (Elt F) Unit ℕ (UR sig nD τ) ℕ (cfg0 (adm m 0)) c where
  A w := V m c (Pipeline.arrRef spec0 w)
  after w _ Y X := (spec0 w).isOut = false → X = Y
  Φ _ := Φ m c
  q _ := fullShare
  owed _ := 0

set_option maxHeartbeats 4000000 in
/-- The body obligation of the frame. -/
theorem frame_body (hlen : ∀ x, (V m 0 main_arg2 x : BitVec 32).toInt ≤ 768) (c : Dev nD) :
    (frameDat m c).BodyObligation (defs₀ (F := F)) Variants.none () Set.univ := by
  intro t Y hY
  obtain rfl : c = 0 := Subsingleton.elim c 0
  rw [bigSep_W0, bigSep_W0]
  rw [show (frameDat m 0).Φ t.castSucc = Φ m 0 from rfl, show (frameDat m 0).Φ t.succ = Φ m 0 from rfl]
  unfold Φ Pipeline.ΦA Pipeline.ΦT Pipeline.prefHeld RDat.owesAt Pipeline.owesWithin owns
  rw [scopedRest0_eq, show (Finset.univ : Finset (Fin pre0.K)) = {0} from rfl, bigSep_singleton]
  rw [show (frameDat m 0).owed t.castSucc = 0 from rfl, show (frameDat m 0).owed t.succ = 0 from rfl]
  iintro ⟨⟨⟨⟨⟨%s0, S0⟩, ⟨%s1, S1⟩, ⟨%s2, S2⟩, ⟨%s3, S3⟩⟩, HP⟩, HT⟩, ⟨%W, %hW, HO⟩, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩
  iapply (bodyRun (F := F) 0 (grid0.coords t) (Memref.whole main_arg2) (Memref.isWhole_whole _) (spec0_0.stage (((cfg0 (adm m 0)).slots t 0))) (hstage0_0 ((((cfg0 (adm m 0)).slots t 0)).cast nbuf0_0)) (spec0_1.stage (((cfg0 (adm m 0)).slots t 1))) (hstage0_1 ((((cfg0 (adm m 0)).slots t 1)).cast nbuf0_1)) (spec0_2.stage (((cfg0 (adm m 0)).slots t 2))) (hstage0_2 ((((cfg0 (adm m 0)).slots t 2)).cast nbuf0_2)) (spec0_3.stage (((cfg0 (adm m 0)).slots t 3))) (hstage0_3 ((((cfg0 (adm m 0)).slots t 3)).cast nbuf0_3)) (spec0_4.stage (((cfg0 (adm m 0)).slots t 4))) (hstage0_4 ((((cfg0 (adm m 0)).slots t 4)).cast nbuf0_4)) (spec0_5.stage (((cfg0 (adm m 0)).slots t 5))) (hstage0_5 ((((cfg0 (adm m 0)).slots t 5)).cast nbuf0_5)) (spec0_6.stage (((cfg0 (adm m 0)).slots t 6))) (hstage0_6 ((((cfg0 (adm m 0)).slots t 6)).cast nbuf0_6)) (spec0_7.stage (((cfg0 (adm m 0)).slots t 7))) (hstage0_7 ((((cfg0 (adm m 0)).slots t 7)).cast nbuf0_7)) (spec0_8.stage (((cfg0 (adm m 0)).slots t 8))) (hstage0_8 ((((cfg0 (adm m 0)).slots t 8)).cast nbuf0_8)) (spec0_9.stage (((cfg0 (adm m 0)).slots t 9))) (hstage0_9 ((((cfg0 (adm m 0)).slots t 9)).cast nbuf0_9)) (spec0_10.stage (((cfg0 (adm m 0)).slots t 10))) (hstage0_10 ((((cfg0 (adm m 0)).slots t 10)).cast nbuf0_10)) (spec0_11.stage (((cfg0 (adm m 0)).slots t 11))) (hstage0_11 ((((cfg0 (adm m 0)).slots t 11)).cast nbuf0_11)) (spec0_12.stage (((cfg0 (adm m 0)).slots t 12))) (hstage0_12 ((((cfg0 (adm m 0)).slots t 12)).cast nbuf0_12)) (spec0_13.stage (((cfg0 (adm m 0)).slots t 13))) (hstage0_13 ((((cfg0 (adm m 0)).slots t 13)).cast nbuf0_13)) (spec0_14.stage (((cfg0 (adm m 0)).slots t 14))) (hstage0_14 ((((cfg0 (adm m 0)).slots t 14)).cast nbuf0_14)) (spec0_15.stage (((cfg0 (adm m 0)).slots t 15))) (hstage0_15 ((((cfg0 (adm m 0)).slots t 15)).cast nbuf0_15)) (spec0_16.stage (((cfg0 (adm m 0)).slots t 16))) (hstage0_16 ((((cfg0 (adm m 0)).slots t 16)).cast nbuf0_16)) (spec0_17.stage (((cfg0 (adm m 0)).slots t 17))) (hstage0_17 ((((cfg0 (adm m 0)).slots t 17)).cast nbuf0_17)) (spec0_18.stage (((cfg0 (adm m 0)).slots t 18))) (hstage0_18 ((((cfg0 (adm m 0)).slots t 18)).cast nbuf0_18)) (spec0_19.stage (((cfg0 (adm m 0)).slots t 19))) (hstage0_19 ((((cfg0 (adm m 0)).slots t 19)).cast nbuf0_19)) (spec0_20.stage (((cfg0 (adm m 0)).slots t 20))) (hstage0_20 ((((cfg0 (adm m 0)).slots t 20)).cast nbuf0_20)) (spec0_21.stage (((cfg0 (adm m 0)).slots t 21))) (hstage0_21 ((((cfg0 (adm m 0)).slots t 21)).cast nbuf0_21))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    fullShare.right (V m 0 main_arg2) f0 f1 f2 f3 f4 f5 f6 f7 f8 f9 f10 f11 f12 f13 f14 f15 f16 f17 f18 f19 f20 f21 s0 s1 s2 s3 hlen)
  simp only [View.set_whole]
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  isplitl [S2]; · iexact S2
  isplitl [S3]; · iexact S3
  iintro ⟨HT, H0, H1, H2, H3, H4, H5, H6, H7, H8, H9, H10, H11, H12, H13, H14, ⟨%g15, H15⟩, ⟨%g16, H16⟩, ⟨%g17, H17⟩, ⟨%g18, H18⟩, ⟨%g19, H19⟩, ⟨%g20, H20⟩, ⟨%g21, H21⟩, S0, S1, S2, S3⟩
  isplitl [S0 S1 S2 S3 HP HT]
  · isplitl [S0 S1 S2 S3 HP]
    · isplitl [S0 S1 S2 S3]
      · isplitl [S0]; · iexact S0
        isplitl [S1]; · iexact S1
        isplitl [S2]; · iexact S2
        iexact S3
      iexact HP
    iexact HT
  isplitl [HO]
  · iexists W; isplitr; · ipureintro; exact fun _ _ => Or.inl trivial
    iexact HO
  isplitl [H0]
  · iexists (Y 0); isplitr; · ipureintro; exact fun _ => rfl
    iexists f0; isplitr; · ipureintro; exact h0
    iexact H0
  isplitl [H1]
  · iexists (Y 1); isplitr; · ipureintro; exact fun _ => rfl
    iexists f1; isplitr; · ipureintro; exact h1
    iexact H1
  isplitl [H2]
  · iexists (Y 2); isplitr; · ipureintro; exact fun _ => rfl
    iexists f2; isplitr; · ipureintro; exact h2
    iexact H2
  isplitl [H3]
  · iexists (Y 3); isplitr; · ipureintro; exact fun _ => rfl
    iexists f3; isplitr; · ipureintro; exact h3
    iexact H3
  isplitl [H4]
  · iexists (Y 4); isplitr; · ipureintro; exact fun _ => rfl
    iexists f4; isplitr; · ipureintro; exact h4
    iexact H4
  isplitl [H5]
  · iexists (Y 5); isplitr; · ipureintro; exact fun _ => rfl
    iexists f5; isplitr; · ipureintro; exact h5
    iexact H5
  isplitl [H6]
  · iexists (Y 6); isplitr; · ipureintro; exact fun _ => rfl
    iexists f6; isplitr; · ipureintro; exact h6
    iexact H6
  isplitl [H7]
  · iexists (Y 7); isplitr; · ipureintro; exact fun _ => rfl
    iexists f7; isplitr; · ipureintro; exact h7
    iexact H7
  isplitl [H8]
  · iexists (Y 8); isplitr; · ipureintro; exact fun _ => rfl
    iexists f8; isplitr; · ipureintro; exact h8
    iexact H8
  isplitl [H9]
  · iexists (Y 9); isplitr; · ipureintro; exact fun _ => rfl
    iexists f9; isplitr; · ipureintro; exact h9
    iexact H9
  isplitl [H10]
  · iexists (Y 10); isplitr; · ipureintro; exact fun _ => rfl
    iexists f10; isplitr; · ipureintro; exact h10
    iexact H10
  isplitl [H11]
  · iexists (Y 11); isplitr; · ipureintro; exact fun _ => rfl
    iexists f11; isplitr; · ipureintro; exact h11
    iexact H11
  isplitl [H12]
  · iexists (Y 12); isplitr; · ipureintro; exact fun _ => rfl
    iexists f12; isplitr; · ipureintro; exact h12
    iexact H12
  isplitl [H13]
  · iexists (Y 13); isplitr; · ipureintro; exact fun _ => rfl
    iexists f13; isplitr; · ipureintro; exact h13
    iexact H13
  isplitl [H14]
  · iexists (Y 14); isplitr; · ipureintro; exact fun _ => rfl
    iexists f14; isplitr; · ipureintro; exact h14
    iexact H14
  isplitl [H15]
  · iexists ((spec0_15.stage (((cfg0 (adm m 0)).slots t 15))).view.read (Elt F) g15); isplitr; · ipureintro; exact fun h => absurd h (by decide)
    iexists g15; isplitr; · ipureintro; rfl
    iexact H15
  isplitl [H16]
  · iexists ((spec0_16.stage (((cfg0 (adm m 0)).slots t 16))).view.read (Elt F) g16); isplitr; · ipureintro; exact fun h => absurd h (by decide)
    iexists g16; isplitr; · ipureintro; rfl
    iexact H16
  isplitl [H17]
  · iexists ((spec0_17.stage (((cfg0 (adm m 0)).slots t 17))).view.read (Elt F) g17); isplitr; · ipureintro; exact fun h => absurd h (by decide)
    iexists g17; isplitr; · ipureintro; rfl
    iexact H17
  isplitl [H18]
  · iexists ((spec0_18.stage (((cfg0 (adm m 0)).slots t 18))).view.read (Elt F) g18); isplitr; · ipureintro; exact fun h => absurd h (by decide)
    iexists g18; isplitr; · ipureintro; rfl
    iexact H18
  isplitl [H19]
  · iexists ((spec0_19.stage (((cfg0 (adm m 0)).slots t 19))).view.read (Elt F) g19); isplitr; · ipureintro; exact fun h => absurd h (by decide)
    iexists g19; isplitr; · ipureintro; rfl
    iexact H19
  isplitl [H20]
  · iexists ((spec0_20.stage (((cfg0 (adm m 0)).slots t 20))).view.read (Elt F) g20); isplitr; · ipureintro; exact fun h => absurd h (by decide)
    iexists g20; isplitr; · ipureintro; rfl
    iexact H20
  iexists ((spec0_21.stage (((cfg0 (adm m 0)).slots t 21))).view.read (Elt F) g21); isplitr; · ipureintro; exact fun h => absurd h (by decide)
  iexists g21; isplitr; · ipureintro; rfl
  iexact H21

/-- The run of the program: it ends with every argument as launched and every semaphore counter at zero. -/
theorem frame_run (hlen : ∀ x, (m ((0 : Dev nD).tc.loc main_arg2) x : BitVec 32).toInt ≤ 768) :
    θ_run (defs (F := F)) (onTc (τ := τ) (main (F := F))) ⟨m, fun _ => 0, g⟩
      (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  launch m g (frameDat m) (frame_body m (by rw [V_arg m 0 main_arg2 (by decide)]; exact hlen))
    (fun c w => by unfold RDat.share; split <;> rfl) (fun _ _ => rfl) (fun _ _ => rfl) (fun _ _ => rfl) _
    (fun r h => ⟨fun c => ⟨((h.1 c).2 main_arg0 (rest_mem m main_arg0 rfl (by decide))).trans (V_arg m c main_arg0 (by decide)),
      (h.1.arr_in c 1 rfl).trans (V_arg m c main_arg1 (by decide)),
      ((h.1 c).2 main_arg2 (rest_mem m main_arg2 rfl (by decide))).trans (V_arg m c main_arg2 (by decide)),
      (h.1.arr_in c 2 rfl).trans (V_arg m c main_arg3 (by decide)),
      ((h.1 c).2 main_arg4 (rest_mem m main_arg4 rfl (by decide))).trans (V_arg m c main_arg4 (by decide)),
      (h.1.arr_in c 4 rfl).trans (V_arg m c main_arg5 (by decide)),
      ((h.1 c).2 main_arg6 (rest_mem m main_arg6 rfl (by decide))).trans (V_arg m c main_arg6 (by decide)),
      ((h.1 c).2 main_arg7 (rest_mem m main_arg7 rfl (by decide))).trans (V_arg m c main_arg7 (by decide)),
      ((h.1 c).2 main_arg8 (rest_mem m main_arg8 rfl (by decide))).trans (V_arg m c main_arg8 (by decide)),
      ((h.1 c).2 main_arg9 (rest_mem m main_arg9 rfl (by decide))).trans (V_arg m c main_arg9 (by decide)),
      (h.1.arr_in c 9 rfl).trans (V_arg m c main_arg10 (by decide)),
      ((h.1 c).2 main_arg11 (rest_mem m main_arg11 rfl (by decide))).trans (V_arg m c main_arg11 (by decide)),
      ((h.1 c).2 main_arg12 (rest_mem m main_arg12 rfl (by decide))).trans (V_arg m c main_arg12 (by decide)),
      (h.1.arr_in c 12 rfl).trans (V_arg m c main_arg13 (by decide)),
      ((h.1 c).2 main_arg14 (rest_mem m main_arg14 rfl (by decide))).trans (V_arg m c main_arg14 (by decide)),
      ((h.1 c).2 main_arg15 (rest_mem m main_arg15 rfl (by decide))).trans (V_arg m c main_arg15 (by decide))⟩, h.2⟩)

end Cert.KernelIdeal.Run

end
-- ==== Proof.KernelIdealSpec.lean ====
module
public import proofs.«01_k».proof.Proof.KernelIdealWords
public import Idealize.ShloMosaic.Lib.Pointwise

@[expose] public section

/-!
What one utterance's statistics are over the extended reals, as the kernel adds them up, and how the
loads of a chunk of 128 rows and the stores of a piece are read at an index.
-/

noncomputable section

open Idealize.ShloMosaic Idealize.ShloMosaic.Pointwise

namespace Cert.KernelIdeal.Run

/-- The masked, dequantised frame: zero from the length on. -/
def hv (len : BitVec 32) (x : S1x768x1536.Idx → EReal) (xs : S1x768x12.Idx → EReal) (r : Fin 768) (c : Fin 1536) : EReal :=
  x (ix3 0 r c) * (if ((r.val : ℕ) : ℤ) < len.toInt then xs (ix3 0 r ⟨c.val / 128, by omega⟩) else 0)

/-- The same as contents of the buffer of frames. -/
def hvV (len : BitVec 32) (x : S1x768x1536.Idx → EReal) (xs : S1x768x12.Idx → EReal) : S768x1536.Idx → EReal :=
  fun y => hv len x xs (y 0) (y 1)

/-- What a chunk adds to the running sums of eight lanes: the frame to the first, its square to the second. -/
def stV (len : BitVec 32) (x : S1x768x1536.Idx → EReal) (xs : S1x768x12.Idx → EReal) (k : ℕ) (hk : k < 6) (f : S2x8x1536.Idx → EReal) : S2x8x1536.Idx → EReal :=
  fun y => f y + ∑ u : Fin 16,
    if (y 0).val = 0 then hv len x xs ⟨128 * k + (u.val * 8 + (y 1).val), by have : (y 1).val < 8 := (y 1).isLt; omega⟩ (y 2)
    else hv len x xs ⟨128 * k + (u.val * 8 + (y 1).val), by have : (y 1).val < 8 := (y 1).isLt; omega⟩ (y 2)
      * hv len x xs ⟨128 * k + (u.val * 8 + (y 1).val), by have : (y 1).val < 8 := (y 1).isLt; omega⟩ (y 2)

theorem ltRow {k : ℕ} (hk : k < 6) (i : Fin 128) : 128 * k + i.val < 768 := by omega

/-- The kernel's row mask. -/
theorem mask_sel {k : ℕ} (hk : k < 6) (i : ℕ) (hi : i < 128) (v1 : BitVec 32) {α : Type} (a b : α) :
    Scalar.select (IntOp.cmpi .slt (IntOp.addi (Scalar.muli (Scf.iv 0#32 1#32 k) 128#32) (BitVec.ofNat 32 i)) v1) a b
      = if ((128 * k + i : ℕ) : ℤ) < v1.toInt then a else b := by
  have e : IntOp.addi (Scalar.muli (Scf.iv 0#32 1#32 k) 128#32) (BitVec.ofNat 32 i) = BitVec.ofNat 32 (128 * k + i) := by
    have e1 : Scalar.muli (Scf.iv 0#32 1#32 k) 128#32 = BitVec.ofNat 32 (128 * k) := by
      match k, hk with
      | 0, _ => rfl
      | 1, _ => rfl
      | 2, _ => rfl
      | 3, _ => rfl
      | 4, _ => rfl
      | 5, _ => rfl
      | n + 6, h => omega
    rw [e1]
    show BitVec.ofNat 32 (128 * k) + BitVec.ofNat 32 i = _
    rw [← BitVec.ofNat_add]
  rw [e]
  have ht : (BitVec.ofNat 32 (128 * k + i)).toInt = ((128 * k + i : ℕ) : ℤ) := by
    rw [BitVec.toInt_eq_toNat_cond, BitVec.toNat_ofNat, Nat.mod_eq_of_lt (by omega), if_pos (by omega)]
  show (if IntOp.cmpi .slt (BitVec.ofNat 32 (128 * k + i)) v1 = 1#1 then a else b) = _
  have : (IntOp.cmpi .slt (BitVec.ofNat 32 (128 * k + i)) v1 = 1#1) ↔ ((128 * k + i : ℕ) : ℤ) < v1.toInt := by
    show BitVec.ofBool (BitVec.slt _ _) = 1#1 ↔ _
    rw [← ht]
    unfold BitVec.slt
    by_cases h : (BitVec.ofNat 32 (128 * k + i)).toInt < v1.toInt <;> simp [h]
  simp only [this]

section Reads
variable {sig : RefSig} {κ : Kind} {sp : Space} {Val : EltTy → Type} {e : EltTy}

theorem rd2 {m n M N : ℕ} (v : View sig κ sp ⟨2, ![M, N]⟩ e) (f : v.ty.Contents Val) {off : Fin 2 → ℕ} {o p : ℕ}
    (inb : ∀ a, off a + (![m, n] : Fin 2 → ℕ) a ≤ (![M, N] : Fin 2 → ℕ) a) (h : off = ![o, p]) (i : Fin m) (c : Fin n)
    (ho : o + m ≤ M) (hp : p + n ≤ N) :
    v.readAt Val (Rect.unit (s := ⟨2, ![M, N]⟩) off ![m, n] inb).toLoadRect f (ix2 i c)
      = v.read Val f (ix2 ⟨o + i.val, by omega⟩ ⟨p + c.val, by omega⟩) := by
  subst h
  refine congrArg (v.read Val f) (funext fun a => Fin.ext ?_)
  match a with
  | 0 => show o + 1 * i.val = o + i.val; omega
  | 1 => show p + 1 * c.val = p + c.val; omega

theorem rd3 {l m n L M N : ℕ} (v : View sig κ sp ⟨3, ![L, M, N]⟩ e) (f : v.ty.Contents Val) {off : Fin 3 → ℕ} {q o p : ℕ}
    (inb : ∀ a, off a + (![l, m, n] : Fin 3 → ℕ) a ≤ (![L, M, N] : Fin 3 → ℕ) a) (h : off = ![q, o, p]) (s : Fin l) (i : Fin m) (c : Fin n)
    (hq : q + l ≤ L) (ho : o + m ≤ M) (hp : p + n ≤ N) :
    v.readAt Val (Rect.unit (s := ⟨3, ![L, M, N]⟩) off ![l, m, n] inb).toLoadRect f (ix3 s i c)
      = v.read Val f (ix3 ⟨q + s.val, by omega⟩ ⟨o + i.val, by omega⟩ ⟨p + c.val, by omega⟩) := by
  subst h
  refine congrArg (v.read Val f) (funext fun a => Fin.ext ?_)
  match a with
  | 0 => show q + 1 * s.val = q + s.val; omega
  | 1 => show o + 1 * i.val = o + i.val; omega
  | 2 => show p + 1 * c.val = p + c.val; omega

theorem piece2 {α : Type} {m n M N : ℕ} {off : Fin 2 → ℕ} {o p : ℕ}
    (inb : ∀ a, off a + (![m, n] : Fin 2 → ℕ) a ≤ (![M, N] : Fin 2 → ℕ) a) (h : off = ![o, p])
    (ho : o + m ≤ M) (hp : p + n ≤ N) (w : (⟨2, ![m, n]⟩ : Shape).Idx → α) (G : (⟨2, ![M, N]⟩ : Shape).Idx → α)
    (hw : ∀ (i : Fin m) (c : Fin n), w (ix2 i c) = G (ix2 ⟨o + i.val, by omega⟩ ⟨p + c.val, by omega⟩)) :
    ∀ x : (Rect.unit (s := ⟨2, ![M, N]⟩) off ![m, n] inb).shape.Idx, w x = G ((Rect.unit (s := ⟨2, ![M, N]⟩) off ![m, n] inb).emb x) := by
  subst h
  intro x
  obtain ⟨i, c, rfl⟩ : ∃ (i : Fin m) (c : Fin n), x = ix2 i c := ⟨x 0, x 1, eq_ix2 (n0 := m) (n1 := n) x⟩
  rw [hw]
  refine congrArg G (funext fun a => Fin.ext ?_)
  match a with
  | 0 => show o + i.val = o + 1 * i.val; omega
  | 1 => show p + c.val = p + 1 * c.val; omega

theorem piece3 {α : Type} {l m n L M N : ℕ} {off : Fin 3 → ℕ} {q o p : ℕ}
    (inb : ∀ a, off a + (![l, m, n] : Fin 3 → ℕ) a ≤ (![L, M, N] : Fin 3 → ℕ) a) (h : off = ![q, o, p])
    (hq : q + l ≤ L) (ho : o + m ≤ M) (hp : p + n ≤ N) (w : (⟨3, ![l, m, n]⟩ : Shape).Idx → α) (G : (⟨3, ![L, M, N]⟩ : Shape).Idx → α)
    (hw : ∀ (s : Fin l) (i : Fin m) (c : Fin n), w (ix3 s i c) = G (ix3 ⟨q + s.val, by omega⟩ ⟨o + i.val, by omega⟩ ⟨p + c.val, by omega⟩)) :
    ∀ x : (Rect.unit (s := ⟨3, ![L, M, N]⟩) off ![l, m, n] inb).shape.Idx, w x = G ((Rect.unit (s := ⟨3, ![L, M, N]⟩) off ![l, m, n] inb).emb x) := by
  subst h
  intro x
  obtain ⟨s, i, c, rfl⟩ : ∃ (s : Fin l) (i : Fin m) (c : Fin n), x = ix3 s i c := ⟨x 0, x 1, x 2, eq_ix3 (n0 := l) (n1 := m) (n2 := n) x⟩
  rw [hw]
  refine congrArg G (funext fun a => Fin.ext ?_)
  match a with
  | 0 => show q + s.val = q + 1 * s.val; omega
  | 1 => show o + i.val = o + 1 * i.val; omega
  | 2 => show p + c.val = p + 1 * c.val; omega

theorem mem2 {m n M N : ℕ} {off : Fin 2 → ℕ} {o p : ℕ}
    (inb : ∀ a, off a + (![m, n] : Fin 2 → ℕ) a ≤ (![M, N] : Fin 2 → ℕ) a) (h : off = ![o, p]) (r : Fin M) (c : Fin N) :
    (ix2 r c : (⟨2, ![M, N]⟩ : Shape).Idx) ∈ (Rect.unit (s := ⟨2, ![M, N]⟩) off ![m, n] inb).set
      ↔ (o ≤ r.val ∧ r.val < o + m) ∧ (p ≤ c.val ∧ c.val < p + n) := by
  subst h
  rw [Rect.mem_set_unit, Fin.forall_fin_two]
  rfl

theorem mem3 {l m n L M N : ℕ} {off : Fin 3 → ℕ} {q o p : ℕ}
    (inb : ∀ a, off a + (![l, m, n] : Fin 3 → ℕ) a ≤ (![L, M, N] : Fin 3 → ℕ) a) (h : off = ![q, o, p]) (s : Fin L) (r : Fin M) (c : Fin N) :
    (ix3 s r c : (⟨3, ![L, M, N]⟩ : Shape).Idx) ∈ (Rect.unit (s := ⟨3, ![L, M, N]⟩) off ![l, m, n] inb).set
      ↔ (q ≤ s.val ∧ s.val < q + l) ∧ (o ≤ r.val ∧ r.val < o + m) ∧ (p ≤ c.val ∧ c.val < p + n) := by
  subst h
  rw [Rect.mem_set_unit]
  constructor
  · intro h; exact ⟨h 0, h 1, h 2⟩
  · rintro ⟨h0, h1, h2⟩ a
    match a with
    | 0 => exact h0
    | 1 => exact h1
    | 2 => exact h2

end Reads

end Cert.KernelIdeal.Run
-- ==== Proof.KernelIdealPay1.lean ====
module
public import proofs.«01_k».proof.Proof.KernelIdealSpec
public import proofs.«01_k».proof.Proof.Gen.KernelIdeal.Loops

@[expose] public section

/-!
What the pieces stored by a trip of the first loop hold at an index, in terms of the blocks loaded: the frame
kept, and the two running sums of eight lanes.
-/

set_option maxRecDepth 16384

noncomputable section

namespace Cert.KernelIdeal.Run

open Cert.KernelIdeal.Gen
open Idealize.ShloMosaic Idealize.ShloMosaic.TcCoe Idealize.ShloMosaic.Pointwise

theorem pay7_at {v1 : BitVec 32} {k : Fin (k0_t1_loop v1).trips} (hk : k.val < 6) (sc : Vec Ideal S1x128x12 .f32) (i : Fin 128) (c : Fin 12) :
    k0_pay7 (F := Ideal) v1 0#32 1#32 k sc (ix2 i c) = if ((128 * k.val + i.val : ℕ) : ℤ) < v1.toInt then sc (ix3 0 i c) else 0 := by
  pointwise [k0_pay7]
  exact mask_sel hk i.val i.isLt v1 _ _

theorem hb_at_11 (sc : FVec Ideal S128x12 .bf16) (x : Vec Ideal S1x128x128 .fp8e4m3) (i : Fin 128) (c : Fin 128) :
    k0_pay72 (F := Ideal) sc x (ix2 i c) = x (ix3 0 i c) * (sc (ix2 i 11) : EReal) := by
  pointwise [k0_pay72, k0_pay71]

theorem hb_at_10 (sc : FVec Ideal S128x12 .bf16) (x : Vec Ideal S1x128x128 .fp8e4m3) (i : Fin 128) (c : Fin 128) :
    k0_pay66 (F := Ideal) sc x (ix2 i c) = x (ix3 0 i c) * (sc (ix2 i 10) : EReal) := by
  pointwise [k0_pay66, k0_pay65]

theorem hb_at_9 (sc : FVec Ideal S128x12 .bf16) (x : Vec Ideal S1x128x128 .fp8e4m3) (i : Fin 128) (c : Fin 128) :
    k0_pay61 (F := Ideal) (k0_pay60 sc x) (ix2 i c) = x (ix3 0 i c) * (sc (ix2 i 9) : EReal) := by
  pointwise [k0_pay61, k0_pay60]

theorem hb_at_8 (sc : FVec Ideal S128x12 .bf16) (x : Vec Ideal S1x128x128 .fp8e4m3) (i : Fin 128) (c : Fin 128) :
    k0_pay56 (F := Ideal) (k0_pay54 sc) x (ix2 i c) = x (ix3 0 i c) * (sc (ix2 i 8) : EReal) := by
  pointwise [k0_pay56, k0_pay54, k0_pay55]

theorem hb_at_7 (sc : FVec Ideal S128x12 .bf16) (x : Vec Ideal S1x128x128 .fp8e4m3) (i : Fin 128) (c : Fin 128) :
    k0_pay50 (F := Ideal) sc x (ix2 i c) = x (ix3 0 i c) * (sc (ix2 i 7) : EReal) := by
  pointwise [k0_pay50, k0_pay49]

theorem hb_at_6 (sc : FVec Ideal S128x12 .bf16) (x : Vec Ideal S1x128x128 .fp8e4m3) (i : Fin 128) (c : Fin 128) :
    k0_pay43 (F := Ideal) sc x (ix2 i c) = x (ix3 0 i c) * (sc (ix2 i 6) : EReal) := by
  pointwise [k0_pay43, k0_pay42]

theorem hb_at_5 (sc : FVec Ideal S128x12 .bf16) (x : Vec Ideal S1x128x128 .fp8e4m3) (i : Fin 128) (c : Fin 128) :
    k0_pay38 (F := Ideal) sc x (ix2 i c) = x (ix3 0 i c) * (sc (ix2 i 5) : EReal) := by
  pointwise [k0_pay38, k0_pay37]

theorem hb_at_4 (sc : FVec Ideal S128x12 .bf16) (x : Vec Ideal S1x128x128 .fp8e4m3) (i : Fin 128) (c : Fin 128) :
    k0_pay32 (F := Ideal) sc x (ix2 i c) = x (ix3 0 i c) * (sc (ix2 i 4) : EReal) := by
  pointwise [k0_pay32, k0_pay31]

theorem hb_at_3 (sc : FVec Ideal S128x12 .bf16) (x : Vec Ideal S1x128x128 .fp8e4m3) (i : Fin 128) (c : Fin 128) :
    k0_pay27 (F := Ideal) (k0_pay26 sc x) (ix2 i c) = x (ix3 0 i c) * (sc (ix2 i 3) : EReal) := by
  pointwise [k0_pay27, k0_pay26]

theorem hb_at_2 (sc : FVec Ideal S128x12 .bf16) (x : Vec Ideal S1x128x128 .fp8e4m3) (i : Fin 128) (c : Fin 128) :
    k0_pay22 (F := Ideal) (k0_pay20 sc) x (ix2 i c) = x (ix3 0 i c) * (sc (ix2 i 2) : EReal) := by
  pointwise [k0_pay22, k0_pay20, k0_pay21]

theorem hb_at_1 (sc : FVec Ideal S128x12 .bf16) (x : Vec Ideal S1x128x128 .fp8e4m3) (i : Fin 128) (c : Fin 128) :
    k0_pay16 (F := Ideal) sc x (ix2 i c) = x (ix3 0 i c) * (sc (ix2 i 1) : EReal) := by
  pointwise [k0_pay16, k0_pay15]

theorem hb_at_0 (v1 : BitVec 32) (k : Fin (k0_t1_loop v1).trips) (xs : Vec Ideal S1x128x12 .f32) (x : Vec Ideal S1x128x128 .fp8e4m3) (i : Fin 128) (c : Fin 128) :
    k0_pay9 (F := Ideal) v1 0#32 1#32 k xs x (ix2 i c) = x (ix3 0 i c) * (k0_pay7 (F := Ideal) v1 0#32 1#32 k xs (ix2 i 0) : EReal) := by
  unfold k0_pay9 k0_pay8
  generalize k0_pay7 v1 0#32 1#32 k xs = sc
  clear xs k v1
  pointwise []

theorem st_at_1_11 (sc : FVec Ideal S128x12 .bf16) (x : Vec Ideal S1x128x128 .fp8e4m3) (v : Vec Ideal S1x8x128 .f32) (i : Fin 8) (c : Fin 128) :
    k0_pay316 (F := Ideal) (k0_pay73 sc x) v (ix3 0 i c) = v (ix3 0 i c) + ∑ u : Fin 16, (x (ix3 0 ⟨u.val * 8 + i.val, by omega⟩ c) * (sc (ix2 ⟨u.val * 8 + i.val, by omega⟩ 11) : EReal)) * (x (ix3 0 ⟨u.val * 8 + i.val, by omega⟩ c) * (sc (ix2 ⟨u.val * 8 + i.val, by omega⟩ 11) : EReal)) := by
  pointwise [k0_pay316, k0_pay73, k0_pay71]

theorem st_at_0_11 (sc : FVec Ideal S128x12 .bf16) (x : Vec Ideal S1x128x128 .fp8e4m3) (v : Vec Ideal S1x8x128 .f32) (i : Fin 8) (c : Fin 128) :
    k0_pay74 (F := Ideal) sc x v (ix3 0 i c) = v (ix3 0 i c) + ∑ u : Fin 16, (x (ix3 0 ⟨u.val * 8 + i.val, by omega⟩ c) * (sc (ix2 ⟨u.val * 8 + i.val, by omega⟩ 11) : EReal)) := by
  pointwise [k0_pay74, k0_pay73, k0_pay71]

theorem st_at_1_10 (sc : FVec Ideal S128x12 .bf16) (x : Vec Ideal S1x128x128 .fp8e4m3) (v : Vec Ideal S1x8x128 .f32) (i : Fin 8) (c : Fin 128) :
    k0_pay70 (F := Ideal) (k0_pay67 sc x) v (ix3 0 i c) = v (ix3 0 i c) + ∑ u : Fin 16, (x (ix3 0 ⟨u.val * 8 + i.val, by omega⟩ c) * (sc (ix2 ⟨u.val * 8 + i.val, by omega⟩ 10) : EReal)) * (x (ix3 0 ⟨u.val * 8 + i.val, by omega⟩ c) * (sc (ix2 ⟨u.val * 8 + i.val, by omega⟩ 10) : EReal)) := by
  pointwise [k0_pay70, k0_pay67, k0_pay65]

theorem st_at_0_10 (sc : FVec Ideal S128x12 .bf16) (x : Vec Ideal S1x128x128 .fp8e4m3) (v : Vec Ideal S1x8x128 .f32) (i : Fin 8) (c : Fin 128) :
    k0_pay69 (F := Ideal) (k0_pay67 sc x) (k0_pay68 v) (ix3 0 i c) = v (ix3 0 i c) + ∑ u : Fin 16, (x (ix3 0 ⟨u.val * 8 + i.val, by omega⟩ c) * (sc (ix2 ⟨u.val * 8 + i.val, by omega⟩ 10) : EReal)) := by
  pointwise [k0_pay69, k0_pay67, k0_pay68, k0_pay65]

theorem st_at_1_9 (sc : FVec Ideal S128x12 .bf16) (x : Vec Ideal S1x128x128 .fp8e4m3) (v : Vec Ideal S1x8x128 .f32) (i : Fin 8) (c : Fin 128) :
    k0_pay64 (F := Ideal) (k0_pay60 sc x) v (ix3 0 i c) = v (ix3 0 i c) + ∑ u : Fin 16, (x (ix3 0 ⟨u.val * 8 + i.val, by omega⟩ c) * (sc (ix2 ⟨u.val * 8 + i.val, by omega⟩ 9) : EReal)) * (x (ix3 0 ⟨u.val * 8 + i.val, by omega⟩ c) * (sc (ix2 ⟨u.val * 8 + i.val, by omega⟩ 9) : EReal)) := by
  pointwise [k0_pay64, k0_pay60, k0_pay62]

theorem st_at_0_9 (sc : FVec Ideal S128x12 .bf16) (x : Vec Ideal S1x128x128 .fp8e4m3) (v : Vec Ideal S1x8x128 .f32) (i : Fin 8) (c : Fin 128) :
    k0_pay63 (F := Ideal) (k0_pay60 sc x) v (ix3 0 i c) = v (ix3 0 i c) + ∑ u : Fin 16, (x (ix3 0 ⟨u.val * 8 + i.val, by omega⟩ c) * (sc (ix2 ⟨u.val * 8 + i.val, by omega⟩ 9) : EReal)) := by
  pointwise [k0_pay63, k0_pay60, k0_pay62]

theorem st_at_1_8 (sc : FVec Ideal S128x12 .bf16) (x : Vec Ideal S1x128x128 .fp8e4m3) (v : Vec Ideal S1x8x128 .f32) (i : Fin 8) (c : Fin 128) :
    k0_pay59 (F := Ideal) (k0_pay54 sc) x v (ix3 0 i c) = v (ix3 0 i c) + ∑ u : Fin 16, (x (ix3 0 ⟨u.val * 8 + i.val, by omega⟩ c) * (sc (ix2 ⟨u.val * 8 + i.val, by omega⟩ 8) : EReal)) * (x (ix3 0 ⟨u.val * 8 + i.val, by omega⟩ c) * (sc (ix2 ⟨u.val * 8 + i.val, by omega⟩ 8) : EReal)) := by
  pointwise [k0_pay59, k0_pay54, k0_pay57, k0_pay55]

theorem st_at_0_8 (sc : FVec Ideal S128x12 .bf16) (x : Vec Ideal S1x128x128 .fp8e4m3) (v : Vec Ideal S1x8x128 .f32) (i : Fin 8) (c : Fin 128) :
    k0_pay58 (F := Ideal) (k0_pay54 sc) x v (ix3 0 i c) = v (ix3 0 i c) + ∑ u : Fin 16, (x (ix3 0 ⟨u.val * 8 + i.val, by omega⟩ c) * (sc (ix2 ⟨u.val * 8 + i.val, by omega⟩ 8) : EReal)) := by
  pointwise [k0_pay58, k0_pay54, k0_pay57, k0_pay55]

theorem st_at_1_7 (sc : FVec Ideal S128x12 .bf16) (x : Vec Ideal S1x128x128 .fp8e4m3) (v : Vec Ideal S1x8x128 .f32) (i : Fin 8) (c : Fin 128) :
    k0_pay53 (F := Ideal) sc x v (ix3 0 i c) = v (ix3 0 i c) + ∑ u : Fin 16, (x (ix3 0 ⟨u.val * 8 + i.val, by omega⟩ c) * (sc (ix2 ⟨u.val * 8 + i.val, by omega⟩ 7) : EReal)) * (x (ix3 0 ⟨u.val * 8 + i.val, by omega⟩ c) * (sc (ix2 ⟨u.val * 8 + i.val, by omega⟩ 7) : EReal)) := by
  pointwise [k0_pay53, k0_pay51, k0_pay49]

theorem st_at_0_7 (sc : FVec Ideal S128x12 .bf16) (x : Vec Ideal S1x128x128 .fp8e4m3) (v : Vec Ideal S1x8x128 .f32) (i : Fin 8) (c : Fin 128) :
    k0_pay52 (F := Ideal) sc x v (ix3 0 i c) = v (ix3 0 i c) + ∑ u : Fin 16, (x (ix3 0 ⟨u.val * 8 + i.val, by omega⟩ c) * (sc (ix2 ⟨u.val * 8 + i.val, by omega⟩ 7) : EReal)) := by
  pointwise [k0_pay52, k0_pay51, k0_pay49]

theorem st_at_1_6 (sc : FVec Ideal S128x12 .bf16) (x : Vec Ideal S1x128x128 .fp8e4m3) (v : Vec Ideal S1x8x128 .f32) (i : Fin 8) (c : Fin 128) :
    k0_pay48 (F := Ideal) (k0_pay46 v) (k0_pay47 sc x) (ix3 0 i c) = v (ix3 0 i c) + ∑ u : Fin 16, (x (ix3 0 ⟨u.val * 8 + i.val, by omega⟩ c) * (sc (ix2 ⟨u.val * 8 + i.val, by omega⟩ 6) : EReal)) * (x (ix3 0 ⟨u.val * 8 + i.val, by omega⟩ c) * (sc (ix2 ⟨u.val * 8 + i.val, by omega⟩ 6) : EReal)) := by
  pointwise [k0_pay48, k0_pay46, k0_pay47, k0_pay44, k0_pay42]

theorem st_at_0_6 (sc : FVec Ideal S128x12 .bf16) (x : Vec Ideal S1x128x128 .fp8e4m3) (v : Vec Ideal S1x8x128 .f32) (i : Fin 8) (c : Fin 128) :
    k0_pay45 (F := Ideal) sc x v (ix3 0 i c) = v (ix3 0 i c) + ∑ u : Fin 16, (x (ix3 0 ⟨u.val * 8 + i.val, by omega⟩ c) * (sc (ix2 ⟨u.val * 8 + i.val, by omega⟩ 6) : EReal)) := by
  pointwise [k0_pay45, k0_pay44, k0_pay42]

theorem st_at_1_5 (sc : FVec Ideal S128x12 .bf16) (x : Vec Ideal S1x128x128 .fp8e4m3) (v : Vec Ideal S1x8x128 .f32) (i : Fin 8) (c : Fin 128) :
    k0_pay41 (F := Ideal) (k0_pay39 sc x) v (ix3 0 i c) = v (ix3 0 i c) + ∑ u : Fin 16, (x (ix3 0 ⟨u.val * 8 + i.val, by omega⟩ c) * (sc (ix2 ⟨u.val * 8 + i.val, by omega⟩ 5) : EReal)) * (x (ix3 0 ⟨u.val * 8 + i.val, by omega⟩ c) * (sc (ix2 ⟨u.val * 8 + i.val, by omega⟩ 5) : EReal)) := by
  pointwise [k0_pay41, k0_pay39, k0_pay37]

theorem st_at_0_5 (sc : FVec Ideal S128x12 .bf16) (x : Vec Ideal S1x128x128 .fp8e4m3) (v : Vec Ideal S1x8x128 .f32) (i : Fin 8) (c : Fin 128) :
    k0_pay40 (F := Ideal) sc x v (ix3 0 i c) = v (ix3 0 i c) + ∑ u : Fin 16, (x (ix3 0 ⟨u.val * 8 + i.val, by omega⟩ c) * (sc (ix2 ⟨u.val * 8 + i.val, by omega⟩ 5) : EReal)) := by
  pointwise [k0_pay40, k0_pay39, k0_pay37]

theorem st_at_1_4 (sc : FVec Ideal S128x12 .bf16) (x : Vec Ideal S1x128x128 .fp8e4m3) (v : Vec Ideal S1x8x128 .f32) (i : Fin 8) (c : Fin 128) :
    k0_pay36 (F := Ideal) (k0_pay33 sc x) v (ix3 0 i c) = v (ix3 0 i c) + ∑ u : Fin 16, (x (ix3 0 ⟨u.val * 8 + i.val, by omega⟩ c) * (sc (ix2 ⟨u.val * 8 + i.val, by omega⟩ 4) : EReal)) * (x (ix3 0 ⟨u.val * 8 + i.val, by omega⟩ c) * (sc (ix2 ⟨u.val * 8 + i.val, by omega⟩ 4) : EReal)) := by
  pointwise [k0_pay36, k0_pay33, k0_pay31]

theorem st_at_0_4 (sc : FVec Ideal S128x12 .bf16) (x : Vec Ideal S1x128x128 .fp8e4m3) (v : Vec Ideal S1x8x128 .f32) (i : Fin 8) (c : Fin 128) :
    k0_pay35 (F := Ideal) (k0_pay33 sc x) (k0_pay34 v) (ix3 0 i c) = v (ix3 0 i c) + ∑ u : Fin 16, (x (ix3 0 ⟨u.val * 8 + i.val, by omega⟩ c) * (sc (ix2 ⟨u.val * 8 + i.val, by omega⟩ 4) : EReal)) := by
  pointwise [k0_pay35, k0_pay33, k0_pay34, k0_pay31]

theorem st_at_1_3 (sc : FVec Ideal S128x12 .bf16) (x : Vec Ideal S1x128x128 .fp8e4m3) (v : Vec Ideal S1x8x128 .f32) (i : Fin 8) (c : Fin 128) :
    k0_pay30 (F := Ideal) (k0_pay26 sc x) v (ix3 0 i c) = v (ix3 0 i c) + ∑ u : Fin 16, (x (ix3 0 ⟨u.val * 8 + i.val, by omega⟩ c) * (sc (ix2 ⟨u.val * 8 + i.val, by omega⟩ 3) : EReal)) * (x (ix3 0 ⟨u.val * 8 + i.val, by omega⟩ c) * (sc (ix2 ⟨u.val * 8 + i.val, by omega⟩ 3) : EReal)) := by
  pointwise [k0_pay30, k0_pay26, k0_pay28]

theorem st_at_0_3 (sc : FVec Ideal S128x12 .bf16) (x : Vec Ideal S1x128x128 .fp8e4m3) (v : Vec Ideal S1x8x128 .f32) (i : Fin 8) (c : Fin 128) :
    k0_pay29 (F := Ideal) (k0_pay26 sc x) v (ix3 0 i c) = v (ix3 0 i c) + ∑ u : Fin 16, (x (ix3 0 ⟨u.val * 8 + i.val, by omega⟩ c) * (sc (ix2 ⟨u.val * 8 + i.val, by omega⟩ 3) : EReal)) := by
  pointwise [k0_pay29, k0_pay26, k0_pay28]

theorem st_at_1_2 (sc : FVec Ideal S128x12 .bf16) (x : Vec Ideal S1x128x128 .fp8e4m3) (v : Vec Ideal S1x8x128 .f32) (i : Fin 8) (c : Fin 128) :
    k0_pay25 (F := Ideal) (k0_pay20 sc) x v (ix3 0 i c) = v (ix3 0 i c) + ∑ u : Fin 16, (x (ix3 0 ⟨u.val * 8 + i.val, by omega⟩ c) * (sc (ix2 ⟨u.val * 8 + i.val, by omega⟩ 2) : EReal)) * (x (ix3 0 ⟨u.val * 8 + i.val, by omega⟩ c) * (sc (ix2 ⟨u.val * 8 + i.val, by omega⟩ 2) : EReal)) := by
  pointwise [k0_pay25, k0_pay20, k0_pay23, k0_pay21]

theorem st_at_0_2 (sc : FVec Ideal S128x12 .bf16) (x : Vec Ideal S1x128x128 .fp8e4m3) (v : Vec Ideal S1x8x128 .f32) (i : Fin 8) (c : Fin 128) :
    k0_pay24 (F := Ideal) (k0_pay20 sc) x v (ix3 0 i c) = v (ix3 0 i c) + ∑ u : Fin 16, (x (ix3 0 ⟨u.val * 8 + i.val, by omega⟩ c) * (sc (ix2 ⟨u.val * 8 + i.val, by omega⟩ 2) : EReal)) := by
  pointwise [k0_pay24, k0_pay20, k0_pay23, k0_pay21]

theorem st_at_1_1 (sc : FVec Ideal S128x12 .bf16) (x : Vec Ideal S1x128x128 .fp8e4m3) (v : Vec Ideal S1x8x128 .f32) (i : Fin 8) (c : Fin 128) :
    k0_pay19 (F := Ideal) sc x v (ix3 0 i c) = v (ix3 0 i c) + ∑ u : Fin 16, (x (ix3 0 ⟨u.val * 8 + i.val, by omega⟩ c) * (sc (ix2 ⟨u.val * 8 + i.val, by omega⟩ 1) : EReal)) * (x (ix3 0 ⟨u.val * 8 + i.val, by omega⟩ c) * (sc (ix2 ⟨u.val * 8 + i.val, by omega⟩ 1) : EReal)) := by
  pointwise [k0_pay19, k0_pay17, k0_pay15]

theorem st_at_0_1 (sc : FVec Ideal S128x12 .bf16) (x : Vec Ideal S1x128x128 .fp8e4m3) (v : Vec Ideal S1x8x128 .f32) (i : Fin 8) (c : Fin 128) :
    k0_pay18 (F := Ideal) sc x v (ix3 0 i c) = v (ix3 0 i c) + ∑ u : Fin 16, (x (ix3 0 ⟨u.val * 8 + i.val, by omega⟩ c) * (sc (ix2 ⟨u.val * 8 + i.val, by omega⟩ 1) : EReal)) := by
  pointwise [k0_pay18, k0_pay17, k0_pay15]

theorem st_at_1_0 (v1 : BitVec 32) (k : Fin (k0_t1_loop v1).trips) (xs : Vec Ideal S1x128x12 .f32) (x : Vec Ideal S1x128x128 .fp8e4m3) (v : Vec Ideal S1x8x128 .f32) (i : Fin 8) (c : Fin 128) :
    k0_pay14 (F := Ideal) (k0_pay12 v) (k0_pay13 v1 0#32 1#32 k xs x) (ix3 0 i c) = v (ix3 0 i c) + ∑ u : Fin 16, (x (ix3 0 ⟨u.val * 8 + i.val, by omega⟩ c) * (k0_pay7 (F := Ideal) v1 0#32 1#32 k xs (ix2 ⟨u.val * 8 + i.val, by omega⟩ 0) : EReal)) * (x (ix3 0 ⟨u.val * 8 + i.val, by omega⟩ c) * (k0_pay7 (F := Ideal) v1 0#32 1#32 k xs (ix2 ⟨u.val * 8 + i.val, by omega⟩ 0) : EReal)) := by
  unfold k0_pay14 k0_pay12 k0_pay13 k0_pay10 k0_pay8
  generalize k0_pay7 v1 0#32 1#32 k xs = sc
  clear xs k v1
  pointwise []

theorem st_at_0_0 (v1 : BitVec 32) (k : Fin (k0_t1_loop v1).trips) (xs : Vec Ideal S1x128x12 .f32) (x : Vec Ideal S1x128x128 .fp8e4m3) (v : Vec Ideal S1x8x128 .f32) (i : Fin 8) (c : Fin 128) :
    k0_pay11 (F := Ideal) v1 0#32 1#32 k xs x v (ix3 0 i c) = v (ix3 0 i c) + ∑ u : Fin 16, (x (ix3 0 ⟨u.val * 8 + i.val, by omega⟩ c) * (k0_pay7 (F := Ideal) v1 0#32 1#32 k xs (ix2 ⟨u.val * 8 + i.val, by omega⟩ 0) : EReal)) := by
  unfold k0_pay11 k0_pay10 k0_pay8
  generalize k0_pay7 v1 0#32 1#32 k xs = sc
  clear xs k v1
  pointwise []

theorem pay317_at (a : Vec Ideal S128x1536 .bf16) (b : Vec Ideal S1536x128 .fp8e4m3) (i : Fin 128) (c : Fin 128) :
    k0_pay317 (F := Ideal) a b (ix2 i c) = ∑ x : Fin 1536, a (ix2 i x) * b (ix2 x c) := by
  pointwise [k0_pay317]

end Cert.KernelIdeal.Run
-- ==== Proof.KernelIdealTrip1.lean ====
module
public import proofs.«01_k».proof.Proof.KernelIdealPay1
public import Idealize.ShloMosaic.Lib.WritesUnit

@[expose] public section

/-!
One trip of the first loop, over the extended reals: the chunk of 128 rows of the frame it keeps, its
product with the first weights, and what it adds to the running sums.
-/

set_option maxRecDepth 16384

noncomputable section

namespace Cert.KernelIdeal.Run

open Cert.KernelIdeal.Gen
open Idealize.ShloMosaic Idealize.ShloMosaic.TcCoe Idealize.ShloMosaic.Pointwise

set_option maxHeartbeats 4000000 in
/-- The frame kept: the chunk's rows are set, the others stay. -/
theorem trip1_hb (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (k : Fin (k0_t1_loop v1).trips) (f_arg24 : BufTy.Contents (Elt Ideal) arg24.view.ty) (f_arg25 : BufTy.Contents (Elt Ideal) arg25.view.ty) (f_arg26 : BufTy.Contents (Elt Ideal) arg26.view.ty) (hl : v1.toInt ≤ 768) :
    ∀ (rr : Fin 768) (cc : Fin 1536), arg24.view.read (Elt Ideal) (arg24.view.writes (Elt Ideal) f_arg24 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 k f_arg24 f_arg25 f_arg26).1) (ix2 rr cc)
      = if 128 * k.val ≤ rr.val ∧ rr.val < 128 * k.val + 128 then hv v1 (arg2.view.read (Elt Ideal) X_arg2) (arg3.view.read (Elt Ideal) X_arg3) rr cc
        else arg24.view.read (Elt Ideal) f_arg24 (ix2 rr cc) := by
  have hk : k.val < 6 := full_lt hl k
  have hrow : row k.val = 128 * k.val := row_eq hk
  intro rr cc
  delta tripL_k0_t1 trip_k0_t1
  dsimp only
  delta trip_k0_t1.sl.HW_arg24_12
  dsimp only
  split_ifs with hr
  · refine View.read_writes_apply_of_pieces (Val := Elt Ideal) arg24.view _ (hvV v1 (arg2.view.read (Elt Ideal) X_arg2) (arg3.view.read (Elt Ideal) X_arg3) : S768x1536.Idx → Elt Ideal .bf16) _ ?_ _ ?_
    · simp only [List.forall_mem_cons, List.not_mem_nil, false_imp_iff, forall_const, and_true, implies_true]
      refine ⟨?_, ?_, ?_, ?_, ?_, ?_, ?_, ?_, ?_, ?_, ?_, ?_⟩
      · refine piece2 (α := EReal) (m := 128) (n := 128) (M := 768) (N := 1536) _ (show k0_off26 v1 k = ![128 * k.val, 1408] from by rw [← hrow]; try rfl) (by omega) (by omega) _ (hvV v1 (arg2.view.read (Elt Ideal) X_arg2) (arg3.view.read (Elt Ideal) X_arg3)) fun i c => ?_
        refine (hb_at_11 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off25 v1 k = ![0, 128 * k.val, 1408] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (1408 + c.val) / 128 = 11 := by omega
        have hc0 : 11 = 0 → c.val / 128 = 0 := by omega
        simp only [ix2_0, ix2_1, hc]
        rfl
      · refine piece2 (α := EReal) (m := 128) (n := 128) (M := 768) (N := 1536) _ (show k0_off24 v1 k = ![128 * k.val, 1280] from by rw [← hrow]; try rfl) (by omega) (by omega) _ (hvV v1 (arg2.view.read (Elt Ideal) X_arg2) (arg3.view.read (Elt Ideal) X_arg3)) fun i c => ?_
        refine (hb_at_10 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off23 v1 k = ![0, 128 * k.val, 1280] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (1280 + c.val) / 128 = 10 := by omega
        have hc0 : 10 = 0 → c.val / 128 = 0 := by omega
        simp only [ix2_0, ix2_1, hc]
        rfl
      · refine piece2 (α := EReal) (m := 128) (n := 128) (M := 768) (N := 1536) _ (show k0_off22 v1 k = ![128 * k.val, 1152] from by rw [← hrow]; try rfl) (by omega) (by omega) _ (hvV v1 (arg2.view.read (Elt Ideal) X_arg2) (arg3.view.read (Elt Ideal) X_arg3)) fun i c => ?_
        refine (hb_at_9 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off21 v1 k = ![0, 128 * k.val, 1152] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (1152 + c.val) / 128 = 9 := by omega
        have hc0 : 9 = 0 → c.val / 128 = 0 := by omega
        simp only [ix2_0, ix2_1, hc]
        rfl
      · refine piece2 (α := EReal) (m := 128) (n := 128) (M := 768) (N := 1536) _ (show k0_off20 v1 k = ![128 * k.val, 1024] from by rw [← hrow]; try rfl) (by omega) (by omega) _ (hvV v1 (arg2.view.read (Elt Ideal) X_arg2) (arg3.view.read (Elt Ideal) X_arg3)) fun i c => ?_
        refine (hb_at_8 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off19 v1 k = ![0, 128 * k.val, 1024] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (1024 + c.val) / 128 = 8 := by omega
        have hc0 : 8 = 0 → c.val / 128 = 0 := by omega
        simp only [ix2_0, ix2_1, hc]
        rfl
      · refine piece2 (α := EReal) (m := 128) (n := 128) (M := 768) (N := 1536) _ (show k0_off18 v1 k = ![128 * k.val, 896] from by rw [← hrow]; try rfl) (by omega) (by omega) _ (hvV v1 (arg2.view.read (Elt Ideal) X_arg2) (arg3.view.read (Elt Ideal) X_arg3)) fun i c => ?_
        refine (hb_at_7 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off17 v1 k = ![0, 128 * k.val, 896] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (896 + c.val) / 128 = 7 := by omega
        have hc0 : 7 = 0 → c.val / 128 = 0 := by omega
        simp only [ix2_0, ix2_1, hc]
        rfl
      · refine piece2 (α := EReal) (m := 128) (n := 128) (M := 768) (N := 1536) _ (show k0_off16 v1 k = ![128 * k.val, 768] from by rw [← hrow]; try rfl) (by omega) (by omega) _ (hvV v1 (arg2.view.read (Elt Ideal) X_arg2) (arg3.view.read (Elt Ideal) X_arg3)) fun i c => ?_
        refine (hb_at_6 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off15 v1 k = ![0, 128 * k.val, 768] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (768 + c.val) / 128 = 6 := by omega
        have hc0 : 6 = 0 → c.val / 128 = 0 := by omega
        simp only [ix2_0, ix2_1, hc]
        rfl
      · refine piece2 (α := EReal) (m := 128) (n := 128) (M := 768) (N := 1536) _ (show k0_off14 v1 k = ![128 * k.val, 640] from by rw [← hrow]; try rfl) (by omega) (by omega) _ (hvV v1 (arg2.view.read (Elt Ideal) X_arg2) (arg3.view.read (Elt Ideal) X_arg3)) fun i c => ?_
        refine (hb_at_5 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off13 v1 k = ![0, 128 * k.val, 640] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (640 + c.val) / 128 = 5 := by omega
        have hc0 : 5 = 0 → c.val / 128 = 0 := by omega
        simp only [ix2_0, ix2_1, hc]
        rfl
      · refine piece2 (α := EReal) (m := 128) (n := 128) (M := 768) (N := 1536) _ (show k0_off12 v1 k = ![128 * k.val, 512] from by rw [← hrow]; try rfl) (by omega) (by omega) _ (hvV v1 (arg2.view.read (Elt Ideal) X_arg2) (arg3.view.read (Elt Ideal) X_arg3)) fun i c => ?_
        refine (hb_at_4 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off11 v1 k = ![0, 128 * k.val, 512] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (512 + c.val) / 128 = 4 := by omega
        have hc0 : 4 = 0 → c.val / 128 = 0 := by omega
        simp only [ix2_0, ix2_1, hc]
        rfl
      · refine piece2 (α := EReal) (m := 128) (n := 128) (M := 768) (N := 1536) _ (show k0_off10 v1 k = ![128 * k.val, 384] from by rw [← hrow]; try rfl) (by omega) (by omega) _ (hvV v1 (arg2.view.read (Elt Ideal) X_arg2) (arg3.view.read (Elt Ideal) X_arg3)) fun i c => ?_
        refine (hb_at_3 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off9 v1 k = ![0, 128 * k.val, 384] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (384 + c.val) / 128 = 3 := by omega
        have hc0 : 3 = 0 → c.val / 128 = 0 := by omega
        simp only [ix2_0, ix2_1, hc]
        rfl
      · refine piece2 (α := EReal) (m := 128) (n := 128) (M := 768) (N := 1536) _ (show k0_off8 v1 k = ![128 * k.val, 256] from by rw [← hrow]; try rfl) (by omega) (by omega) _ (hvV v1 (arg2.view.read (Elt Ideal) X_arg2) (arg3.view.read (Elt Ideal) X_arg3)) fun i c => ?_
        refine (hb_at_2 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off7 v1 k = ![0, 128 * k.val, 256] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (256 + c.val) / 128 = 2 := by omega
        have hc0 : 2 = 0 → c.val / 128 = 0 := by omega
        simp only [ix2_0, ix2_1, hc]
        rfl
      · refine piece2 (α := EReal) (m := 128) (n := 128) (M := 768) (N := 1536) _ (show k0_off6 v1 k = ![128 * k.val, 128] from by rw [← hrow]; try rfl) (by omega) (by omega) _ (hvV v1 (arg2.view.read (Elt Ideal) X_arg2) (arg3.view.read (Elt Ideal) X_arg3)) fun i c => ?_
        refine (hb_at_1 (k0_pay7 (F := Ideal) v1 0#32 1#32 k (View.readAt (Elt Ideal) arg3.view (Rect.unit (s := S1x768x12) (k0_off2 v1 k) S1x128x12.size (k0_off2_inb v1 k0_hw1 k)).toLoadRect X_arg3)) _ i c).trans ?_
        rw [pay7_at hk]
        rw [rd3 arg2.view X_arg2 _ (show k0_off5 v1 k = ![0, 128 * k.val, 128] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (128 + c.val) / 128 = 1 := by omega
        have hc0 : 1 = 0 → c.val / 128 = 0 := by omega
        simp only [ix2_0, ix2_1, hc]
        rfl
      · refine piece2 (α := EReal) (m := 128) (n := 128) (M := 768) (N := 1536) _ (show k0_off4 v1 k = ![128 * k.val, 0] from by rw [← hrow]; try rfl) (by omega) (by omega) _ (hvV v1 (arg2.view.read (Elt Ideal) X_arg2) (arg3.view.read (Elt Ideal) X_arg3)) fun i c => ?_
        refine (hb_at_0 v1 k _ _ i c).trans ?_
        rw [pay7_at hk]
        rw [rd3 arg2.view X_arg2 _ (show k0_off3 v1 k = ![0, 128 * k.val, 0] from by rw [← hrow]; try rfl) _ _ _ (by omega) (by omega) (by omega)]
        rw [rd3 arg3.view X_arg3 _ (show k0_off2 v1 k = ![0, 128 * k.val, 0] from by rw [← hrow]; try rfl) _ _ _ (by omega) (by omega) (by omega)]
        unfold hvV hv
        have hc : (0 + c.val) / 128 = 0 := by omega
        have hc0 : 0 = 0 → c.val / 128 = 0 := by omega
        simp only [ix2_0, ix2_1, hc, hc0, Nat.zero_add]
        rfl
    · obtain ⟨jj, hj⟩ : ∃ jj : Fin 12, cc.val / 128 = jj.val := ⟨⟨cc.val / 128, by omega⟩, rfl⟩
      fin_cases jj
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem2 (m := 128) (n := 128) (k0_off4_inb v1 k0_hw1 k) (show k0_off4 v1 k = ![128 * k.val, 0] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem2 (m := 128) (n := 128) (k0_off6_inb v1 k0_hw1 k) (show k0_off6 v1 k = ![128 * k.val, 128] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem2 (m := 128) (n := 128) (k0_off8_inb v1 k0_hw1 k) (show k0_off8 v1 k = ![128 * k.val, 256] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem2 (m := 128) (n := 128) (k0_off10_inb v1 k0_hw1 k) (show k0_off10 v1 k = ![128 * k.val, 384] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem2 (m := 128) (n := 128) (k0_off12_inb v1 k0_hw1 k) (show k0_off12 v1 k = ![128 * k.val, 512] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_of_mem _ (List.mem_cons_self)))))), (mem2 (m := 128) (n := 128) (k0_off14_inb v1 k0_hw1 k) (show k0_off14 v1 k = ![128 * k.val, 640] from by rw [← hrow]; try rfl) rr cc).mpr ?_⟩
        simp only at hj; omega
      · refine ⟨_, List.mem_cons_of_mem _ (List.mem_cons_of_mem _ (List.mem_cons_of_mem _ (List.mem_cons_of_mem _ (List.mem_cons_of_mem _ (List.mem_cons_self))))), (mem2 (m := 128) (n := 128) (k0_off16_inb v1 k0_hw1 k) (show k0_off16 v1 k = ![128 * k.val, 768] from by rw [← hrow]; try rfl) rr cc).mpr ?_⟩
        simp only at hj; omega
      · refine ⟨_, List.mem_cons_of_mem _ (List.mem_cons_of_mem _ (List.mem_cons_of_mem _ (List.mem_cons_of_mem _ (List.mem_cons_self)))), (mem2 (m := 128) (n := 128) (k0_off18_inb v1 k0_hw1 k) (show k0_off18 v1 k = ![128 * k.val, 896] from by rw [← hrow]; try rfl) rr cc).mpr ?_⟩
        simp only at hj; omega
      · refine ⟨_, List.mem_cons_of_mem _ (List.mem_cons_of_mem _ (List.mem_cons_of_mem _ (List.mem_cons_self))), (mem2 (m := 128) (n := 128) (k0_off20_inb v1 k0_hw1 k) (show k0_off20 v1 k = ![128 * k.val, 1024] from by rw [← hrow]; try rfl) rr cc).mpr ?_⟩
        simp only at hj; omega
      · refine ⟨_, List.mem_cons_of_mem _ (List.mem_cons_of_mem _ (List.mem_cons_self)), (mem2 (m := 128) (n := 128) (k0_off22_inb v1 k0_hw1 k) (show k0_off22 v1 k = ![128 * k.val, 1152] from by rw [← hrow]; try rfl) rr cc).mpr ?_⟩
        simp only at hj; omega
      · refine ⟨_, List.mem_cons_of_mem _ (List.mem_cons_self), (mem2 (m := 128) (n := 128) (k0_off24_inb v1 k0_hw1 k) (show k0_off24 v1 k = ![128 * k.val, 1280] from by rw [← hrow]; try rfl) rr cc).mpr ?_⟩
        simp only at hj; omega
      · refine ⟨_, List.mem_cons_self, (mem2 (m := 128) (n := 128) (k0_off26_inb v1 k0_hw1 k) (show k0_off26 v1 k = ![128 * k.val, 1408] from by rw [← hrow]; try rfl) rr cc).mpr ?_⟩
        simp only at hj; omega
  · refine View.read_writes_apply_of_forall_not_mem arg24.view _ _ _ ?_
    simp only [List.forall_mem_cons, List.not_mem_nil, false_imp_iff, forall_const, and_true, implies_true]
    refine ⟨?_, ?_, ?_, ?_, ?_, ?_, ?_, ?_, ?_, ?_, ?_, ?_⟩
    · intro hm
      have := (mem2 (m := 128) (n := 128) (k0_off26_inb v1 k0_hw1 k) (show k0_off26 v1 k = ![128 * k.val, 1408] from by rw [← hrow]; try rfl) rr cc).mp hm
      omega
    · intro hm
      have := (mem2 (m := 128) (n := 128) (k0_off24_inb v1 k0_hw1 k) (show k0_off24 v1 k = ![128 * k.val, 1280] from by rw [← hrow]; try rfl) rr cc).mp hm
      omega
    · intro hm
      have := (mem2 (m := 128) (n := 128) (k0_off22_inb v1 k0_hw1 k) (show k0_off22 v1 k = ![128 * k.val, 1152] from by rw [← hrow]; try rfl) rr cc).mp hm
      omega
    · intro hm
      have := (mem2 (m := 128) (n := 128) (k0_off20_inb v1 k0_hw1 k) (show k0_off20 v1 k = ![128 * k.val, 1024] from by rw [← hrow]; try rfl) rr cc).mp hm
      omega
    · intro hm
      have := (mem2 (m := 128) (n := 128) (k0_off18_inb v1 k0_hw1 k) (show k0_off18 v1 k = ![128 * k.val, 896] from by rw [← hrow]; try rfl) rr cc).mp hm
      omega
    · intro hm
      have := (mem2 (m := 128) (n := 128) (k0_off16_inb v1 k0_hw1 k) (show k0_off16 v1 k = ![128 * k.val, 768] from by rw [← hrow]; try rfl) rr cc).mp hm
      omega
    · intro hm
      have := (mem2 (m := 128) (n := 128) (k0_off14_inb v1 k0_hw1 k) (show k0_off14 v1 k = ![128 * k.val, 640] from by rw [← hrow]; try rfl) rr cc).mp hm
      omega
    · intro hm
      have := (mem2 (m := 128) (n := 128) (k0_off12_inb v1 k0_hw1 k) (show k0_off12 v1 k = ![128 * k.val, 512] from by rw [← hrow]; try rfl) rr cc).mp hm
      omega
    · intro hm
      have := (mem2 (m := 128) (n := 128) (k0_off10_inb v1 k0_hw1 k) (show k0_off10 v1 k = ![128 * k.val, 384] from by rw [← hrow]; try rfl) rr cc).mp hm
      omega
    · intro hm
      have := (mem2 (m := 128) (n := 128) (k0_off8_inb v1 k0_hw1 k) (show k0_off8 v1 k = ![128 * k.val, 256] from by rw [← hrow]; try rfl) rr cc).mp hm
      omega
    · intro hm
      have := (mem2 (m := 128) (n := 128) (k0_off6_inb v1 k0_hw1 k) (show k0_off6 v1 k = ![128 * k.val, 128] from by rw [← hrow]; try rfl) rr cc).mp hm
      omega
    · intro hm
      have := (mem2 (m := 128) (n := 128) (k0_off4_inb v1 k0_hw1 k) (show k0_off4 v1 k = ![128 * k.val, 0] from by rw [← hrow]; try rfl) rr cc).mp hm
      omega

set_option maxHeartbeats 4000000 in
/-- Its product with the first weights. -/
theorem trip1_fr (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (k : Fin (k0_t1_loop v1).trips) (f_arg24 : BufTy.Contents (Elt Ideal) arg24.view.ty) (f_arg25 : BufTy.Contents (Elt Ideal) arg25.view.ty) (f_arg26 : BufTy.Contents (Elt Ideal) arg26.view.ty) (hl : v1.toInt ≤ 768) :
    ∀ (rr : Fin 768) (aa : Fin 128), arg25.view.read (Elt Ideal) (arg25.view.writes (Elt Ideal) f_arg25 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 k f_arg24 f_arg25 f_arg26).2.1) (ix2 rr aa)
      = if 128 * k.val ≤ rr.val ∧ rr.val < 128 * k.val + 128 then ∑ x : Fin 1536, hv v1 (arg2.view.read (Elt Ideal) X_arg2) (arg3.view.read (Elt Ideal) X_arg3) rr x * arg4.view.read (Elt Ideal) X_arg4 (ix2 x aa)
        else arg25.view.read (Elt Ideal) f_arg25 (ix2 rr aa) := by
  have hk : k.val < 6 := full_lt hl k
  have hrow : row k.val = 128 * k.val := row_eq hk
  have hb := trip1_hb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 k f_arg24 f_arg25 f_arg26 hl
  intro rr aa
  have e : ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 k f_arg24 f_arg25 f_arg26).1) = trip_k0_t1.sl.HW_arg24_12 arg2 arg3 v1 k0_hw1 X_arg2 X_arg3 k := by
    delta tripL_k0_t1 trip_k0_t1
    rfl
  rw [e] at hb
  delta tripL_k0_t1 trip_k0_t1
  dsimp only
  split_ifs with hr
  · have hlt : rr.val - 128 * k.val < 128 := by omega
    have hix : (ix2 rr aa : S768x128.Idx) = ix2 ⟨128 * k.val + (⟨rr.val - 128 * k.val, hlt⟩ : Fin 128).val, by show 128 * k.val + (rr.val - 128 * k.val) < 768; omega⟩ ⟨0 + aa.val, by omega⟩ := by
      congr 1 <;> apply Fin.ext
      · show rr.val = 128 * k.val + (rr.val - 128 * k.val); omega
      · show aa.val = 0 + aa.val; omega
    refine (View.read_writes_cons_unit_of_mem (Val := Elt Ideal) arg25.view _ _ _ _ _ (ix2 (⟨rr.val - 128 * k.val, hlt⟩ : Fin 128) aa) (show k0_off28 v1 k = ![128 * k.val, 0] from by rw [← hrow]; try rfl) ?_).trans ?_
    · intro a
      match a with
      | 0 => show rr.val = 128 * k.val + (rr.val - 128 * k.val); omega
      | 1 => show aa.val = 0 + aa.val; omega
    · refine (pay317_at _ _ _ _).trans (Finset.sum_congr rfl fun x _ => ?_)
      rw [rd2 arg24.view _ _ (show k0_off27 v1 k = ![128 * k.val, 0] from by rw [← hrow]; try rfl) _ _ (by omega) (by omega), hb, if_pos (by show 128 * k.val ≤ 128 * k.val + (rr.val - 128 * k.val) ∧ _; exact ⟨by omega, by show 128 * k.val + (rr.val - 128 * k.val) < _; omega⟩)]
      rw [rd2 arg4.view X_arg4 _ (show (![0, 0] : Fin 2 → ℕ) = ![0, 0] from rfl) _ _ (by omega) (by omega)]
      have e1 : (⟨128 * k.val + (rr.val - 128 * k.val), by omega⟩ : Fin 768) = rr := Fin.ext (by show 128 * k.val + (rr.val - 128 * k.val) = rr.val; omega)
      have e2 : ∀ h, (⟨0 + x.val, h⟩ : Fin 1536) = x := fun h => Fin.ext (by show 0 + x.val = x.val; omega)
      have e3 : ∀ h, (⟨0 + aa.val, h⟩ : Fin 128) = aa := fun h => Fin.ext (by show 0 + aa.val = aa.val; omega)
      dsimp only
      rw [e1, e2, e3]
  · refine (View.read_writes_cons_unit_of_not_mem (Val := Elt Ideal) arg25.view _ _ _ _ _ (show k0_off28 v1 k = ![128 * k.val, 0] from by rw [← hrow]; try rfl) 0 ?_).trans ?_
    · show rr.val < 128 * k.val ∨ 128 * k.val + 128 ≤ rr.val
      omega
    · rfl

set_option maxHeartbeats 8000000 in
/-- What it adds to the running sums. -/
theorem trip1_st (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (k : Fin (k0_t1_loop v1).trips) (f_arg24 : BufTy.Contents (Elt Ideal) arg24.view.ty) (f_arg25 : BufTy.Contents (Elt Ideal) arg25.view.ty) (f_arg26 : BufTy.Contents (Elt Ideal) arg26.view.ty) (hl : v1.toInt ≤ 768) :
    ∀ (s : Fin 2) (l : Fin 8) (cc : Fin 1536), arg26.view.read (Elt Ideal) (arg26.view.writes (Elt Ideal) f_arg26 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 k f_arg24 f_arg25 f_arg26).2.2) (ix3 s l cc)
      = stV v1 (arg2.view.read (Elt Ideal) X_arg2) (arg3.view.read (Elt Ideal) X_arg3) k.val (full_lt hl k) (arg26.view.read (Elt Ideal) f_arg26) (ix3 s l cc) := by
  have hk : k.val < 6 := full_lt hl k
  have hrow : row k.val = 128 * k.val := row_eq hk
  intro s l cc
  delta tripL_k0_t1 trip_k0_t1
  dsimp only
  refine View.read_writes_apply_of_pieces (Val := Elt Ideal) arg26.view _ (stV v1 (arg2.view.read (Elt Ideal) X_arg2) (arg3.view.read (Elt Ideal) X_arg3) k.val hk (arg26.view.read (Elt Ideal) f_arg26) : S2x8x1536.Idx → Elt Ideal .f32) _ ?_ _ ?_
  · simp only [List.forall_mem_cons, List.not_mem_nil, false_imp_iff, forall_const, and_true, implies_true]
    refine ⟨?_, ?_, ?_, ?_, ?_, ?_, ?_, ?_, ?_, ?_, ?_, ?_, ?_, ?_, ?_, ?_, ?_, ?_, ?_, ?_, ?_, ?_, ?_, ?_⟩
    · refine piece3 (α := EReal) (l := 1) (m := 8) (n := 128) (L := 2) (M := 8) (N := 1536) _ (show (![1, 0, 1408] : Fin 3 → ℕ) = ![1, 0, 1408] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_11 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 1408] : Fin 3 → ℕ) = ![1, 0, 1408] from rfl) 0 i c (by omega) (by omega) (by omega)).trans rfl) ?_
      refine Finset.sum_congr rfl fun u _ => ?_
      have hc : (1408 + c.val) / 128 = 11 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨1408 + c.val, by omega⟩) ?_
      rw [pay7_at hk]
      rw [rd3 arg2.view X_arg2 _ (show k0_off25 v1 k = ![0, 128 * k.val, 1408] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 11 = 0 → c.val / 128 = 0 := by omega
      simp only [hc, Nat.zero_add]
      rfl
    · refine piece3 (α := EReal) (l := 1) (m := 8) (n := 128) (L := 2) (M := 8) (N := 1536) _ (show (![0, 0, 1408] : Fin 3 → ℕ) = ![0, 0, 1408] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_11 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 1408] : Fin 3 → ℕ) = ![0, 0, 1408] from rfl) 0 i c (by omega) (by omega) (by omega)).trans rfl) ?_
      refine Finset.sum_congr rfl fun u _ => ?_
      have hc : (1408 + c.val) / 128 = 11 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨1408 + c.val, by omega⟩) ?_
      rw [pay7_at hk]
      rw [rd3 arg2.view X_arg2 _ (show k0_off25 v1 k = ![0, 128 * k.val, 1408] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 11 = 0 → c.val / 128 = 0 := by omega
      simp only [hc, Nat.zero_add]
      rfl
    · refine piece3 (α := EReal) (l := 1) (m := 8) (n := 128) (L := 2) (M := 8) (N := 1536) _ (show (![1, 0, 1280] : Fin 3 → ℕ) = ![1, 0, 1280] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_10 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 1280] : Fin 3 → ℕ) = ![1, 0, 1280] from rfl) 0 i c (by omega) (by omega) (by omega)).trans rfl) ?_
      refine Finset.sum_congr rfl fun u _ => ?_
      have hc : (1280 + c.val) / 128 = 10 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨1280 + c.val, by omega⟩) ?_
      rw [pay7_at hk]
      rw [rd3 arg2.view X_arg2 _ (show k0_off23 v1 k = ![0, 128 * k.val, 1280] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 10 = 0 → c.val / 128 = 0 := by omega
      simp only [hc, Nat.zero_add]
      rfl
    · refine piece3 (α := EReal) (l := 1) (m := 8) (n := 128) (L := 2) (M := 8) (N := 1536) _ (show (![0, 0, 1280] : Fin 3 → ℕ) = ![0, 0, 1280] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_10 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 1280] : Fin 3 → ℕ) = ![0, 0, 1280] from rfl) 0 i c (by omega) (by omega) (by omega)).trans rfl) ?_
      refine Finset.sum_congr rfl fun u _ => ?_
      have hc : (1280 + c.val) / 128 = 10 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨1280 + c.val, by omega⟩) ?_
      rw [pay7_at hk]
      rw [rd3 arg2.view X_arg2 _ (show k0_off23 v1 k = ![0, 128 * k.val, 1280] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 10 = 0 → c.val / 128 = 0 := by omega
      simp only [hc, Nat.zero_add]
      rfl
    · refine piece3 (α := EReal) (l := 1) (m := 8) (n := 128) (L := 2) (M := 8) (N := 1536) _ (show (![1, 0, 1152] : Fin 3 → ℕ) = ![1, 0, 1152] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_9 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 1152] : Fin 3 → ℕ) = ![1, 0, 1152] from rfl) 0 i c (by omega) (by omega) (by omega)).trans rfl) ?_
      refine Finset.sum_congr rfl fun u _ => ?_
      have hc : (1152 + c.val) / 128 = 9 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨1152 + c.val, by omega⟩) ?_
      rw [pay7_at hk]
      rw [rd3 arg2.view X_arg2 _ (show k0_off21 v1 k = ![0, 128 * k.val, 1152] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 9 = 0 → c.val / 128 = 0 := by omega
      simp only [hc, Nat.zero_add]
      rfl
    · refine piece3 (α := EReal) (l := 1) (m := 8) (n := 128) (L := 2) (M := 8) (N := 1536) _ (show (![0, 0, 1152] : Fin 3 → ℕ) = ![0, 0, 1152] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_9 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 1152] : Fin 3 → ℕ) = ![0, 0, 1152] from rfl) 0 i c (by omega) (by omega) (by omega)).trans rfl) ?_
      refine Finset.sum_congr rfl fun u _ => ?_
      have hc : (1152 + c.val) / 128 = 9 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨1152 + c.val, by omega⟩) ?_
      rw [pay7_at hk]
      rw [rd3 arg2.view X_arg2 _ (show k0_off21 v1 k = ![0, 128 * k.val, 1152] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 9 = 0 → c.val / 128 = 0 := by omega
      simp only [hc, Nat.zero_add]
      rfl
    · refine piece3 (α := EReal) (l := 1) (m := 8) (n := 128) (L := 2) (M := 8) (N := 1536) _ (show (![1, 0, 1024] : Fin 3 → ℕ) = ![1, 0, 1024] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_8 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 1024] : Fin 3 → ℕ) = ![1, 0, 1024] from rfl) 0 i c (by omega) (by omega) (by omega)).trans rfl) ?_
      refine Finset.sum_congr rfl fun u _ => ?_
      have hc : (1024 + c.val) / 128 = 8 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨1024 + c.val, by omega⟩) ?_
      rw [pay7_at hk]
      rw [rd3 arg2.view X_arg2 _ (show k0_off19 v1 k = ![0, 128 * k.val, 1024] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 8 = 0 → c.val / 128 = 0 := by omega
      simp only [hc, Nat.zero_add]
      rfl
    · refine piece3 (α := EReal) (l := 1) (m := 8) (n := 128) (L := 2) (M := 8) (N := 1536) _ (show (![0, 0, 1024] : Fin 3 → ℕ) = ![0, 0, 1024] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_8 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 1024] : Fin 3 → ℕ) = ![0, 0, 1024] from rfl) 0 i c (by omega) (by omega) (by omega)).trans rfl) ?_
      refine Finset.sum_congr rfl fun u _ => ?_
      have hc : (1024 + c.val) / 128 = 8 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨1024 + c.val, by omega⟩) ?_
      rw [pay7_at hk]
      rw [rd3 arg2.view X_arg2 _ (show k0_off19 v1 k = ![0, 128 * k.val, 1024] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 8 = 0 → c.val / 128 = 0 := by omega
      simp only [hc, Nat.zero_add]
      rfl
    · refine piece3 (α := EReal) (l := 1) (m := 8) (n := 128) (L := 2) (M := 8) (N := 1536) _ (show (![1, 0, 896] : Fin 3 → ℕ) = ![1, 0, 896] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_7 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 896] : Fin 3 → ℕ) = ![1, 0, 896] from rfl) 0 i c (by omega) (by omega) (by omega)).trans rfl) ?_
      refine Finset.sum_congr rfl fun u _ => ?_
      have hc : (896 + c.val) / 128 = 7 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨896 + c.val, by omega⟩) ?_
      rw [pay7_at hk]
      rw [rd3 arg2.view X_arg2 _ (show k0_off17 v1 k = ![0, 128 * k.val, 896] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 7 = 0 → c.val / 128 = 0 := by omega
      simp only [hc, Nat.zero_add]
      rfl
    · refine piece3 (α := EReal) (l := 1) (m := 8) (n := 128) (L := 2) (M := 8) (N := 1536) _ (show (![0, 0, 896] : Fin 3 → ℕ) = ![0, 0, 896] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_7 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 896] : Fin 3 → ℕ) = ![0, 0, 896] from rfl) 0 i c (by omega) (by omega) (by omega)).trans rfl) ?_
      refine Finset.sum_congr rfl fun u _ => ?_
      have hc : (896 + c.val) / 128 = 7 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨896 + c.val, by omega⟩) ?_
      rw [pay7_at hk]
      rw [rd3 arg2.view X_arg2 _ (show k0_off17 v1 k = ![0, 128 * k.val, 896] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 7 = 0 → c.val / 128 = 0 := by omega
      simp only [hc, Nat.zero_add]
      rfl
    · refine piece3 (α := EReal) (l := 1) (m := 8) (n := 128) (L := 2) (M := 8) (N := 1536) _ (show (![1, 0, 768] : Fin 3 → ℕ) = ![1, 0, 768] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_6 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 768] : Fin 3 → ℕ) = ![1, 0, 768] from rfl) 0 i c (by omega) (by omega) (by omega)).trans rfl) ?_
      refine Finset.sum_congr rfl fun u _ => ?_
      have hc : (768 + c.val) / 128 = 6 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨768 + c.val, by omega⟩) ?_
      rw [pay7_at hk]
      rw [rd3 arg2.view X_arg2 _ (show k0_off15 v1 k = ![0, 128 * k.val, 768] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 6 = 0 → c.val / 128 = 0 := by omega
      simp only [hc, Nat.zero_add]
      rfl
    · refine piece3 (α := EReal) (l := 1) (m := 8) (n := 128) (L := 2) (M := 8) (N := 1536) _ (show (![0, 0, 768] : Fin 3 → ℕ) = ![0, 0, 768] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_6 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 768] : Fin 3 → ℕ) = ![0, 0, 768] from rfl) 0 i c (by omega) (by omega) (by omega)).trans rfl) ?_
      refine Finset.sum_congr rfl fun u _ => ?_
      have hc : (768 + c.val) / 128 = 6 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨768 + c.val, by omega⟩) ?_
      rw [pay7_at hk]
      rw [rd3 arg2.view X_arg2 _ (show k0_off15 v1 k = ![0, 128 * k.val, 768] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 6 = 0 → c.val / 128 = 0 := by omega
      simp only [hc, Nat.zero_add]
      rfl
    · refine piece3 (α := EReal) (l := 1) (m := 8) (n := 128) (L := 2) (M := 8) (N := 1536) _ (show (![1, 0, 640] : Fin 3 → ℕ) = ![1, 0, 640] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_5 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 640] : Fin 3 → ℕ) = ![1, 0, 640] from rfl) 0 i c (by omega) (by omega) (by omega)).trans rfl) ?_
      refine Finset.sum_congr rfl fun u _ => ?_
      have hc : (640 + c.val) / 128 = 5 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨640 + c.val, by omega⟩) ?_
      rw [pay7_at hk]
      rw [rd3 arg2.view X_arg2 _ (show k0_off13 v1 k = ![0, 128 * k.val, 640] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 5 = 0 → c.val / 128 = 0 := by omega
      simp only [hc, Nat.zero_add]
      rfl
    · refine piece3 (α := EReal) (l := 1) (m := 8) (n := 128) (L := 2) (M := 8) (N := 1536) _ (show (![0, 0, 640] : Fin 3 → ℕ) = ![0, 0, 640] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_5 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 640] : Fin 3 → ℕ) = ![0, 0, 640] from rfl) 0 i c (by omega) (by omega) (by omega)).trans rfl) ?_
      refine Finset.sum_congr rfl fun u _ => ?_
      have hc : (640 + c.val) / 128 = 5 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨640 + c.val, by omega⟩) ?_
      rw [pay7_at hk]
      rw [rd3 arg2.view X_arg2 _ (show k0_off13 v1 k = ![0, 128 * k.val, 640] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 5 = 0 → c.val / 128 = 0 := by omega
      simp only [hc, Nat.zero_add]
      rfl
    · refine piece3 (α := EReal) (l := 1) (m := 8) (n := 128) (L := 2) (M := 8) (N := 1536) _ (show (![1, 0, 512] : Fin 3 → ℕ) = ![1, 0, 512] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_4 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 512] : Fin 3 → ℕ) = ![1, 0, 512] from rfl) 0 i c (by omega) (by omega) (by omega)).trans rfl) ?_
      refine Finset.sum_congr rfl fun u _ => ?_
      have hc : (512 + c.val) / 128 = 4 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨512 + c.val, by omega⟩) ?_
      rw [pay7_at hk]
      rw [rd3 arg2.view X_arg2 _ (show k0_off11 v1 k = ![0, 128 * k.val, 512] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 4 = 0 → c.val / 128 = 0 := by omega
      simp only [hc, Nat.zero_add]
      rfl
    · refine piece3 (α := EReal) (l := 1) (m := 8) (n := 128) (L := 2) (M := 8) (N := 1536) _ (show (![0, 0, 512] : Fin 3 → ℕ) = ![0, 0, 512] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_4 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 512] : Fin 3 → ℕ) = ![0, 0, 512] from rfl) 0 i c (by omega) (by omega) (by omega)).trans rfl) ?_
      refine Finset.sum_congr rfl fun u _ => ?_
      have hc : (512 + c.val) / 128 = 4 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨512 + c.val, by omega⟩) ?_
      rw [pay7_at hk]
      rw [rd3 arg2.view X_arg2 _ (show k0_off11 v1 k = ![0, 128 * k.val, 512] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 4 = 0 → c.val / 128 = 0 := by omega
      simp only [hc, Nat.zero_add]
      rfl
    · refine piece3 (α := EReal) (l := 1) (m := 8) (n := 128) (L := 2) (M := 8) (N := 1536) _ (show (![1, 0, 384] : Fin 3 → ℕ) = ![1, 0, 384] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_3 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 384] : Fin 3 → ℕ) = ![1, 0, 384] from rfl) 0 i c (by omega) (by omega) (by omega)).trans rfl) ?_
      refine Finset.sum_congr rfl fun u _ => ?_
      have hc : (384 + c.val) / 128 = 3 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨384 + c.val, by omega⟩) ?_
      rw [pay7_at hk]
      rw [rd3 arg2.view X_arg2 _ (show k0_off9 v1 k = ![0, 128 * k.val, 384] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 3 = 0 → c.val / 128 = 0 := by omega
      simp only [hc, Nat.zero_add]
      rfl
    · refine piece3 (α := EReal) (l := 1) (m := 8) (n := 128) (L := 2) (M := 8) (N := 1536) _ (show (![0, 0, 384] : Fin 3 → ℕ) = ![0, 0, 384] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_3 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 384] : Fin 3 → ℕ) = ![0, 0, 384] from rfl) 0 i c (by omega) (by omega) (by omega)).trans rfl) ?_
      refine Finset.sum_congr rfl fun u _ => ?_
      have hc : (384 + c.val) / 128 = 3 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨384 + c.val, by omega⟩) ?_
      rw [pay7_at hk]
      rw [rd3 arg2.view X_arg2 _ (show k0_off9 v1 k = ![0, 128 * k.val, 384] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 3 = 0 → c.val / 128 = 0 := by omega
      simp only [hc, Nat.zero_add]
      rfl
    · refine piece3 (α := EReal) (l := 1) (m := 8) (n := 128) (L := 2) (M := 8) (N := 1536) _ (show (![1, 0, 256] : Fin 3 → ℕ) = ![1, 0, 256] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_2 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 256] : Fin 3 → ℕ) = ![1, 0, 256] from rfl) 0 i c (by omega) (by omega) (by omega)).trans rfl) ?_
      refine Finset.sum_congr rfl fun u _ => ?_
      have hc : (256 + c.val) / 128 = 2 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨256 + c.val, by omega⟩) ?_
      rw [pay7_at hk]
      rw [rd3 arg2.view X_arg2 _ (show k0_off7 v1 k = ![0, 128 * k.val, 256] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 2 = 0 → c.val / 128 = 0 := by omega
      simp only [hc, Nat.zero_add]
      rfl
    · refine piece3 (α := EReal) (l := 1) (m := 8) (n := 128) (L := 2) (M := 8) (N := 1536) _ (show (![0, 0, 256] : Fin 3 → ℕ) = ![0, 0, 256] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_2 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 256] : Fin 3 → ℕ) = ![0, 0, 256] from rfl) 0 i c (by omega) (by omega) (by omega)).trans rfl) ?_
      refine Finset.sum_congr rfl fun u _ => ?_
      have hc : (256 + c.val) / 128 = 2 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨256 + c.val, by omega⟩) ?_
      rw [pay7_at hk]
      rw [rd3 arg2.view X_arg2 _ (show k0_off7 v1 k = ![0, 128 * k.val, 256] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 2 = 0 → c.val / 128 = 0 := by omega
      simp only [hc, Nat.zero_add]
      rfl
    · refine piece3 (α := EReal) (l := 1) (m := 8) (n := 128) (L := 2) (M := 8) (N := 1536) _ (show (![1, 0, 128] : Fin 3 → ℕ) = ![1, 0, 128] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_1 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![1, 0, 128] : Fin 3 → ℕ) = ![1, 0, 128] from rfl) 0 i c (by omega) (by omega) (by omega)).trans rfl) ?_
      refine Finset.sum_congr rfl fun u _ => ?_
      have hc : (128 + c.val) / 128 = 1 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨128 + c.val, by omega⟩) ?_
      rw [pay7_at hk]
      rw [rd3 arg2.view X_arg2 _ (show k0_off5 v1 k = ![0, 128 * k.val, 128] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 1 = 0 → c.val / 128 = 0 := by omega
      simp only [hc, Nat.zero_add]
      rfl
    · refine piece3 (α := EReal) (l := 1) (m := 8) (n := 128) (L := 2) (M := 8) (N := 1536) _ (show (![0, 0, 128] : Fin 3 → ℕ) = ![0, 0, 128] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_1 (k0_pay7 (F := Ideal) v1 0#32 1#32 k (View.readAt (Elt Ideal) arg3.view (Rect.unit (s := S1x768x12) (k0_off2 v1 k) S1x128x12.size (k0_off2_inb v1 k0_hw1 k)).toLoadRect X_arg3)) _ _ i c).trans ?_
      refine congrArg₂ (· + ·) ((rd3 (l := 1) (m := 8) (n := 128) arg26.view f_arg26 _ (show (![0, 0, 128] : Fin 3 → ℕ) = ![0, 0, 128] from rfl) 0 i c (by omega) (by omega) (by omega)).trans rfl) ?_
      refine Finset.sum_congr rfl fun u _ => ?_
      have hc : (128 + c.val) / 128 = 1 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨128 + c.val, by omega⟩) ?_
      rw [pay7_at hk]
      rw [rd3 arg2.view X_arg2 _ (show k0_off5 v1 k = ![0, 128 * k.val, 128] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 1 = 0 → c.val / 128 = 0 := by omega
      simp only [hc, Nat.zero_add]
      rfl
    · refine piece3 (α := EReal) (l := 1) (m := 8) (n := 128) (L := 2) (M := 8) (N := 1536) _ (show (![1, 0, 0] : Fin 3 → ℕ) = ![1, 0, 0] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_1_0 v1 k _ _ _ i c).trans ?_
      refine congrArg₂ (· + ·) ((rd3 (l := 1) (m := 8) (n := 128) arg26.view f_arg26 _ (show (![1, 0, 0] : Fin 3 → ℕ) = ![1, 0, 0] from rfl) 0 i c (by omega) (by omega) (by omega)).trans rfl) ?_
      refine Finset.sum_congr rfl fun u _ => ?_
      have hc : (0 + c.val) / 128 = 0 := by omega
      have hh : ∀ x y : EReal, x = y → x * x = y * y := fun x y h => by rw [h]
      refine hh _ (hv v1 (arg2.view.read (Elt Ideal) X_arg2) (arg3.view.read (Elt Ideal) X_arg3) ⟨128 * k.val + (u.val * 8 + (0 + i.val)), by omega⟩ ⟨0 + c.val, by omega⟩) ?_
      rw [pay7_at hk]
      rw [rd3 arg2.view X_arg2 _ (show k0_off3 v1 k = ![0, 128 * k.val, 0] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 0 = 0 → c.val / 128 = 0 := by omega
      simp only [hc, Nat.zero_add, hc0]
      rfl
    · refine piece3 (α := EReal) (l := 1) (m := 8) (n := 128) (L := 2) (M := 8) (N := 1536) _ (show (![0, 0, 0] : Fin 3 → ℕ) = ![0, 0, 0] from rfl) (by omega) (by omega) (by omega) _ (stV v1 (arg2.view.read (Elt Ideal) X_arg2) (arg3.view.read (Elt Ideal) X_arg3) k.val hk (arg26.view.read (Elt Ideal) f_arg26)) fun s i c => ?_
      obtain rfl : s = 0 := Subsingleton.elim _ _
      refine (st_at_0_0 v1 k _ _ _ i c).trans ?_
      refine congrArg₂ (· + ·) ((rd3 (l := 1) (m := 8) (n := 128) arg26.view f_arg26 _ (show (![0, 0, 0] : Fin 3 → ℕ) = ![0, 0, 0] from rfl) 0 i c (by omega) (by omega) (by omega)).trans rfl) ?_
      refine Finset.sum_congr rfl fun u _ => ?_
      have hc : (0 + c.val) / 128 = 0 := by omega
      have hh : ∀ x y : EReal, x = y → x = y := fun x y h => by rw [h]
      refine hh _ (hv v1 (arg2.view.read (Elt Ideal) X_arg2) (arg3.view.read (Elt Ideal) X_arg3) ⟨128 * k.val + (u.val * 8 + (0 + i.val)), by omega⟩ ⟨0 + c.val, by omega⟩) ?_
      rw [pay7_at hk]
      rw [rd3 arg2.view X_arg2 _ (show k0_off3 v1 k = ![0, 128 * k.val, 0] from by rw [← hrow]; try rfl) _ _ _ (by omega) (by omega) (by omega)]
      rw [rd3 arg3.view X_arg3 _ (show k0_off2 v1 k = ![0, 128 * k.val, 0] from by rw [← hrow]; try rfl) _ _ _ (by omega) (by omega) (by omega)]
      unfold hv
      have hc0 : 0 = 0 → c.val / 128 = 0 := by omega
      simp only [hc, Nat.zero_add, hc0]
      rfl
  · obtain ⟨jj, hj⟩ : ∃ jj : Fin 12, cc.val / 128 = jj.val := ⟨⟨cc.val / 128, by omega⟩, rfl⟩
    obtain ⟨q, hq⟩ : ∃ q : Fin 2, s = q := ⟨s, rfl⟩
    fin_cases jj <;> fin_cases q
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), (mem3 (l := 1) (m := 8) (n := 128) inb_S2x8x1536_S1x8x128_0_0_0 (show (![0, 0, 0] : Fin 3 → ℕ) = ![0, 0, 0] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), (mem3 (l := 1) (m := 8) (n := 128) inb_S2x8x1536_S1x8x128_1_0_0 (show (![1, 0, 0] : Fin 3 → ℕ) = ![1, 0, 0] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), (mem3 (l := 1) (m := 8) (n := 128) inb_S2x8x1536_S1x8x128_0_0_128 (show (![0, 0, 128] : Fin 3 → ℕ) = ![0, 0, 128] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), (mem3 (l := 1) (m := 8) (n := 128) inb_S2x8x1536_S1x8x128_1_0_128 (show (![1, 0, 128] : Fin 3 → ℕ) = ![1, 0, 128] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), (mem3 (l := 1) (m := 8) (n := 128) inb_S2x8x1536_S1x8x128_0_0_256 (show (![0, 0, 256] : Fin 3 → ℕ) = ![0, 0, 256] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), (mem3 (l := 1) (m := 8) (n := 128) inb_S2x8x1536_S1x8x128_1_0_256 (show (![1, 0, 256] : Fin 3 → ℕ) = ![1, 0, 256] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), (mem3 (l := 1) (m := 8) (n := 128) inb_S2x8x1536_S1x8x128_0_0_384 (show (![0, 0, 384] : Fin 3 → ℕ) = ![0, 0, 384] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (mem3 (l := 1) (m := 8) (n := 128) inb_S2x8x1536_S1x8x128_1_0_384 (show (![1, 0, 384] : Fin 3 → ℕ) = ![1, 0, 384] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem3 (l := 1) (m := 8) (n := 128) inb_S2x8x1536_S1x8x128_0_0_512 (show (![0, 0, 512] : Fin 3 → ℕ) = ![0, 0, 512] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem3 (l := 1) (m := 8) (n := 128) inb_S2x8x1536_S1x8x128_1_0_512 (show (![1, 0, 512] : Fin 3 → ℕ) = ![1, 0, 512] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem3 (l := 1) (m := 8) (n := 128) inb_S2x8x1536_S1x8x128_0_0_640 (show (![0, 0, 640] : Fin 3 → ℕ) = ![0, 0, 640] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem3 (l := 1) (m := 8) (n := 128) inb_S2x8x1536_S1x8x128_1_0_640 (show (![1, 0, 640] : Fin 3 → ℕ) = ![1, 0, 640] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem3 (l := 1) (m := 8) (n := 128) inb_S2x8x1536_S1x8x128_0_0_768 (show (![0, 0, 768] : Fin 3 → ℕ) = ![0, 0, 768] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem3 (l := 1) (m := 8) (n := 128) inb_S2x8x1536_S1x8x128_1_0_768 (show (![1, 0, 768] : Fin 3 → ℕ) = ![1, 0, 768] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem3 (l := 1) (m := 8) (n := 128) inb_S2x8x1536_S1x8x128_0_0_896 (show (![0, 0, 896] : Fin 3 → ℕ) = ![0, 0, 896] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem3 (l := 1) (m := 8) (n := 128) inb_S2x8x1536_S1x8x128_1_0_896 (show (![1, 0, 896] : Fin 3 → ℕ) = ![1, 0, 896] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem3 (l := 1) (m := 8) (n := 128) inb_S2x8x1536_S1x8x128_0_0_1024 (show (![0, 0, 1024] : Fin 3 → ℕ) = ![0, 0, 1024] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_self)))))), (mem3 (l := 1) (m := 8) (n := 128) inb_S2x8x1536_S1x8x128_1_0_1024 (show (![1, 0, 1024] : Fin 3 → ℕ) = ![1, 0, 1024] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_self))))), (mem3 (l := 1) (m := 8) (n := 128) inb_S2x8x1536_S1x8x128_0_0_1152 (show (![0, 0, 1152] : Fin 3 → ℕ) = ![0, 0, 1152] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_self)))), (mem3 (l := 1) (m := 8) (n := 128) inb_S2x8x1536_S1x8x128_1_0_1152 (show (![1, 0, 1152] : Fin 3 → ℕ) = ![1, 0, 1152] from rfl) s l cc).mpr ?_⟩
      subst hq; simp only at hj; refine ⟨by decide, by omega, by omega⟩
    · refine ⟨_, List.mem_cons_of_mem _ (List.mem_cons_of_mem _ (List.mem_cons_of_mem _ (List.mem_cons_self))), (mem3 (l := 1) (m := 8) (n := 128) inb_S2x8x1536_S1x8x128_0_0_1280 (show (![0, 0, 1280] : Fin 3 → ℕ) = ![0, 0, 1280] from rfl) s l cc).mpr ?_⟩
      subst hq; simp only at hj; refine ⟨by decide, by omega, by omega⟩
    · refine ⟨_, List.mem_cons_of_mem _ (List.mem_cons_of_mem _ (List.mem_cons_self)), (mem3 (l := 1) (m := 8) (n := 128) inb_S2x8x1536_S1x8x128_1_0_1280 (show (![1, 0, 1280] : Fin 3 → ℕ) = ![1, 0, 1280] from rfl) s l cc).mpr ?_⟩
      subst hq; simp only at hj; refine ⟨by decide, by omega, by omega⟩
    · refine ⟨_, List.mem_cons_of_mem _ (List.mem_cons_self), (mem3 (l := 1) (m := 8) (n := 128) inb_S2x8x1536_S1x8x128_0_0_1408 (show (![0, 0, 1408] : Fin 3 → ℕ) = ![0, 0, 1408] from rfl) s l cc).mpr ?_⟩
      subst hq; simp only at hj; refine ⟨by decide, by omega, by omega⟩
    · refine ⟨_, List.mem_cons_self, (mem3 (l := 1) (m := 8) (n := 128) inb_S2x8x1536_S1x8x128_1_0_1408 (show (![1, 0, 1408] : Fin 3 → ℕ) = ![1, 0, 1408] from rfl) s l cc).mpr ?_⟩
      subst hq; simp only at hj; refine ⟨by decide, by omega, by omega⟩

end Cert.KernelIdeal.Run
-- ==== Proof.KernelIdealLoops.lean ====
module
public import proofs.«01_k».proof.Proof.KernelIdealTrip1

@[expose] public section

/-!
The two loops over the extended reals.  After `n` trips the first holds the frame and its product with the
first weights in the first `128 n` rows, and the sums of those rows eight lanes at a time; the second has
written the first `128 n` rows of the masked activations.
-/

set_option maxRecDepth 16384

noncomputable section

namespace Cert.KernelIdeal.Run

open Cert.KernelIdeal.Gen
open Idealize.ShloMosaic Idealize.ShloMosaic.TcCoe Idealize.ShloMosaic.Pointwise

/-- The frame at a row counted by a natural number, zero past the last. -/
def hvN (len : BitVec 32) (x : S1x768x1536.Idx → EReal) (xs : S1x768x12.Idx → EReal) (c : Fin 1536) (r : ℕ) : EReal :=
  if h : r < 768 then hv len x xs ⟨r, h⟩ c else 0

/-- The activation before the second weights: `tanh (gain · relu (frame · scale + shift) + offset)`. -/
def zf (g f w s o : EReal) : EReal := Ideal.tanh (g * max (f * w + s) 0 + o)

theorem pay143_at (sh : FVec Ideal S1x128 .f32) (fr : Vec Ideal S128x128 .f32) (ws gg ss : Vec Ideal S1x128 .f32) (i : Fin 128) (c : Fin 128) :
    k0_pay143 (F := Ideal) sh fr ws gg ss (ix2 i c) = zf (gg (ix2 0 c)) (fr (ix2 i c)) (ws (ix2 0 c)) (sh (ix2 0 c)) (ss (ix2 0 c)) := by
  unfold zf
  pointwise [k0_pay143]

theorem pay144_at {v1 : BitVec 32} {k : Fin (k0_t3_loop v1).trips} (hk : k.val < 6) (i : Fin 128) (c : Fin 128) (a b : EReal) :
    Scalar.select (k0_pay144 (F := Ideal) v1 0#32 1#32 k (ix2 i c)) a b = if ((128 * k.val + i.val : ℕ) : ℤ) < v1.toInt then a else b := by
  rw [← mask_sel hk i.val i.isLt v1 a b]
  pointwise [k0_pay144]

theorem pay145_at {v1 : BitVec 32} {k : Fin (k0_t3_loop v1).trips} (hk : k.val < 6) (sh : FVec Ideal S1x128 .f32) (fr : Vec Ideal S128x128 .f32) (ws gg ss : Vec Ideal S1x128 .f32) (i : Fin 128) (c : Fin 128) :
    k0_pay145 (F := Ideal) v1 sh 0#32 1#32 k fr ws gg ss (ix3 0 i c)
      = if ((128 * k.val + i.val : ℕ) : ℤ) < v1.toInt then zf (gg (ix2 0 c)) (fr (ix2 i c)) (ws (ix2 0 c)) (sh (ix2 0 c)) (ss (ix2 0 c)) else 0 := by
  rw [← pay144_at hk i c, ← pay143_at]
  unfold k0_pay145
  generalize k0_pay144 (F := Ideal) v1 0#32 1#32 k = mk
  generalize k0_pay143 (F := Ideal) sh fr ws gg ss = zz
  pointwise []

set_option maxHeartbeats 4000000 in
/-- One trip of the second loop sets the chunk's rows of the masked activations. -/
theorem trip3_z (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (k : Fin (k0_t3_loop v1).trips) (f_arg19 : BufTy.Contents (Elt Ideal) arg19.view.ty) (f_arg27 : BufTy.Contents (Elt Ideal) arg27.view.ty) (hl : v1.toInt ≤ 768) :
    ∀ (rr : Fin 768) (aa : Fin 128), arg19.view.read (Elt Ideal) (arg19.view.writes (Elt Ideal) f_arg19 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 k f_arg19 f_arg27).1) (ix3 0 rr aa)
      = if 128 * k.val ≤ rr.val ∧ rr.val < 128 * k.val + 128 then (if ((rr.val : ℕ) : ℤ) < v1.toInt then zf (arg9.view.read (Elt Ideal) X_arg9 (ix2 0 aa)) (arg25.view.read (Elt Ideal) X_arg25 (ix2 rr aa)) (arg5.view.read (Elt Ideal) X_arg5 (ix2 0 aa)) (k0_pay330 (F := Ideal) v65 v72 cst_30 v73 v85 v89 v92 (ix2 0 aa)) (arg10.view.read (Elt Ideal) X_arg10 (ix2 0 aa)) else 0)
        else arg19.view.read (Elt Ideal) f_arg19 (ix3 0 rr aa) := by
  have hk : k.val < 6 := full_lt hl k
  have hrow : row k.val = 128 * k.val := row_eq hk
  intro rr aa
  delta tripL_k0_t3 trip_k0_t3
  dsimp only
  split_ifs with hr hz
  all_goals first
    | (have hlt : rr.val - 128 * k.val < 128 := by omega
       refine (View.read_writes_cons_unit_of_mem (Val := Elt Ideal) arg19.view _ _ _ _ _ (ix3 0 (⟨rr.val - 128 * k.val, hlt⟩ : Fin 128) aa) (show k0_off59 v1 k = ![0, 128 * k.val, 0] from by rw [← hrow]; try rfl) ?_).trans ?_
       · intro a
         match a with
         | 0 => rfl
         | 1 => show rr.val = 128 * k.val + (rr.val - 128 * k.val); omega
         | 2 => show aa.val = 0 + aa.val; omega
       · refine (pay145_at hk _ _ _ _ _ _ _).trans ?_
         rw [rd2 arg25.view _ _ (show k0_off58 v1 k = ![128 * k.val, 0] from by rw [← hrow]; try rfl) _ _ (by omega) (by omega)]
         rw [rd2 arg5.view _ _ (show (![0, 0] : Fin 2 → ℕ) = ![0, 0] from rfl) _ _ (by omega) (by omega)]
         rw [rd2 arg9.view _ _ (show (![0, 0] : Fin 2 → ℕ) = ![0, 0] from rfl) _ _ (by omega) (by omega)]
         rw [rd2 arg10.view _ _ (show (![0, 0] : Fin 2 → ℕ) = ![0, 0] from rfl) _ _ (by omega) (by omega)]
         have e1 : ∀ h, (⟨128 * k.val + (rr.val - 128 * k.val), h⟩ : Fin 768) = rr := fun h => Fin.ext (by show 128 * k.val + (rr.val - 128 * k.val) = rr.val; omega)
         have e3 : ∀ h, (⟨0 + aa.val, h⟩ : Fin 128) = aa := fun h => Fin.ext (by show 0 + aa.val = aa.val; omega)
         have e4 : 128 * k.val + (rr.val - 128 * k.val) = rr.val := by omega
         simp only [e1, e3, e4]
         first | rw [if_pos hz]; rfl | rw [if_neg hz])
    | (refine (View.read_writes_cons_unit_of_not_mem (Val := Elt Ideal) arg19.view _ _ _ _ _ (show k0_off59 v1 k = ![0, 128 * k.val, 0] from by rw [← hrow]; try rfl) 1 ?_).trans rfl
       show rr.val < 128 * k.val ∨ 128 * k.val + 128 ≤ rr.val
       omega)

set_option maxHeartbeats 4000000 in
/-- The frame after `n` trips. -/
theorem loop1_hb (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty) (G_arg26 : BufTy.Contents (Elt Ideal) arg26.view.ty) (hl : v1.toInt ≤ 768) (n : ℕ) (hn : n ≤ (k0_t1_loop v1).trips) :
    ∀ (rr : Fin 768) (cc : Fin 1536), arg24.view.read (Elt Ideal) (arg24.view.writes (Elt Ideal) G_arg24 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).1) (ix2 rr cc)
      = if rr.val < 128 * n then hv v1 (arg2.view.read (Elt Ideal) X_arg2) (arg3.view.read (Elt Ideal) X_arg3) rr cc else arg24.view.read (Elt Ideal) G_arg24 (ix2 rr cc) := by
  induction n with
  | zero => intro rr cc; rw [if_neg (by omega)]; rfl
  | succ n ih =>
    intro rr cc
    rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 (n + 1)) = _ from pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 ⟨n, by omega⟩]
    dsimp only
    rw [View.writes_append]
    have := trip1_hb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 (⟨n, by omega⟩ : Fin _) (arg24.view.writes (Elt Ideal) G_arg24 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).1) (arg25.view.writes (Elt Ideal) G_arg25 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.1) (arg26.view.writes (Elt Ideal) G_arg26 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.2) hl rr cc
    rw [this, ih (by omega)]
    dsimp only
    split_ifs <;> first | rfl | omega

set_option maxHeartbeats 4000000 in
/-- Its product with the first weights after `n` trips. -/
theorem loop1_fr (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty) (G_arg26 : BufTy.Contents (Elt Ideal) arg26.view.ty) (hl : v1.toInt ≤ 768) (n : ℕ) (hn : n ≤ (k0_t1_loop v1).trips) :
    ∀ (rr : Fin 768) (aa : Fin 128), arg25.view.read (Elt Ideal) (arg25.view.writes (Elt Ideal) G_arg25 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.1) (ix2 rr aa)
      = if rr.val < 128 * n then ∑ x : Fin 1536, hv v1 (arg2.view.read (Elt Ideal) X_arg2) (arg3.view.read (Elt Ideal) X_arg3) rr x * arg4.view.read (Elt Ideal) X_arg4 (ix2 x aa) else arg25.view.read (Elt Ideal) G_arg25 (ix2 rr aa) := by
  induction n with
  | zero => intro rr aa; rw [if_neg (by omega)]; rfl
  | succ n ih =>
    intro rr aa
    rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 (n + 1)) = _ from pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 ⟨n, by omega⟩]
    dsimp only
    rw [View.writes_append]
    have := trip1_fr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 (⟨n, by omega⟩ : Fin _) (arg24.view.writes (Elt Ideal) G_arg24 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).1) (arg25.view.writes (Elt Ideal) G_arg25 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.1) (arg26.view.writes (Elt Ideal) G_arg26 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.2) hl rr aa
    rw [this, ih (by omega)]
    dsimp only
    split_ifs <;> first | rfl | omega

set_option maxHeartbeats 4000000 in
/-- The running sums after `n` trips. -/
theorem loop1_st (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 : k0_chk1 v1) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty) (G_arg26 : BufTy.Contents (Elt Ideal) arg26.view.ty) (hl : v1.toInt ≤ 768) (n : ℕ) (hn : n ≤ (k0_t1_loop v1).trips) :
    ∀ (s : Fin 2) (l : Fin 8) (cc : Fin 1536), arg26.view.read (Elt Ideal) (arg26.view.writes (Elt Ideal) G_arg26 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.2) (ix3 s l cc)
      = arg26.view.read (Elt Ideal) G_arg26 (ix3 s l cc)
        + ∑ w ∈ Finset.range (16 * n), if s.val = 0 then hvN v1 (arg2.view.read (Elt Ideal) X_arg2) (arg3.view.read (Elt Ideal) X_arg3) cc (w * 8 + l.val) else hvN v1 (arg2.view.read (Elt Ideal) X_arg2) (arg3.view.read (Elt Ideal) X_arg3) cc (w * 8 + l.val) * hvN v1 (arg2.view.read (Elt Ideal) X_arg2) (arg3.view.read (Elt Ideal) X_arg3) cc (w * 8 + l.val) := by
  induction n with
  | zero => intro s l cc; rw [Finset.range_zero, Finset.sum_empty, add_zero]; rfl
  | succ n ih =>
    intro s l cc
    rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 (n + 1)) = _ from pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 ⟨n, by omega⟩]
    dsimp only
    rw [View.writes_append]
    have := trip1_st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 (⟨n, by omega⟩ : Fin _) (arg24.view.writes (Elt Ideal) G_arg24 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).1) (arg25.view.writes (Elt Ideal) G_arg25 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.1) (arg26.view.writes (Elt Ideal) G_arg26 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 n).2.2) hl s l cc
    have hn6 : n < 6 := full_lt hl (⟨n, by omega⟩ : Fin (k0_t1_loop v1).trips)
    rw [this]
    unfold stV
    simp only [ix3_0, ix3_1, ix3_2]
    rw [ih (by omega), show 16 * (n + 1) = 16 * n + 16 from by omega, Finset.sum_range_add, ← add_assoc]
    refine congrArg₂ (· + ·) rfl ?_
    rw [Finset.sum_range]
    refine Finset.sum_congr rfl fun u _ => ?_
    have e : hvN v1 (arg2.view.read (Elt Ideal) X_arg2) (arg3.view.read (Elt Ideal) X_arg3) cc ((16 * n + u.val) * 8 + l.val) = hv v1 (arg2.view.read (Elt Ideal) X_arg2) (arg3.view.read (Elt Ideal) X_arg3) ⟨128 * n + (u.val * 8 + l.val), by omega⟩ cc := by
      unfold hvN
      rw [dif_pos (by omega)]
      congr 2
      omega
    rw [e]
    rfl

set_option maxHeartbeats 4000000 in
/-- The masked activations after `n` trips of the second loop. -/
theorem loop3_z (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (G_arg19 : BufTy.Contents (Elt Ideal) arg19.view.ty) (G_arg27 : BufTy.Contents (Elt Ideal) arg27.view.ty) (hl : v1.toInt ≤ 768) (n : ℕ) (hn : n ≤ (k0_t3_loop v1).trips) :
    ∀ (rr : Fin 768) (aa : Fin 128), arg19.view.read (Elt Ideal) (arg19.view.writes (Elt Ideal) G_arg19 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).1) (ix3 0 rr aa)
      = if rr.val < 128 * n then (if ((rr.val : ℕ) : ℤ) < v1.toInt then zf (arg9.view.read (Elt Ideal) X_arg9 (ix2 0 aa)) (arg25.view.read (Elt Ideal) X_arg25 (ix2 rr aa)) (arg5.view.read (Elt Ideal) X_arg5 (ix2 0 aa)) (k0_pay330 (F := Ideal) v65 v72 cst_30 v73 v85 v89 v92 (ix2 0 aa)) (arg10.view.read (Elt Ideal) X_arg10 (ix2 0 aa)) else 0) else arg19.view.read (Elt Ideal) G_arg19 (ix3 0 rr aa) := by
  induction n with
  | zero => intro rr aa; rw [if_neg (by omega)]; rfl
  | succ n ih =>
    intro rr aa
    rw [show (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 (n + 1)) = _ from pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 ⟨n, by omega⟩]
    dsimp only
    rw [View.writes_append]
    have := trip3_z 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 (⟨n, by omega⟩ : Fin _) (arg19.view.writes (Elt Ideal) G_arg19 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).1) (arg27.view.writes (Elt Ideal) G_arg27 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).2) hl rr aa
    rw [this, ih (by omega)]
    dsimp only
    split_ifs <;> first | rfl | omega

end Cert.KernelIdeal.Run
-- ==== Proof.KernelIdealStats.lean ====
module
public import proofs.«01_k».proof.Proof.KernelIdealLoops
public import Idealize.ShloMosaic.Lib.VecWindow

@[expose] public section

/-!
What one grid point computes from the statistics on, as functions of the length and of the blocks: the
mean and the sum of squares per channel, the pooled vector's codes and scale, and the masked activation.
-/

set_option maxRecDepth 16384

noncomputable section

namespace Cert.KernelIdeal.Run

open Cert.KernelIdeal.Gen
open Idealize.ShloMosaic Idealize.ShloMosaic.TcCoe Idealize.ShloMosaic.Pointwise

/-- The mean per channel: the sum of the masked frames times the reciprocal of the length. -/
def V25 (len : BitVec 32) (x : S1x768x1536.Idx → EReal) (xs : S1x768x12.Idx → EReal) : FVec Ideal S1x1536 .f32 :=
  fun y => (∑ r : Fin 768, hv len x xs r (y 1)) * k0_pay313 (F := Ideal) len

/-- The sum of the squares of the masked frames per channel. -/
def V28 (len : BitVec 32) (x : S1x768x1536.Idx → EReal) (xs : S1x768x12.Idx → EReal) : FVec Ideal S1536 .f32 :=
  fun y => ∑ r : Fin 768, hv len x xs r (y 0) * hv len x xs r (y 0)

/-- The scale of the pooled vector. -/
def SC (len : BitVec 32) (x : S1x768x1536.Idx → EReal) (xs : S1x768x12.Idx → EReal) : FVec Ideal S1x1 .f32 :=
  k0_pay324 (k0_pay313 (F := Ideal) len) (V25 len x xs) (V28 len x xs)

/-- The pooled vector over its scale. -/
def GX (len : BitVec 32) (x : S1x768x1536.Idx → EReal) (xs : S1x768x12.Idx → EReal) : FVec Ideal S1x3072 .f32 :=
  k0_pay325 (k0_pay313 (F := Ideal) len) (V25 len x xs) (V28 len x xs)

/-- The largest code. -/
abbrev top : Ideal .f32 := FloatOps.ofBits .f32 1138753536#32

/-- The row of codes. -/
def codeRow (len : BitVec 32) (x : S1x768x1536.Idx → EReal) (xs : S1x768x12.Idx → EReal) : FVec Ideal S1x3072 .f32 :=
  k0_pay328 (GX len x xs) top k0_pay326

/-- The row of scales. -/
def scaleRow (len : BitVec 32) (x : S1x768x1536.Idx → EReal) (xs : S1x768x12.Idx → EReal) : FVec Ideal S1x128 .f32 :=
  k0_pay329 (SC len x xs)

/-- The masked activation at a row and a channel. -/
def zAt (len : BitVec 32) (x : S1x768x1536.Idx → EReal) (xs : S1x768x12.Idx → EReal) (w1h : S1536x128.Idx → EReal) (w1hs : S1x128.Idx → EReal)
    (w1s : S3072x128.Idx → EReal) (w1ss b1 g1 s1 : S1x128.Idx → EReal) (r : Fin 768) (a : Fin 128) : EReal :=
  if ((r.val : ℕ) : ℤ) < len.toInt then
    zf (g1 (ix2 0 a)) (∑ c : Fin 1536, hv len x xs r c * w1h (ix2 c a)) (w1hs (ix2 0 a))
      (k0_pay330 (F := Ideal) (SC len x xs) (GX len x xs) top k0_pay326 w1s w1ss b1 (ix2 0 a)) (s1 (ix2 0 a))
  else 0

theorem pay320_at (v1 : Elt Ideal .i32) (v : Vec Ideal S1x8x1536 .f32) (c : Fin 1536) :
    k0_pay320 (F := Ideal) v1 v (ix2 0 c) = (∑ l : Fin 8, v (ix3 0 l c)) * k0_pay313 (F := Ideal) v1 := by
  unfold k0_pay320
  generalize k0_pay313 (F := Ideal) v1 = q
  pointwise []

theorem pay321_at (v : Vec Ideal S1x8x1536 .f32) (c : Fin 1536) :
    k0_pay321 (F := Ideal) v (ix1 c) = ∑ l : Fin 8, v (ix3 0 l c) := by
  pointwise [k0_pay321]

theorem sum_lanes (f : ℕ → EReal) (n : ℕ) :
    ∑ l : Fin 8, ∑ w ∈ Finset.range (16 * n), f (w * 8 + l.val) = ∑ r ∈ Finset.range (128 * n), f r := by
  rw [Finset.sum_comm]
  have : ∀ m : ℕ, ∑ w ∈ Finset.range m, ∑ l : Fin 8, f (w * 8 + l.val) = ∑ r ∈ Finset.range (8 * m), f r := by
    intro m
    induction m with
    | zero => rfl
    | succ m ih =>
      rw [Finset.sum_range_succ, ih, show 8 * (m + 1) = 8 * m + 8 from by ring, Finset.sum_range_add, ← Finset.sum_range (fun l => f (m * 8 + l))]
      exact congrArg _ (Finset.sum_congr rfl fun l _ => by rw [mul_comm m 8])
  rw [this, show 8 * (16 * n) = 128 * n from by ring]

/-- Every row below the length is in a chunk. -/
theorem len_le {v1 : BitVec 32} (h : v1.toInt ≤ 768) : v1.toInt ≤ 128 * ((k0_t1_loop v1).trips : ℤ) := by
  have h1 := chunks_toInt h
  have h2 := tdiv_bounds (v1.toInt + 127)
  rw [full_trips]
  omega

theorem trips_le {v1 : BitVec 32} (h : v1.toInt ≤ 768) : (k0_t1_loop v1).trips ≤ 6 := by
  have := chunks_le h
  rw [full_trips]; omega

theorem hvN_zero {v1 : BitVec 32} (x : S1x768x1536.Idx → EReal) (xs : S1x768x12.Idx → EReal) (c : Fin 1536) (r : ℕ) (h : v1.toInt ≤ (r : ℤ)) :
    hvN v1 x xs c r = 0 := by
  unfold hvN; split
  · unfold hv; rw [if_neg (by dsimp only; omega), mul_zero]
  · rfl

/-- The sum over the chunks is the sum over the rows. -/
theorem sum_rows {v1 : BitVec 32} (h : v1.toInt ≤ 768) (x : S1x768x1536.Idx → EReal) (xs : S1x768x12.Idx → EReal) (c : Fin 1536) (g : EReal → EReal) (hg : g 0 = 0) :
    ∑ l : Fin 8, ∑ w ∈ Finset.range (16 * (k0_t1_loop v1).trips), g (hvN v1 x xs c (w * 8 + l.val)) = ∑ r : Fin 768, g (hv v1 x xs r c) := by
  rw [sum_lanes (fun r => g (hvN v1 x xs c r))]
  have h1 := len_le h
  have h2 := trips_le h
  rw [Finset.sum_subset (Finset.range_subset_range.mpr (show 128 * (k0_t1_loop v1).trips ≤ 768 by omega))
    (fun r _ hr => by rw [hvN_zero x xs c r (by simp only [Finset.mem_range] at hr; omega), hg]), Finset.sum_range]
  refine Finset.sum_congr rfl fun r _ => ?_
  unfold hvN; rw [dif_pos r.isLt]

/-- The running sums after the loops. -/
theorem st_all (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 k0_hw1' : k0_chk1 v1) (v19 : BitVec 32) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty)  (P24 : BufTy.Contents (Elt Ideal) arg24.view.ty) (P25 : BufTy.Contents (Elt Ideal) arg25.view.ty) (P26 : BufTy.Contents (Elt Ideal) arg26.view.ty) (L26 : List (View.Piece (Elt Ideal) S2x8x1536 .f32)) (n1 n2 : ℕ) (hl : v1.toInt ≤ 768) (h26 : L26 = [⟨Rect.unit ![0, 0, 0] S2x8x1536.size inb_S2x8x1536_S2x8x1536_0_0_0, k0_pay314 (F := Ideal)⟩]) (h1 : n1 = (k0_t1_loop v1).trips) (h2 : n2 = 0) (s : Fin 2) (l : Fin 8) (cc : Fin 1536) :
    arg26.view.read (Elt Ideal) (arg26.view.writes (Elt Ideal) arg26.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 n2).2.2 ++ ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 (arg26.view.writes (Elt Ideal) arg26.view.junk L26) n1).2.2 ++ L26))) (ix3 s l cc)
      = ∑ w ∈ Finset.range (16 * (k0_t1_loop v1).trips), if s.val = 0 then hvN v1 (arg2.view.read (Elt Ideal) X_arg2) (arg3.view.read (Elt Ideal) X_arg3) cc (w * 8 + l.val) else hvN v1 (arg2.view.read (Elt Ideal) X_arg2) (arg3.view.read (Elt Ideal) X_arg3) cc (w * 8 + l.val) * hvN v1 (arg2.view.read (Elt Ideal) X_arg2) (arg3.view.read (Elt Ideal) X_arg3) cc (w * 8 + l.val) := by
  subst h1 h2 h26
  rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 0).2.2 = [] from rfl, List.nil_append, View.writes_append]
  rw [loop1_st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 _ hl _ le_rfl s l cc, View.read_writes_full]
  rw [show (k0_pay314 (F := Ideal) : S2x8x1536.Idx → EReal) (ix3 s l cc) = 0 from by pointwise [k0_pay314], zero_add]

/-- The product with the first weights after the loops. -/
theorem fr_all (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 k0_hw1' : k0_chk1 v1) (v19 : BitVec 32) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty)  (G_arg26 : BufTy.Contents (Elt Ideal) arg26.view.ty) (P24 : BufTy.Contents (Elt Ideal) arg24.view.ty) (P25 : BufTy.Contents (Elt Ideal) arg25.view.ty) (P26 : BufTy.Contents (Elt Ideal) arg26.view.ty) (n1 n2 : ℕ) (hl : v1.toInt ≤ 768) (h1 : n1 = (k0_t1_loop v1).trips) (h2 : n2 = 0) (rr : Fin 768) (aa : Fin 128) :
    arg25.view.read (Elt Ideal) (arg25.view.writes (Elt Ideal) G_arg25 ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 n2).2.1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 (G_arg26) n1).2.1)) (ix2 rr aa)
      = if rr.val < 128 * (k0_t1_loop v1).trips then ∑ x : Fin 1536, hv v1 (arg2.view.read (Elt Ideal) X_arg2) (arg3.view.read (Elt Ideal) X_arg3) rr x * arg4.view.read (Elt Ideal) X_arg4 (ix2 x aa) else arg25.view.read (Elt Ideal) G_arg25 (ix2 rr aa) := by
  subst h1 h2
  rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 0).2.1 = [] from rfl, List.nil_append]
  exact loop1_fr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 hl _ le_rfl rr aa

end Cert.KernelIdeal.Run

end
-- ==== Proof.KernelIdealPay3.lean ====
module
public import proofs.«01_k».proof.Proof.KernelIdealSpec
public import proofs.«01_k».proof.Proof.Gen.KernelIdeal.Loops

@[expose] public section

/-!
What the pieces stored by a trip of the second loop hold at an index, in terms of the blocks loaded: the three
running sums of eight lanes, of the exponentials and of their products with the frame.
-/

set_option maxRecDepth 16384

noncomputable section

namespace Cert.KernelIdeal.Run

open Cert.KernelIdeal.Gen
open Idealize.ShloMosaic Idealize.ShloMosaic.TcCoe Idealize.ShloMosaic.Pointwise

theorem acc_at_2_11 (h : Vec Ideal S128x128 .bf16) (mk : IVec S128x128 1) (zz : FVec Ideal S128x128 .bf16) (w : Vec Ideal S128x128 .bf16) (v : Vec Ideal S1x8x128 .f32) (i : Fin 8) (c : Fin 128) :
    k0_pay333 (F := Ideal) (k0_pay222 h) (k0_pay223 mk zz w h) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay333, k0_pay222, k0_pay223, k0_pay221]

theorem acc_at_1_11 (h : Vec Ideal S128x128 .bf16) (mk : IVec S128x128 1) (zz : FVec Ideal S128x128 .bf16) (w : Vec Ideal S128x128 .bf16) (v : Vec Ideal S1x8x128 .f32) (i : Fin 8) (c : Fin 128) :
    k0_pay332 (F := Ideal) (k0_pay225 mk zz w h v) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay332, k0_pay225, k0_pay223, k0_pay222, k0_pay221]

theorem acc_at_0_11  (mk : IVec S128x128 1) (zz : FVec Ideal S128x128 .bf16) (w : Vec Ideal S128x128 .bf16) (v : Vec Ideal S1x8x128 .f32) (i : Fin 8) (c : Fin 128) :
    k0_pay224 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay224, k0_pay221]

theorem acc_at_2_10 (h : Vec Ideal S128x128 .bf16) (mk : IVec S128x128 1) (zz : FVec Ideal S128x128 .bf16) (w : Vec Ideal S128x128 .bf16) (v : Vec Ideal S1x8x128 .f32) (i : Fin 8) (c : Fin 128) :
    k0_pay220 (F := Ideal) (k0_pay215 h) (k0_pay216 mk zz w h) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay220, k0_pay215, k0_pay216, k0_pay214]

theorem acc_at_1_10 (h : Vec Ideal S128x128 .bf16) (mk : IVec S128x128 1) (zz : FVec Ideal S128x128 .bf16) (w : Vec Ideal S128x128 .bf16) (v : Vec Ideal S1x8x128 .f32) (i : Fin 8) (c : Fin 128) :
    k0_pay219 (F := Ideal) (k0_pay218 mk zz w h v) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay219, k0_pay218, k0_pay216, k0_pay215, k0_pay214]

theorem acc_at_0_10  (mk : IVec S128x128 1) (zz : FVec Ideal S128x128 .bf16) (w : Vec Ideal S128x128 .bf16) (v : Vec Ideal S1x8x128 .f32) (i : Fin 8) (c : Fin 128) :
    k0_pay217 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay217, k0_pay214]

theorem acc_at_2_9 (h : Vec Ideal S128x128 .bf16) (mk : IVec S128x128 1) (zz : FVec Ideal S128x128 .bf16) (w : Vec Ideal S128x128 .bf16) (v : Vec Ideal S1x8x128 .f32) (i : Fin 8) (c : Fin 128) :
    k0_pay213 (F := Ideal) (k0_pay209 h) (k0_pay210 mk zz w h) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay213, k0_pay209, k0_pay210, k0_pay208]

theorem acc_at_1_9 (h : Vec Ideal S128x128 .bf16) (mk : IVec S128x128 1) (zz : FVec Ideal S128x128 .bf16) (w : Vec Ideal S128x128 .bf16) (v : Vec Ideal S1x8x128 .f32) (i : Fin 8) (c : Fin 128) :
    k0_pay212 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay212, k0_pay210, k0_pay208, k0_pay209]

theorem acc_at_0_9  (mk : IVec S128x128 1) (zz : FVec Ideal S128x128 .bf16) (w : Vec Ideal S128x128 .bf16) (v : Vec Ideal S1x8x128 .f32) (i : Fin 8) (c : Fin 128) :
    k0_pay211 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay211, k0_pay208]

theorem acc_at_2_8 (h : Vec Ideal S128x128 .bf16) (mk : IVec S128x128 1) (zz : FVec Ideal S128x128 .bf16) (w : Vec Ideal S128x128 .bf16) (v : Vec Ideal S1x8x128 .f32) (i : Fin 8) (c : Fin 128) :
    k0_pay207 (F := Ideal) (k0_pay203 h) (k0_pay204 mk zz w h) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay207, k0_pay203, k0_pay204, k0_pay202]

theorem acc_at_1_8 (h : Vec Ideal S128x128 .bf16) (mk : IVec S128x128 1) (zz : FVec Ideal S128x128 .bf16) (w : Vec Ideal S128x128 .bf16) (v : Vec Ideal S1x8x128 .f32) (i : Fin 8) (c : Fin 128) :
    k0_pay206 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay206, k0_pay204, k0_pay203, k0_pay202]

theorem acc_at_0_8  (mk : IVec S128x128 1) (zz : FVec Ideal S128x128 .bf16) (w : Vec Ideal S128x128 .bf16) (v : Vec Ideal S1x8x128 .f32) (i : Fin 8) (c : Fin 128) :
    k0_pay205 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay205, k0_pay202]

theorem acc_at_2_7 (h : Vec Ideal S128x128 .bf16) (mk : IVec S128x128 1) (zz : FVec Ideal S128x128 .bf16) (w : Vec Ideal S128x128 .bf16) (v : Vec Ideal S1x8x128 .f32) (i : Fin 8) (c : Fin 128) :
    k0_pay201 (F := Ideal) (k0_pay199 v) (k0_pay200 mk zz w h) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay201, k0_pay199, k0_pay200, k0_pay195, k0_pay196, k0_pay194]

theorem acc_at_1_7 (h : Vec Ideal S128x128 .bf16) (mk : IVec S128x128 1) (zz : FVec Ideal S128x128 .bf16) (w : Vec Ideal S128x128 .bf16) (v : Vec Ideal S1x8x128 .f32) (i : Fin 8) (c : Fin 128) :
    k0_pay198 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay198, k0_pay196, k0_pay194, k0_pay195]

theorem acc_at_0_7  (mk : IVec S128x128 1) (zz : FVec Ideal S128x128 .bf16) (w : Vec Ideal S128x128 .bf16) (v : Vec Ideal S1x8x128 .f32) (i : Fin 8) (c : Fin 128) :
    k0_pay197 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay197, k0_pay194]

theorem acc_at_2_6 (h : Vec Ideal S128x128 .bf16) (mk : IVec S128x128 1) (zz : FVec Ideal S128x128 .bf16) (w : Vec Ideal S128x128 .bf16) (v : Vec Ideal S1x8x128 .f32) (i : Fin 8) (c : Fin 128) :
    k0_pay193 (F := Ideal) (k0_pay191 v) (k0_pay192 mk zz w h) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay193, k0_pay191, k0_pay192, k0_pay188, k0_pay187, k0_pay186]

theorem acc_at_1_6 (h : Vec Ideal S128x128 .bf16) (mk : IVec S128x128 1) (zz : FVec Ideal S128x128 .bf16) (w : Vec Ideal S128x128 .bf16) (v : Vec Ideal S1x8x128 .f32) (i : Fin 8) (c : Fin 128) :
    k0_pay190 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay190, k0_pay188, k0_pay186, k0_pay187]

theorem acc_at_0_6  (mk : IVec S128x128 1) (zz : FVec Ideal S128x128 .bf16) (w : Vec Ideal S128x128 .bf16) (v : Vec Ideal S1x8x128 .f32) (i : Fin 8) (c : Fin 128) :
    k0_pay189 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay189, k0_pay186]

theorem acc_at_2_5 (h : Vec Ideal S128x128 .bf16) (mk : IVec S128x128 1) (zz : FVec Ideal S128x128 .bf16) (w : Vec Ideal S128x128 .bf16) (v : Vec Ideal S1x8x128 .f32) (i : Fin 8) (c : Fin 128) :
    k0_pay185 (F := Ideal) (k0_pay184 mk zz w h v) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay185, k0_pay184, k0_pay180, k0_pay181, k0_pay179]

theorem acc_at_1_5 (h : Vec Ideal S128x128 .bf16) (mk : IVec S128x128 1) (zz : FVec Ideal S128x128 .bf16) (w : Vec Ideal S128x128 .bf16) (v : Vec Ideal S1x8x128 .f32) (i : Fin 8) (c : Fin 128) :
    k0_pay183 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay183, k0_pay181, k0_pay180, k0_pay179]

theorem acc_at_0_5  (mk : IVec S128x128 1) (zz : FVec Ideal S128x128 .bf16) (w : Vec Ideal S128x128 .bf16) (v : Vec Ideal S1x8x128 .f32) (i : Fin 8) (c : Fin 128) :
    k0_pay182 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay182, k0_pay179]

theorem acc_at_2_4 (h : Vec Ideal S128x128 .bf16) (mk : IVec S128x128 1) (zz : FVec Ideal S128x128 .bf16) (w : Vec Ideal S128x128 .bf16) (v : Vec Ideal S1x8x128 .f32) (i : Fin 8) (c : Fin 128) :
    k0_pay178 (F := Ideal) (k0_pay177 mk zz w h v) (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay178, k0_pay177, k0_pay173, k0_pay174, k0_pay172]

theorem acc_at_1_4 (h : Vec Ideal S128x128 .bf16) (mk : IVec S128x128 1) (zz : FVec Ideal S128x128 .bf16) (w : Vec Ideal S128x128 .bf16) (v : Vec Ideal S1x8x128 .f32) (i : Fin 8) (c : Fin 128) :
    k0_pay176 (F := Ideal) mk zz w h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay176, k0_pay174, k0_pay173, k0_pay172]

theorem acc_at_0_4  (mk : IVec S128x128 1) (zz : FVec Ideal S128x128 .bf16) (w : Vec Ideal S128x128 .bf16) (v : Vec Ideal S1x8x128 .f32) (i : Fin 8) (c : Fin 128) :
    k0_pay175 (F := Ideal) mk zz w v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay175, k0_pay172]

theorem acc_at_2_3 (h : Vec Ideal S128x128 .bf16) (mk : IVec S128x128 1) (zz : FVec Ideal S128x128 .bf16) (w : Vec Ideal S128x128 .bf16) (v : Vec Ideal S1x8x128 .f32) (i : Fin 8) (c : Fin 128) :
    k0_pay171 (F := Ideal) mk zz w (constant (F := Ideal) S128x128 .f32 0x00000000#32) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay171, k0_pay167, k0_pay168, k0_pay166]

theorem acc_at_1_3 (h : Vec Ideal S128x128 .bf16) (mk : IVec S128x128 1) (zz : FVec Ideal S128x128 .bf16) (w : Vec Ideal S128x128 .bf16) (v : Vec Ideal S1x8x128 .f32) (i : Fin 8) (c : Fin 128) :
    k0_pay170 (F := Ideal) mk zz w (constant (F := Ideal) S128x128 .f32 0x00000000#32) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay170, k0_pay168, k0_pay166, k0_pay167]

theorem acc_at_0_3  (mk : IVec S128x128 1) (zz : FVec Ideal S128x128 .bf16) (w : Vec Ideal S128x128 .bf16) (v : Vec Ideal S1x8x128 .f32) (i : Fin 8) (c : Fin 128) :
    k0_pay169 (F := Ideal) mk zz w (constant (F := Ideal) S128x128 .f32 0x00000000#32) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay169, k0_pay166]

theorem acc_at_2_2 (h : Vec Ideal S128x128 .bf16) (mk : IVec S128x128 1) (zz : FVec Ideal S128x128 .bf16) (w : Vec Ideal S128x128 .bf16) (v : Vec Ideal S1x8x128 .f32) (i : Fin 8) (c : Fin 128) :
    k0_pay165 (F := Ideal) mk (k0_pay159 zz w) (Scalar.ofBits (F := Ideal) .f32 0x00000000#32) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay165, k0_pay159, k0_pay161, k0_pay162, k0_pay160]

theorem acc_at_1_2 (h : Vec Ideal S128x128 .bf16) (mk : IVec S128x128 1) (zz : FVec Ideal S128x128 .bf16) (w : Vec Ideal S128x128 .bf16) (v : Vec Ideal S1x8x128 .f32) (i : Fin 8) (c : Fin 128) :
    k0_pay164 (F := Ideal) mk (k0_pay159 zz w) (Scalar.ofBits (F := Ideal) .f32 0x00000000#32) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay164, k0_pay159, k0_pay162, k0_pay161, k0_pay160]

theorem acc_at_0_2  (mk : IVec S128x128 1) (zz : FVec Ideal S128x128 .bf16) (w : Vec Ideal S128x128 .bf16) (v : Vec Ideal S1x8x128 .f32) (i : Fin 8) (c : Fin 128) :
    k0_pay163 (F := Ideal) mk (k0_pay159 zz w) (Scalar.ofBits (F := Ideal) .f32 0x00000000#32) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay163, k0_pay159, k0_pay160]

theorem acc_at_2_1 (h : Vec Ideal S128x128 .bf16) (mk : IVec S128x128 1) (zz : FVec Ideal S128x128 .bf16) (w : Vec Ideal S128x128 .bf16) (v : Vec Ideal S1x8x128 .f32) (i : Fin 8) (c : Fin 128) :
    k0_pay158 (F := Ideal) (k0_pay153 mk zz w) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) * h (ix2 ⟨u.val * 8 + i.val, by omega⟩ c) := by
  pointwise [k0_pay158, k0_pay153, k0_pay154, k0_pay155]

theorem acc_at_1_1 (h : Vec Ideal S128x128 .bf16) (mk : IVec S128x128 1) (zz : FVec Ideal S128x128 .bf16) (w : Vec Ideal S128x128 .bf16) (v : Vec Ideal S1x8x128 .f32) (i : Fin 8) (c : Fin 128) :
    k0_pay157 (F := Ideal) (k0_pay153 mk zz w) h v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 * h (ix2 ⟨u.val * 8 + i.val, by omega⟩ c) := by
  pointwise [k0_pay157, k0_pay153, k0_pay155, k0_pay154]

theorem acc_at_0_1  (mk : IVec S128x128 1) (zz : FVec Ideal S128x128 .bf16) (w : Vec Ideal S128x128 .bf16) (v : Vec Ideal S1x8x128 .f32) (i : Fin 8) (c : Fin 128) :
    k0_pay156 (F := Ideal) (k0_pay153 mk zz w) v (ix3 0 i c) = v (ix3 0 i c) + ∑ u : Fin 16, Scalar.select (mk (ix2 ⟨u.val * 8 + i.val, by omega⟩ c)) (Ideal.exp (∑ a : Fin 128, zz (ix2 ⟨u.val * 8 + i.val, by omega⟩ a) * w (ix2 a c)) : EReal) 0 := by
  pointwise [k0_pay156, k0_pay153]

theorem acc_at_2_0 (h : Vec Ideal S128x128 .bf16) (v1 : BitVec 32) (k : Fin (k0_t3_loop v1).trips) (sh : FVec Ideal S1x128 .f32) (fr : Vec Ideal S128x128 .f32) (ws gg ss : Vec Ideal S1x128 .f32) (w : Vec Ideal S128x128 .bf16) (v : Vec Ideal S1x8x128 .f32) (i : Fin 8) (c : Fin 128) :
    k0_pay152 (F := Ideal) (k0_pay147 v1 sh 0#32 1#32 k fr ws gg ss w) (k0_pay148 h) v (ix3 0 i c) = v (ix3 0 i c) + ∑ u : Fin 16, Scalar.select (k0_pay144 (F := Ideal) v1 0#32 1#32 k (ix2 ⟨u.val * 8 + i.val, by omega⟩ c)) (Ideal.exp (∑ a : Fin 128, k0_pay146 (F := Ideal) sh fr ws gg ss (ix2 ⟨u.val * 8 + i.val, by omega⟩ a) * w (ix2 a c)) : EReal) 0 * h (ix2 ⟨u.val * 8 + i.val, by omega⟩ c) * h (ix2 ⟨u.val * 8 + i.val, by omega⟩ c) := by
  unfold k0_pay152 k0_pay147 k0_pay148 k0_pay149
  generalize k0_pay144 (F := Ideal) v1 0#32 1#32 k = mk
  generalize k0_pay146 (F := Ideal) sh fr ws gg ss = zz
  clear v1 k sh fr ws gg ss
  pointwise []

theorem acc_at_1_0 (h : Vec Ideal S128x128 .bf16) (v1 : BitVec 32) (k : Fin (k0_t3_loop v1).trips) (sh : FVec Ideal S1x128 .f32) (fr : Vec Ideal S128x128 .f32) (ws gg ss : Vec Ideal S1x128 .f32) (w : Vec Ideal S128x128 .bf16) (v : Vec Ideal S1x8x128 .f32) (i : Fin 8) (c : Fin 128) :
    k0_pay151 (F := Ideal) (k0_pay147 v1 sh 0#32 1#32 k fr ws gg ss w) (k0_pay148 h) v (ix3 0 i c) = v (ix3 0 i c) + ∑ u : Fin 16, Scalar.select (k0_pay144 (F := Ideal) v1 0#32 1#32 k (ix2 ⟨u.val * 8 + i.val, by omega⟩ c)) (Ideal.exp (∑ a : Fin 128, k0_pay146 (F := Ideal) sh fr ws gg ss (ix2 ⟨u.val * 8 + i.val, by omega⟩ a) * w (ix2 a c)) : EReal) 0 * h (ix2 ⟨u.val * 8 + i.val, by omega⟩ c) := by
  unfold k0_pay151 k0_pay147 k0_pay148 k0_pay149
  generalize k0_pay144 (F := Ideal) v1 0#32 1#32 k = mk
  generalize k0_pay146 (F := Ideal) sh fr ws gg ss = zz
  clear v1 k sh fr ws gg ss
  pointwise []

theorem acc_at_0_0  (v1 : BitVec 32) (k : Fin (k0_t3_loop v1).trips) (sh : FVec Ideal S1x128 .f32) (fr : Vec Ideal S128x128 .f32) (ws gg ss : Vec Ideal S1x128 .f32) (w : Vec Ideal S128x128 .bf16) (v : Vec Ideal S1x8x128 .f32) (i : Fin 8) (c : Fin 128) :
    k0_pay150 (F := Ideal) (k0_pay147 v1 sh 0#32 1#32 k fr ws gg ss w) v (ix3 0 i c) = v (ix3 0 i c) + ∑ u : Fin 16, Scalar.select (k0_pay144 (F := Ideal) v1 0#32 1#32 k (ix2 ⟨u.val * 8 + i.val, by omega⟩ c)) (Ideal.exp (∑ a : Fin 128, k0_pay146 (F := Ideal) sh fr ws gg ss (ix2 ⟨u.val * 8 + i.val, by omega⟩ a) * w (ix2 a c)) : EReal) 0 := by
  unfold k0_pay150 k0_pay147
  generalize k0_pay144 (F := Ideal) v1 0#32 1#32 k = mk
  generalize k0_pay146 (F := Ideal) sh fr ws gg ss = zz
  clear v1 k sh fr ws gg ss
  pointwise []

end Cert.KernelIdeal.Run
-- ==== Proof.KernelIdealTrip3.lean ====
module
public import proofs.«01_k».proof.Proof.KernelIdealPay3
public import proofs.«01_k».proof.Proof.KernelIdealLoops

@[expose] public section

/-!
One trip of the second loop, over the extended reals: what it adds to the three running sums of eight lanes, of
the exponentials, of their products with the frame and with its square; and these sums after any number of trips.
-/

set_option maxRecDepth 16384

noncomputable section

namespace Cert.KernelIdeal.Run

open Cert.KernelIdeal.Gen
open Idealize.ShloMosaic Idealize.ShloMosaic.TcCoe Idealize.ShloMosaic.Pointwise

/-- The exponential of the energy at a row and a channel, zero from the length on. -/
def pAt (len : BitVec 32) (z : Fin 768 → Fin 128 → EReal) (w : S128x1536.Idx → EReal) (r : Fin 768) (c : Fin 1536) : EReal :=
  if ((r.val : ℕ) : ℤ) < len.toInt then Ideal.exp (∑ a : Fin 128, z r a * w (ix2 a c)) else 0

/-- The three terms summed: the exponential, its product with the frame, and that with the frame again. -/
def accT (len : BitVec 32) (z : Fin 768 → Fin 128 → EReal) (w : S128x1536.Idx → EReal) (h : S768x1536.Idx → EReal) (q : ℕ) (r : Fin 768) (c : Fin 1536) : EReal :=
  match q with
  | 0 => pAt len z w r c
  | 1 => pAt len z w r c * h (ix2 r c)
  | _ => pAt len z w r c * h (ix2 r c) * h (ix2 r c)

/-- What a chunk adds to the running sums. -/
def accV (len : BitVec 32) (z : Fin 768 → Fin 128 → EReal) (w : S128x1536.Idx → EReal) (h : S768x1536.Idx → EReal) (k : ℕ) (hk : k < 6) (f : S3x8x1536.Idx → EReal) : S3x8x1536.Idx → EReal :=
  fun y => f y + ∑ u : Fin 16, accT len z w h (y 0).val ⟨128 * k + (u.val * 8 + (y 1).val), by have : (y 1).val < 8 := (y 1).isLt; omega⟩ (y 2)

theorem pAt_of {v1 : BitVec 32} {k : Fin (k0_t3_loop v1).trips} (hk : k.val < 6) (sh : FVec Ideal S1x128 .f32) (fr : Vec Ideal S128x128 .f32) (ws gg ss : Vec Ideal S1x128 .f32)
    (w' : Vec Ideal S128x128 .bf16) (i c : Fin 128) (z : Fin 768 → Fin 128 → EReal) (w : S128x1536.Idx → EReal) (cc : Fin 1536)
    (hz : ∀ a : Fin 128, zf (gg (ix2 0 a)) (fr (ix2 i a)) (ws (ix2 0 a)) (sh (ix2 0 a)) (ss (ix2 0 a)) = z ⟨128 * k.val + i.val, by omega⟩ a)
    (hw : ∀ a : Fin 128, (w' (ix2 a c) : EReal) = w (ix2 a cc)) :
    Scalar.select (k0_pay144 (F := Ideal) v1 0#32 1#32 k (ix2 i c)) (Ideal.exp (∑ a : Fin 128, k0_pay146 (F := Ideal) sh fr ws gg ss (ix2 i a) * w' (ix2 a c)) : EReal) 0
      = pAt v1 z w ⟨128 * k.val + i.val, by omega⟩ cc := by
  rw [pay144_at hk i c]
  unfold pAt
  refine if_congr Iff.rfl (congrArg Ideal.exp (Finset.sum_congr rfl fun a _ => ?_)) rfl
  rw [← hz, ← hw, ← pay143_at]
  rfl

set_option maxHeartbeats 16000000 in
/-- What it adds to the running sums. -/
theorem trip3_acc (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (k : Fin (k0_t3_loop v1).trips) (f_arg19 : BufTy.Contents (Elt Ideal) arg19.view.ty) (f_arg27 : BufTy.Contents (Elt Ideal) arg27.view.ty) (hl : v1.toInt ≤ 768) :
    ∀ (s : Fin 3) (l : Fin 8) (cc : Fin 1536), arg27.view.read (Elt Ideal) (arg27.view.writes (Elt Ideal) f_arg27 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 k f_arg19 f_arg27).2) (ix3 s l cc)
      = accV v1 (fun (r : Fin 768) (a : Fin 128) => zf (arg9.view.read (Elt Ideal) X_arg9 (ix2 0 a)) (arg25.view.read (Elt Ideal) X_arg25 (ix2 r a)) (arg5.view.read (Elt Ideal) X_arg5 (ix2 0 a)) ((k0_pay330 (F := Ideal) v65 v72 cst_30 v73 v85 v89 v92) (ix2 0 a)) (arg10.view.read (Elt Ideal) X_arg10 (ix2 0 a))) (arg11.view.read (Elt Ideal) X_arg11) (arg24.view.read (Elt Ideal) X_arg24) k.val (full_lt hl k) (arg27.view.read (Elt Ideal) f_arg27) (ix3 s l cc) := by
  have hk : k.val < 6 := full_lt hl k
  have hrow : row k.val = 128 * k.val := row_eq hk
  have hz : ∀ (i a : Fin 128), zf ((View.readAt (Elt Ideal) arg9.view (Rect.unit (s := S1x128) ![0, 0] ![1, 128] inb_S1x128_S1x128_0_0).toLoadRect X_arg9) (ix2 0 a)) ((View.readAt (Elt Ideal) arg25.view (Rect.unit (s := S768x128) (k0_off58 v1 k) S128x128.size (k0_off58_inb v1 k0_hw1 k)).toLoadRect X_arg25) (ix2 i a)) ((View.readAt (Elt Ideal) arg5.view (Rect.unit (s := S1x128) ![0, 0] ![1, 128] inb_S1x128_S1x128_0_0).toLoadRect X_arg5) (ix2 0 a)) ((k0_pay330 (F := Ideal) v65 v72 cst_30 v73 v85 v89 v92) (ix2 0 a)) ((View.readAt (Elt Ideal) arg10.view (Rect.unit (s := S1x128) ![0, 0] ![1, 128] inb_S1x128_S1x128_0_0).toLoadRect X_arg10) (ix2 0 a)) = (fun (r : Fin 768) (a : Fin 128) => zf (arg9.view.read (Elt Ideal) X_arg9 (ix2 0 a)) (arg25.view.read (Elt Ideal) X_arg25 (ix2 r a)) (arg5.view.read (Elt Ideal) X_arg5 (ix2 0 a)) ((k0_pay330 (F := Ideal) v65 v72 cst_30 v73 v85 v89 v92) (ix2 0 a)) (arg10.view.read (Elt Ideal) X_arg10 (ix2 0 a))) ⟨128 * k.val + i.val, by omega⟩ a := by
    intro i a
    rw [rd2 arg25.view X_arg25 _ (show k0_off58 v1 k = ![128 * k.val, 0] from by rw [← hrow]; try rfl) _ _ (by omega) (by omega)]
    rw [rd2 arg5.view X_arg5 _ (show (![0, 0] : Fin 2 → ℕ) = ![0, 0] from rfl) _ _ (by omega) (by omega)]
    rw [rd2 arg9.view X_arg9 _ (show (![0, 0] : Fin 2 → ℕ) = ![0, 0] from rfl) _ _ (by omega) (by omega)]
    rw [rd2 arg10.view X_arg10 _ (show (![0, 0] : Fin 2 → ℕ) = ![0, 0] from rfl) _ _ (by omega) (by omega)]
    have e3 : ∀ h, (⟨0 + a.val, h⟩ : Fin 128) = a := fun h => Fin.ext (by show 0 + a.val = a.val; omega)
    simp only [e3]
    rfl
  intro s l cc
  generalize (fun (r : Fin 768) (a : Fin 128) => zf (arg9.view.read (Elt Ideal) X_arg9 (ix2 0 a)) (arg25.view.read (Elt Ideal) X_arg25 (ix2 r a)) (arg5.view.read (Elt Ideal) X_arg5 (ix2 0 a)) ((k0_pay330 (F := Ideal) v65 v72 cst_30 v73 v85 v89 v92) (ix2 0 a)) (arg10.view.read (Elt Ideal) X_arg10 (ix2 0 a))) = Zz at hz ⊢
  delta tripL_k0_t3 trip_k0_t3
  dsimp only
  refine View.read_writes_apply_of_pieces (Val := Elt Ideal) arg27.view _ (accV v1 Zz (arg11.view.read (Elt Ideal) X_arg11) (arg24.view.read (Elt Ideal) X_arg24) k.val hk (arg27.view.read (Elt Ideal) f_arg27) : S3x8x1536.Idx → Elt Ideal .f32) _ ?_ _ ?_
  · simp only [List.forall_mem_cons, List.not_mem_nil, false_imp_iff, forall_const, and_true, implies_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · refine piece3 (α := EReal) (l := 1) (m := 8) (n := 128) (L := 3) (M := 8) (N := 1536) _ (show (![2, 0, 1408] : Fin 3 → ℕ) = ![2, 0, 1408] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_11 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 1408] : Fin 3 → ℕ) = ![2, 0, 1408] from rfl) 0 i c (by omega) (by omega) (by omega)).trans rfl) ?_
      refine Finset.sum_congr rfl fun u _ => ?_
      have hw : ∀ a : Fin 128, ((View.readAt (Elt Ideal) arg11.view (Rect.unit (s := S128x1536) ![0, 1408] ![128, 128] inb_S128x1536_S128x128_0_1408).toLoadRect X_arg11) (ix2 a c) : EReal) = (arg11.view.read (Elt Ideal) X_arg11) (ix2 a ⟨1408 + c.val, by omega⟩) := fun a => by
        rw [rd2 arg11.view X_arg11 _ (show (![0, 1408] : Fin 2 → ℕ) = ![0, 1408] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off71 v1 k) S128x128.size (k0_off71_inb v1 k0_hw1 k)).toLoadRect X_arg24) (ix2 i c) : EReal) = (arg24.view.read (Elt Ideal) X_arg24) (ix2 ⟨128 * k.val + i.val, by omega⟩ ⟨1408 + c.val, by omega⟩) := fun i => by
        rw [rd2 arg24.view X_arg24 _ (show k0_off71 v1 k = ![128 * k.val, 1408] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨1408 + c.val, by omega⟩) (e0 (by omega))))
    · refine piece3 (α := EReal) (l := 1) (m := 8) (n := 128) (L := 3) (M := 8) (N := 1536) _ (show (![1, 0, 1408] : Fin 3 → ℕ) = ![1, 0, 1408] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_11 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 1408] : Fin 3 → ℕ) = ![1, 0, 1408] from rfl) 0 i c (by omega) (by omega) (by omega)).trans rfl) ?_
      refine Finset.sum_congr rfl fun u _ => ?_
      have hw : ∀ a : Fin 128, ((View.readAt (Elt Ideal) arg11.view (Rect.unit (s := S128x1536) ![0, 1408] ![128, 128] inb_S128x1536_S128x128_0_1408).toLoadRect X_arg11) (ix2 a c) : EReal) = (arg11.view.read (Elt Ideal) X_arg11) (ix2 a ⟨1408 + c.val, by omega⟩) := fun a => by
        rw [rd2 arg11.view X_arg11 _ (show (![0, 1408] : Fin 2 → ℕ) = ![0, 1408] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off71 v1 k) S128x128.size (k0_off71_inb v1 k0_hw1 k)).toLoadRect X_arg24) (ix2 i c) : EReal) = (arg24.view.read (Elt Ideal) X_arg24) (ix2 ⟨128 * k.val + i.val, by omega⟩ ⟨1408 + c.val, by omega⟩) := fun i => by
        rw [rd2 arg24.view X_arg24 _ (show k0_off71 v1 k = ![128 * k.val, 1408] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨1408 + c.val, by omega⟩) (e0 (by omega))))
    · refine piece3 (α := EReal) (l := 1) (m := 8) (n := 128) (L := 3) (M := 8) (N := 1536) _ (show (![0, 0, 1408] : Fin 3 → ℕ) = ![0, 0, 1408] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_11 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 1408] : Fin 3 → ℕ) = ![0, 0, 1408] from rfl) 0 i c (by omega) (by omega) (by omega)).trans rfl) ?_
      refine Finset.sum_congr rfl fun u _ => ?_
      have hw : ∀ a : Fin 128, ((View.readAt (Elt Ideal) arg11.view (Rect.unit (s := S128x1536) ![0, 1408] ![128, 128] inb_S128x1536_S128x128_0_1408).toLoadRect X_arg11) (ix2 a c) : EReal) = (arg11.view.read (Elt Ideal) X_arg11) (ix2 a ⟨1408 + c.val, by omega⟩) := fun a => by
        rw [rd2 arg11.view X_arg11 _ (show (![0, 1408] : Fin 2 → ℕ) = ![0, 1408] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨1408 + c.val, by omega⟩) (e0 (by omega))))
    · refine piece3 (α := EReal) (l := 1) (m := 8) (n := 128) (L := 3) (M := 8) (N := 1536) _ (show (![2, 0, 1280] : Fin 3 → ℕ) = ![2, 0, 1280] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_10 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 1280] : Fin 3 → ℕ) = ![2, 0, 1280] from rfl) 0 i c (by omega) (by omega) (by omega)).trans rfl) ?_
      refine Finset.sum_congr rfl fun u _ => ?_
      have hw : ∀ a : Fin 128, ((View.readAt (Elt Ideal) arg11.view (Rect.unit (s := S128x1536) ![0, 1280] ![128, 128] inb_S128x1536_S128x128_0_1280).toLoadRect X_arg11) (ix2 a c) : EReal) = (arg11.view.read (Elt Ideal) X_arg11) (ix2 a ⟨1280 + c.val, by omega⟩) := fun a => by
        rw [rd2 arg11.view X_arg11 _ (show (![0, 1280] : Fin 2 → ℕ) = ![0, 1280] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off70 v1 k) S128x128.size (k0_off70_inb v1 k0_hw1 k)).toLoadRect X_arg24) (ix2 i c) : EReal) = (arg24.view.read (Elt Ideal) X_arg24) (ix2 ⟨128 * k.val + i.val, by omega⟩ ⟨1280 + c.val, by omega⟩) := fun i => by
        rw [rd2 arg24.view X_arg24 _ (show k0_off70 v1 k = ![128 * k.val, 1280] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨1280 + c.val, by omega⟩) (e0 (by omega))))
    · refine piece3 (α := EReal) (l := 1) (m := 8) (n := 128) (L := 3) (M := 8) (N := 1536) _ (show (![1, 0, 1280] : Fin 3 → ℕ) = ![1, 0, 1280] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_10 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 1280] : Fin 3 → ℕ) = ![1, 0, 1280] from rfl) 0 i c (by omega) (by omega) (by omega)).trans rfl) ?_
      refine Finset.sum_congr rfl fun u _ => ?_
      have hw : ∀ a : Fin 128, ((View.readAt (Elt Ideal) arg11.view (Rect.unit (s := S128x1536) ![0, 1280] ![128, 128] inb_S128x1536_S128x128_0_1280).toLoadRect X_arg11) (ix2 a c) : EReal) = (arg11.view.read (Elt Ideal) X_arg11) (ix2 a ⟨1280 + c.val, by omega⟩) := fun a => by
        rw [rd2 arg11.view X_arg11 _ (show (![0, 1280] : Fin 2 → ℕ) = ![0, 1280] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off70 v1 k) S128x128.size (k0_off70_inb v1 k0_hw1 k)).toLoadRect X_arg24) (ix2 i c) : EReal) = (arg24.view.read (Elt Ideal) X_arg24) (ix2 ⟨128 * k.val + i.val, by omega⟩ ⟨1280 + c.val, by omega⟩) := fun i => by
        rw [rd2 arg24.view X_arg24 _ (show k0_off70 v1 k = ![128 * k.val, 1280] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨1280 + c.val, by omega⟩) (e0 (by omega))))
    · refine piece3 (α := EReal) (l := 1) (m := 8) (n := 128) (L := 3) (M := 8) (N := 1536) _ (show (![0, 0, 1280] : Fin 3 → ℕ) = ![0, 0, 1280] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_10 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 1280] : Fin 3 → ℕ) = ![0, 0, 1280] from rfl) 0 i c (by omega) (by omega) (by omega)).trans rfl) ?_
      refine Finset.sum_congr rfl fun u _ => ?_
      have hw : ∀ a : Fin 128, ((View.readAt (Elt Ideal) arg11.view (Rect.unit (s := S128x1536) ![0, 1280] ![128, 128] inb_S128x1536_S128x128_0_1280).toLoadRect X_arg11) (ix2 a c) : EReal) = (arg11.view.read (Elt Ideal) X_arg11) (ix2 a ⟨1280 + c.val, by omega⟩) := fun a => by
        rw [rd2 arg11.view X_arg11 _ (show (![0, 1280] : Fin 2 → ℕ) = ![0, 1280] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨1280 + c.val, by omega⟩) (e0 (by omega))))
    · refine piece3 (α := EReal) (l := 1) (m := 8) (n := 128) (L := 3) (M := 8) (N := 1536) _ (show (![2, 0, 1152] : Fin 3 → ℕ) = ![2, 0, 1152] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_9 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 1152] : Fin 3 → ℕ) = ![2, 0, 1152] from rfl) 0 i c (by omega) (by omega) (by omega)).trans rfl) ?_
      refine Finset.sum_congr rfl fun u _ => ?_
      have hw : ∀ a : Fin 128, ((View.readAt (Elt Ideal) arg11.view (Rect.unit (s := S128x1536) ![0, 1152] ![128, 128] inb_S128x1536_S128x128_0_1152).toLoadRect X_arg11) (ix2 a c) : EReal) = (arg11.view.read (Elt Ideal) X_arg11) (ix2 a ⟨1152 + c.val, by omega⟩) := fun a => by
        rw [rd2 arg11.view X_arg11 _ (show (![0, 1152] : Fin 2 → ℕ) = ![0, 1152] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off69 v1 k) S128x128.size (k0_off69_inb v1 k0_hw1 k)).toLoadRect X_arg24) (ix2 i c) : EReal) = (arg24.view.read (Elt Ideal) X_arg24) (ix2 ⟨128 * k.val + i.val, by omega⟩ ⟨1152 + c.val, by omega⟩) := fun i => by
        rw [rd2 arg24.view X_arg24 _ (show k0_off69 v1 k = ![128 * k.val, 1152] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨1152 + c.val, by omega⟩) (e0 (by omega))))
    · refine piece3 (α := EReal) (l := 1) (m := 8) (n := 128) (L := 3) (M := 8) (N := 1536) _ (show (![1, 0, 1152] : Fin 3 → ℕ) = ![1, 0, 1152] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_9 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 1152] : Fin 3 → ℕ) = ![1, 0, 1152] from rfl) 0 i c (by omega) (by omega) (by omega)).trans rfl) ?_
      refine Finset.sum_congr rfl fun u _ => ?_
      have hw : ∀ a : Fin 128, ((View.readAt (Elt Ideal) arg11.view (Rect.unit (s := S128x1536) ![0, 1152] ![128, 128] inb_S128x1536_S128x128_0_1152).toLoadRect X_arg11) (ix2 a c) : EReal) = (arg11.view.read (Elt Ideal) X_arg11) (ix2 a ⟨1152 + c.val, by omega⟩) := fun a => by
        rw [rd2 arg11.view X_arg11 _ (show (![0, 1152] : Fin 2 → ℕ) = ![0, 1152] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off69 v1 k) S128x128.size (k0_off69_inb v1 k0_hw1 k)).toLoadRect X_arg24) (ix2 i c) : EReal) = (arg24.view.read (Elt Ideal) X_arg24) (ix2 ⟨128 * k.val + i.val, by omega⟩ ⟨1152 + c.val, by omega⟩) := fun i => by
        rw [rd2 arg24.view X_arg24 _ (show k0_off69 v1 k = ![128 * k.val, 1152] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨1152 + c.val, by omega⟩) (e0 (by omega))))
    · refine piece3 (α := EReal) (l := 1) (m := 8) (n := 128) (L := 3) (M := 8) (N := 1536) _ (show (![0, 0, 1152] : Fin 3 → ℕ) = ![0, 0, 1152] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_9 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 1152] : Fin 3 → ℕ) = ![0, 0, 1152] from rfl) 0 i c (by omega) (by omega) (by omega)).trans rfl) ?_
      refine Finset.sum_congr rfl fun u _ => ?_
      have hw : ∀ a : Fin 128, ((View.readAt (Elt Ideal) arg11.view (Rect.unit (s := S128x1536) ![0, 1152] ![128, 128] inb_S128x1536_S128x128_0_1152).toLoadRect X_arg11) (ix2 a c) : EReal) = (arg11.view.read (Elt Ideal) X_arg11) (ix2 a ⟨1152 + c.val, by omega⟩) := fun a => by
        rw [rd2 arg11.view X_arg11 _ (show (![0, 1152] : Fin 2 → ℕ) = ![0, 1152] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨1152 + c.val, by omega⟩) (e0 (by omega))))
    · refine piece3 (α := EReal) (l := 1) (m := 8) (n := 128) (L := 3) (M := 8) (N := 1536) _ (show (![2, 0, 1024] : Fin 3 → ℕ) = ![2, 0, 1024] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_8 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 1024] : Fin 3 → ℕ) = ![2, 0, 1024] from rfl) 0 i c (by omega) (by omega) (by omega)).trans rfl) ?_
      refine Finset.sum_congr rfl fun u _ => ?_
      have hw : ∀ a : Fin 128, ((View.readAt (Elt Ideal) arg11.view (Rect.unit (s := S128x1536) ![0, 1024] ![128, 128] inb_S128x1536_S128x128_0_1024).toLoadRect X_arg11) (ix2 a c) : EReal) = (arg11.view.read (Elt Ideal) X_arg11) (ix2 a ⟨1024 + c.val, by omega⟩) := fun a => by
        rw [rd2 arg11.view X_arg11 _ (show (![0, 1024] : Fin 2 → ℕ) = ![0, 1024] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off68 v1 k) S128x128.size (k0_off68_inb v1 k0_hw1 k)).toLoadRect X_arg24) (ix2 i c) : EReal) = (arg24.view.read (Elt Ideal) X_arg24) (ix2 ⟨128 * k.val + i.val, by omega⟩ ⟨1024 + c.val, by omega⟩) := fun i => by
        rw [rd2 arg24.view X_arg24 _ (show k0_off68 v1 k = ![128 * k.val, 1024] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨1024 + c.val, by omega⟩) (e0 (by omega))))
    · refine piece3 (α := EReal) (l := 1) (m := 8) (n := 128) (L := 3) (M := 8) (N := 1536) _ (show (![1, 0, 1024] : Fin 3 → ℕ) = ![1, 0, 1024] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_8 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 1024] : Fin 3 → ℕ) = ![1, 0, 1024] from rfl) 0 i c (by omega) (by omega) (by omega)).trans rfl) ?_
      refine Finset.sum_congr rfl fun u _ => ?_
      have hw : ∀ a : Fin 128, ((View.readAt (Elt Ideal) arg11.view (Rect.unit (s := S128x1536) ![0, 1024] ![128, 128] inb_S128x1536_S128x128_0_1024).toLoadRect X_arg11) (ix2 a c) : EReal) = (arg11.view.read (Elt Ideal) X_arg11) (ix2 a ⟨1024 + c.val, by omega⟩) := fun a => by
        rw [rd2 arg11.view X_arg11 _ (show (![0, 1024] : Fin 2 → ℕ) = ![0, 1024] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off68 v1 k) S128x128.size (k0_off68_inb v1 k0_hw1 k)).toLoadRect X_arg24) (ix2 i c) : EReal) = (arg24.view.read (Elt Ideal) X_arg24) (ix2 ⟨128 * k.val + i.val, by omega⟩ ⟨1024 + c.val, by omega⟩) := fun i => by
        rw [rd2 arg24.view X_arg24 _ (show k0_off68 v1 k = ![128 * k.val, 1024] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨1024 + c.val, by omega⟩) (e0 (by omega))))
    · refine piece3 (α := EReal) (l := 1) (m := 8) (n := 128) (L := 3) (M := 8) (N := 1536) _ (show (![0, 0, 1024] : Fin 3 → ℕ) = ![0, 0, 1024] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_8 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 1024] : Fin 3 → ℕ) = ![0, 0, 1024] from rfl) 0 i c (by omega) (by omega) (by omega)).trans rfl) ?_
      refine Finset.sum_congr rfl fun u _ => ?_
      have hw : ∀ a : Fin 128, ((View.readAt (Elt Ideal) arg11.view (Rect.unit (s := S128x1536) ![0, 1024] ![128, 128] inb_S128x1536_S128x128_0_1024).toLoadRect X_arg11) (ix2 a c) : EReal) = (arg11.view.read (Elt Ideal) X_arg11) (ix2 a ⟨1024 + c.val, by omega⟩) := fun a => by
        rw [rd2 arg11.view X_arg11 _ (show (![0, 1024] : Fin 2 → ℕ) = ![0, 1024] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨1024 + c.val, by omega⟩) (e0 (by omega))))
    · refine piece3 (α := EReal) (l := 1) (m := 8) (n := 128) (L := 3) (M := 8) (N := 1536) _ (show (![2, 0, 896] : Fin 3 → ℕ) = ![2, 0, 896] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_7 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 896] : Fin 3 → ℕ) = ![2, 0, 896] from rfl) 0 i c (by omega) (by omega) (by omega)).trans rfl) ?_
      refine Finset.sum_congr rfl fun u _ => ?_
      have hw : ∀ a : Fin 128, ((View.readAt (Elt Ideal) arg11.view (Rect.unit (s := S128x1536) ![0, 896] ![128, 128] inb_S128x1536_S128x128_0_896).toLoadRect X_arg11) (ix2 a c) : EReal) = (arg11.view.read (Elt Ideal) X_arg11) (ix2 a ⟨896 + c.val, by omega⟩) := fun a => by
        rw [rd2 arg11.view X_arg11 _ (show (![0, 896] : Fin 2 → ℕ) = ![0, 896] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off67 v1 k) S128x128.size (k0_off67_inb v1 k0_hw1 k)).toLoadRect X_arg24) (ix2 i c) : EReal) = (arg24.view.read (Elt Ideal) X_arg24) (ix2 ⟨128 * k.val + i.val, by omega⟩ ⟨896 + c.val, by omega⟩) := fun i => by
        rw [rd2 arg24.view X_arg24 _ (show k0_off67 v1 k = ![128 * k.val, 896] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨896 + c.val, by omega⟩) (e0 (by omega))))
    · refine piece3 (α := EReal) (l := 1) (m := 8) (n := 128) (L := 3) (M := 8) (N := 1536) _ (show (![1, 0, 896] : Fin 3 → ℕ) = ![1, 0, 896] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_7 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 896] : Fin 3 → ℕ) = ![1, 0, 896] from rfl) 0 i c (by omega) (by omega) (by omega)).trans rfl) ?_
      refine Finset.sum_congr rfl fun u _ => ?_
      have hw : ∀ a : Fin 128, ((View.readAt (Elt Ideal) arg11.view (Rect.unit (s := S128x1536) ![0, 896] ![128, 128] inb_S128x1536_S128x128_0_896).toLoadRect X_arg11) (ix2 a c) : EReal) = (arg11.view.read (Elt Ideal) X_arg11) (ix2 a ⟨896 + c.val, by omega⟩) := fun a => by
        rw [rd2 arg11.view X_arg11 _ (show (![0, 896] : Fin 2 → ℕ) = ![0, 896] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off67 v1 k) S128x128.size (k0_off67_inb v1 k0_hw1 k)).toLoadRect X_arg24) (ix2 i c) : EReal) = (arg24.view.read (Elt Ideal) X_arg24) (ix2 ⟨128 * k.val + i.val, by omega⟩ ⟨896 + c.val, by omega⟩) := fun i => by
        rw [rd2 arg24.view X_arg24 _ (show k0_off67 v1 k = ![128 * k.val, 896] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨896 + c.val, by omega⟩) (e0 (by omega))))
    · refine piece3 (α := EReal) (l := 1) (m := 8) (n := 128) (L := 3) (M := 8) (N := 1536) _ (show (![0, 0, 896] : Fin 3 → ℕ) = ![0, 0, 896] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_7 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 896] : Fin 3 → ℕ) = ![0, 0, 896] from rfl) 0 i c (by omega) (by omega) (by omega)).trans rfl) ?_
      refine Finset.sum_congr rfl fun u _ => ?_
      have hw : ∀ a : Fin 128, ((View.readAt (Elt Ideal) arg11.view (Rect.unit (s := S128x1536) ![0, 896] ![128, 128] inb_S128x1536_S128x128_0_896).toLoadRect X_arg11) (ix2 a c) : EReal) = (arg11.view.read (Elt Ideal) X_arg11) (ix2 a ⟨896 + c.val, by omega⟩) := fun a => by
        rw [rd2 arg11.view X_arg11 _ (show (![0, 896] : Fin 2 → ℕ) = ![0, 896] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨896 + c.val, by omega⟩) (e0 (by omega))))
    · refine piece3 (α := EReal) (l := 1) (m := 8) (n := 128) (L := 3) (M := 8) (N := 1536) _ (show (![2, 0, 768] : Fin 3 → ℕ) = ![2, 0, 768] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_6 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 768] : Fin 3 → ℕ) = ![2, 0, 768] from rfl) 0 i c (by omega) (by omega) (by omega)).trans rfl) ?_
      refine Finset.sum_congr rfl fun u _ => ?_
      have hw : ∀ a : Fin 128, ((View.readAt (Elt Ideal) arg11.view (Rect.unit (s := S128x1536) ![0, 768] ![128, 128] inb_S128x1536_S128x128_0_768).toLoadRect X_arg11) (ix2 a c) : EReal) = (arg11.view.read (Elt Ideal) X_arg11) (ix2 a ⟨768 + c.val, by omega⟩) := fun a => by
        rw [rd2 arg11.view X_arg11 _ (show (![0, 768] : Fin 2 → ℕ) = ![0, 768] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off66 v1 k) S128x128.size (k0_off66_inb v1 k0_hw1 k)).toLoadRect X_arg24) (ix2 i c) : EReal) = (arg24.view.read (Elt Ideal) X_arg24) (ix2 ⟨128 * k.val + i.val, by omega⟩ ⟨768 + c.val, by omega⟩) := fun i => by
        rw [rd2 arg24.view X_arg24 _ (show k0_off66 v1 k = ![128 * k.val, 768] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨768 + c.val, by omega⟩) (e0 (by omega))))
    · refine piece3 (α := EReal) (l := 1) (m := 8) (n := 128) (L := 3) (M := 8) (N := 1536) _ (show (![1, 0, 768] : Fin 3 → ℕ) = ![1, 0, 768] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_6 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 768] : Fin 3 → ℕ) = ![1, 0, 768] from rfl) 0 i c (by omega) (by omega) (by omega)).trans rfl) ?_
      refine Finset.sum_congr rfl fun u _ => ?_
      have hw : ∀ a : Fin 128, ((View.readAt (Elt Ideal) arg11.view (Rect.unit (s := S128x1536) ![0, 768] ![128, 128] inb_S128x1536_S128x128_0_768).toLoadRect X_arg11) (ix2 a c) : EReal) = (arg11.view.read (Elt Ideal) X_arg11) (ix2 a ⟨768 + c.val, by omega⟩) := fun a => by
        rw [rd2 arg11.view X_arg11 _ (show (![0, 768] : Fin 2 → ℕ) = ![0, 768] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off66 v1 k) S128x128.size (k0_off66_inb v1 k0_hw1 k)).toLoadRect X_arg24) (ix2 i c) : EReal) = (arg24.view.read (Elt Ideal) X_arg24) (ix2 ⟨128 * k.val + i.val, by omega⟩ ⟨768 + c.val, by omega⟩) := fun i => by
        rw [rd2 arg24.view X_arg24 _ (show k0_off66 v1 k = ![128 * k.val, 768] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨768 + c.val, by omega⟩) (e0 (by omega))))
    · refine piece3 (α := EReal) (l := 1) (m := 8) (n := 128) (L := 3) (M := 8) (N := 1536) _ (show (![0, 0, 768] : Fin 3 → ℕ) = ![0, 0, 768] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_6 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 768] : Fin 3 → ℕ) = ![0, 0, 768] from rfl) 0 i c (by omega) (by omega) (by omega)).trans rfl) ?_
      refine Finset.sum_congr rfl fun u _ => ?_
      have hw : ∀ a : Fin 128, ((View.readAt (Elt Ideal) arg11.view (Rect.unit (s := S128x1536) ![0, 768] ![128, 128] inb_S128x1536_S128x128_0_768).toLoadRect X_arg11) (ix2 a c) : EReal) = (arg11.view.read (Elt Ideal) X_arg11) (ix2 a ⟨768 + c.val, by omega⟩) := fun a => by
        rw [rd2 arg11.view X_arg11 _ (show (![0, 768] : Fin 2 → ℕ) = ![0, 768] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨768 + c.val, by omega⟩) (e0 (by omega))))
    · refine piece3 (α := EReal) (l := 1) (m := 8) (n := 128) (L := 3) (M := 8) (N := 1536) _ (show (![2, 0, 640] : Fin 3 → ℕ) = ![2, 0, 640] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_5 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 640] : Fin 3 → ℕ) = ![2, 0, 640] from rfl) 0 i c (by omega) (by omega) (by omega)).trans rfl) ?_
      refine Finset.sum_congr rfl fun u _ => ?_
      have hw : ∀ a : Fin 128, ((View.readAt (Elt Ideal) arg11.view (Rect.unit (s := S128x1536) ![0, 640] ![128, 128] inb_S128x1536_S128x128_0_640).toLoadRect X_arg11) (ix2 a c) : EReal) = (arg11.view.read (Elt Ideal) X_arg11) (ix2 a ⟨640 + c.val, by omega⟩) := fun a => by
        rw [rd2 arg11.view X_arg11 _ (show (![0, 640] : Fin 2 → ℕ) = ![0, 640] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off65 v1 k) S128x128.size (k0_off65_inb v1 k0_hw1 k)).toLoadRect X_arg24) (ix2 i c) : EReal) = (arg24.view.read (Elt Ideal) X_arg24) (ix2 ⟨128 * k.val + i.val, by omega⟩ ⟨640 + c.val, by omega⟩) := fun i => by
        rw [rd2 arg24.view X_arg24 _ (show k0_off65 v1 k = ![128 * k.val, 640] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨640 + c.val, by omega⟩) (e0 (by omega))))
    · refine piece3 (α := EReal) (l := 1) (m := 8) (n := 128) (L := 3) (M := 8) (N := 1536) _ (show (![1, 0, 640] : Fin 3 → ℕ) = ![1, 0, 640] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_5 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 640] : Fin 3 → ℕ) = ![1, 0, 640] from rfl) 0 i c (by omega) (by omega) (by omega)).trans rfl) ?_
      refine Finset.sum_congr rfl fun u _ => ?_
      have hw : ∀ a : Fin 128, ((View.readAt (Elt Ideal) arg11.view (Rect.unit (s := S128x1536) ![0, 640] ![128, 128] inb_S128x1536_S128x128_0_640).toLoadRect X_arg11) (ix2 a c) : EReal) = (arg11.view.read (Elt Ideal) X_arg11) (ix2 a ⟨640 + c.val, by omega⟩) := fun a => by
        rw [rd2 arg11.view X_arg11 _ (show (![0, 640] : Fin 2 → ℕ) = ![0, 640] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off65 v1 k) S128x128.size (k0_off65_inb v1 k0_hw1 k)).toLoadRect X_arg24) (ix2 i c) : EReal) = (arg24.view.read (Elt Ideal) X_arg24) (ix2 ⟨128 * k.val + i.val, by omega⟩ ⟨640 + c.val, by omega⟩) := fun i => by
        rw [rd2 arg24.view X_arg24 _ (show k0_off65 v1 k = ![128 * k.val, 640] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨640 + c.val, by omega⟩) (e0 (by omega))))
    · refine piece3 (α := EReal) (l := 1) (m := 8) (n := 128) (L := 3) (M := 8) (N := 1536) _ (show (![0, 0, 640] : Fin 3 → ℕ) = ![0, 0, 640] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_5 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 640] : Fin 3 → ℕ) = ![0, 0, 640] from rfl) 0 i c (by omega) (by omega) (by omega)).trans rfl) ?_
      refine Finset.sum_congr rfl fun u _ => ?_
      have hw : ∀ a : Fin 128, ((View.readAt (Elt Ideal) arg11.view (Rect.unit (s := S128x1536) ![0, 640] ![128, 128] inb_S128x1536_S128x128_0_640).toLoadRect X_arg11) (ix2 a c) : EReal) = (arg11.view.read (Elt Ideal) X_arg11) (ix2 a ⟨640 + c.val, by omega⟩) := fun a => by
        rw [rd2 arg11.view X_arg11 _ (show (![0, 640] : Fin 2 → ℕ) = ![0, 640] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨640 + c.val, by omega⟩) (e0 (by omega))))
    · refine piece3 (α := EReal) (l := 1) (m := 8) (n := 128) (L := 3) (M := 8) (N := 1536) _ (show (![2, 0, 512] : Fin 3 → ℕ) = ![2, 0, 512] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_4 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 512] : Fin 3 → ℕ) = ![2, 0, 512] from rfl) 0 i c (by omega) (by omega) (by omega)).trans rfl) ?_
      refine Finset.sum_congr rfl fun u _ => ?_
      have hw : ∀ a : Fin 128, ((View.readAt (Elt Ideal) arg11.view (Rect.unit (s := S128x1536) ![0, 512] ![128, 128] inb_S128x1536_S128x128_0_512).toLoadRect X_arg11) (ix2 a c) : EReal) = (arg11.view.read (Elt Ideal) X_arg11) (ix2 a ⟨512 + c.val, by omega⟩) := fun a => by
        rw [rd2 arg11.view X_arg11 _ (show (![0, 512] : Fin 2 → ℕ) = ![0, 512] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off64 v1 k) S128x128.size (k0_off64_inb v1 k0_hw1 k)).toLoadRect X_arg24) (ix2 i c) : EReal) = (arg24.view.read (Elt Ideal) X_arg24) (ix2 ⟨128 * k.val + i.val, by omega⟩ ⟨512 + c.val, by omega⟩) := fun i => by
        rw [rd2 arg24.view X_arg24 _ (show k0_off64 v1 k = ![128 * k.val, 512] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨512 + c.val, by omega⟩) (e0 (by omega))))
    · refine piece3 (α := EReal) (l := 1) (m := 8) (n := 128) (L := 3) (M := 8) (N := 1536) _ (show (![1, 0, 512] : Fin 3 → ℕ) = ![1, 0, 512] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_4 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 512] : Fin 3 → ℕ) = ![1, 0, 512] from rfl) 0 i c (by omega) (by omega) (by omega)).trans rfl) ?_
      refine Finset.sum_congr rfl fun u _ => ?_
      have hw : ∀ a : Fin 128, ((View.readAt (Elt Ideal) arg11.view (Rect.unit (s := S128x1536) ![0, 512] ![128, 128] inb_S128x1536_S128x128_0_512).toLoadRect X_arg11) (ix2 a c) : EReal) = (arg11.view.read (Elt Ideal) X_arg11) (ix2 a ⟨512 + c.val, by omega⟩) := fun a => by
        rw [rd2 arg11.view X_arg11 _ (show (![0, 512] : Fin 2 → ℕ) = ![0, 512] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off64 v1 k) S128x128.size (k0_off64_inb v1 k0_hw1 k)).toLoadRect X_arg24) (ix2 i c) : EReal) = (arg24.view.read (Elt Ideal) X_arg24) (ix2 ⟨128 * k.val + i.val, by omega⟩ ⟨512 + c.val, by omega⟩) := fun i => by
        rw [rd2 arg24.view X_arg24 _ (show k0_off64 v1 k = ![128 * k.val, 512] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨512 + c.val, by omega⟩) (e0 (by omega))))
    · refine piece3 (α := EReal) (l := 1) (m := 8) (n := 128) (L := 3) (M := 8) (N := 1536) _ (show (![0, 0, 512] : Fin 3 → ℕ) = ![0, 0, 512] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_4 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 512] : Fin 3 → ℕ) = ![0, 0, 512] from rfl) 0 i c (by omega) (by omega) (by omega)).trans rfl) ?_
      refine Finset.sum_congr rfl fun u _ => ?_
      have hw : ∀ a : Fin 128, ((View.readAt (Elt Ideal) arg11.view (Rect.unit (s := S128x1536) ![0, 512] ![128, 128] inb_S128x1536_S128x128_0_512).toLoadRect X_arg11) (ix2 a c) : EReal) = (arg11.view.read (Elt Ideal) X_arg11) (ix2 a ⟨512 + c.val, by omega⟩) := fun a => by
        rw [rd2 arg11.view X_arg11 _ (show (![0, 512] : Fin 2 → ℕ) = ![0, 512] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨512 + c.val, by omega⟩) (e0 (by omega))))
    · refine piece3 (α := EReal) (l := 1) (m := 8) (n := 128) (L := 3) (M := 8) (N := 1536) _ (show (![2, 0, 384] : Fin 3 → ℕ) = ![2, 0, 384] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_3 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 384] : Fin 3 → ℕ) = ![2, 0, 384] from rfl) 0 i c (by omega) (by omega) (by omega)).trans rfl) ?_
      refine Finset.sum_congr rfl fun u _ => ?_
      have hw : ∀ a : Fin 128, ((View.readAt (Elt Ideal) arg11.view (Rect.unit (s := S128x1536) ![0, 384] ![128, 128] inb_S128x1536_S128x128_0_384).toLoadRect X_arg11) (ix2 a c) : EReal) = (arg11.view.read (Elt Ideal) X_arg11) (ix2 a ⟨384 + c.val, by omega⟩) := fun a => by
        rw [rd2 arg11.view X_arg11 _ (show (![0, 384] : Fin 2 → ℕ) = ![0, 384] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off63 v1 k) S128x128.size (k0_off63_inb v1 k0_hw1 k)).toLoadRect X_arg24) (ix2 i c) : EReal) = (arg24.view.read (Elt Ideal) X_arg24) (ix2 ⟨128 * k.val + i.val, by omega⟩ ⟨384 + c.val, by omega⟩) := fun i => by
        rw [rd2 arg24.view X_arg24 _ (show k0_off63 v1 k = ![128 * k.val, 384] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨384 + c.val, by omega⟩) (e0 (by omega))))
    · refine piece3 (α := EReal) (l := 1) (m := 8) (n := 128) (L := 3) (M := 8) (N := 1536) _ (show (![1, 0, 384] : Fin 3 → ℕ) = ![1, 0, 384] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_3 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 384] : Fin 3 → ℕ) = ![1, 0, 384] from rfl) 0 i c (by omega) (by omega) (by omega)).trans rfl) ?_
      refine Finset.sum_congr rfl fun u _ => ?_
      have hw : ∀ a : Fin 128, ((View.readAt (Elt Ideal) arg11.view (Rect.unit (s := S128x1536) ![0, 384] ![128, 128] inb_S128x1536_S128x128_0_384).toLoadRect X_arg11) (ix2 a c) : EReal) = (arg11.view.read (Elt Ideal) X_arg11) (ix2 a ⟨384 + c.val, by omega⟩) := fun a => by
        rw [rd2 arg11.view X_arg11 _ (show (![0, 384] : Fin 2 → ℕ) = ![0, 384] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off63 v1 k) S128x128.size (k0_off63_inb v1 k0_hw1 k)).toLoadRect X_arg24) (ix2 i c) : EReal) = (arg24.view.read (Elt Ideal) X_arg24) (ix2 ⟨128 * k.val + i.val, by omega⟩ ⟨384 + c.val, by omega⟩) := fun i => by
        rw [rd2 arg24.view X_arg24 _ (show k0_off63 v1 k = ![128 * k.val, 384] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨384 + c.val, by omega⟩) (e0 (by omega))))
    · refine piece3 (α := EReal) (l := 1) (m := 8) (n := 128) (L := 3) (M := 8) (N := 1536) _ (show (![0, 0, 384] : Fin 3 → ℕ) = ![0, 0, 384] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_3 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 384] : Fin 3 → ℕ) = ![0, 0, 384] from rfl) 0 i c (by omega) (by omega) (by omega)).trans rfl) ?_
      refine Finset.sum_congr rfl fun u _ => ?_
      have hw : ∀ a : Fin 128, ((View.readAt (Elt Ideal) arg11.view (Rect.unit (s := S128x1536) ![0, 384] ![128, 128] inb_S128x1536_S128x128_0_384).toLoadRect X_arg11) (ix2 a c) : EReal) = (arg11.view.read (Elt Ideal) X_arg11) (ix2 a ⟨384 + c.val, by omega⟩) := fun a => by
        rw [rd2 arg11.view X_arg11 _ (show (![0, 384] : Fin 2 → ℕ) = ![0, 384] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨384 + c.val, by omega⟩) (e0 (by omega))))
    · refine piece3 (α := EReal) (l := 1) (m := 8) (n := 128) (L := 3) (M := 8) (N := 1536) _ (show (![2, 0, 256] : Fin 3 → ℕ) = ![2, 0, 256] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_2 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 256] : Fin 3 → ℕ) = ![2, 0, 256] from rfl) 0 i c (by omega) (by omega) (by omega)).trans rfl) ?_
      refine Finset.sum_congr rfl fun u _ => ?_
      have hw : ∀ a : Fin 128, ((View.readAt (Elt Ideal) arg11.view (Rect.unit (s := S128x1536) ![0, 256] ![128, 128] inb_S128x1536_S128x128_0_256).toLoadRect X_arg11) (ix2 a c) : EReal) = (arg11.view.read (Elt Ideal) X_arg11) (ix2 a ⟨256 + c.val, by omega⟩) := fun a => by
        rw [rd2 arg11.view X_arg11 _ (show (![0, 256] : Fin 2 → ℕ) = ![0, 256] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off62 v1 k) S128x128.size (k0_off62_inb v1 k0_hw1 k)).toLoadRect X_arg24) (ix2 i c) : EReal) = (arg24.view.read (Elt Ideal) X_arg24) (ix2 ⟨128 * k.val + i.val, by omega⟩ ⟨256 + c.val, by omega⟩) := fun i => by
        rw [rd2 arg24.view X_arg24 _ (show k0_off62 v1 k = ![128 * k.val, 256] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨256 + c.val, by omega⟩) (e0 (by omega))))
    · refine piece3 (α := EReal) (l := 1) (m := 8) (n := 128) (L := 3) (M := 8) (N := 1536) _ (show (![1, 0, 256] : Fin 3 → ℕ) = ![1, 0, 256] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_2 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 256] : Fin 3 → ℕ) = ![1, 0, 256] from rfl) 0 i c (by omega) (by omega) (by omega)).trans rfl) ?_
      refine Finset.sum_congr rfl fun u _ => ?_
      have hw : ∀ a : Fin 128, ((View.readAt (Elt Ideal) arg11.view (Rect.unit (s := S128x1536) ![0, 256] ![128, 128] inb_S128x1536_S128x128_0_256).toLoadRect X_arg11) (ix2 a c) : EReal) = (arg11.view.read (Elt Ideal) X_arg11) (ix2 a ⟨256 + c.val, by omega⟩) := fun a => by
        rw [rd2 arg11.view X_arg11 _ (show (![0, 256] : Fin 2 → ℕ) = ![0, 256] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off62 v1 k) S128x128.size (k0_off62_inb v1 k0_hw1 k)).toLoadRect X_arg24) (ix2 i c) : EReal) = (arg24.view.read (Elt Ideal) X_arg24) (ix2 ⟨128 * k.val + i.val, by omega⟩ ⟨256 + c.val, by omega⟩) := fun i => by
        rw [rd2 arg24.view X_arg24 _ (show k0_off62 v1 k = ![128 * k.val, 256] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨256 + c.val, by omega⟩) (e0 (by omega))))
    · refine piece3 (α := EReal) (l := 1) (m := 8) (n := 128) (L := 3) (M := 8) (N := 1536) _ (show (![0, 0, 256] : Fin 3 → ℕ) = ![0, 0, 256] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_2 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 256] : Fin 3 → ℕ) = ![0, 0, 256] from rfl) 0 i c (by omega) (by omega) (by omega)).trans rfl) ?_
      refine Finset.sum_congr rfl fun u _ => ?_
      have hw : ∀ a : Fin 128, ((View.readAt (Elt Ideal) arg11.view (Rect.unit (s := S128x1536) ![0, 256] ![128, 128] inb_S128x1536_S128x128_0_256).toLoadRect X_arg11) (ix2 a c) : EReal) = (arg11.view.read (Elt Ideal) X_arg11) (ix2 a ⟨256 + c.val, by omega⟩) := fun a => by
        rw [rd2 arg11.view X_arg11 _ (show (![0, 256] : Fin 2 → ℕ) = ![0, 256] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨256 + c.val, by omega⟩) (e0 (by omega))))
    · refine piece3 (α := EReal) (l := 1) (m := 8) (n := 128) (L := 3) (M := 8) (N := 1536) _ (show (![2, 0, 128] : Fin 3 → ℕ) = ![2, 0, 128] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_1 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![2, 0, 128] : Fin 3 → ℕ) = ![2, 0, 128] from rfl) 0 i c (by omega) (by omega) (by omega)).trans rfl) ?_
      refine Finset.sum_congr rfl fun u _ => ?_
      have hw : ∀ a : Fin 128, ((View.readAt (Elt Ideal) arg11.view (Rect.unit (s := S128x1536) ![0, 128] ![128, 128] inb_S128x1536_S128x128_0_128).toLoadRect X_arg11) (ix2 a c) : EReal) = (arg11.view.read (Elt Ideal) X_arg11) (ix2 a ⟨128 + c.val, by omega⟩) := fun a => by
        rw [rd2 arg11.view X_arg11 _ (show (![0, 128] : Fin 2 → ℕ) = ![0, 128] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off61 v1 k) S128x128.size (k0_off61_inb v1 k0_hw1 k)).toLoadRect X_arg24) (ix2 i c) : EReal) = (arg24.view.read (Elt Ideal) X_arg24) (ix2 ⟨128 * k.val + i.val, by omega⟩ ⟨128 + c.val, by omega⟩) := fun i => by
        rw [rd2 arg24.view X_arg24 _ (show k0_off61 v1 k = ![128 * k.val, 128] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨128 + c.val, by omega⟩) (e0 (by omega))))
    · refine piece3 (α := EReal) (l := 1) (m := 8) (n := 128) (L := 3) (M := 8) (N := 1536) _ (show (![1, 0, 128] : Fin 3 → ℕ) = ![1, 0, 128] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_1 _ (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![1, 0, 128] : Fin 3 → ℕ) = ![1, 0, 128] from rfl) 0 i c (by omega) (by omega) (by omega)).trans rfl) ?_
      refine Finset.sum_congr rfl fun u _ => ?_
      have hw : ∀ a : Fin 128, ((View.readAt (Elt Ideal) arg11.view (Rect.unit (s := S128x1536) ![0, 128] ![128, 128] inb_S128x1536_S128x128_0_128).toLoadRect X_arg11) (ix2 a c) : EReal) = (arg11.view.read (Elt Ideal) X_arg11) (ix2 a ⟨128 + c.val, by omega⟩) := fun a => by
        rw [rd2 arg11.view X_arg11 _ (show (![0, 128] : Fin 2 → ℕ) = ![0, 128] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off61 v1 k) S128x128.size (k0_off61_inb v1 k0_hw1 k)).toLoadRect X_arg24) (ix2 i c) : EReal) = (arg24.view.read (Elt Ideal) X_arg24) (ix2 ⟨128 * k.val + i.val, by omega⟩ ⟨128 + c.val, by omega⟩) := fun i => by
        rw [rd2 arg24.view X_arg24 _ (show k0_off61 v1 k = ![128 * k.val, 128] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨128 + c.val, by omega⟩) (e0 (by omega))))
    · refine piece3 (α := EReal) (l := 1) (m := 8) (n := 128) (L := 3) (M := 8) (N := 1536) _ (show (![0, 0, 128] : Fin 3 → ℕ) = ![0, 0, 128] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_1 (k0_pay144 (F := Ideal) v1 0#32 1#32 k) (k0_pay146 (F := Ideal) (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10)) _ _ i c).trans ?_
      refine congrArg₂ (· + ·) ((rd3 (l := 1) (m := 8) (n := 128) arg27.view f_arg27 _ (show (![0, 0, 128] : Fin 3 → ℕ) = ![0, 0, 128] from rfl) 0 i c (by omega) (by omega) (by omega)).trans rfl) ?_
      refine Finset.sum_congr rfl fun u _ => ?_
      have hw : ∀ a : Fin 128, ((View.readAt (Elt Ideal) arg11.view (Rect.unit (s := S128x1536) ![0, 128] ![128, 128] inb_S128x1536_S128x128_0_128).toLoadRect X_arg11) (ix2 a c) : EReal) = (arg11.view.read (Elt Ideal) X_arg11) (ix2 a ⟨128 + c.val, by omega⟩) := fun a => by
        rw [rd2 arg11.view X_arg11 _ (show (![0, 128] : Fin 2 → ℕ) = ![0, 128] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨128 + c.val, by omega⟩) (e0 (by omega))))
    · refine piece3 (α := EReal) (l := 1) (m := 8) (n := 128) (L := 3) (M := 8) (N := 1536) _ (show (![2, 0, 0] : Fin 3 → ℕ) = ![2, 0, 0] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_2_0 _ v1 k (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10) _ _ i c).trans ?_
      refine congrArg₂ (· + ·) ((rd3 (l := 1) (m := 8) (n := 128) arg27.view f_arg27 _ (show (![2, 0, 0] : Fin 3 → ℕ) = ![2, 0, 0] from rfl) 0 i c (by omega) (by omega) (by omega)).trans rfl) ?_
      refine Finset.sum_congr rfl fun u _ => ?_
      have hw : ∀ a : Fin 128, ((View.readAt (Elt Ideal) arg11.view (Rect.unit (s := S128x1536) ![0, 0] ![128, 128] inb_S128x1536_S128x128_0_0).toLoadRect X_arg11) (ix2 a c) : EReal) = (arg11.view.read (Elt Ideal) X_arg11) (ix2 a ⟨0 + c.val, by omega⟩) := fun a => by
        rw [rd2 arg11.view X_arg11 _ (show (![0, 0] : Fin 2 → ℕ) = ![0, 0] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off60 v1 k) S128x128.size (k0_off60_inb v1 k0_hw1 k)).toLoadRect X_arg24) (ix2 i c) : EReal) = (arg24.view.read (Elt Ideal) X_arg24) (ix2 ⟨128 * k.val + i.val, by omega⟩ ⟨0 + c.val, by omega⟩) := fun i => by
        rw [rd2 arg24.view X_arg24 _ (show k0_off60 v1 k = ![128 * k.val, 0] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (congrArg₂ (· * ·) (pAt_of hk _ _ _ _ _ _ _ c _ _ _ (fun a => hz _ a) hw) (hh _)) (hh _)) (Eq.symm (congrArg (fun r => accT v1 Zz (arg11.view.read (Elt Ideal) X_arg11) (arg24.view.read (Elt Ideal) X_arg24) 2 r ⟨0 + c.val, by omega⟩) (e0 (by omega))))
    · refine piece3 (α := EReal) (l := 1) (m := 8) (n := 128) (L := 3) (M := 8) (N := 1536) _ (show (![1, 0, 0] : Fin 3 → ℕ) = ![1, 0, 0] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_1_0 _ v1 k (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10) _ _ i c).trans ?_
      refine congrArg₂ (· + ·) ((rd3 (l := 1) (m := 8) (n := 128) arg27.view f_arg27 _ (show (![1, 0, 0] : Fin 3 → ℕ) = ![1, 0, 0] from rfl) 0 i c (by omega) (by omega) (by omega)).trans rfl) ?_
      refine Finset.sum_congr rfl fun u _ => ?_
      have hw : ∀ a : Fin 128, ((View.readAt (Elt Ideal) arg11.view (Rect.unit (s := S128x1536) ![0, 0] ![128, 128] inb_S128x1536_S128x128_0_0).toLoadRect X_arg11) (ix2 a c) : EReal) = (arg11.view.read (Elt Ideal) X_arg11) (ix2 a ⟨0 + c.val, by omega⟩) := fun a => by
        rw [rd2 arg11.view X_arg11 _ (show (![0, 0] : Fin 2 → ℕ) = ![0, 0] from rfl) _ _ (by omega) (by omega)]
        have e3 : ∀ h, (⟨0 + a.val, h⟩ : Fin 128) = a := fun h => Fin.ext (by show 0 + a.val = a.val; omega)
        rw [e3]
      have hh : ∀ i : Fin 128, ((View.readAt (Elt Ideal) arg24.view (Rect.unit (s := S768x1536) (k0_off60 v1 k) S128x128.size (k0_off60_inb v1 k0_hw1 k)).toLoadRect X_arg24) (ix2 i c) : EReal) = (arg24.view.read (Elt Ideal) X_arg24) (ix2 ⟨128 * k.val + i.val, by omega⟩ ⟨0 + c.val, by omega⟩) := fun i => by
        rw [rd2 arg24.view X_arg24 _ (show k0_off60 v1 k = ![128 * k.val, 0] from by rw [← hrow]; try rfl) _ _ (by omega) (by omega)]
      have e0 : ∀ h, (⟨128 * k.val + (u.val * 8 + (0 + i.val)), h⟩ : Fin 768) = ⟨128 * k.val + (u.val * 8 + i.val), by omega⟩ := fun h => Fin.ext (by dsimp only; omega)
      refine Eq.trans (congrArg₂ (· * ·) (pAt_of hk _ _ _ _ _ _ _ c _ _ _ (fun a => hz _ a) hw) (hh _)) (Eq.symm (congrArg (fun r => accT v1 Zz (arg11.view.read (Elt Ideal) X_arg11) (arg24.view.read (Elt Ideal) X_arg24) 1 r ⟨0 + c.val, by omega⟩) (e0 (by omega))))
    · refine piece3 (α := EReal) (l := 1) (m := 8) (n := 128) (L := 3) (M := 8) (N := 1536) _ (show (![0, 0, 0] : Fin 3 → ℕ) = ![0, 0, 0] from rfl) (by omega) (by omega) (by omega) _ (accV v1 Zz (arg11.view.read (Elt Ideal) X_arg11) (arg24.view.read (Elt Ideal) X_arg24) k.val hk (arg27.view.read (Elt Ideal) f_arg27)) fun s i c => ?_
      obtain rfl : s = 0 := Subsingleton.elim _ _
      refine (acc_at_0_0 v1 k (k0_pay330 (F := Ideal) v65 v72 cst_30 v73 v85 v89 v92) (View.readAt (Elt Ideal) arg25.view (Rect.unit (s := S768x128) (k0_off58 v1 k) S128x128.size (k0_off58_inb v1 k0_hw1 k)).toLoadRect X_arg25) (View.readAt (Elt Ideal) arg5.view (Rect.unit (s := S1x128) ![0, 0] ![1, 128] inb_S1x128_S1x128_0_0).toLoadRect X_arg5) (View.readAt (Elt Ideal) arg9.view (Rect.unit (s := S1x128) ![0, 0] ![1, 128] inb_S1x128_S1x128_0_0).toLoadRect X_arg9) (View.readAt (Elt Ideal) arg10.view (Rect.unit (s := S1x128) ![0, 0] ![1, 128] inb_S1x128_S1x128_0_0).toLoadRect X_arg10) _ _ i c).trans ?_
      refine congrArg₂ (· + ·) ((rd3 (l := 1) (m := 8) (n := 128) arg27.view f_arg27 _ (show (![0, 0, 0] : Fin 3 → ℕ) = ![0, 0, 0] from rfl) 0 i c (by omega) (by omega) (by omega)).trans rfl) ?_
      refine Finset.sum_congr rfl fun u _ => ?_
      have hw : ∀ a : Fin 128, ((View.readAt (Elt Ideal) arg11.view (Rect.unit (s := S128x1536) ![0, 0] ![128, 128] inb_S128x1536_S128x128_0_0).toLoadRect X_arg11) (ix2 a c) : EReal) = (arg11.view.read (Elt Ideal) X_arg11) (ix2 a ⟨0 + c.val, by omega⟩) := fun a => by
        rw [rd2 arg11.view X_arg11 _ (show (![0, 0] : Fin 2 → ℕ) = ![0, 0] from rfl) _ _ (by omega) (by omega)]
        have e3 : ∀ h, (⟨0 + a.val, h⟩ : Fin 128) = a := fun h => Fin.ext (by show 0 + a.val = a.val; omega)
        rw [e3]
      have e0 : ∀ h, (⟨128 * k.val + (u.val * 8 + (0 + i.val)), h⟩ : Fin 768) = ⟨128 * k.val + (u.val * 8 + i.val), by omega⟩ := fun h => Fin.ext (by dsimp only; omega)
      refine Eq.trans ((pAt_of hk _ _ _ _ _ _ _ c _ _ _ (fun a => hz _ a) hw)) (Eq.symm (congrArg (fun r => accT v1 Zz (arg11.view.read (Elt Ideal) X_arg11) (arg24.view.read (Elt Ideal) X_arg24) 0 r ⟨0 + c.val, by omega⟩) (e0 (by omega))))
  · obtain ⟨jj, hj⟩ : ∃ jj : Fin 12, cc.val / 128 = jj.val := ⟨⟨cc.val / 128, by omega⟩, rfl⟩
    obtain ⟨q, hq⟩ : ∃ q : Fin 3, s = q := ⟨s, rfl⟩
    fin_cases jj <;> fin_cases q
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))))))), (mem3 (l := 1) (m := 8) (n := 128) inb_S3x8x1536_S1x8x128_0_0_0 (show (![0, 0, 0] : Fin 3 → ℕ) = ![0, 0, 0] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))))))), (mem3 (l := 1) (m := 8) (n := 128) inb_S3x8x1536_S1x8x128_1_0_0 (show (![1, 0, 0] : Fin 3 → ℕ) = ![1, 0, 0] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))))), (mem3 (l := 1) (m := 8) (n := 128) inb_S3x8x1536_S1x8x128_2_0_0 (show (![2, 0, 0] : Fin 3 → ℕ) = ![2, 0, 0] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))))), (mem3 (l := 1) (m := 8) (n := 128) inb_S3x8x1536_S1x8x128_0_0_128 (show (![0, 0, 128] : Fin 3 → ℕ) = ![0, 0, 128] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), (mem3 (l := 1) (m := 8) (n := 128) inb_S3x8x1536_S1x8x128_1_0_128 (show (![1, 0, 128] : Fin 3 → ℕ) = ![1, 0, 128] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), (mem3 (l := 1) (m := 8) (n := 128) inb_S3x8x1536_S1x8x128_2_0_128 (show (![2, 0, 128] : Fin 3 → ℕ) = ![2, 0, 128] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), (mem3 (l := 1) (m := 8) (n := 128) inb_S3x8x1536_S1x8x128_0_0_256 (show (![0, 0, 256] : Fin 3 → ℕ) = ![0, 0, 256] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), (mem3 (l := 1) (m := 8) (n := 128) inb_S3x8x1536_S1x8x128_1_0_256 (show (![1, 0, 256] : Fin 3 → ℕ) = ![1, 0, 256] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), (mem3 (l := 1) (m := 8) (n := 128) inb_S3x8x1536_S1x8x128_2_0_256 (show (![2, 0, 256] : Fin 3 → ℕ) = ![2, 0, 256] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), (mem3 (l := 1) (m := 8) (n := 128) inb_S3x8x1536_S1x8x128_0_0_384 (show (![0, 0, 384] : Fin 3 → ℕ) = ![0, 0, 384] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), (mem3 (l := 1) (m := 8) (n := 128) inb_S3x8x1536_S1x8x128_1_0_384 (show (![1, 0, 384] : Fin 3 → ℕ) = ![1, 0, 384] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), (mem3 (l := 1) (m := 8) (n := 128) inb_S3x8x1536_S1x8x128_2_0_384 (show (![2, 0, 384] : Fin 3 → ℕ) = ![2, 0, 384] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), (mem3 (l := 1) (m := 8) (n := 128) inb_S3x8x1536_S1x8x128_0_0_512 (show (![0, 0, 512] : Fin 3 → ℕ) = ![0, 0, 512] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), (mem3 (l := 1) (m := 8) (n := 128) inb_S3x8x1536_S1x8x128_1_0_512 (show (![1, 0, 512] : Fin 3 → ℕ) = ![1, 0, 512] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), (mem3 (l := 1) (m := 8) (n := 128) inb_S3x8x1536_S1x8x128_2_0_512 (show (![2, 0, 512] : Fin 3 → ℕ) = ![2, 0, 512] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), (mem3 (l := 1) (m := 8) (n := 128) inb_S3x8x1536_S1x8x128_0_0_640 (show (![0, 0, 640] : Fin 3 → ℕ) = ![0, 0, 640] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), (mem3 (l := 1) (m := 8) (n := 128) inb_S3x8x1536_S1x8x128_1_0_640 (show (![1, 0, 640] : Fin 3 → ℕ) = ![1, 0, 640] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), (mem3 (l := 1) (m := 8) (n := 128) inb_S3x8x1536_S1x8x128_2_0_640 (show (![2, 0, 640] : Fin 3 → ℕ) = ![2, 0, 640] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), (mem3 (l := 1) (m := 8) (n := 128) inb_S3x8x1536_S1x8x128_0_0_768 (show (![0, 0, 768] : Fin 3 → ℕ) = ![0, 0, 768] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (mem3 (l := 1) (m := 8) (n := 128) inb_S3x8x1536_S1x8x128_1_0_768 (show (![1, 0, 768] : Fin 3 → ℕ) = ![1, 0, 768] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem3 (l := 1) (m := 8) (n := 128) inb_S3x8x1536_S1x8x128_2_0_768 (show (![2, 0, 768] : Fin 3 → ℕ) = ![2, 0, 768] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem3 (l := 1) (m := 8) (n := 128) inb_S3x8x1536_S1x8x128_0_0_896 (show (![0, 0, 896] : Fin 3 → ℕ) = ![0, 0, 896] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem3 (l := 1) (m := 8) (n := 128) inb_S3x8x1536_S1x8x128_1_0_896 (show (![1, 0, 896] : Fin 3 → ℕ) = ![1, 0, 896] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem3 (l := 1) (m := 8) (n := 128) inb_S3x8x1536_S1x8x128_2_0_896 (show (![2, 0, 896] : Fin 3 → ℕ) = ![2, 0, 896] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem3 (l := 1) (m := 8) (n := 128) inb_S3x8x1536_S1x8x128_0_0_1024 (show (![0, 0, 1024] : Fin 3 → ℕ) = ![0, 0, 1024] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem3 (l := 1) (m := 8) (n := 128) inb_S3x8x1536_S1x8x128_1_0_1024 (show (![1, 0, 1024] : Fin 3 → ℕ) = ![1, 0, 1024] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem3 (l := 1) (m := 8) (n := 128) inb_S3x8x1536_S1x8x128_2_0_1024 (show (![2, 0, 1024] : Fin 3 → ℕ) = ![2, 0, 1024] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem3 (l := 1) (m := 8) (n := 128) inb_S3x8x1536_S1x8x128_0_0_1152 (show (![0, 0, 1152] : Fin 3 → ℕ) = ![0, 0, 1152] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem3 (l := 1) (m := 8) (n := 128) inb_S3x8x1536_S1x8x128_1_0_1152 (show (![1, 0, 1152] : Fin 3 → ℕ) = ![1, 0, 1152] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_of_mem _ (List.mem_cons_self)))))), (mem3 (l := 1) (m := 8) (n := 128) inb_S3x8x1536_S1x8x128_2_0_1152 (show (![2, 0, 1152] : Fin 3 → ℕ) = ![2, 0, 1152] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_of_mem _ (List.mem_cons_self))))), (mem3 (l := 1) (m := 8) (n := 128) inb_S3x8x1536_S1x8x128_0_0_1280 (show (![0, 0, 1280] : Fin 3 → ℕ) = ![0, 0, 1280] from rfl) s l cc).mpr ?_⟩
      subst hq; simp only at hj; refine ⟨by decide, by omega, by omega⟩
    · refine ⟨_, List.mem_cons_of_mem _ (List.mem_cons_of_mem _ (List.mem_cons_of_mem _ (List.mem_cons_of_mem _ (List.mem_cons_self)))), (mem3 (l := 1) (m := 8) (n := 128) inb_S3x8x1536_S1x8x128_1_0_1280 (show (![1, 0, 1280] : Fin 3 → ℕ) = ![1, 0, 1280] from rfl) s l cc).mpr ?_⟩
      subst hq; simp only at hj; refine ⟨by decide, by omega, by omega⟩
    · refine ⟨_, List.mem_cons_of_mem _ (List.mem_cons_of_mem _ (List.mem_cons_of_mem _ (List.mem_cons_self))), (mem3 (l := 1) (m := 8) (n := 128) inb_S3x8x1536_S1x8x128_2_0_1280 (show (![2, 0, 1280] : Fin 3 → ℕ) = ![2, 0, 1280] from rfl) s l cc).mpr ?_⟩
      subst hq; simp only at hj; refine ⟨by decide, by omega, by omega⟩
    · refine ⟨_, List.mem_cons_of_mem _ (List.mem_cons_of_mem _ (List.mem_cons_self)), (mem3 (l := 1) (m := 8) (n := 128) inb_S3x8x1536_S1x8x128_0_0_1408 (show (![0, 0, 1408] : Fin 3 → ℕ) = ![0, 0, 1408] from rfl) s l cc).mpr ?_⟩
      subst hq; simp only at hj; refine ⟨by decide, by omega, by omega⟩
    · refine ⟨_, List.mem_cons_of_mem _ (List.mem_cons_self), (mem3 (l := 1) (m := 8) (n := 128) inb_S3x8x1536_S1x8x128_1_0_1408 (show (![1, 0, 1408] : Fin 3 → ℕ) = ![1, 0, 1408] from rfl) s l cc).mpr ?_⟩
      subst hq; simp only at hj; refine ⟨by decide, by omega, by omega⟩
    · refine ⟨_, List.mem_cons_self, (mem3 (l := 1) (m := 8) (n := 128) inb_S3x8x1536_S1x8x128_2_0_1408 (show (![2, 0, 1408] : Fin 3 → ℕ) = ![2, 0, 1408] from rfl) s l cc).mpr ?_⟩
      subst hq; simp only at hj; refine ⟨by decide, by omega, by omega⟩

/-- A term at a row counted by a natural number, zero past the last. -/
def accN (len : BitVec 32) (z : Fin 768 → Fin 128 → EReal) (w : S128x1536.Idx → EReal) (h : S768x1536.Idx → EReal) (q : ℕ) (c : Fin 1536) (r : ℕ) : EReal :=
  if hr : r < 768 then accT len z w h q ⟨r, hr⟩ c else 0

set_option maxHeartbeats 4000000 in
/-- The running sums after `n` trips. -/
theorem loop3_acc (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (G_arg19 : BufTy.Contents (Elt Ideal) arg19.view.ty) (G_arg27 : BufTy.Contents (Elt Ideal) arg27.view.ty) (hl : v1.toInt ≤ 768) (n : ℕ) (hn : n ≤ (k0_t3_loop v1).trips) :
    ∀ (s : Fin 3) (l : Fin 8) (cc : Fin 1536), arg27.view.read (Elt Ideal) (arg27.view.writes (Elt Ideal) G_arg27 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).2) (ix3 s l cc)
      = arg27.view.read (Elt Ideal) G_arg27 (ix3 s l cc) + ∑ t ∈ Finset.range (16 * n), accN v1 (fun (r : Fin 768) (a : Fin 128) => zf (arg9.view.read (Elt Ideal) X_arg9 (ix2 0 a)) (arg25.view.read (Elt Ideal) X_arg25 (ix2 r a)) (arg5.view.read (Elt Ideal) X_arg5 (ix2 0 a)) ((k0_pay330 (F := Ideal) v65 v72 cst_30 v73 v85 v89 v92) (ix2 0 a)) (arg10.view.read (Elt Ideal) X_arg10 (ix2 0 a))) (arg11.view.read (Elt Ideal) X_arg11) (arg24.view.read (Elt Ideal) X_arg24) s.val cc (t * 8 + l.val) := by
  induction n with
  | zero => intro s l cc; rw [Finset.range_zero, Finset.sum_empty, add_zero]; rfl
  | succ n ih =>
    intro s l cc
    rw [show (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 (n + 1)) = _ from pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 ⟨n, by omega⟩]
    dsimp only
    rw [View.writes_append]
    have := trip3_acc 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 (⟨n, by omega⟩ : Fin _) (arg19.view.writes (Elt Ideal) G_arg19 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).1) (arg27.view.writes (Elt Ideal) G_arg27 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 G_arg27 n).2) hl s l cc
    have hn6 : n < 6 := full_lt hl (⟨n, by omega⟩ : Fin (k0_t3_loop v1).trips)
    rw [this]
    unfold accV
    simp only [ix3_0, ix3_1, ix3_2]
    rw [ih (by omega), show 16 * (n + 1) = 16 * n + 16 from by omega, Finset.sum_range_add, ← add_assoc]
    refine congrArg₂ (· + ·) rfl ?_
    rw [Finset.sum_range]
    refine Finset.sum_congr rfl fun u _ => ?_
    unfold accN
    rw [dif_pos (by omega)]
    congr 2
    omega

end Cert.KernelIdeal.Run

end
-- ==== Proof.KernelIdealPooled.lean ====
module

public import proofs.«01_k».proof.Proof.KernelIdealStats
public import proofs.«01_k».proof.Proof.KernelIdealTrip3

@[expose] public section

/-!
The pooled vector that one grid point computes, as a function of the length and of the blocks: the sums over the
frames of the exponentials, of their products with the frames and of those with the frames again, and the row of
means and deviations made of them.
-/

set_option maxRecDepth 16384

noncomputable section

namespace Cert.KernelIdeal.Run

open Cert.KernelIdeal.Gen
open Idealize.ShloMosaic Idealize.ShloMosaic.TcCoe Idealize.ShloMosaic.Tactic Idealize.ShloMosaic.Pointwise

/-- The activation before the mask. -/
def zU (len : BitVec 32) (x : S1x768x1536.Idx → EReal) (xs : S1x768x12.Idx → EReal) (w1h : S1536x128.Idx → EReal) (w1hs : S1x128.Idx → EReal)
    (w1s : S3072x128.Idx → EReal) (w1ss b1 g1 s1 : S1x128.Idx → EReal) (r : Fin 768) (a : Fin 128) : EReal :=
  zf (g1 (ix2 0 a)) (∑ c : Fin 1536, hv len x xs r c * w1h (ix2 c a)) (w1hs (ix2 0 a))
    (k0_pay330 (F := Ideal) (SC len x xs) (GX len x xs) top k0_pay326 w1s w1ss b1 (ix2 0 a)) (s1 (ix2 0 a))

/-- The sum over the frames of a channel's terms. -/
def accK (len : BitVec 32) (h : S768x1536.Idx → EReal) (z : Fin 768 → Fin 128 → EReal) (w2 : S128x1536.Idx → EReal) (q : ℕ) (c : Fin 1536) : EReal :=
  ∑ r : Fin 768, accT len z w2 h q r c

/-- The weighted mean of a channel. -/
def muK (len : BitVec 32) (h : S768x1536.Idx → EReal) (z : Fin 768 → Fin 128 → EReal) (w2 : S128x1536.Idx → EReal) (c : Fin 1536) : EReal :=
  accK len h z w2 1 c * Ideal.div (Ideal.ofBits .f32 1065353216#32) (accK len h z w2 0 c)

/-- The weighted deviation of a channel. -/
def sdK (len : BitVec 32) (h : S768x1536.Idx → EReal) (z : Fin 768 → Fin 128 → EReal) (w2 : S128x1536.Idx → EReal) (c : Fin 1536) : EReal :=
  Ideal.sqrt (max (accK len h z w2 2 c * Ideal.div (Ideal.ofBits .f32 1065353216#32) (accK len h z w2 0 c) - muK len h z w2 c * muK len h z w2 c) 0)

/-- The pooled row. -/
def poolRow (len : BitVec 32) (x : S1x768x1536.Idx → EReal) (xs : S1x768x12.Idx → EReal) (w1h : S1536x128.Idx → EReal) (w1hs : S1x128.Idx → EReal)
    (w1s : S3072x128.Idx → EReal) (w1ss b1 g1 s1 : S1x128.Idx → EReal) (w2 : S128x1536.Idx → EReal) (c : Fin 3072) : EReal :=
  if h : c.val < 1536 then muK len (hvV len x xs) (zU len x xs w1h w1hs w1s w1ss b1 g1 s1) w2 ⟨c.val, h⟩
  else sdK len (hvV len x xs) (zU len x xs w1h w1hs w1s w1ss b1 g1 s1) w2 ⟨c.val - 1536, by omega⟩

theorem pay336_at (v : Vec Ideal S1x8x1536 .f32) (c : Fin 1536) : k0_pay336 (F := Ideal) v (ix2 0 c) = ∑ l : Fin 8, v (ix3 0 l c) := by
  pointwise [k0_pay336]

theorem pay2_at (v105 : FVec Ideal S1x1536 .f32) (k : Ideal .f32) (v : Vec Ideal S1x8x1536 .f32) (c : Fin 1536) :
    k0_pay2 (F := Ideal) v105 k v (ix2 0 c) = (∑ l : Fin 8, v (ix3 0 l c)) * Ideal.div k (v105 (ix2 0 c)) := by
  pointwise [k0_pay2, k0_pay1]

theorem pay3_at (v105 : FVec Ideal S1x1536 .f32) (k : Ideal .f32) (v w : Vec Ideal S1x8x1536 .f32) (c : Fin 1536) :
    k0_pay3 (F := Ideal) v105 k v w (ix2 0 c) = Ideal.sqrt (max ((∑ l : Fin 8, w (ix3 0 l c)) * Ideal.div k (v105 (ix2 0 c))
      - k0_pay2 (F := Ideal) v105 k v (ix2 0 c) * k0_pay2 (F := Ideal) v105 k v (ix2 0 c)) 0) := by
  pointwise [k0_pay3, k0_pay1]

/-- A term depends on the activation and the frames of its row, and only below the length. -/
theorem accT_congr {len : BitVec 32} {z z' : Fin 768 → Fin 128 → EReal} (w : S128x1536.Idx → EReal) {h h' : S768x1536.Idx → EReal} (q : ℕ) (r : Fin 768) (c : Fin 1536)
    (hz : ((r.val : ℕ) : ℤ) < len.toInt → ∀ a, z r a = z' r a) (hh : ((r.val : ℕ) : ℤ) < len.toInt → h (ix2 r c) = h' (ix2 r c)) :
    accT len z w h q r c = accT len z' w h' q r c := by
  by_cases hr : ((r.val : ℕ) : ℤ) < len.toInt
  · have e : pAt len z w r c = pAt len z' w r c := by
      unfold pAt
      simp only [hz hr]
    unfold accT
    rw [e, hh hr]
  · have e : ∀ z, pAt len z w r c = 0 := fun z => if_neg hr
    unfold accT
    split <;> simp only [e, zero_mul]

theorem accT_zero {len : BitVec 32} (z : Fin 768 → Fin 128 → EReal) (w : S128x1536.Idx → EReal) (h : S768x1536.Idx → EReal) (q : ℕ) (r : Fin 768) (c : Fin 1536)
    (hr : len.toInt ≤ ((r.val : ℕ) : ℤ)) : accT len z w h q r c = 0 := by
  have e : pAt len z w r c = 0 := if_neg (by omega)
  unfold accT
  split <;> simp only [e, zero_mul]

/-- The sums over lanes and chunks are the sum over the frames. -/
theorem acc_sum {v1 : BitVec 32} (hl : v1.toInt ≤ 768) {z z' : Fin 768 → Fin 128 → EReal} (w : S128x1536.Idx → EReal) {h h' : S768x1536.Idx → EReal} (q : ℕ) (c : Fin 1536)
    (hz : ∀ r : Fin 768, ((r.val : ℕ) : ℤ) < v1.toInt → ∀ a, z r a = z' r a) (hh : ∀ r : Fin 768, ((r.val : ℕ) : ℤ) < v1.toInt → h (ix2 r c) = h' (ix2 r c)) :
    ∑ l : Fin 8, ∑ t ∈ Finset.range (16 * (k0_t3_loop v1).trips), accN v1 z w h q c (t * 8 + l.val) = accK v1 h' z' w q c := by
  rw [sum_lanes (fun r => accN v1 z w h q c r)]
  rw [show (k0_t3_loop v1).trips = (k0_t1_loop v1).trips from rfl]
  have h1 := len_le hl
  have h2 := trips_le hl
  rw [Finset.sum_subset (Finset.range_subset_range.mpr (show 128 * (k0_t1_loop v1).trips ≤ 768 by omega))
    (fun r _ hr => by
      unfold accN
      split
      · exact accT_zero _ _ _ _ _ _ (by simp only [Finset.mem_range] at hr; dsimp only; omega)
      · rfl), Finset.sum_range]
  unfold accK
  refine Finset.sum_congr rfl fun r _ => ?_
  unfold accN; rw [dif_pos r.isLt]
  exact accT_congr w q r c (hz r) (hh r)

section Row
variable {sg : RefSig} {κ : Kind} {sp : Space} {Val : EltTy → Type} {e : EltTy}

/-- An array after a store of the two halves of one of its rows. -/
theorem halvesStore (v : View sg κ sp ⟨2, ![64, 3072]⟩ e) (f : v.ty.Contents Val) {off off' : Fin 2 → ℕ} {o : ℕ}
    (inb : ∀ a, off a + (![1, 1536] : Fin 2 → ℕ) a ≤ (![64, 3072] : Fin 2 → ℕ) a) (inb' : ∀ a, off' a + (![1, 1536] : Fin 2 → ℕ) a ≤ (![64, 3072] : Fin 2 → ℕ) a)
    (h : off = ![o, 0]) (h' : off' = ![o, 1536]) (w w' : (⟨2, ![1, 1536]⟩ : Shape).Idx → Val e) (b : Fin 64) (c : Fin 3072) :
    v.read Val (v.writes Val f [⟨Rect.unit (s := ⟨2, ![64, 3072]⟩) off' ![1, 1536] inb', w'⟩, ⟨Rect.unit (s := ⟨2, ![64, 3072]⟩) off ![1, 1536] inb, w⟩]) (ix2 b c)
      = if b.val = o then (if h : c.val < 1536 then w (ix2 0 ⟨c.val, h⟩) else w' (ix2 0 ⟨c.val - 1536, by omega⟩)) else v.read Val f (ix2 b c) := by
  subst h h'
  have hc := c.isLt
  split
  · next hb =>
    split
    · next hlt =>
      refine (View.read_writes_cons_unit_of_not_mem (Val := Val) v _ _ _ _ _ rfl 1 (Or.inl (show c.val < 1536 from hlt))).trans ?_
      exact View.read_writes_cons_unit_of_mem v f inb w [] (ix2 b c) (ix2 0 ⟨c.val, hlt⟩) rfl (fun a => by
        match a with
        | 0 => show b.val = o + 0; omega
        | 1 => show c.val = 0 + c.val; omega)
    · next hlt =>
      exact View.read_writes_cons_unit_of_mem v f inb' w' _ (ix2 b c) (ix2 0 ⟨c.val - 1536, by omega⟩) rfl (fun a => by
        match a with
        | 0 => show b.val = o + 0; omega
        | 1 => show c.val = 1536 + (c.val - 1536); omega)
  · next hb =>
    rw [View.read_writes_apply_of_forall_not_mem]
    intro p hp
    rw [List.mem_cons, List.mem_singleton] at hp
    rcases hp with hp | hp <;> subst hp
    · rw [mem2 inb' rfl b c]; omega
    · rw [mem2 inb rfl b c]; omega

end Row

theorem off86_eq (i : grid0.Coords) : k0_off86 i = ![(i 0).val, 0] := by
  have : (i 0).val < 64 := (i 0).isLt
  unfold k0_off86
  show ![(BitVec.ofNat 32 (i 0).val).toNat, 0] = _
  rw [BitVec.toNat_ofNat, Nat.mod_eq_of_lt (by omega)]

theorem off87_eq (i : grid0.Coords) : k0_off87 i = ![(i 0).val, 1536] := by
  have : (i 0).val < 64 := (i 0).isLt
  unfold k0_off87
  show ![(BitVec.ofNat 32 (i 0).val).toNat, 1536] = _
  rw [BitVec.toNat_ofNat, Nat.mod_eq_of_lt (by omega)]

/-- The running sums of the second loop after the loops. -/
theorem acc_all (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 k0_hw1' : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (G_arg19 : BufTy.Contents (Elt Ideal) arg19.view.ty) (v101 : BitVec 32) (Y24 : BufTy.Contents (Elt Ideal) arg24.view.ty) (Y25 : BufTy.Contents (Elt Ideal) arg25.view.ty) (P19 : BufTy.Contents (Elt Ideal) arg19.view.ty) (P27 : BufTy.Contents (Elt Ideal) arg27.view.ty) (L27 : List (View.Piece (Elt Ideal) S3x8x1536 .f32)) (n3 n4 : ℕ) (hl : v1.toInt ≤ 768) (h27 : L27 = [⟨Rect.unit ![0, 0, 0] S3x8x1536.size inb_S3x8x1536_S3x8x1536_0_0_0, k0_pay315 (F := Ideal)⟩]) (h3 : n3 = (k0_t3_loop v1).trips) (h4 : n4 = 0) (s : Fin 3) (l : Fin 8) (cc : Fin 1536) :
    arg27.view.read (Elt Ideal) (arg27.view.writes (Elt Ideal) arg27.view.junk ((pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1' v3 v65 v72 cst_30 v73 v85 v89 v92 v101 X_arg5 X_arg9 X_arg10 X_arg11 Y24 Y25 P19 P27 n4).2 ++ ((pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 (arg27.view.writes (Elt Ideal) arg27.view.junk L27) n3).2 ++ L27))) (ix3 s l cc)
      = ∑ t ∈ Finset.range (16 * (k0_t3_loop v1).trips), accN v1 (fun (r : Fin 768) (a : Fin 128) => zf (arg9.view.read (Elt Ideal) X_arg9 (ix2 0 a)) (arg25.view.read (Elt Ideal) X_arg25 (ix2 r a)) (arg5.view.read (Elt Ideal) X_arg5 (ix2 0 a)) ((k0_pay330 (F := Ideal) v65 v72 cst_30 v73 v85 v89 v92) (ix2 0 a)) (arg10.view.read (Elt Ideal) X_arg10 (ix2 0 a))) (arg11.view.read (Elt Ideal) X_arg11) (arg24.view.read (Elt Ideal) X_arg24) s.val cc (t * 8 + l.val) := by
  subst h3 h4 h27
  rw [show (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1' v3 v65 v72 cst_30 v73 v85 v89 v92 v101 X_arg5 X_arg9 X_arg10 X_arg11 Y24 Y25 P19 P27 0).2 = [] from rfl, List.nil_append, View.writes_append]
  rw [loop3_acc 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 G_arg19 _ hl _ le_rfl s l cc, View.read_writes_full]
  rw [show (k0_pay315 (F := Ideal) : S3x8x1536.Idx → EReal) (ix3 s l cc) = 0 from by pointwise [k0_pay315], zero_add]

/-- The frames after the loops. -/
theorem hb_all (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (v1 : Elt Ideal .i32) (k0_hw1 k0_hw1' : k0_chk1 v1) (v19 : BitVec 32) (X_arg2 : BufTy.Contents (Elt Ideal) arg2.view.ty) (X_arg3 : BufTy.Contents (Elt Ideal) arg3.view.ty) (X_arg4 : BufTy.Contents (Elt Ideal) arg4.view.ty) (G_arg24 : BufTy.Contents (Elt Ideal) arg24.view.ty) (G_arg25 : BufTy.Contents (Elt Ideal) arg25.view.ty)  (G_arg26 : BufTy.Contents (Elt Ideal) arg26.view.ty) (P24 : BufTy.Contents (Elt Ideal) arg24.view.ty) (P25 : BufTy.Contents (Elt Ideal) arg25.view.ty) (P26 : BufTy.Contents (Elt Ideal) arg26.view.ty) (n1 n2 : ℕ) (hl : v1.toInt ≤ 768) (h1 : n1 = (k0_t1_loop v1).trips) (h2 : n2 = 0) (rr : Fin 768) (cc : Fin 1536) :
    arg24.view.read (Elt Ideal) (arg24.view.writes (Elt Ideal) G_arg24 ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 n2).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 (G_arg26) n1).1)) (ix2 rr cc)
      = if rr.val < 128 * (k0_t1_loop v1).trips then hv v1 (arg2.view.read (Elt Ideal) X_arg2) (arg3.view.read (Elt Ideal) X_arg3) rr cc else arg24.view.read (Elt Ideal) G_arg24 (ix2 rr cc) := by
  subst h1 h2
  rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1' v19 X_arg2 X_arg3 X_arg4 P24 P25 P26 0).1 = [] from rfl, List.nil_append]
  exact loop1_hb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 k0_hw1 X_arg2 X_arg3 X_arg4 G_arg24 G_arg25 G_arg26 hl _ le_rfl rr cc

end Cert.KernelIdeal.Run

end
-- ==== Proof.KernelIdealValue.lean ====
module

public import proofs.«01_k».proof.Proof.KernelIdealPooled

@[expose] public section

/-!
One run of the kernel body at a grid point over the extended reals: the activations it leaves, and the
pooled row, the row of codes and the row of scales it writes into the arrays that all grid points share.
-/

set_option maxRecDepth 16384

noncomputable section

namespace Cert.KernelIdeal.Run

open Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄I" => MT nD τ sig Unit (Elt Ideal) ℕ (UR sig nD τ) ℕ

theorem off1_eq (i : grid0.Coords) : k0_off1 i = ![(i 0).val] := by
  have : (i 0).val < 64 := (i 0).isLt
  unfold k0_off1
  show ![(BitVec.ofNat 32 (i 0).val).toNat] = _
  rw [BitVec.toNat_ofNat, Nat.mod_eq_of_lt (by omega)]

theorem off56_eq (i : grid0.Coords) : k0_off56 i = ![(i 0).val, 0] := by
  have : (i 0).val < 64 := (i 0).isLt
  unfold k0_off56
  show ![(BitVec.ofNat 32 (i 0).val).toNat, 0] = _
  rw [BitVec.toNat_ofNat, Nat.mod_eq_of_lt (by omega)]

theorem off57_eq (i : grid0.Coords) : k0_off57 i = ![(i 0).val, 0] := by
  have : (i 0).val < 64 := (i 0).isLt
  unfold k0_off57
  show ![(BitVec.ofNat 32 (i 0).val).toNat, 0] = _
  rw [BitVec.toNat_ofNat, Nat.mod_eq_of_lt (by omega)]

section Row
variable {sg : RefSig} {κ : Kind} {sp : Space} {Val : EltTy → Type} {e : EltTy}

/-- The word loaded at an offset. -/
theorem rd1 {N : ℕ} (v : View sg κ sp ⟨1, ![N]⟩ e) (f : v.ty.Contents Val) {off : Fin 1 → ℕ} {o : ℕ}
    (inb : ∀ a, off a + (![1] : Fin 1 → ℕ) a ≤ (![N] : Fin 1 → ℕ) a) (h : off = ![o]) (ho : o < N) (y : (Rect.unit (s := ⟨1, ![N]⟩) off ![1] inb).shape.Idx) :
    v.readAt Val (Rect.unit (s := ⟨1, ![N]⟩) off ![1] inb).toLoadRect f y = v.read Val f (ix1 ⟨o, ho⟩) := by
  subst h
  refine congrArg (v.read Val f) (funext fun a => Fin.ext ?_)
  match a with
  | 0 =>
    have h0 : (y 0).val < 1 := (y 0).isLt
    show o + 1 * (y 0).val = o; omega

/-- An array after a store of one of its rows. -/
theorem rowStore {M N : ℕ} (v : View sg κ sp ⟨2, ![M, N]⟩ e) (f : v.ty.Contents Val) {off : Fin 2 → ℕ} {o : ℕ}
    (inb : ∀ a, off a + (![1, N] : Fin 2 → ℕ) a ≤ (![M, N] : Fin 2 → ℕ) a) (h : off = ![o, 0]) (ho : o < M)
    (w : (⟨2, ![1, N]⟩ : Shape).Idx → Val e) (b : Fin M) (c : Fin N) :
    v.read Val (v.writes Val f [⟨Rect.unit (s := ⟨2, ![M, N]⟩) off ![1, N] inb, w⟩]) (ix2 b c)
      = if b.val = o then w (ix2 0 c) else v.read Val f (ix2 b c) := by
  subst h
  split
  · next hb =>
    exact View.read_writes_cons_unit_of_mem v f inb w [] (ix2 b c) (ix2 0 c) rfl (fun a => by
      match a with
      | 0 => show b.val = o + 0; omega
      | 1 => show c.val = 0 + c.val; omega)
  · next hb =>
    rw [View.read_writes_apply_of_forall_not_mem]
    intro p hp
    rw [List.mem_singleton] at hp
    subst hp
    rw [mem2 inb rfl b c]
    omega

end Row

/-- The activation's block after the loops. -/
theorem z_all (𝒱 : Variants) (c : Dev nD) (bd : Option 𝒱.V) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (arg0 : BitVec 32) (v1 : Elt Ideal .i32) (k0_hw1 k0_hw1' : k0_chk1 v1) (v3 : BitVec 32) (v65 : FVec Ideal S1x1 .f32) (v72 : FVec Ideal S1x3072 .f32) (cst_30 : Ideal .f32) (v73 : FVec Ideal S1x3072 .f32) (v85 : Vec Ideal S3072x128 .fp8e4m3) (v89 : Vec Ideal S1x128 .f32) (v92 : Vec Ideal S1x128 .f32) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg24 : BufTy.Contents (Elt Ideal) arg24.view.ty) (X_arg25 : BufTy.Contents (Elt Ideal) arg25.view.ty) (G_arg19 : BufTy.Contents (Elt Ideal) arg19.view.ty) (G_arg27 : BufTy.Contents (Elt Ideal) arg27.view.ty) (v101 : BitVec 32) (Y24 : BufTy.Contents (Elt Ideal) arg24.view.ty) (Y25 : BufTy.Contents (Elt Ideal) arg25.view.ty) (P19 : BufTy.Contents (Elt Ideal) arg19.view.ty) (P27 : BufTy.Contents (Elt Ideal) arg27.view.ty) (L19 : List (View.Piece (Elt Ideal) S1x768x128 .f32)) (n3 n4 : ℕ) (hl : v1.toInt ≤ 768) (h3 : n3 = (k0_t3_loop v1).trips) (h4 : n4 = 0) (rr : Fin 768) (aa : Fin 128) :
    arg19.view.read (Elt Ideal) (arg19.view.writes (Elt Ideal) G_arg19 ((pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1' v3 v65 v72 cst_30 v73 v85 v89 v92 v101 X_arg5 X_arg9 X_arg10 X_arg11 Y24 Y25 P19 P27 n4).1 ++ ((pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 (arg19.view.writes (Elt Ideal) G_arg19 L19) G_arg27 n3).1 ++ L19))) (ix3 0 rr aa)
      = if rr.val < 128 * (k0_t3_loop v1).trips then (if ((rr.val : ℕ) : ℤ) < v1.toInt then zf (arg9.view.read (Elt Ideal) X_arg9 (ix2 0 aa)) (arg25.view.read (Elt Ideal) X_arg25 (ix2 rr aa)) (arg5.view.read (Elt Ideal) X_arg5 (ix2 0 aa)) (k0_pay330 (F := Ideal) v65 v72 cst_30 v73 v85 v89 v92 (ix2 0 aa)) (arg10.view.read (Elt Ideal) X_arg10 (ix2 0 aa)) else 0) else arg19.view.read (Elt Ideal) (arg19.view.writes (Elt Ideal) G_arg19 L19) (ix3 0 rr aa) := by
  subst h3 h4
  rw [show (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1' v3 v65 v72 cst_30 v73 v85 v89 v92 v101 X_arg5 X_arg9 X_arg10 X_arg11 Y24 Y25 P19 P27 0).1 = [] from rfl, List.nil_append, View.writes_append]
  exact loop3_z 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 v1 k0_hw1 v3 v65 v72 cst_30 v73 v85 v89 v92 X_arg5 X_arg9 X_arg10 X_arg11 X_arg24 X_arg25 (arg19.view.writes (Elt Ideal) G_arg19 L19) G_arg27 hl _ le_rfl rr aa

set_option maxHeartbeats 16000000 in
/-- One grid point's body, run: the activation's block is the masked activation; the pooled, the codes' and the scales' arrays have this point's row set and are otherwise as found. -/
theorem bodyVal (c : Dev nD) (i : grid0.Coords) (arg1 : Memref sig .tc .smem S64 .i32) (harg1 : arg1.IsWhole) (arg2 : Memref sig .tc .vmem S1x768x1536 .fp8e4m3) (harg2 : arg2.IsWhole) (arg3 : Memref sig .tc .vmem S1x768x12 .f32) (harg3 : arg3.IsWhole) (arg4 : Memref sig .tc .vmem S1536x128 .fp8e4m3) (harg4 : arg4.IsWhole) (arg5 : Memref sig .tc .vmem S1x128 .f32) (harg5 : arg5.IsWhole) (arg6 : Memref sig .tc .vmem S3072x128 .fp8e4m3) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x1536 .bf16) (harg11 : arg11.IsWhole) (arg12 : Memref sig .tc .vmem S1x3072 .f32) (harg12 : arg12.IsWhole) (arg13 : Memref sig .tc .vmem S1x3072 .f32) (harg13 : arg13.IsWhole) (arg14 : Memref sig .tc .vmem S3072x192 .fp8e4m3) (harg14 : arg14.IsWhole) (arg15 : Memref sig .tc .vmem S1x192 .f32) (harg15 : arg15.IsWhole) (arg16 : Memref sig .tc .vmem S1x192 .f32) (harg16 : arg16.IsWhole) (arg17 : Memref sig .tc .vmem S64x192 .bf16) (harg17 : arg17.IsWhole) (arg18 : Memref sig .tc .vmem S64x3072 .f32) (harg18 : arg18.IsWhole) (arg19 : Memref sig .tc .vmem S1x768x128 .f32) (harg19 : arg19.IsWhole) (arg20 : Memref sig .tc .vmem S64x3072 .f32) (harg20 : arg20.IsWhole) (arg21 : Memref sig .tc .vmem S64x128 .f32) (harg21 : arg21.IsWhole) (arg22 : Memref sig .tc .vmem S64x3072 .fp8e4m3) (harg22 : arg22.IsWhole) (arg23 : Memref sig .tc .vmem S64x128 .f32) (harg23 : arg23.IsWhole) (arg24 : Memref sig .tc .vmem S768x1536 .bf16) (harg24 : arg24.IsWhole) (arg25 : Memref sig .tc .vmem S768x128 .f32) (harg25 : arg25.IsWhole) (arg26 : Memref sig .tc .vmem S2x8x1536 .f32) (harg26 : arg26.IsWhole) (arg27 : Memref sig .tc .vmem S3x8x1536 .f32) (harg27 : arg27.IsWhole) (q : PosShare TreeShare) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (f22 : BufTy.Contents (Elt Ideal) arg22.view.ty) (f23 : BufTy.Contents (Elt Ideal) arg23.view.ty) (f24 : BufTy.Contents (Elt Ideal) arg24.view.ty) (f25 : BufTy.Contents (Elt Ideal) arg25.view.ty) (f26 : BufTy.Contents (Elt Ideal) arg26.view.ty) (f27 : BufTy.Contents (Elt Ideal) arg27.view.ty)
    (v1 : BitVec 32) (hv1 : arg1.view.read (Elt Ideal) f1 (ix1 (i 0)) = v1) (hlen : ∀ x, (arg1.view.read (Elt Ideal) f1 x : BitVec 32).toInt ≤ 768) (Q : PUnit → sProp 𝕄I) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27)
      ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∃ g, arg17.view.loc (c : Thread nD τ) ↦[arg17.view.set]{fullShare} g) ∗ (∃ g, ⌜∀ (b : Fin 64) (cc : Fin 3072), arg18.view.read (Elt Ideal) g (ix2 b cc) = if b.val = (i 0).val then poolRow v1 (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10) (arg11.view.read (Elt Ideal) f11) cc else arg18.view.read (Elt Ideal) f18 (ix2 b cc)⌝ ∗ (arg18.view.loc (c : Thread nD τ) ↦[arg18.view.set]{fullShare} g)) ∗ (∃ g, ⌜∀ (rr : Fin 768) (aa : Fin 128), arg19.view.read (Elt Ideal) g (ix3 0 rr aa) = zAt v1 (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10) rr aa⌝ ∗ (arg19.view.loc (c : Thread nD τ) ↦[arg19.view.set]{fullShare} g)) ∗ (∃ g, ⌜∀ (b : Fin 64) (cc : Fin 3072), arg20.view.read (Elt Ideal) g (ix2 b cc) = if b.val = (i 0).val then codeRow v1 (arg2.view.read (Elt Ideal) f2) (arg3.view.read (Elt Ideal) f3) (ix2 0 cc) else arg20.view.read (Elt Ideal) f20 (ix2 b cc)⌝ ∗ (arg20.view.loc (c : Thread nD τ) ↦[arg20.view.set]{fullShare} g)) ∗ (∃ g, ⌜∀ (b : Fin 64) (cc : Fin 128), arg21.view.read (Elt Ideal) g (ix2 b cc) = if b.val = (i 0).val then scaleRow v1 (arg2.view.read (Elt Ideal) f2) (arg3.view.read (Elt Ideal) f3) (ix2 0 cc) else arg21.view.read (Elt Ideal) f21 (ix2 b cc)⌝ ∗ (arg21.view.loc (c : Thread nD τ) ↦[arg21.view.set]{fullShare} g)) ∗ (∃ g, arg22.view.loc (c : Thread nD τ) ↦[arg22.view.set]{fullShare} g) ∗ (∃ g, arg23.view.loc (c : Thread nD τ) ↦[arg23.view.set]{fullShare} g) ∗ (∃ g, arg24.view.loc (c : Thread nD τ) ↦[arg24.view.set]{fullShare} g) ∗ (∃ g, arg25.view.loc (c : Thread nD τ) ↦[arg25.view.set]{fullShare} g) ∗ (∃ g, arg26.view.loc (c : Thread nD τ) ↦[arg26.view.set]{fullShare} g) ∗ (∃ g, arg27.view.loc (c : Thread nD τ) ↦[arg27.view.set]{fullShare} g)) -∗ Q ⟨⟩))
    ⊢ wp frame (wpE (defs₀ (F := Ideal)) Variants.none (c : Thread nD τ) none) Set.univ (cc0_attstat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  rw [cc0_attstat_eq_skeleton]
  iintro ⟨H1, H2, H3, H4, H5, H6, H7, H8, H9, H10, H11, H12, H13, H14, H15, H16, H17, H18, H19, H20, H21, H22, H23, H24, H25, H26, H27, Hk⟩
  sl_exec (disch := exact chk (hlen _))
  sl_step
  have hr : bodyVal.sl.r i arg1 f1 = v1 := by
    rw [← hv1]
    exact rd1 arg1.view f1 _ (off1_eq i) (i 0).isLt _
  have hl : v1.toInt ≤ 768 := by rw [← hv1]; exact hlen _
  subst hr
  have e20 : ∀ (l : Fin 8) (cc : Fin 1536), bodyVal.sl.v20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen (ix3 0 l cc)
      = ∑ w ∈ Finset.range (16 * (k0_t1_loop (bodyVal.sl.r i arg1 f1)).trips), hvN (bodyVal.sl.r i arg1 f1) (arg2.view.read (Elt Ideal) f2) (arg3.view.read (Elt Ideal) f3) cc (w * 8 + l.val) := by
    intro l cc
    refine (rd3 arg26.view _ inb_S2x8x1536_S1x8x1536_0_0_0 rfl 0 l cc (by omega) (by omega) (by omega)).trans ?_
    refine (congrArg (View.read (Elt Ideal) arg26.view _) (a₂ := ix3 0 l cc) (funext fun a => Fin.ext (by match a with | 0 => rfl | 1 => exact Nat.zero_add _ | 2 => exact Nat.zero_add _))).trans ?_
    generalize h26 : bodyVal.sl.H26_1 = L26
    generalize h2 : Scf.trips (k0_t2_loop (bodyVal.sl.r i arg1 f1)).lb (k0_t2_loop (bodyVal.sl.r i arg1 f1)).ub (k0_t2_loop (bodyVal.sl.r i arg1 f1)).st = n2
    generalize h1 : Scf.trips (k0_t1_loop (bodyVal.sl.r i arg1 f1)).lb (k0_t1_loop (bodyVal.sl.r i arg1 f1)).ub (k0_t1_loop (bodyVal.sl.r i arg1 f1)).st = n1
    generalize _hv : bodyVal.sl.v19 i arg1 f1 = v19
    have h := fun P24 P25 P26 => st_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 P24 P25 P26 L26 n1 n2 hl h26.symm h1.symm (h2.symm.trans (rest_trips _)) 0 l cc
    rw [h]
    exact Finset.sum_congr rfl fun w _ => if_pos rfl
  have e26 : ∀ (l : Fin 8) (cc : Fin 1536), bodyVal.sl.v26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen (ix3 0 l cc)
      = ∑ w ∈ Finset.range (16 * (k0_t1_loop (bodyVal.sl.r i arg1 f1)).trips), hvN (bodyVal.sl.r i arg1 f1) (arg2.view.read (Elt Ideal) f2) (arg3.view.read (Elt Ideal) f3) cc (w * 8 + l.val) * hvN (bodyVal.sl.r i arg1 f1) (arg2.view.read (Elt Ideal) f2) (arg3.view.read (Elt Ideal) f3) cc (w * 8 + l.val) := by
    intro l cc
    refine (rd3 arg26.view _ inb_S2x8x1536_S1x8x1536_1_0_0 rfl 0 l cc (by omega) (by omega) (by omega)).trans ?_
    refine (congrArg (View.read (Elt Ideal) arg26.view _) (a₂ := ix3 1 l cc) (funext fun a => Fin.ext (by match a with | 0 => rfl | 1 => exact Nat.zero_add _ | 2 => exact Nat.zero_add _))).trans ?_
    generalize h26 : bodyVal.sl.H26_1 = L26
    generalize h2 : Scf.trips (k0_t2_loop (bodyVal.sl.r i arg1 f1)).lb (k0_t2_loop (bodyVal.sl.r i arg1 f1)).ub (k0_t2_loop (bodyVal.sl.r i arg1 f1)).st = n2
    generalize h1 : Scf.trips (k0_t1_loop (bodyVal.sl.r i arg1 f1)).lb (k0_t1_loop (bodyVal.sl.r i arg1 f1)).ub (k0_t1_loop (bodyVal.sl.r i arg1 f1)).st = n1
    generalize _hv : bodyVal.sl.v19 i arg1 f1 = v19
    have h := fun P24 P25 P26 => st_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 P24 P25 P26 L26 n1 n2 hl h26.symm h1.symm (h2.symm.trans (rest_trips _)) 1 l cc
    rw [h]
    exact Finset.sum_congr rfl fun w _ => if_neg (by decide)
  have e2 : bodyVal.sl.r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen = V25 (bodyVal.sl.r i arg1 f1) (arg2.view.read (Elt Ideal) f2) (arg3.view.read (Elt Ideal) f3) := by
    funext y
    obtain ⟨s, cc, rfl⟩ : ∃ (s : Fin 1) (cc : Fin 1536), y = ix2 s cc := ⟨y 0, y 1, eq_ix2 (n0 := 1) (n1 := 1536) y⟩
    obtain rfl : s = 0 := Subsingleton.elim _ _
    refine (pay320_at _ _ cc).trans ?_
    unfold V25
    refine congrArg (· * _) ((Finset.sum_congr rfl fun l _ => e20 l cc).trans ?_)
    exact sum_rows hl (arg2.view.read (Elt Ideal) f2) (arg3.view.read (Elt Ideal) f3) cc (fun t => t) rfl
  have e3 : bodyVal.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen = V28 (bodyVal.sl.r i arg1 f1) (arg2.view.read (Elt Ideal) f2) (arg3.view.read (Elt Ideal) f3) := by
    funext y
    obtain ⟨cc, rfl⟩ : ∃ (cc : Fin 1536), y = ix1 cc := ⟨y 0, eq_ix1 (n0 := 1536) y⟩
    refine (pay321_at _ cc).trans ?_
    unfold V28
    refine (Finset.sum_congr rfl fun l _ => e26 l cc).trans ?_
    exact sum_rows hl (arg2.view.read (Elt Ideal) f2) (arg3.view.read (Elt Ideal) f3) cc (fun t => t * t) (mul_zero 0)
  have e4 : bodyVal.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen = SC (bodyVal.sl.r i arg1 f1) (arg2.view.read (Elt Ideal) f2) (arg3.view.read (Elt Ideal) f3) := by
    unfold bodyVal.sl.r_4 SC
    rw [e2, e3]; rfl
  have e5 : bodyVal.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f24 f25 hlen = GX (bodyVal.sl.r i arg1 f1) (arg2.view.read (Elt Ideal) f2) (arg3.view.read (Elt Ideal) f3) := by
    unfold bodyVal.sl.r_5 GX
    rw [e2, e3]; rfl
  have a0 : ∀ cc : Fin 1536, ∑ l : Fin 8, bodyVal.sl.v102 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen (ix3 0 l cc) = accK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) 0 cc := by
    intro cc
    refine (Finset.sum_congr rfl fun l _ => (rd3 arg27.view _ inb_S3x8x1536_S1x8x1536_0_0_0 rfl 0 l cc (by omega) (by omega) (by omega)).trans
      (congrArg (View.read (Elt Ideal) arg27.view _) (a₂ := ix3 0 l cc) (funext fun a => Fin.ext (by match a with | 0 => rfl | 1 => exact Nat.zero_add _ | 2 => exact Nat.zero_add _)))).trans ?_
    rw [e4, e5]
    generalize bodyVal.sl.H26_1 = L26
    generalize h27 : bodyVal.sl.H27_1 = L27
    generalize h4 : Scf.trips (k0_t4_loop (bodyVal.sl.r i arg1 f1)).lb (k0_t4_loop (bodyVal.sl.r i arg1 f1)).ub (k0_t4_loop (bodyVal.sl.r i arg1 f1)).st = n4
    generalize h3 : Scf.trips (k0_t3_loop (bodyVal.sl.r i arg1 f1)).lb (k0_t3_loop (bodyVal.sl.r i arg1 f1)).ub (k0_t3_loop (bodyVal.sl.r i arg1 f1)).st = n3
    generalize _hv : bodyVal.sl.v19 i arg1 f1 = v19
    generalize _hw : bodyVal.sl.v3 i arg1 f1 = v3
    generalize _hx : bodyVal.sl.v101 i arg1 f1 = v101
    generalize hcst : bodyVal.sl.cst_30 = cst
    have hA := fun l a0 v65 v72 v73 v85 v89 v92 X24 X25 G19 Y24 Y25 P19 P27 => acc_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 (bodyVal.sl.r i arg1 f1) (chk hl) (chk hl) v3 v65 v72 cst v73 v85 v89 v92 f5 f9 f10 f11 X24 X25 G19 v101 Y24 Y25 P19 P27 L27 n3 n4 hl h27.symm h3.symm (h4.symm.trans (rest_trips _)) 0 l cc
    refine (Finset.sum_congr rfl fun l _ => hA l _ _ _ _ _ _ _ _ _ _ _ _ _ _).trans ?_
    refine acc_sum hl _ 0 cc (fun rr hrr aa => ?_) (fun rr hrr => ?_)
    · have hf := fun G26 P24 P25 P26 => fr_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr aa
      rw [hf]
      have hn := len_le hl
      unfold zU
      subst hcst
      rw [View.readAt_full, View.readAt_full, View.readAt_full, if_pos (by omega)]
      rfl
    · have hf := fun G26 P24 P25 P26 => hb_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr cc
      rw [hf]
      have hn := len_le hl
      rw [if_pos (by omega)]
      rfl
  have a1 : ∀ cc : Fin 1536, ∑ l : Fin 8, bodyVal.sl.v108 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen (ix3 0 l cc) = accK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) 1 cc := by
    intro cc
    refine (Finset.sum_congr rfl fun l _ => (rd3 arg27.view _ inb_S3x8x1536_S1x8x1536_1_0_0 rfl 0 l cc (by omega) (by omega) (by omega)).trans
      (congrArg (View.read (Elt Ideal) arg27.view _) (a₂ := ix3 1 l cc) (funext fun a => Fin.ext (by match a with | 0 => rfl | 1 => exact Nat.zero_add _ | 2 => exact Nat.zero_add _)))).trans ?_
    rw [e4, e5]
    generalize bodyVal.sl.H26_1 = L26
    generalize h27 : bodyVal.sl.H27_1 = L27
    generalize h4 : Scf.trips (k0_t4_loop (bodyVal.sl.r i arg1 f1)).lb (k0_t4_loop (bodyVal.sl.r i arg1 f1)).ub (k0_t4_loop (bodyVal.sl.r i arg1 f1)).st = n4
    generalize h3 : Scf.trips (k0_t3_loop (bodyVal.sl.r i arg1 f1)).lb (k0_t3_loop (bodyVal.sl.r i arg1 f1)).ub (k0_t3_loop (bodyVal.sl.r i arg1 f1)).st = n3
    generalize _hv : bodyVal.sl.v19 i arg1 f1 = v19
    generalize _hw : bodyVal.sl.v3 i arg1 f1 = v3
    generalize _hx : bodyVal.sl.v101 i arg1 f1 = v101
    generalize hcst : bodyVal.sl.cst_30 = cst
    have hA := fun l a0 v65 v72 v73 v85 v89 v92 X24 X25 G19 Y24 Y25 P19 P27 => acc_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 (bodyVal.sl.r i arg1 f1) (chk hl) (chk hl) v3 v65 v72 cst v73 v85 v89 v92 f5 f9 f10 f11 X24 X25 G19 v101 Y24 Y25 P19 P27 L27 n3 n4 hl h27.symm h3.symm (h4.symm.trans (rest_trips _)) 1 l cc
    refine (Finset.sum_congr rfl fun l _ => hA l _ _ _ _ _ _ _ _ _ _ _ _ _ _).trans ?_
    refine acc_sum hl _ 1 cc (fun rr hrr aa => ?_) (fun rr hrr => ?_)
    · have hf := fun G26 P24 P25 P26 => fr_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr aa
      rw [hf]
      have hn := len_le hl
      unfold zU
      subst hcst
      rw [View.readAt_full, View.readAt_full, View.readAt_full, if_pos (by omega)]
      rfl
    · have hf := fun G26 P24 P25 P26 => hb_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr cc
      rw [hf]
      have hn := len_le hl
      rw [if_pos (by omega)]
      rfl
  have a2 : ∀ cc : Fin 1536, ∑ l : Fin 8, bodyVal.sl.v113 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen (ix3 0 l cc) = accK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) 2 cc := by
    intro cc
    refine (Finset.sum_congr rfl fun l _ => (rd3 arg27.view _ inb_S3x8x1536_S1x8x1536_2_0_0 rfl 0 l cc (by omega) (by omega) (by omega)).trans
      (congrArg (View.read (Elt Ideal) arg27.view _) (a₂ := ix3 2 l cc) (funext fun a => Fin.ext (by match a with | 0 => rfl | 1 => exact Nat.zero_add _ | 2 => exact Nat.zero_add _)))).trans ?_
    rw [e4, e5]
    generalize bodyVal.sl.H26_1 = L26
    generalize h27 : bodyVal.sl.H27_1 = L27
    generalize h4 : Scf.trips (k0_t4_loop (bodyVal.sl.r i arg1 f1)).lb (k0_t4_loop (bodyVal.sl.r i arg1 f1)).ub (k0_t4_loop (bodyVal.sl.r i arg1 f1)).st = n4
    generalize h3 : Scf.trips (k0_t3_loop (bodyVal.sl.r i arg1 f1)).lb (k0_t3_loop (bodyVal.sl.r i arg1 f1)).ub (k0_t3_loop (bodyVal.sl.r i arg1 f1)).st = n3
    generalize _hv : bodyVal.sl.v19 i arg1 f1 = v19
    generalize _hw : bodyVal.sl.v3 i arg1 f1 = v3
    generalize _hx : bodyVal.sl.v101 i arg1 f1 = v101
    generalize hcst : bodyVal.sl.cst_30 = cst
    have hA := fun l a0 v65 v72 v73 v85 v89 v92 X24 X25 G19 Y24 Y25 P19 P27 => acc_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 (bodyVal.sl.r i arg1 f1) (chk hl) (chk hl) v3 v65 v72 cst v73 v85 v89 v92 f5 f9 f10 f11 X24 X25 G19 v101 Y24 Y25 P19 P27 L27 n3 n4 hl h27.symm h3.symm (h4.symm.trans (rest_trips _)) 2 l cc
    refine (Finset.sum_congr rfl fun l _ => hA l _ _ _ _ _ _ _ _ _ _ _ _ _ _).trans ?_
    refine acc_sum hl _ 2 cc (fun rr hrr aa => ?_) (fun rr hrr => ?_)
    · have hf := fun G26 P24 P25 P26 => fr_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr aa
      rw [hf]
      have hn := len_le hl
      unfold zU
      subst hcst
      rw [View.readAt_full, View.readAt_full, View.readAt_full, if_pos (by omega)]
      rfl
    · have hf := fun G26 P24 P25 P26 => hb_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr cc
      rw [hf]
      have hn := len_le hl
      rw [if_pos (by omega)]
      rfl
  have p0 : ∀ cc : Fin 1536, bodyVal.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen (ix2 0 cc) = accK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) 0 cc := fun cc => (pay336_at _ cc).trans (a0 cc)
  have pm : ∀ cc : Fin 1536, k0_pay2 (F := Ideal) (bodyVal.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen) bodyVal.sl.cst_53 (bodyVal.sl.v108 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen) (ix2 0 cc) = muK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) cc := fun cc =>
    (pay2_at _ _ _ cc).trans (congrArg₂ (fun u v : EReal => u * v) (a1 cc) (congrArg (Ideal.div _) (p0 cc)))
  have ps : ∀ cc : Fin 1536, k0_pay3 (F := Ideal) (bodyVal.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen) bodyVal.sl.cst_53 (bodyVal.sl.v108 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen) (bodyVal.sl.v113 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f24 f25 hlen) (ix2 0 cc) = sdK (bodyVal.sl.r i arg1 f1) (hvV (bodyVal.sl.r i arg1 f1) (arg2.view.read (Elt Ideal) f2) (arg3.view.read (Elt Ideal) f3)) (zU (bodyVal.sl.r i arg1 f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)) (arg11.view.read (Elt Ideal) f11) cc := fun cc => by
    refine (pay3_at _ _ _ _ cc).trans ?_
    rw [pm cc]
    unfold sdK
    exact congrArg (fun u : EReal => Ideal.sqrt (max (u - _) 0)) (congrArg₂ (fun u v : EReal => u * v) (a2 cc) (congrArg (Ideal.div _) (p0 cc)))
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]
  · iexists _
    isplitr
    rotate_left
    · iexact H18
    ipureintro
    intro b cc
    refine (halvesStore arg18.view f18 _ _ (off86_eq i) (off87_eq i) _ _ b cc).trans ?_
    by_cases hb : b.val = (i 0).val
    · rw [if_pos hb, if_pos hb]
      unfold poolRow
      by_cases hc : cc.val < 1536
      · rw [dif_pos hc, dif_pos hc]; exact pm _
      · rw [dif_neg hc, dif_neg hc]; exact ps _
    · rw [if_neg hb, if_neg hb]
  isplitl [H19]
  · iexists _
    isplitr
    rotate_left
    · iexact H19
    ipureintro
    intro rr aa
    rw [e4, e5]
    generalize bodyVal.sl.H26_1 = L26
    generalize h4 : Scf.trips (k0_t4_loop (bodyVal.sl.r i arg1 f1)).lb (k0_t4_loop (bodyVal.sl.r i arg1 f1)).ub (k0_t4_loop (bodyVal.sl.r i arg1 f1)).st = n4
    generalize h3 : Scf.trips (k0_t3_loop (bodyVal.sl.r i arg1 f1)).lb (k0_t3_loop (bodyVal.sl.r i arg1 f1)).ub (k0_t3_loop (bodyVal.sl.r i arg1 f1)).st = n3
    generalize _hv : bodyVal.sl.v19 i arg1 f1 = v19
    generalize _hw : bodyVal.sl.v3 i arg1 f1 = v3
    generalize _hx : bodyVal.sl.v101 i arg1 f1 = v101
    generalize hcst : bodyVal.sl.cst_30 = cst
    have hz := fun a0 v65 v72 v73 v85 v89 v92 X24 X25 G27 Y24 Y25 P19 P27 L19 => z_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 (bodyVal.sl.r i arg1 f1) (chk hl) (chk hl) v3 v65 v72 cst v73 v85 v89 v92 f5 f9 f10 f11 X24 X25 arg19.view.junk G27 v101 Y24 Y25 P19 P27 L19 n3 n4 hl h3.symm (h4.symm.trans (rest_trips _)) rr aa
    have hf := fun G26 P24 P25 P26 => fr_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (bodyVal.sl.r i arg1 f1) (chk hl) (chk hl) v19 f2 f3 f4 f24 f25 G26 P24 P25 P26 n3 n4 hl h3.symm (h4.symm.trans (rest_trips _)) rr aa
    rw [hz, hf]
    rw [show (k0_t3_loop (bodyVal.sl.r i arg1 f1)).trips = (k0_t1_loop (bodyVal.sl.r i arg1 f1)).trips from rfl]
    have hn := len_le hl
    unfold zAt
    subst hcst
    rw [View.readAt_full, View.readAt_full, View.readAt_full]
    by_cases hrr : rr.val < 128 * (k0_t1_loop (bodyVal.sl.r i arg1 f1)).trips
    · rw [if_pos hrr, if_pos hrr]
      rfl
    · rw [if_neg hrr, if_neg (by omega)]
      unfold bodyVal.sl.H19_1
      refine (congrFun (View.read_writes_full ..) _).trans ?_
      pointwise [k0_pay331]
  isplitl [H20]
  · iexists _
    isplitr
    rotate_left
    · iexact H20
    ipureintro
    intro b cc
    rw [e5]
    exact rowStore arg20.view f20 _ (off56_eq i) (i 0).isLt _ b cc
  isplitl [H21]
  · iexists _
    isplitr
    rotate_left
    · iexact H21
    ipureintro
    intro b cc
    rw [e4]
    exact rowStore arg21.view f21 _ (off57_eq i) (i 0).isLt _ b cc
  isplitl [H22]; · iexists _; iexact H22
  isplitl [H23]; · iexists _; iexact H23
  isplitl [H24]; · iexists _; iexact H24
  isplitl [H25]; · iexists _; iexact H25
  isplitl [H26]; · iexists _; iexact H26
  iexists _; iexact H27

end Cert.KernelIdeal.Run

end
-- ==== Proof.KernelIdealLaunch.lean ====
module

public import proofs.«01_k».proof.Proof.KernelIdealRun
public import proofs.«01_k».proof.Proof.KernelIdealValue
public import Idealize.ShloMosaic.Lib.Pipeline.FrameBody
public import Idealize.ShloMosaic.Lib.Pipeline.ArrRel

@[expose] public section

/-!
The launch of the kernel over the extended reals with what it leaves in four of its results: the activation
is the masked activation of each point's blocks, and the pooled array, the codes and the scales have at each row
those of that row's point.
-/

set_option maxRecDepth 16384

noncomputable section

namespace Cert.KernelIdeal.Run

open Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

local notation "𝕄G" => MT nD τ sig Unit (Elt Ideal) ℕ (UR sig nD τ) ℕ

variable (m : (ℓ : Loc nD τ sig) → Buf (Elt Ideal) ℓ) (g : Dev nD → PrngReg)

/-- The length at a point. -/
abbrev lenAt (t : Fin grid0.N) : BitVec 32 := V m 0 main_arg2 (ix1 (grid0.coords t 0))

/-- The block of a window at a point, of the array the launch is entered with. -/
abbrev B (w : Fin 22) (t : Fin grid0.N) : (spec0 w).block.Idx → Elt Ideal (spec0 w).elt :=
  (((cfg0 (adm m 0)).win w).blk t).view.read (Elt Ideal) (V m 0 (Pipeline.arrRef spec0 w))

/-- What a point leaves in each window's buffer, of what it finds there. -/
def valAfter : (w : Fin 22) → (t : Fin grid0.N) → (Y X : (spec0 w).block.Idx → Elt Ideal (spec0 w).elt) → Prop
  | 16 => fun t Y X => ∀ (b : Fin 64) (cc : Fin 3072), (X : S64x3072.Idx → EReal) (ix2 b cc)
      = if b.val = t.val then poolRow (lenAt m t) (B m 0 t) (B m 1 t) (B m 2 t) (B m 3 t) (B m 4 t) (B m 5 t) (B m 6 t) (B m 7 t) (B m 8 t) (B m 9 t) cc else (Y : S64x3072.Idx → EReal) (ix2 b cc)
  | 17 => fun t _ X => ∀ (rr : Fin 768) (aa : Fin 128), (X : S1x768x128.Idx → EReal) (ix3 0 rr aa)
      = zAt (lenAt m t) (B m 0 t) (B m 1 t) (B m 2 t) (B m 3 t) (B m 4 t) (B m 5 t) (B m 6 t) (B m 7 t) (B m 8 t) rr aa
  | 18 => fun t Y X => ∀ (b : Fin 64) (cc : Fin 3072), (X : S64x3072.Idx → EReal) (ix2 b cc)
      = if b.val = t.val then codeRow (lenAt m t) (B m 0 t) (B m 1 t) (ix2 0 cc) else (Y : S64x3072.Idx → EReal) (ix2 b cc)
  | 19 => fun t Y X => ∀ (b : Fin 64) (cc : Fin 128), (X : S64x128.Idx → EReal) (ix2 b cc)
      = if b.val = t.val then scaleRow (lenAt m t) (B m 0 t) (B m 1 t) (ix2 0 cc) else (Y : S64x128.Idx → EReal) (ix2 b cc)
  | w => fun _ Y X => (spec0 w).isOut = false → X = Y

/-- The proof data of the run. -/
def valDat (c : Dev nD) : RDat τ (Elt Ideal) Unit ℕ (UR sig nD τ) ℕ (cfg0 (adm m 0)) c where
  A w := V m c (Pipeline.arrRef spec0 w)
  after w t Y X := valAfter m w t Y X
  Φ _ := Φ m c
  q _ := fullShare
  owed _ := 0

/-- An input's buffer holds that input's block. -/
theorem found (w : Fin 22) (hw : (spec0 w).isOut = false) (hk : ∀ t Y X, valAfter m w t Y X → X = Y) (t : Fin grid0.N)
    (Y : (spec0 w).block.Idx → Elt Ideal (spec0 w).elt) (hfe : ∀ d, (valDat m 0).fetched w t d = B m w t) (h : (valDat m 0).Finds w t Y) : Y = B m w t := by
  obtain ⟨d, hd⟩ := (valDat m 0).finds_in_eq_fetched w hw (fun _ _ _ => rfl) (hk) t Y h
  exact hd.trans (hfe d)

/-- The grid's only coordinate is the point. -/
theorem coord_val (t : Fin grid0.N) : (grid0.coords t 0).val = t.val := by
  revert t; decide +kernel

variable {m}

theorem val17 (m : (ℓ : Loc nD τ sig) → Buf (Elt Ideal) ℓ) (t : Fin grid0.N) (X : S1x768x128.Idx → EReal)
    {y0 : S1x768x1536.Idx → EReal} {y1 : S1x768x12.Idx → EReal} {y2 : S1536x128.Idx → EReal} {y3 : S1x128.Idx → EReal} {y4 : S3072x128.Idx → EReal} {y5 y6 y7 y8 : S1x128.Idx → EReal}
    (k : ∀ (rr : Fin 768) (aa : Fin 128), X (ix3 0 rr aa) = zAt (lenAt m t) y0 y1 y2 y3 y4 y5 y6 y7 y8 rr aa)
    (h0 : y0 = B m 0 t) (h1 : y1 = B m 1 t) (h2 : y2 = B m 2 t) (h3 : y3 = B m 3 t) (h4 : y4 = B m 4 t) (h5 : y5 = B m 5 t) (h6 : y6 = B m 6 t) (h7 : y7 = B m 7 t) (h8 : y8 = B m 8 t)
    (Y : (spec0 17).block.Idx → Elt Ideal (spec0 17).elt) : valAfter m 17 t Y X := by
  subst h0 h1 h2 h3 h4 h5 h6 h7 h8
  exact k

theorem val16 (m : (ℓ : Loc nD τ sig) → Buf (Elt Ideal) ℓ) (t : Fin grid0.N) (X Y' Y : S64x3072.Idx → EReal)
    {y0 : S1x768x1536.Idx → EReal} {y1 : S1x768x12.Idx → EReal} {y2 : S1536x128.Idx → EReal} {y3 : S1x128.Idx → EReal} {y4 : S3072x128.Idx → EReal} {y5 y6 y7 y8 : S1x128.Idx → EReal} {y9 : S128x1536.Idx → EReal}
    (k : ∀ (b : Fin 64) (cc : Fin 3072), X (ix2 b cc) = if b.val = (grid0.coords t 0).val then poolRow (lenAt m t) y0 y1 y2 y3 y4 y5 y6 y7 y8 y9 cc else Y' (ix2 b cc))
    (hy : Y' = Y) (h0 : y0 = B m 0 t) (h1 : y1 = B m 1 t) (h2 : y2 = B m 2 t) (h3 : y3 = B m 3 t) (h4 : y4 = B m 4 t) (h5 : y5 = B m 5 t) (h6 : y6 = B m 6 t) (h7 : y7 = B m 7 t) (h8 : y8 = B m 8 t) (h9 : y9 = B m 9 t) : valAfter m 16 t Y X := by
  subst hy h0 h1 h2 h3 h4 h5 h6 h7 h8 h9
  intro b cc
  rw [← coord_val t]
  exact k b cc

theorem val18 (m : (ℓ : Loc nD τ sig) → Buf (Elt Ideal) ℓ) (t : Fin grid0.N) (X Y' Y : S64x3072.Idx → EReal)
    {y0 : S1x768x1536.Idx → EReal} {y1 : S1x768x12.Idx → EReal}
    (k : ∀ (b : Fin 64) (cc : Fin 3072), X (ix2 b cc) = if b.val = (grid0.coords t 0).val then codeRow (lenAt m t) y0 y1 (ix2 0 cc) else Y' (ix2 b cc))
    (hy : Y' = Y) (h0 : y0 = B m 0 t) (h1 : y1 = B m 1 t) : valAfter m 18 t Y X := by
  subst hy h0 h1
  intro b cc
  rw [← coord_val t]
  exact k b cc

theorem val19 (m : (ℓ : Loc nD τ sig) → Buf (Elt Ideal) ℓ) (t : Fin grid0.N) (X Y' Y : S64x128.Idx → EReal)
    {y0 : S1x768x1536.Idx → EReal} {y1 : S1x768x12.Idx → EReal}
    (k : ∀ (b : Fin 64) (cc : Fin 128), X (ix2 b cc) = if b.val = (grid0.coords t 0).val then scaleRow (lenAt m t) y0 y1 (ix2 0 cc) else Y' (ix2 b cc))
    (hy : Y' = Y) (h0 : y0 = B m 0 t) (h1 : y1 = B m 1 t) : valAfter m 19 t Y X := by
  subst hy h0 h1
  intro b cc
  rw [← coord_val t]
  exact k b cc

variable (m)

set_option maxHeartbeats 4000000 in
/-- The body obligation: the body run at a point on the blocks it finds. -/
theorem val_body (hlen : ∀ x, (V m 0 main_arg2 x : BitVec 32).toInt ≤ 768) (c : Dev nD) :
    (valDat m c).BodyObligation (defs₀ (F := Ideal)) Variants.none () Set.univ := by
  obtain rfl : c = 0 := Subsingleton.elim c 0
  intro t Y hY
  rw [bigSep_W0, bigSep_W0]
  rw [show (valDat m 0).Φ t.castSucc = Φ m 0 from rfl, show (valDat m 0).Φ t.succ = Φ m 0 from rfl]
  unfold Φ Pipeline.ΦA Pipeline.ΦT Pipeline.prefHeld RDat.owesAt Pipeline.owesWithin owns
  rw [scopedRest0_eq, show (Finset.univ : Finset (Fin pre0.K)) = {0} from rfl, bigSep_singleton]
  rw [show (valDat m 0).owed t.castSucc = 0 from rfl, show (valDat m 0).owed t.succ = 0 from rfl]
  have e0 : Y 0 = B m 0 t := found m 0 rfl (fun _ _ _ h => h rfl) t _ (fun _ => rfl) (hY 0)
  have e1 : Y 1 = B m 1 t := found m 1 rfl (fun _ _ _ h => h rfl) t _ (fun _ => rfl) (hY 1)
  have e2 : Y 2 = B m 2 t := found m 2 rfl (fun _ _ _ h => h rfl) t _ (fun _ => rfl) (hY 2)
  have e3 : Y 3 = B m 3 t := found m 3 rfl (fun _ _ _ h => h rfl) t _ (fun _ => rfl) (hY 3)
  have e4 : Y 4 = B m 4 t := found m 4 rfl (fun _ _ _ h => h rfl) t _ (fun _ => rfl) (hY 4)
  have e5 : Y 5 = B m 5 t := found m 5 rfl (fun _ _ _ h => h rfl) t _ (fun _ => rfl) (hY 5)
  have e6 : Y 6 = B m 6 t := found m 6 rfl (fun _ _ _ h => h rfl) t _ (fun _ => rfl) (hY 6)
  have e7 : Y 7 = B m 7 t := found m 7 rfl (fun _ _ _ h => h rfl) t _ (fun _ => rfl) (hY 7)
  have e8 : Y 8 = B m 8 t := found m 8 rfl (fun _ _ _ h => h rfl) t _ (fun _ => rfl) (hY 8)
  have e9 : Y 9 = B m 9 t := found m 9 rfl (fun _ _ _ h => h rfl) t _ (fun _ => rfl) (hY 9)
  iintro ⟨⟨⟨⟨⟨%s0, S0⟩, ⟨%s1, S1⟩, ⟨%s2, S2⟩, ⟨%s3, S3⟩⟩, HP⟩, HT⟩, ⟨%W, %hW, HO⟩, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩
  iapply (bodyVal 0 (grid0.coords t) (Memref.whole main_arg2) (Memref.isWhole_whole _) (spec0_0.stage (((cfg0 (adm m 0)).slots t 0))) (hstage0_0 ((((cfg0 (adm m 0)).slots t 0)).cast nbuf0_0)) (spec0_1.stage (((cfg0 (adm m 0)).slots t 1))) (hstage0_1 ((((cfg0 (adm m 0)).slots t 1)).cast nbuf0_1)) (spec0_2.stage (((cfg0 (adm m 0)).slots t 2))) (hstage0_2 ((((cfg0 (adm m 0)).slots t 2)).cast nbuf0_2)) (spec0_3.stage (((cfg0 (adm m 0)).slots t 3))) (hstage0_3 ((((cfg0 (adm m 0)).slots t 3)).cast nbuf0_3)) (spec0_4.stage (((cfg0 (adm m 0)).slots t 4))) (hstage0_4 ((((cfg0 (adm m 0)).slots t 4)).cast nbuf0_4)) (spec0_5.stage (((cfg0 (adm m 0)).slots t 5))) (hstage0_5 ((((cfg0 (adm m 0)).slots t 5)).cast nbuf0_5)) (spec0_6.stage (((cfg0 (adm m 0)).slots t 6))) (hstage0_6 ((((cfg0 (adm m 0)).slots t 6)).cast nbuf0_6)) (spec0_7.stage (((cfg0 (adm m 0)).slots t 7))) (hstage0_7 ((((cfg0 (adm m 0)).slots t 7)).cast nbuf0_7)) (spec0_8.stage (((cfg0 (adm m 0)).slots t 8))) (hstage0_8 ((((cfg0 (adm m 0)).slots t 8)).cast nbuf0_8)) (spec0_9.stage (((cfg0 (adm m 0)).slots t 9))) (hstage0_9 ((((cfg0 (adm m 0)).slots t 9)).cast nbuf0_9)) (spec0_10.stage (((cfg0 (adm m 0)).slots t 10))) (hstage0_10 ((((cfg0 (adm m 0)).slots t 10)).cast nbuf0_10)) (spec0_11.stage (((cfg0 (adm m 0)).slots t 11))) (hstage0_11 ((((cfg0 (adm m 0)).slots t 11)).cast nbuf0_11)) (spec0_12.stage (((cfg0 (adm m 0)).slots t 12))) (hstage0_12 ((((cfg0 (adm m 0)).slots t 12)).cast nbuf0_12)) (spec0_13.stage (((cfg0 (adm m 0)).slots t 13))) (hstage0_13 ((((cfg0 (adm m 0)).slots t 13)).cast nbuf0_13)) (spec0_14.stage (((cfg0 (adm m 0)).slots t 14))) (hstage0_14 ((((cfg0 (adm m 0)).slots t 14)).cast nbuf0_14)) (spec0_15.stage (((cfg0 (adm m 0)).slots t 15))) (hstage0_15 ((((cfg0 (adm m 0)).slots t 15)).cast nbuf0_15)) (spec0_16.stage (((cfg0 (adm m 0)).slots t 16))) (hstage0_16 ((((cfg0 (adm m 0)).slots t 16)).cast nbuf0_16)) (spec0_17.stage (((cfg0 (adm m 0)).slots t 17))) (hstage0_17 ((((cfg0 (adm m 0)).slots t 17)).cast nbuf0_17)) (spec0_18.stage (((cfg0 (adm m 0)).slots t 18))) (hstage0_18 ((((cfg0 (adm m 0)).slots t 18)).cast nbuf0_18)) (spec0_19.stage (((cfg0 (adm m 0)).slots t 19))) (hstage0_19 ((((cfg0 (adm m 0)).slots t 19)).cast nbuf0_19)) (spec0_20.stage (((cfg0 (adm m 0)).slots t 20))) (hstage0_20 ((((cfg0 (adm m 0)).slots t 20)).cast nbuf0_20)) (spec0_21.stage (((cfg0 (adm m 0)).slots t 21))) (hstage0_21 ((((cfg0 (adm m 0)).slots t 21)).cast nbuf0_21))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    fullShare.right (V m 0 main_arg2) f0 f1 f2 f3 f4 f5 f6 f7 f8 f9 f10 f11 f12 f13 f14 f15 f16 f17 f18 f19 f20 f21 s0 s1 s2 s3 (lenAt m t) rfl hlen)
  simp only [View.set_whole]
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  isplitl [S2]; · iexact S2
  isplitl [S3]; · iexact S3
  iintro ⟨HT, H0, H1, H2, H3, H4, H5, H6, H7, H8, H9, H10, H11, H12, H13, H14, ⟨%g15, H15⟩, ⟨%g16, %k16, H16⟩, ⟨%g17, %k17, H17⟩, ⟨%g18, %k18, H18⟩, ⟨%g19, %k19, H19⟩, ⟨%g20, H20⟩, ⟨%g21, H21⟩, S0, S1, S2, S3⟩
  isplitl [S0 S1 S2 S3 HP HT]
  · isplitl [S0 S1 S2 S3 HP]
    · isplitl [S0 S1 S2 S3]
      · isplitl [S0]; · iexact S0
        isplitl [S1]; · iexact S1
        isplitl [S2]; · iexact S2
        iexact S3
      iexact HP
    iexact HT
  isplitl [HO]
  · iexists W; isplitr; · ipureintro; exact fun _ _ => Or.inl trivial
    iexact HO
  isplitl [H0]
  · iexists (Y 0); isplitr; · ipureintro; exact fun _ => rfl
    iexists f0; isplitr; · ipureintro; exact h0
    iexact H0
  isplitl [H1]
  · iexists (Y 1); isplitr; · ipureintro; exact fun _ => rfl
    iexists f1; isplitr; · ipureintro; exact h1
    iexact H1
  isplitl [H2]
  · iexists (Y 2); isplitr; · ipureintro; exact fun _ => rfl
    iexists f2; isplitr; · ipureintro; exact h2
    iexact H2
  isplitl [H3]
  · iexists (Y 3); isplitr; · ipureintro; exact fun _ => rfl
    iexists f3; isplitr; · ipureintro; exact h3
    iexact H3
  isplitl [H4]
  · iexists (Y 4); isplitr; · ipureintro; exact fun _ => rfl
    iexists f4; isplitr; · ipureintro; exact h4
    iexact H4
  isplitl [H5]
  · iexists (Y 5); isplitr; · ipureintro; exact fun _ => rfl
    iexists f5; isplitr; · ipureintro; exact h5
    iexact H5
  isplitl [H6]
  · iexists (Y 6); isplitr; · ipureintro; exact fun _ => rfl
    iexists f6; isplitr; · ipureintro; exact h6
    iexact H6
  isplitl [H7]
  · iexists (Y 7); isplitr; · ipureintro; exact fun _ => rfl
    iexists f7; isplitr; · ipureintro; exact h7
    iexact H7
  isplitl [H8]
  · iexists (Y 8); isplitr; · ipureintro; exact fun _ => rfl
    iexists f8; isplitr; · ipureintro; exact h8
    iexact H8
  isplitl [H9]
  · iexists (Y 9); isplitr; · ipureintro; exact fun _ => rfl
    iexists f9; isplitr; · ipureintro; exact h9
    iexact H9
  isplitl [H10]
  · iexists (Y 10); isplitr; · ipureintro; exact fun _ => rfl
    iexists f10; isplitr; · ipureintro; exact h10
    iexact H10
  isplitl [H11]
  · iexists (Y 11); isplitr; · ipureintro; exact fun _ => rfl
    iexists f11; isplitr; · ipureintro; exact h11
    iexact H11
  isplitl [H12]
  · iexists (Y 12); isplitr; · ipureintro; exact fun _ => rfl
    iexists f12; isplitr; · ipureintro; exact h12
    iexact H12
  isplitl [H13]
  · iexists (Y 13); isplitr; · ipureintro; exact fun _ => rfl
    iexists f13; isplitr; · ipureintro; exact h13
    iexact H13
  isplitl [H14]
  · iexists (Y 14); isplitr; · ipureintro; exact fun _ => rfl
    iexists f14; isplitr; · ipureintro; exact h14
    iexact H14
  isplitl [H15]
  · iexists ((spec0_15.stage (((cfg0 (adm m 0)).slots t 15))).view.read (Elt Ideal) g15); isplitr; · ipureintro; exact fun h => absurd h (by decide)
    iexists g15; isplitr; · ipureintro; rfl
    iexact H15
  isplitl [H16]
  · iexists ((spec0_16.stage (((cfg0 (adm m 0)).slots t 16))).view.read (Elt Ideal) g16); isplitr; · ipureintro; exact (val16 m t _ _ _ k16 h16 (h0.trans e0) (h1.trans e1) (h2.trans e2) (h3.trans e3) (h4.trans e4) (h5.trans e5) (h6.trans e6) (h7.trans e7) (h8.trans e8) (h9.trans e9))
    iexists g16; isplitr; · ipureintro; rfl
    iexact H16
  isplitl [H17]
  · iexists ((spec0_17.stage (((cfg0 (adm m 0)).slots t 17))).view.read (Elt Ideal) g17); isplitr; · ipureintro; exact (val17 m t _ k17 (h0.trans e0) (h1.trans e1) (h2.trans e2) (h3.trans e3) (h4.trans e4) (h5.trans e5) (h6.trans e6) (h7.trans e7) (h8.trans e8) (Y 17))
    iexists g17; isplitr; · ipureintro; rfl
    iexact H17
  isplitl [H18]
  · iexists ((spec0_18.stage (((cfg0 (adm m 0)).slots t 18))).view.read (Elt Ideal) g18); isplitr; · ipureintro; exact (val18 m t _ _ _ k18 h18 (h0.trans e0) (h1.trans e1))
    iexists g18; isplitr; · ipureintro; rfl
    iexact H18
  isplitl [H19]
  · iexists ((spec0_19.stage (((cfg0 (adm m 0)).slots t 19))).view.read (Elt Ideal) g19); isplitr; · ipureintro; exact (val19 m t _ _ _ k19 h19 (h0.trans e0) (h1.trans e1))
    iexists g19; isplitr; · ipureintro; rfl
    iexact H19
  isplitl [H20]
  · iexists ((spec0_20.stage (((cfg0 (adm m 0)).slots t 20))).view.read (Elt Ideal) g20); isplitr; · ipureintro; exact fun h => absurd h (by decide)
    iexists g20; isplitr; · ipureintro; rfl
    iexact H20
  iexists ((spec0_21.stage (((cfg0 (adm m 0)).slots t 21))).view.read (Elt Ideal) g21); isplitr; · ipureintro; exact fun h => absurd h (by decide)
  iexists g21; isplitr; · ipureintro; rfl
  iexact H21

end Cert.KernelIdeal.Run

end
-- ==== Proof.KernelIdealEnd.lean ====
module

public import proofs.«01_k».proof.Proof.KernelIdealLaunch
public import Idealize.ShloMosaic.Lib.Pipeline.ValueKit
public import Idealize.ShloMosaic.Lib.Pipeline.ArrRel

@[expose] public section

/-!
What the launch leaves over the extended reals: the four results as functions of the length and of the
blocks at each point, and each block as a part of an argument.
-/

set_option maxRecDepth 16384

noncomputable section

namespace Cert.KernelIdeal.Run

open Cert.KernelIdeal.Gen
open Idealize.ShloMosaic Idealize.ShloMosaic.TcCoe Idealize.ShloMosaic.Tactic Idealize.ShloMosaic.Pointwise
open Idealize.ShloMosaic.Pipeline (RDat Cfg Window)

/-- The point of a row. -/
abbrev pt (b : Fin 64) : Fin grid0.N := Fin.cast N_0.symm b

/-- Some table of lengths: no window but the first ones' data depends on it. -/
abbrev adm0 : (pcfgs (F := Ideal) 0).Adm := ⟨fun _ _ => Classical.arbitrary _, trivial⟩

/-- The blocks of the activation cover it. -/
theorem cov17 : ((cfg0 adm0).win 17).Covers := by decide +kernel

/-- The codes are written back once, after the last point. -/
theorem whole18 : ((cfg0 adm0).win 18).WholeAt (pt 63) := by decide +kernel

/-- So is the pooled array. -/
theorem whole16 : ((cfg0 adm0).win 16).WholeAt (pt 63) := by decide +kernel

/-- So are the scales. -/
theorem whole19 : ((cfg0 adm0).win 19).WholeAt (pt 63) := by decide +kernel

variable (m : (ℓ : Loc nD τ sig) → Buf (Elt Ideal) ℓ) (g : Dev nD → PrngReg)

/-- The pooled array is not written back before the last point. -/
theorem flush16 (t : Fin grid0.N) (h : t.val < 63) : ((cfg0 (adm m 0)).win 16).flush t = false := by
  have : ∀ t : Fin grid0.N, t.val < 63 → ((cfg0 adm0).win 16).flush t = false := by decide +kernel
  exact this t h
/-- The codes are not written back before the last point. -/
theorem flush18 (t : Fin grid0.N) (h : t.val < 63) : ((cfg0 (adm m 0)).win 18).flush t = false := by
  have : ∀ t : Fin grid0.N, t.val < 63 → ((cfg0 adm0).win 18).flush t = false := by decide +kernel
  exact this t h
/-- Nor are the scales. -/
theorem flush19 (t : Fin grid0.N) (h : t.val < 63) : ((cfg0 (adm m 0)).win 19).flush t = false := by
  have : ∀ t : Fin grid0.N, t.val < 63 → ((cfg0 adm0).win 19).flush t = false := by decide +kernel
  exact this t h
/-- The pooled array is never fetched. -/
theorem fetch16 (t : Fin grid0.N) : ((cfg0 (adm m 0)).win 16).fetch t = false := by
  have : ∀ t : Fin grid0.N, ((cfg0 adm0).win 16).fetch t = false := by decide +kernel
  exact this t
/-- The codes are never fetched. -/
theorem fetch18 (t : Fin grid0.N) : ((cfg0 (adm m 0)).win 18).fetch t = false := by
  have : ∀ t : Fin grid0.N, ((cfg0 adm0).win 18).fetch t = false := by decide +kernel
  exact this t
/-- Nor are the scales. -/
theorem fetch19 (t : Fin grid0.N) : ((cfg0 (adm m 0)).win 19).fetch t = false := by
  have : ∀ t : Fin grid0.N, ((cfg0 adm0).win 19).fetch t = false := by decide +kernel
  exact this t

/-- The activation after the run. -/
def zArr : S64x768x128.Idx → EReal := fun y => zAt (lenAt m (pt (y 0))) (B m 0 (pt (y 0))) (B m 1 (pt (y 0))) (B m 2 (pt (y 0))) (B m 3 (pt (y 0))) (B m 4 (pt (y 0))) (B m 5 (pt (y 0))) (B m 6 (pt (y 0))) (B m 7 (pt (y 0))) (B m 8 (pt (y 0))) (y 1) (y 2)

/-- The pooled array after the run. -/
def poolArr : S64x3072.Idx → EReal := fun y => poolRow (lenAt m (pt (y 0))) (B m 0 (pt (y 0))) (B m 1 (pt (y 0))) (B m 2 (pt (y 0))) (B m 3 (pt (y 0))) (B m 4 (pt (y 0))) (B m 5 (pt (y 0))) (B m 6 (pt (y 0))) (B m 7 (pt (y 0))) (B m 8 (pt (y 0))) (B m 9 (pt (y 0))) (y 1)

/-- The codes after the run. -/
def gcArr : S64x3072.Idx → EReal := fun y => codeRow (lenAt m (pt (y 0))) (B m 0 (pt (y 0))) (B m 1 (pt (y 0))) (ix2 0 (y 1))

/-- The scales after the run. -/
def gsArr : S64x128.Idx → EReal := fun y => scaleRow (lenAt m (pt (y 0))) (B m 0 (pt (y 0))) (B m 1 (pt (y 0))) (ix2 0 (y 1))

/-- After a point the rows of the pooled array up to it are those of their points. -/
theorem leaves16 : ∀ (n : ℕ) (t : Fin grid0.N) (X : S64x3072.Idx → EReal), t.val = n → (valDat m 0).Leaves 16 t X →
    ∀ (b : Fin 64) (cc : Fin 3072), b.val ≤ n → X (ix2 b cc) = poolArr m (ix2 b cc) := by
  intro n
  induction n with
  | zero =>
    intro t X ht ⟨Y, hY, hX⟩ b cc hb
    have hbt : b.val = t.val := by omega
    refine (hX b cc).trans ((if_pos hbt).trans ?_)
    obtain rfl : t = pt b := Fin.ext hbt.symm
    rfl
  | succ n ih =>
    intro t X ht ⟨Y, hY, hX⟩ b cc hb
    refine (hX b cc).trans ?_
    by_cases hbt : b.val = t.val
    · refine (if_pos hbt).trans ?_
      obtain rfl : t = pt b := Fin.ext hbt.symm
      rfl
    · refine (if_neg hbt).trans ?_
      rcases ((valDat m 0).finds_of_pos (fetch16 m t) (by omega) Y).mp hY with hf | hl
      · rw [show ((cfg0 (adm m 0)).win 16).flush ⟨t.val - 1, _⟩ = false from flush16 m ⟨t.val - 1, by have := t.isLt; omega⟩ (by have := t.isLt; have := N_0; show t.val - 1 < 63; omega)] at hf
        exact absurd hf (by decide)
      · exact ih ⟨t.val - 1, by have := t.isLt; omega⟩ Y (by show t.val - 1 = n; omega) hl b cc (by omega)

/-- After a point the rows of the codes up to it are those of their points. -/
theorem leaves18 : ∀ (n : ℕ) (t : Fin grid0.N) (X : S64x3072.Idx → EReal), t.val = n → (valDat m 0).Leaves 18 t X →
    ∀ (b : Fin 64) (cc : Fin 3072), b.val ≤ n → X (ix2 b cc) = gcArr m (ix2 b cc) := by
  intro n
  induction n with
  | zero =>
    intro t X ht ⟨Y, hY, hX⟩ b cc hb
    have hbt : b.val = t.val := by omega
    refine (hX b cc).trans ((if_pos hbt).trans ?_)
    obtain rfl : t = pt b := Fin.ext hbt.symm
    rfl
  | succ n ih =>
    intro t X ht ⟨Y, hY, hX⟩ b cc hb
    refine (hX b cc).trans ?_
    by_cases hbt : b.val = t.val
    · refine (if_pos hbt).trans ?_
      obtain rfl : t = pt b := Fin.ext hbt.symm
      rfl
    · refine (if_neg hbt).trans ?_
      rcases ((valDat m 0).finds_of_pos (fetch18 m t) (by omega) Y).mp hY with hf | hl
      · rw [show ((cfg0 (adm m 0)).win 18).flush ⟨t.val - 1, _⟩ = false from flush18 m ⟨t.val - 1, by have := t.isLt; omega⟩ (by have := t.isLt; have := N_0; show t.val - 1 < 63; omega)] at hf
        exact absurd hf (by decide)
      · exact ih ⟨t.val - 1, by have := t.isLt; omega⟩ Y (by show t.val - 1 = n; omega) hl b cc (by omega)

/-- After a point the rows of the scales up to it are those of their points. -/
theorem leaves19 : ∀ (n : ℕ) (t : Fin grid0.N) (X : S64x128.Idx → EReal), t.val = n → (valDat m 0).Leaves 19 t X →
    ∀ (b : Fin 64) (cc : Fin 128), b.val ≤ n → X (ix2 b cc) = gsArr m (ix2 b cc) := by
  intro n
  induction n with
  | zero =>
    intro t X ht ⟨Y, hY, hX⟩ b cc hb
    have hbt : b.val = t.val := by omega
    refine (hX b cc).trans ((if_pos hbt).trans ?_)
    obtain rfl : t = pt b := Fin.ext hbt.symm
    rfl
  | succ n ih =>
    intro t X ht ⟨Y, hY, hX⟩ b cc hb
    refine (hX b cc).trans ?_
    by_cases hbt : b.val = t.val
    · refine (if_pos hbt).trans ?_
      obtain rfl : t = pt b := Fin.ext hbt.symm
      rfl
    · refine (if_neg hbt).trans ?_
      rcases ((valDat m 0).finds_of_pos (fetch19 m t) (by omega) Y).mp hY with hf | hl
      · rw [show ((cfg0 (adm m 0)).win 19).flush ⟨t.val - 1, _⟩ = false from flush19 m ⟨t.val - 1, by have := t.isLt; omega⟩ (by have := t.isLt; have := N_0; show t.val - 1 < 63; omega)] at hf
        exact absurd hf (by decide)
      · exact ih ⟨t.val - 1, by have := t.isLt; omega⟩ Y (by show t.val - 1 = n; omega) hl b cc (by omega)

/-- The pooled array at the end. -/
theorem end16 (G : S64x3072.Idx → EReal) (h : (valDat m 0).ArrAt 16 (cfg0 (adm m 0)).N G) : G = poolArr m := by
  obtain ⟨X, hX, hG⟩ := h.emb_eq_of_wholeAt (t₀ := pt 63) (whole16 : ((cfg0 (adm m 0)).win 16).WholeAt (pt 63))
  funext y
  obtain ⟨b, cc, rfl⟩ : ∃ (b : Fin 64) (cc : Fin 3072), y = ix2 b cc := ⟨y 0, y 1, eq_ix2 (n0 := 64) (n1 := 3072) y⟩
  exact (hG (ix2 b cc)).trans (leaves16 m 63 (pt 63) X rfl hX b cc (by omega))

/-- The codes at the end. -/
theorem end18 (G : S64x3072.Idx → EReal) (h : (valDat m 0).ArrAt 18 (cfg0 (adm m 0)).N G) : G = gcArr m := by
  obtain ⟨X, hX, hG⟩ := h.emb_eq_of_wholeAt (t₀ := pt 63) (whole18 : ((cfg0 (adm m 0)).win 18).WholeAt (pt 63))
  funext y
  obtain ⟨b, cc, rfl⟩ : ∃ (b : Fin 64) (cc : Fin 3072), y = ix2 b cc := ⟨y 0, y 1, eq_ix2 (n0 := 64) (n1 := 3072) y⟩
  exact (hG (ix2 b cc)).trans (leaves18 m 63 (pt 63) X rfl hX b cc (by omega))

/-- The scales at the end. -/
theorem end19 (G : S64x128.Idx → EReal) (h : (valDat m 0).ArrAt 19 (cfg0 (adm m 0)).N G) : G = gsArr m := by
  obtain ⟨X, hX, hG⟩ := h.emb_eq_of_wholeAt (t₀ := pt 63) (whole19 : ((cfg0 (adm m 0)).win 19).WholeAt (pt 63))
  funext y
  obtain ⟨b, cc, rfl⟩ : ∃ (b : Fin 64) (cc : Fin 128), y = ix2 b cc := ⟨y 0, y 1, eq_ix2 (n0 := 64) (n1 := 128) y⟩
  exact (hG (ix2 b cc)).trans (leaves19 m 63 (pt 63) X rfl hX b cc (by omega))

/-- The activation's block at a point is that point's row. -/
theorem idx17 : ∀ t : Fin grid0.N, cc0_transform_17 (grid0.coords t) 0 = t.val ∧ cc0_transform_17 (grid0.coords t) 1 = 0 ∧ cc0_transform_17 (grid0.coords t) 2 = 0 := by decide +kernel

/-- An index by its three coordinates. -/
theorem split3 {a b c : ℕ} (y : (⟨3, ![a, b, c]⟩ : Shape).Idx) : ∃ (s : Fin a) (r : Fin b) (q : Fin c), y = ix3 s r q := ⟨y 0, y 1, y 2, eq_ix3 y⟩

/-- The activation at the end. -/
theorem end17 (G : S64x768x128.Idx → EReal) (h : (valDat m 0).ArrAt 17 (cfg0 (adm m 0)).N G) : G = zArr m := by
  obtain ⟨X, hX, hG⟩ := h.exists_exact
  have e := hG (Function.update (fun _ _ _ => Classical.arbitrary _) 17 X) fun u _ _ => by rw [Function.update_self]
  refine e.trans ?_
  refine ((valDat m 0).withAfter (Function.update (fun _ _ _ => Classical.arbitrary _) 17 X)).arrAt_eq_of_covers 17 (zArr m) (cov17 : ((cfg0 (adm m 0)).win 17).Covers) fun t hf y => ?_
  obtain ⟨Y, -, hY⟩ := hX t t.isLt hf
  have hu : ((valDat m 0).withAfter (Function.update (fun _ _ _ => Classical.arbitrary _) 17 X)).after 17 = X := by
    rw [RDat.withAfter_after]; exact Function.update_self ..
  blk_simp
  rw [hu]
  obtain ⟨s, rr, aa, rfl⟩ : ∃ (s : Fin 1) (rr : Fin 768) (aa : Fin 128), y = (ix3 s rr aa : S1x768x128.Idx) := split3 y
  obtain rfl : s = 0 := Subsingleton.elim _ _
  have ht : t.val < 64 := t.isLt.trans_eq N_0
  have hemb : ((((cfg0 (adm m 0)).win 17).blk t).view.emb (ix3 0 rr aa : S1x768x128.Idx) : S64x768x128.Idx) = ix3 (⟨t.val, ht⟩ : Fin 64) rr aa := by
    obtain ⟨i0, i1, i2⟩ := idx17 t
    funext (a : Fin 3)
    apply Fin.ext
    refine (Pipeline.Window.rect_emb_val ((cfg0 (adm m 0)).win 17) t (ix3 0 rr aa : S1x768x128.Idx) a).trans ?_
    match a with
    | 0 => show (cc0_transform_17 (grid0.coords t) 0) * 1 + 0 = t.val; rw [i0]; omega
    | 1 => show (cc0_transform_17 (grid0.coords t) 1) * 768 + rr.val = rr.val; rw [i1]; omega
    | 2 => show (cc0_transform_17 (grid0.coords t) 2) * 128 + aa.val = aa.val; rw [i2]; omega
  exact (hY rr aa).trans (congrArg (zArr m) hemb).symm

/-- The blocks of the first two windows at a point are that point's row. -/
theorem idx0 : ∀ t : Fin grid0.N, cc0_transform_0 (grid0.coords t) 0 = t.val ∧ cc0_transform_0 (grid0.coords t) 1 = 0 ∧ cc0_transform_0 (grid0.coords t) 2 = 0 := by decide +kernel
theorem idx1 : ∀ t : Fin grid0.N, cc0_transform_1 (grid0.coords t) 0 = t.val ∧ cc0_transform_1 (grid0.coords t) 1 = 0 ∧ cc0_transform_1 (grid0.coords t) 2 = 0 := by decide +kernel

theorem row_of (f : FVec Ideal S128 .f32) (a : Fin 128) : shapeCast S1x128 f shapeCasts_S128_S1x128 (ix2 0 a) = f (ix1 a) := by
  pointwise []

theorem B0_at (b : Fin 64) (r : Fin 768) (c : Fin 1536) : B m 0 (pt b) (ix3 0 r c : S1x768x1536.Idx) = m ((0 : Dev nD).tc.loc main_arg0) (ix3 b r c : S64x768x1536.Idx) := by
  have hemb : ((((cfg0 (adm m 0)).win 0).blk (pt b)).view.emb (ix3 0 r c : S1x768x1536.Idx) : S64x768x1536.Idx) = ix3 b r c := by
    obtain ⟨i0, i1, i2⟩ := idx0 (pt b)
    funext (a : Fin 3)
    apply Fin.ext
    refine (Pipeline.Window.rect_emb_val ((cfg0 (adm m 0)).win 0) (pt b) (ix3 0 r c : S1x768x1536.Idx) a).trans ?_
    match a with
    | 0 => show (cc0_transform_0 (grid0.coords (pt b)) 0) * 1 + 0 = b.val; rw [i0]; show b.val * 1 + 0 = _; omega
    | 1 => show (cc0_transform_0 (grid0.coords (pt b)) 1) * 768 + r.val = r.val; rw [i1]; omega
    | 2 => show (cc0_transform_0 (grid0.coords (pt b)) 2) * 1536 + c.val = c.val; rw [i2]; omega
  exact congrArg (V m 0 main_v0) hemb

theorem B1_at (b : Fin 64) (r : Fin 768) (c : Fin 12) : B m 1 (pt b) (ix3 0 r c : S1x768x12.Idx) = m ((0 : Dev nD).tc.loc main_arg1) (ix3 b r c : S64x768x12.Idx) := by
  have hemb : ((((cfg0 (adm m 0)).win 1).blk (pt b)).view.emb (ix3 0 r c : S1x768x12.Idx) : S64x768x12.Idx) = ix3 b r c := by
    obtain ⟨i0, i1, i2⟩ := idx1 (pt b)
    funext (a : Fin 3)
    apply Fin.ext
    refine (Pipeline.Window.rect_emb_val ((cfg0 (adm m 0)).win 1) (pt b) (ix3 0 r c : S1x768x12.Idx) a).trans ?_
    match a with
    | 0 => show (cc0_transform_1 (grid0.coords (pt b)) 0) * 1 + 0 = b.val; rw [i0]; show b.val * 1 + 0 = _; omega
    | 1 => show (cc0_transform_1 (grid0.coords (pt b)) 1) * 768 + r.val = r.val; rw [i1]; omega
    | 2 => show (cc0_transform_1 (grid0.coords (pt b)) 2) * 12 + c.val = c.val; rw [i2]; omega
  exact (congrArg (V m 0 main_arg1) hemb).trans (congrFun (V_arg m 0 main_arg1 (by decide)) _)

theorem B2_at (t : Fin grid0.N) (r : Fin 1536) (a : Fin 128) : B m 2 t (ix2 r a : S1536x128.Idx) = m ((0 : Dev nD).tc.loc main_arg3) (ix2 r a : S1536x128.Idx) := by
  have hemb : ((((cfg0 (adm m 0)).win 2).blk t).view.emb (ix2 r a : S1536x128.Idx) : S1536x128.Idx) = ix2 r a := by
    funext (q : Fin 2)
    apply Fin.ext
    refine (Pipeline.Window.rect_emb_val ((cfg0 (adm m 0)).win 2) t (ix2 r a : S1536x128.Idx) q).trans ?_
    match q with
    | 0 => show 0 * 1536 + r.val = r.val; omega
    | 1 => show 0 * 128 + a.val = a.val; omega
  exact (congrArg (V m 0 main_arg3) hemb).trans (congrFun (V_arg m 0 main_arg3 (by decide)) _)

theorem B3_at (t : Fin grid0.N) (r : Fin 1) (a : Fin 128) : B m 3 t (ix2 r a : S1x128.Idx) = m ((0 : Dev nD).tc.loc main_arg4) (ix1 a : S128.Idx) := by
  have hemb : ((((cfg0 (adm m 0)).win 3).blk t).view.emb (ix2 r a : S1x128.Idx) : S1x128.Idx) = ix2 r a := by
    funext (q : Fin 2)
    apply Fin.ext
    refine (Pipeline.Window.rect_emb_val ((cfg0 (adm m 0)).win 3) t (ix2 r a : S1x128.Idx) q).trans ?_
    match q with
    | 0 => show 0 * 1 + r.val = r.val; omega
    | 1 => show 0 * 128 + a.val = a.val; omega
  refine (congrArg (V m 0 main_v1) hemb).trans ?_
  obtain rfl : r = 0 := Subsingleton.elim _ _
  exact row_of (m ((0 : Dev nD).tc.loc main_arg4)) a

theorem B4_at (t : Fin grid0.N) (r : Fin 3072) (a : Fin 128) : B m 4 t (ix2 r a : S3072x128.Idx) = m ((0 : Dev nD).tc.loc main_arg5) (ix2 r a : S3072x128.Idx) := by
  have hemb : ((((cfg0 (adm m 0)).win 4).blk t).view.emb (ix2 r a : S3072x128.Idx) : S3072x128.Idx) = ix2 r a := by
    funext (q : Fin 2)
    apply Fin.ext
    refine (Pipeline.Window.rect_emb_val ((cfg0 (adm m 0)).win 4) t (ix2 r a : S3072x128.Idx) q).trans ?_
    match q with
    | 0 => show 0 * 3072 + r.val = r.val; omega
    | 1 => show 0 * 128 + a.val = a.val; omega
  exact (congrArg (V m 0 main_arg5) hemb).trans (congrFun (V_arg m 0 main_arg5 (by decide)) _)

theorem B5_at (t : Fin grid0.N) (r : Fin 1) (a : Fin 128) : B m 5 t (ix2 r a : S1x128.Idx) = m ((0 : Dev nD).tc.loc main_arg6) (ix1 a : S128.Idx) := by
  have hemb : ((((cfg0 (adm m 0)).win 5).blk t).view.emb (ix2 r a : S1x128.Idx) : S1x128.Idx) = ix2 r a := by
    funext (q : Fin 2)
    apply Fin.ext
    refine (Pipeline.Window.rect_emb_val ((cfg0 (adm m 0)).win 5) t (ix2 r a : S1x128.Idx) q).trans ?_
    match q with
    | 0 => show 0 * 1 + r.val = r.val; omega
    | 1 => show 0 * 128 + a.val = a.val; omega
  refine (congrArg (V m 0 main_v2) hemb).trans ?_
  obtain rfl : r = 0 := Subsingleton.elim _ _
  exact row_of (m ((0 : Dev nD).tc.loc main_arg6)) a

theorem B6_at (t : Fin grid0.N) (r : Fin 1) (a : Fin 128) : B m 6 t (ix2 r a : S1x128.Idx) = m ((0 : Dev nD).tc.loc main_arg7) (ix1 a : S128.Idx) := by
  have hemb : ((((cfg0 (adm m 0)).win 6).blk t).view.emb (ix2 r a : S1x128.Idx) : S1x128.Idx) = ix2 r a := by
    funext (q : Fin 2)
    apply Fin.ext
    refine (Pipeline.Window.rect_emb_val ((cfg0 (adm m 0)).win 6) t (ix2 r a : S1x128.Idx) q).trans ?_
    match q with
    | 0 => show 0 * 1 + r.val = r.val; omega
    | 1 => show 0 * 128 + a.val = a.val; omega
  refine (congrArg (V m 0 main_v3) hemb).trans ?_
  obtain rfl : r = 0 := Subsingleton.elim _ _
  exact row_of (m ((0 : Dev nD).tc.loc main_arg7)) a

theorem B7_at (t : Fin grid0.N) (r : Fin 1) (a : Fin 128) : B m 7 t (ix2 r a : S1x128.Idx) = m ((0 : Dev nD).tc.loc main_arg8) (ix1 a : S128.Idx) := by
  have hemb : ((((cfg0 (adm m 0)).win 7).blk t).view.emb (ix2 r a : S1x128.Idx) : S1x128.Idx) = ix2 r a := by
    funext (q : Fin 2)
    apply Fin.ext
    refine (Pipeline.Window.rect_emb_val ((cfg0 (adm m 0)).win 7) t (ix2 r a : S1x128.Idx) q).trans ?_
    match q with
    | 0 => show 0 * 1 + r.val = r.val; omega
    | 1 => show 0 * 128 + a.val = a.val; omega
  refine (congrArg (V m 0 main_v4) hemb).trans ?_
  obtain rfl : r = 0 := Subsingleton.elim _ _
  exact row_of (m ((0 : Dev nD).tc.loc main_arg8)) a

theorem B8_at (t : Fin grid0.N) (r : Fin 1) (a : Fin 128) : B m 8 t (ix2 r a : S1x128.Idx) = m ((0 : Dev nD).tc.loc main_arg9) (ix1 a : S128.Idx) := by
  have hemb : ((((cfg0 (adm m 0)).win 8).blk t).view.emb (ix2 r a : S1x128.Idx) : S1x128.Idx) = ix2 r a := by
    funext (q : Fin 2)
    apply Fin.ext
    refine (Pipeline.Window.rect_emb_val ((cfg0 (adm m 0)).win 8) t (ix2 r a : S1x128.Idx) q).trans ?_
    match q with
    | 0 => show 0 * 1 + r.val = r.val; omega
    | 1 => show 0 * 128 + a.val = a.val; omega
  refine (congrArg (V m 0 main_v5) hemb).trans ?_
  obtain rfl : r = 0 := Subsingleton.elim _ _
  exact row_of (m ((0 : Dev nD).tc.loc main_arg9)) a

theorem B9_at (t : Fin grid0.N) (r : Fin 128) (a : Fin 1536) : B m 9 t (ix2 r a : S128x1536.Idx) = m ((0 : Dev nD).tc.loc main_arg10) (ix2 r a : S128x1536.Idx) := by
  have hemb : ((((cfg0 (adm m 0)).win 9).blk t).view.emb (ix2 r a : S128x1536.Idx) : S128x1536.Idx) = ix2 r a := by
    funext (q : Fin 2)
    apply Fin.ext
    refine (Pipeline.Window.rect_emb_val ((cfg0 (adm m 0)).win 9) t (ix2 r a : S128x1536.Idx) q).trans ?_
    match q with
    | 0 => show 0 * 128 + r.val = r.val; omega
    | 1 => show 0 * 1536 + a.val = a.val; omega
  exact (congrArg (V m 0 main_arg10) hemb).trans (congrFun (V_arg m 0 main_arg10 (by decide)) _)

theorem len_at (b : Fin 64) : lenAt m (pt b) = m ((0 : Dev nD).tc.loc main_arg2) (ix1 b : S64.Idx) := by
  have h : (grid0.coords (pt b) 0) = b := Fin.ext (coord_val (pt b))
  rw [show lenAt m (pt b) = V m 0 main_arg2 (ix1 (grid0.coords (pt b) 0)) from rfl, V_arg m 0 main_arg2 (by decide)]
  exact congrArg (fun q : Fin 64 => m ((0 : Dev nD).tc.loc main_arg2) (ix1 q : S64.Idx)) h

/-- The run of the program: it ends with every argument as launched, every semaphore counter at zero, and the four results as stated. -/
theorem val_run (hlen : ∀ x, (m ((0 : Dev nD).tc.loc main_arg2) x : BitVec 32).toInt ≤ 768) :
    θ_run (defs (F := Ideal)) (onTc (τ := τ) (main (F := Ideal))) ⟨m, fun _ => 0, g⟩
      (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ (r.2.sem = fun _ => 0) ∧ r.2.mem ((0 : Dev nD).tc.loc main_v10_1) = poolArr m ∧ r.2.mem ((0 : Dev nD).tc.loc main_v10_2) = zArr m ∧ r.2.mem ((0 : Dev nD).tc.loc main_v10_3) = gcArr m ∧ r.2.mem ((0 : Dev nD).tc.loc main_v10_4) = gsArr m) :=
  launch m g (valDat m) (val_body m (by rw [V_arg m 0 main_arg2 (by decide)]; exact hlen))
    (fun c w => by unfold RDat.share; split <;> rfl) (fun _ _ => rfl) (fun _ _ => rfl) (fun _ _ => rfl) _
    (fun r h => ⟨fun c => ⟨((h.1 c).2 main_arg0 (rest_mem m main_arg0 rfl (by decide))).trans (V_arg m c main_arg0 (by decide)),
      (h.1.arr_in c 1 rfl).trans (V_arg m c main_arg1 (by decide)),
      ((h.1 c).2 main_arg2 (rest_mem m main_arg2 rfl (by decide))).trans (V_arg m c main_arg2 (by decide)),
      (h.1.arr_in c 2 rfl).trans (V_arg m c main_arg3 (by decide)),
      ((h.1 c).2 main_arg4 (rest_mem m main_arg4 rfl (by decide))).trans (V_arg m c main_arg4 (by decide)),
      (h.1.arr_in c 4 rfl).trans (V_arg m c main_arg5 (by decide)),
      ((h.1 c).2 main_arg6 (rest_mem m main_arg6 rfl (by decide))).trans (V_arg m c main_arg6 (by decide)),
      ((h.1 c).2 main_arg7 (rest_mem m main_arg7 rfl (by decide))).trans (V_arg m c main_arg7 (by decide)),
      ((h.1 c).2 main_arg8 (rest_mem m main_arg8 rfl (by decide))).trans (V_arg m c main_arg8 (by decide)),
      ((h.1 c).2 main_arg9 (rest_mem m main_arg9 rfl (by decide))).trans (V_arg m c main_arg9 (by decide)),
      (h.1.arr_in c 9 rfl).trans (V_arg m c main_arg10 (by decide)),
      ((h.1 c).2 main_arg11 (rest_mem m main_arg11 rfl (by decide))).trans (V_arg m c main_arg11 (by decide)),
      ((h.1 c).2 main_arg12 (rest_mem m main_arg12 rfl (by decide))).trans (V_arg m c main_arg12 (by decide)),
      (h.1.arr_in c 12 rfl).trans (V_arg m c main_arg13 (by decide)),
      ((h.1 c).2 main_arg14 (rest_mem m main_arg14 rfl (by decide))).trans (V_arg m c main_arg14 (by decide)),
      ((h.1 c).2 main_arg15 (rest_mem m main_arg15 rfl (by decide))).trans (V_arg m c main_arg15 (by decide))⟩, h.2, end16 m _ ((h.1 0).1 16), end17 m _ ((h.1 0).1 17), end18 m _ ((h.1 0).1 18), end19 m _ ((h.1 0).1 19)⟩)

end Cert.KernelIdeal.Run

end
-- ==== Proof.Quantiser.lean ====
module

public import Idealize.ShloMosaic.Lib.VecWindow
public import Idealize.ShloMosaic.Lib.Pipeline.ValueKit

@[expose] public section

/-!
The quantiser's scale over the extended reals. One side counts the exponent fields whose power of two is at most
the value; the other takes the least power of two above it. Below 2^100 the two agree, and multiplying by the one
side's inverse is dividing by the other's scale.
-/

set_option maxRecDepth 16384

noncomputable section

namespace Cert.Quantiser

open Idealize.ShloMosaic

/-- The power of two of an exponent field. -/
abbrev pw (w : BitVec 32) : EReal := Ideal.ofBits .f32 (IntOp.shli ArithUnit.vector w 23#32)

/-- How many exponent fields have a power of two at most the value. -/
def count (q : EReal) : BitVec 32 :=
  Finset.fold IntOp.addi (0#32)
    (fun x : Fin 256 => BitVec.setWidth 32 (IntOp.andi (IntOp.cmpi CmpIPredicate.sgt (BitVec.ofNat 32 x.val) 0#32)
      (BitVec.ofBool (decide (pw (BitVec.ofNat 32 x.val) ≤ q))))) Finset.univ

/-- The exponent from the count. -/
def expo (q : EReal) : BitVec 32 :=
  Scalar.select (IntOp.cmpi CmpIPredicate.slt (count q) 1#32) (0#32) (IntOp.subi (count q) 126#32)

/-- The least power of two above the value, and one for a value below the smallest. -/
def least (q : EReal) : EReal :=
  if q < FloatOps.exp2 (F := Ideal) (φ := .f32) (Ideal.ofBits FTy.f32 3271294976#32) then 1
  else Finset.fold min (Ideal.ofBits FTy.f32 2139095040#32)
    (fun x : Fin 256 => if q < FloatOps.exp2 (F := Ideal) (φ := .f32) (FloatOps.sitofp FTy.f32 (IntOp.subi (BitVec.ofNat 32 x.val) 126#32)) then
      FloatOps.exp2 (F := Ideal) (φ := .f32) (FloatOps.sitofp FTy.f32 (IntOp.subi (BitVec.ofNat 32 x.val) 126#32)) else Ideal.ofBits FTy.f32 2139095040#32) Finset.univ

theorem bits_of : ∀ j : Fin 256, ((IntOp.shli ArithUnit.vector (BitVec.ofNat 32 j.val) 23#32).extractLsb' 31 1 == 1#1) = false
    ∧ ((IntOp.shli ArithUnit.vector (BitVec.ofNat 32 j.val) 23#32).extractLsb' 23 8).toNat = j.val
    ∧ ((IntOp.shli ArithUnit.vector (BitVec.ofNat 32 j.val) 23#32).extractLsb' 0 23).toNat = 0 := by decide +kernel

theorem ofBits_f32 (w : BitVec 32) : Ideal.ofBits .f32 w = Ideal.ieee 8 23 w := rfl

theorem pw_mid (j : ℕ) (h0 : 0 < j) (h : j < 255) : pw (BitVec.ofNat 32 j) = (((2 : ℝ) ^ ((j : ℤ) - 127) : ℝ) : EReal) := by
  obtain ⟨h1, h2, h3⟩ := bits_of ⟨j, by omega⟩
  simp only at h1 h2 h3
  unfold pw
  generalize IntOp.shli ArithUnit.vector _ 23#32 = w at h1 h2 h3 ⊢
  rw [ofBits_f32]
  unfold Ideal.ieee
  simp only
  rw [h1, h2, h3, if_neg (by norm_num; omega), if_neg (by omega)]
  congr 1
  rw [show ((j : ℤ) - (2 ^ (8 - 1) - 1) - ((23 : ℕ) : ℤ)) = ((j : ℤ) - 127) + (-23) by norm_num; ring, zpow_add₀ (by norm_num)]
  norm_num
  ring

theorem pw_last : pw (BitVec.ofNat 32 255) = ⊤ := by
  obtain ⟨h1, h2, h3⟩ := bits_of ⟨255, by omega⟩
  simp only at h1 h2 h3
  unfold pw
  generalize IntOp.shli ArithUnit.vector _ 23#32 = w at h1 h2 h3 ⊢
  rw [ofBits_f32]
  unfold Ideal.ieee
  simp only
  rw [h1, h2, h3]
  simp

theorem inf_bits : Ideal.ofBits FTy.f32 2139095040#32 = ⊤ := pw_last

theorem expo_word : ∀ j : Fin 256, (IntOp.subi (BitVec.ofNat 32 j.val) 126#32).toInt = (j.val : ℤ) - 126 := by decide +kernel

theorem exp2_of (j : Fin 256) : FloatOps.exp2 (F := Ideal) (φ := .f32) (FloatOps.sitofp FTy.f32 (IntOp.subi (BitVec.ofNat 32 j.val) 126#32)) = (((2 : ℝ) ^ ((j.val : ℤ) - 126) : ℝ) : EReal) := by
  show Ideal.exp2 ((((IntOp.subi (BitVec.ofNat 32 j.val) 126#32).toInt : ℝ)) : EReal) = _
  rw [expo_word]
  show ((Real.rpow 2 _ : ℝ) : EReal) = _
  exact congrArg _ (Real.rpow_intCast 2 _)

theorem low_bits : Ideal.ofBits FTy.f32 3271294976#32 = (((-126 : ℤ) : ℝ) : EReal) := by
  simp [Ideal.ofBits, Ideal.ieee, -EReal.coe_mul]; norm_num

theorem exp2_low : FloatOps.exp2 (F := Ideal) (φ := .f32) (Ideal.ofBits FTy.f32 3271294976#32) = (((2 : ℝ) ^ (-126 : ℤ) : ℝ) : EReal) := by
  rw [low_bits]
  show ((Real.rpow 2 _ : ℝ) : EReal) = _
  exact congrArg _ (Real.rpow_intCast 2 _)

theorem fold_count : ∀ f : Fin 256, Finset.fold IntOp.addi (0#32) (fun x : Fin 256 => if 0 < x.val ∧ x.val ≤ f.val then 1#32 else 0#32) Finset.univ = BitVec.ofNat 32 f.val := by
  decide +kernel

theorem gt_zero : ∀ x : Fin 256, IntOp.cmpi CmpIPredicate.sgt (BitVec.ofNat 32 x.val) 0#32 = if 0 < x.val then 1#1 else 0#1 := by decide +kernel

/-- The field of a value below 2^100. -/
theorem field (q : ℝ) (hq : q < 2 ^ (100 : ℤ)) : ∃ f : ℕ, f ≤ 226 ∧ count q = BitVec.ofNat 32 f
    ∧ (f = 0 → q < 2 ^ (-126 : ℤ)) ∧ (0 < f → (2 : ℝ) ^ ((f : ℤ) - 127) ≤ q ∧ q < (2 : ℝ) ^ ((f : ℤ) - 126)) := by
  have key : ∀ f : ℕ, f ≤ 226 → (∀ x : ℕ, 0 < x → x < 255 → ((2 : ℝ) ^ ((x : ℤ) - 127) ≤ q ↔ x ≤ f)) → count q = BitVec.ofNat 32 f := by
    intro f hf hx
    rw [← fold_count ⟨f, by omega⟩]
    unfold count
    refine Finset.fold_congr fun x _ => ?_
    rw [gt_zero]
    have hd : 0 < x.val → (pw (BitVec.ofNat 32 x.val) ≤ (q : EReal) ↔ x.val ≤ f) := by
      intro h0
      by_cases h : x.val < 255
      · rw [pw_mid _ h0 h, EReal.coe_le_coe_iff]; exact hx _ h0 h
      · rw [show x.val = 255 by omega, pw_last]
        exact ⟨fun h => absurd (top_le_iff.mp h) (EReal.coe_ne_top q), fun h => by omega⟩
    by_cases h0 : 0 < x.val
    · rw [if_pos h0]
      by_cases h1 : x.val ≤ f
      · rw [if_pos ⟨h0, h1⟩, decide_eq_true ((hd h0).mpr h1)]; rfl
      · rw [if_neg (fun h => h1 h.2), decide_eq_false (fun h => h1 ((hd h0).mp h))]; rfl
    · rw [if_neg h0, if_neg (fun h => h0 h.1)]
      cases decide (pw (BitVec.ofNat 32 x.val) ≤ (q : EReal)) <;> rfl
  by_cases hs : q < 2 ^ (-126 : ℤ)
  · refine ⟨0, by omega, key 0 (by omega) fun x h0 _ => ⟨fun h => ?_, fun h => by omega⟩, fun _ => hs, fun h => absurd h (by omega)⟩
    have : (2 : ℝ) ^ (-126 : ℤ) ≤ 2 ^ ((x : ℤ) - 127) := zpow_le_zpow_right₀ (by norm_num) (by omega)
    linarith
  · have hs := not_lt.mp hs
    have hpos : 0 < q := lt_of_lt_of_le (by positivity) hs
    obtain ⟨k, h1, h2⟩ := exists_mem_Ico_zpow hpos (one_lt_two (α := ℝ))
    have hlo : (-126 : ℤ) ≤ k := by
      by_contra hc
      have : (2 : ℝ) ^ (k + 1) ≤ 2 ^ (-126 : ℤ) := zpow_le_zpow_right₀ (by norm_num) (by omega)
      linarith
    have hhi : k < 100 := by
      by_contra hc
      have : (2 : ℝ) ^ (100 : ℤ) ≤ 2 ^ (k) := zpow_le_zpow_right₀ (by norm_num) (by omega)
      linarith
    obtain ⟨f, hf⟩ : ∃ f : ℕ, (f : ℤ) = k + 127 := ⟨(k + 127).toNat, by omega⟩
    have e1 : (f : ℤ) - 127 = k := by omega
    have e2 : (f : ℤ) - 126 = k + 1 := by omega
    refine ⟨f, by omega, key f (by omega) fun x h0 _ => ⟨fun h => ?_, fun h => ?_⟩, fun h => by omega, fun _ => ⟨by rw [e1]; exact h1, by rw [e2]; exact h2⟩⟩
    · by_contra hc
      have : (2 : ℝ) ^ (k + 1) ≤ 2 ^ ((x : ℤ) - 127) := zpow_le_zpow_right₀ (by norm_num) (by omega)
      linarith
    · have : (2 : ℝ) ^ ((x : ℤ) - 127) ≤ 2 ^ (k) := zpow_le_zpow_right₀ (by norm_num) (by omega)
      linarith

/-- The words of the scale and of its inverse. -/
theorem words : ∀ f : Fin 227, IntOp.addi (Scalar.select (IntOp.cmpi CmpIPredicate.slt (BitVec.ofNat 32 f.val) 1#32) (0#32) (IntOp.subi (BitVec.ofNat 32 f.val) 126#32)) 127#32
      = BitVec.ofNat 32 (if f.val = 0 then 127 else f.val + 1)
    ∧ IntOp.subi 127#32 (Scalar.select (IntOp.cmpi CmpIPredicate.slt (BitVec.ofNat 32 f.val) 1#32) (0#32) (IntOp.subi (BitVec.ofNat 32 f.val) 126#32))
      = BitVec.ofNat 32 (if f.val = 0 then 127 else 253 - f.val) := by decide +kernel

theorem least_of (q : ℝ) (f : ℕ) (hf : f ≤ 226) (h0 : f = 0 → q < 2 ^ (-126 : ℤ))
    (h1 : 0 < f → (2 : ℝ) ^ ((f : ℤ) - 127) ≤ q ∧ q < (2 : ℝ) ^ ((f : ℤ) - 126)) :
    least q = if f = 0 then 1 else (((2 : ℝ) ^ ((f : ℤ) - 126) : ℝ) : EReal) := by
  unfold least
  rw [exp2_low]
  by_cases hz : f = 0
  · rw [if_pos hz, if_pos (EReal.coe_lt_coe_iff.mpr (h0 hz))]
  · obtain ⟨ha, hb⟩ := h1 (by omega)
    rw [if_neg hz, if_neg]
    · rw [inf_bits]
      apply le_antisymm
      · rw [Finset.fold_min_le]
        refine Or.inr ⟨⟨f, by omega⟩, Finset.mem_univ _, ?_⟩
        rw [exp2_of, if_pos (EReal.coe_lt_coe_iff.mpr hb)]
      · rw [Finset.le_fold_min]
        refine ⟨le_top, fun x _ => ?_⟩
        rw [exp2_of]
        split
        · rename_i hx
          have hx := EReal.coe_lt_coe_iff.mp hx
          rw [EReal.coe_le_coe_iff]
          refine zpow_le_zpow_right₀ (by norm_num) ?_
          by_contra hc
          have : (2 : ℝ) ^ ((x.val : ℤ) - 126) ≤ 2 ^ ((f : ℤ) - 127) := zpow_le_zpow_right₀ (by norm_num) (by omega)
          linarith
        · exact le_top
    · rw [EReal.coe_lt_coe_iff, not_lt]
      refine le_trans (zpow_le_zpow_right₀ (by norm_num) ?_) ha
      omega

/-- The two scales agree, and the product by the inverse is the quotient by the scale. -/
theorem scales (q : ℝ) (hq : q < 2 ^ (100 : ℤ)) : pw (IntOp.addi (expo q) 127#32) = least q
    ∧ ∀ g : EReal, g * pw (IntOp.subi 127#32 (expo q)) = Ideal.div g (least q) := by
  obtain ⟨f, hf, hc, h0, h1⟩ := field q hq
  obtain ⟨w1, w2⟩ := words ⟨f, by omega⟩
  dsimp only at w1 w2
  rw [least_of q f hf h0 h1]
  unfold expo
  rw [hc, w1, w2]
  by_cases hz : f = 0
  · simp only [if_pos hz]
    rw [pw_mid 127 (by omega) (by omega)]
    refine ⟨by norm_num, fun g => ?_⟩
    unfold Ideal.div
    rw [if_neg (by norm_num)]
    norm_num
  · simp only [if_neg hz]
    rw [pw_mid _ (by omega) (by omega), pw_mid _ (by omega) (by omega)]
    refine ⟨by push_cast; congr 2; ring, fun g => ?_⟩
    have hne : (2 : ℝ) ^ ((f : ℤ) - 126) ≠ 0 := by positivity
    unfold Ideal.div
    rw [if_neg (by rw [← EReal.coe_zero, EReal.coe_eq_coe_iff]; exact hne), ← EReal.coe_inv, ← zpow_neg]
    congr 3
    omega

end Cert.Quantiser

end
-- ==== Proof.ReferenceIdealValue.lean ====
module

public import proofs.«01_k».proof.Proof.Gen.ReferenceIdeal.Frame
public import proofs.«01_k».proof.Proof.Quantiser
public import Idealize.ShloMosaic.Lib.VecWindow
public import Idealize.ShloMosaic.Lib.Pipeline.ValueKit

@[expose] public section

/-!
The reference's four results over the extended reals: what its one body leaves, read at an index of each
result, over the arguments.
-/

set_option maxRecDepth 16384

noncomputable section

namespace Cert.ReferenceIdeal.Run

open Cert.ReferenceIdeal.Gen
open Facts Idealize.ShloMosaic Idealize.ShloMosaic.TcCoe Idealize.ShloMosaic.Tactic Idealize.ShloMosaic.Pointwise
open Idealize.ShloMosaic.Pipeline (Dat Cfg Window)

/-- The masked frame times its scale. -/
def hR (x0 : S64x768x1536.Idx → EReal) (x1 : S64x768x12.Idx → EReal) (b : Fin 64) (r : Fin 768) (c : Fin 1536) : EReal :=
  x0 (ix3 b r c) * x1 (ix3 b r ⟨c.val / 128, by omega⟩)

theorem pay7_at (x0 : Vec Ideal S64x768x1536 .fp8e4m3) (x1 : Vec Ideal S64x768x12 .f32) (b : Fin 64) (r : Fin 768) (c : Fin 1536) :
    k0_pay7 (F := Ideal) x0 x1 (ix3 b r c) = hR x0 x1 b r c := by
  pointwise [k0_pay7, k0_pay6]
  rfl

theorem pay8_at (x2 : Vec Ideal S64x1 .i32) (b : Fin 64) (r : Fin 768) :
    k0_pay8 (F := Ideal) x2 (ix3 b r 0) = IntOp.cmpi CmpIPredicate.slt (BitVec.ofNat 32 r.val) (x2 (ix2 b 0)) := by
  pointwise [k0_pay8, k0_pay5]

theorem row_word : ∀ r : Fin 768, (BitVec.ofNat 32 r.val).toInt = (r.val : ℤ) := by decide +kernel

theorem select_row (r : Fin 768) (len : BitVec 32) (a b : EReal) :
    Scalar.select (IntOp.cmpi CmpIPredicate.slt (BitVec.ofNat 32 r.val) len) a b = if (r.val : ℤ) < len.toInt then a else b := by
  unfold IntOp.cmpi Scalar.select
  rw [← row_word r]
  by_cases h : (BitVec.ofNat 32 r.val).toInt < len.toInt
  · rw [if_pos h]; simp [BitVec.slt_iff_toInt_lt.mpr h]
  · rw [if_neg h]
    have : (BitVec.ofNat 32 r.val).slt len = false := by
      rw [← Bool.not_eq_true]; exact fun c => h (BitVec.slt_iff_toInt_lt.mp c)
    simp [this]

/-- The mean of a channel. -/
def meanR (x0 : S64x768x1536.Idx → EReal) (x1 : S64x768x12.Idx → EReal) (len : BitVec 32) (b : Fin 64) (c : Fin 1536) : EReal :=
  Ideal.div (∑ r : Fin 768, if (r.val : ℤ) < len.toInt then hR x0 x1 b r c else 0) (if (0 : EReal) < ((len.toInt : ℝ) : EReal) then ((len.toInt : ℝ) : EReal) else 1)

/-- The deviation of a channel. -/
def devR (x0 : S64x768x1536.Idx → EReal) (x1 : S64x768x12.Idx → EReal) (len : BitVec 32) (b : Fin 64) (c : Fin 1536) : EReal :=
  Ideal.sqrt (Ideal.div (∑ r : Fin 768, if (r.val : ℤ) < len.toInt then (hR x0 x1 b r c - meanR x0 x1 len b c) * (hR x0 x1 b r c - meanR x0 x1 len b c) else 0)
    (if (0 : EReal) < ((len.toInt : ℝ) : EReal) then ((len.toInt : ℝ) : EReal) else 1))

theorem pay6_at (x0 : Vec Ideal S64x768x1536 .fp8e4m3) (x1 : Vec Ideal S64x768x12 .f32) (b : Fin 64) (r : Fin 768) (c : Fin 1536) :
    k0_pay6 (F := Ideal) x0 x1 (ix3 b r c) = hR x0 x1 b r c := by
  pointwise [k0_pay6]
  rfl

theorem pay9_at (x0 : Vec Ideal S64x768x1536 .fp8e4m3) (x1 : Vec Ideal S64x768x12 .f32) (x2 : Vec Ideal S64x1 .i32) (b : Fin 64) (c : Fin 3072) :
    k0_pay9 (F := Ideal) x2 x0 x1 (ix2 b c) = if h : c.val < 1536 then meanR x0 x1 (x2 (ix2 b 0)) b ⟨c.val, h⟩ else devR x0 x1 (x2 (ix2 b 0)) b ⟨c.val - 1536, by omega⟩ := by
  have h4 : k0_pay5 (F := Ideal) x2 (ix2 b 0) = x2 (ix2 b 0) := by pointwise [k0_pay5]
  pointwise [k0_pay9]
  simp only [pay7_at, pay6_at, pay8_at, select_row, h4]
  rfl

theorem pay10_at (x0 : Vec Ideal S64x768x1536 .fp8e4m3) (x1 : Vec Ideal S64x768x12 .f32) (x2 : Vec Ideal S64x1 .i32) (b : Fin 64) :
    k0_pay10 (F := Ideal) x2 x0 x1 (ix2 b 0) = Finset.fold max (Ideal.ofBits FTy.f32 4286578688#32)
      (fun x : Fin 3072 => max (k0_pay9 (F := Ideal) x2 x0 x1 (ix2 b x)) (-(k0_pay9 (F := Ideal) x2 x0 x1 (ix2 b x)))) Finset.univ := by
  pointwise [k0_pay10]
  rfl

theorem pay11_at (v44 : FVec Ideal S64x1 .f32) (b : Fin 64) :
    k0_pay11 (F := Ideal) v44 (ix2 b 0) = Quantiser.least (v44 (ix2 b 0) * Ideal.ofBits FTy.f32 991054117#32) := by
  pointwise [k0_pay11]
  rfl

theorem pay12_at (v41 : FVec Ideal S64x3072 .f32) (v44 : FVec Ideal S64x1 .f32) (b : Fin 64) (c : Fin 3072) :
    k0_pay12 (F := Ideal) v41 v44 (ix2 b c) = min (Ideal.ofBits FTy.f32 1138753536#32)
      (max (Ideal.ofBits FTy.f32 3286237184#32) (Ideal.div (v41 (ix2 b c)) (k0_pay11 (F := Ideal) v44 (ix2 b 0)))) := by
  pointwise [k0_pay12]

theorem pay13_at (v11 : FVec Ideal S64x768x1536 .bf16) (v74 : Vec Ideal S1536x128 .fp8e4m3) (v78 : Vec Ideal S1x128 .f32) (b : Fin 64) (r : Fin 768) (a : Fin 128) :
    k0_pay13 (F := Ideal) v11 v74 v78 (ix3 b r a) = (∑ x : Fin 1536, v11 (ix3 b r x) * v74 (ix2 x a)) * v78 (ix2 0 a) := by
  pointwise [k0_pay13]

theorem pay14_at (v41 : FVec Ideal S64x3072 .f32) (v44 : FVec Ideal S64x1 .f32) (v83 : Vec Ideal S3072x128 .fp8e4m3) (b : Fin 64) (a : Fin 128) :
    k0_pay14 (F := Ideal) v41 v44 v83 (ix2 b a) = (∑ x : Fin 3072, k0_pay12 (F := Ideal) v41 v44 (ix2 b x) * v83 (ix2 x a)) * k0_pay11 (F := Ideal) v44 (ix2 b 0) := by
  pointwise [k0_pay14]

theorem pay15_at (v82 : FVec Ideal S64x768x128 .f32) (v86 : FVec Ideal S64x128 .f32) (v87 v94 v99 v106 : Vec Ideal S1x128 .f32) (b : Fin 64) (r : Fin 768) (a : Fin 128) :
    k0_pay15 (F := Ideal) v82 v86 v87 v94 v99 v106 (ix3 b r a) =
      Ideal.tanh (v99 (ix2 0 a) * max (v82 (ix3 b r a) + v86 (ix2 b a) * v87 (ix2 0 a) + v94 (ix2 0 a)) 0 + v106 (ix2 0 a)) := by
  pointwise [k0_pay15]

theorem pay2_at (v16 : IVec S64x768x1 1) (v : FVec Ideal S64x768x128 .f32) (b : Fin 64) (r : Fin 768) (a : Fin 128) :
    k0_pay2 (F := Ideal) v16 v (ix3 b r a) = Scalar.select (v16 (ix3 b r 0)) (v (ix3 b r a)) 0 := by
  pointwise [k0_pay2]

/-- Minus infinity, as written. -/
abbrev low : EReal := Ideal.ofBits FTy.f32 4286578688#32

/-- The largest of a channel's logits. -/
def peak (e : Fin 768 → EReal) : EReal := max low (Finset.fold max low e Finset.univ)

/-- The weight of a frame: the softmax of a channel's logits. -/
def alpha (e : Fin 768 → EReal) (r : Fin 768) : EReal :=
  Ideal.div (Ideal.exp (e r - peak e)) (∑ s : Fin 768, Ideal.exp (e s - peak e))

/-- The logits, minus infinity where masked. -/
def logits (v16 : IVec S64x768x1 1) (z : FVec Ideal S64x768x128 .f32) (v114 : FVec Ideal S128x1536 .bf16) : FVec Ideal S64x768x1536 .f32 :=
  select (broadcastTo S64x768x1536 (shapeCast S64x768x1 v16 shapeCasts_S64x768x1_S64x768x1) broadcasts_S64x768x1_S64x768x1536)
    (shapeCast S64x768x1536 (matmul dot_S49152x128_S128x1536_S49152x1536_1_0_0_1_n_n none (shapeCast S49152x128 (truncf .bf16 z bitsLt_bf16_f32) shapeCasts_S64x768x128_S49152x128) v114 (constant S49152x1536 .f32 0x00000000#32)) shapeCasts_S49152x1536_S64x768x1536)
    (broadcast S64x768x1536 (Scalar.ofBits .f32 0xFF800000#32 : Ideal .f32))

/-- The largest logit of each channel, from a least value. -/
def tops (w : BitVec 32) (h1 : FKind.Formats FTy.f32) (h2 : w = FKind.maximumf.neutral FTy.f32 h1) (e : FVec Ideal S64x768x1536 .f32) : FVec Ideal S64x1536 .f32 :=
  maximumf (broadcast S64x1536 (Scalar.ofBits .f32 w : Ideal .f32)) (multiReduction .maximumf [1] S64x1536 e w reduces_S64x768x1536_S64x1536 h1 h2)

/-- The exponentials of the logits less a value per channel. -/
def expos (e : FVec Ideal S64x768x1536 .f32) (p : FVec Ideal S64x1536 .f32) : FVec Ideal S64x768x1536 .f32 :=
  exp (subf e (broadcastTo S64x768x1536 (shapeCast S64x1x1536 p shapeCasts_S64x1536_S64x1x1536) broadcasts_S64x1x1536_S64x768x1536))

/-- The sum over the frames of each channel. -/
def totals (v : FVec Ideal S64x768x1536 .f32) : FVec Ideal S64x1536 .f32 :=
  multiReduction .add [1] S64x1536 v 0x00000000#32 reduces_S64x768x1536_S64x1536 (.inl rfl) rfl

/-- The quotient by a value per channel. -/
def softs (v : FVec Ideal S64x768x1536 .f32) (s : FVec Ideal S64x1536 .f32) : FVec Ideal S64x768x1536 .f32 :=
  divf v (broadcastTo S64x768x1536 (shapeCast S64x1x1536 s shapeCasts_S64x1536_S64x1x1536) broadcasts_S64x1x1536_S64x768x1536)

theorem logits_at (v16 : IVec S64x768x1 1) (z : FVec Ideal S64x768x128 .f32) (v114 : Vec Ideal S128x1536 .bf16) (b : Fin 64) (r : Fin 768) (c : Fin 1536) :
    logits v16 z v114 (ix3 b r c) = Scalar.select (v16 (ix3 b r 0)) (∑ a : Fin 128, z (ix3 b r a) * v114 (ix2 a c)) low := by
  pointwise [logits]
  try rfl

theorem top_at (w : BitVec 32) (h1 : FKind.Formats FTy.f32) (h2 : w = FKind.maximumf.neutral FTy.f32 h1) (e : FVec Ideal S64x768x1536 .f32) (b : Fin 64) (c : Fin 1536) :
    tops w h1 h2 e (ix2 b c) = max (Ideal.ofBits FTy.f32 w) (Finset.fold max (FloatOps.ofBits (F := Ideal) FTy.f32 w) (fun r : Fin 768 => e (ix3 b r c)) Finset.univ) := by
  have hl : ∀ r : Fin 768, reduces_S64x768x1536_S64x1536.lift (ix2 b c) r = ix3 b r c := fun r => by
    funext (q : Fin 3)
    match q with | 0 => rfl | 1 => rfl | 2 => rfl
  have key := Ideal.multiReduction_maximumf_single (φ := .f32) (a := (1 : Fin 3)) e w reduces_S64x768x1536_S64x1536 h1 h2 (ix2 b c)
  unfold tops
  rw [maximumf_apply, key, (funext fun r => congrArg e (hl r) : (e ∘ reduces_S64x768x1536_S64x1536.lift (ix2 b c)) = fun r : Fin 768 => e (ix3 b r c))]
  exact (fun u => rfl : ∀ u : EReal, FloatOps.maximumf (F := Ideal) (φ := .f32) (broadcast S64x1536 (FloatOps.ofBits (F := Ideal) FTy.f32 w) (ix2 b c)) u = max (Ideal.ofBits FTy.f32 w) u) _

theorem expo_at (e : FVec Ideal S64x768x1536 .f32) (p : FVec Ideal S64x1536 .f32) (b : Fin 64) (r : Fin 768) (c : Fin 1536) :
    expos e p (ix3 b r c) = Ideal.exp (e (ix3 b r c) - p (ix2 b c)) := by
  pointwise [expos]

theorem total_at (v : FVec Ideal S64x768x1536 .f32) (b : Fin 64) (c : Fin 1536) : totals v (ix2 b c) = ∑ r : Fin 768, v (ix3 b r c) := by
  pointwise [totals]

theorem soft_at (v : FVec Ideal S64x768x1536 .f32) (s : FVec Ideal S64x1536 .f32) (b : Fin 64) (r : Fin 768) (c : Fin 1536) :
    softs v s (ix3 b r c) = Ideal.div (v (ix3 b r c)) (s (ix2 b c)) := by
  pointwise [softs]

theorem soft_parts (v16 : IVec S64x768x1 1) (v82 : FVec Ideal S64x768x128 .f32) (v86 : FVec Ideal S64x128 .f32) (v87 v94 v99 v106 : Vec Ideal S1x128 .f32) (v114 : Vec Ideal S128x1536 .bf16) :
    k0_pay16 (F := Ideal) v16 v82 v86 v87 v94 v99 v106 v114
      = softs (expos (logits v16 (k0_pay15 (F := Ideal) v82 v86 v87 v94 v99 v106) v114) (tops 0xFF800000#32 (.inl rfl) rfl (logits v16 (k0_pay15 (F := Ideal) v82 v86 v87 v94 v99 v106) v114)))
        (totals (expos (logits v16 (k0_pay15 (F := Ideal) v82 v86 v87 v94 v99 v106) v114) (tops 0xFF800000#32 (.inl rfl) rfl (logits v16 (k0_pay15 (F := Ideal) v82 v86 v87 v94 v99 v106) v114)))) := rfl

theorem pay16_at (v16 : IVec S64x768x1 1) (v82 : FVec Ideal S64x768x128 .f32) (v86 : FVec Ideal S64x128 .f32) (v87 v94 v99 v106 : Vec Ideal S1x128 .f32) (v114 : Vec Ideal S128x1536 .bf16) (b : Fin 64) (r : Fin 768) (c : Fin 1536) :
    k0_pay16 (F := Ideal) v16 v82 v86 v87 v94 v99 v106 v114 (ix3 b r c)
      = alpha (fun s => Scalar.select (v16 (ix3 b s 0)) (∑ a : Fin 128, k0_pay15 (F := Ideal) v82 v86 v87 v94 v99 v106 (ix3 b s a) * v114 (ix2 a c)) low) r := by
  have ht : tops 0xFF800000#32 (.inl rfl) rfl (logits v16 (k0_pay15 (F := Ideal) v82 v86 v87 v94 v99 v106) v114) (ix2 b c)
      = peak (fun s => Scalar.select (v16 (ix3 b s 0)) (∑ a : Fin 128, k0_pay15 (F := Ideal) v82 v86 v87 v94 v99 v106 (ix3 b s a) * v114 (ix2 a c)) low) := by
    refine (top_at _ _ _ _ b c).trans ?_
    simp only [logits_at]
    unfold peak low
    rfl
  rw [soft_parts, soft_at, expo_at, total_at]
  simp only [expo_at, logits_at]
  rw [ht]
  unfold alpha
  rfl

theorem pay17_at (v12 : FVec Ideal S64x768x1536 .f32) (v16 : IVec S64x768x1 1) (v82 : FVec Ideal S64x768x128 .f32) (v86 : FVec Ideal S64x128 .f32) (v87 v94 v99 v106 : Vec Ideal S1x128 .f32) (v114 : Vec Ideal S128x1536 .bf16) (b : Fin 64) (r : Fin 768) (c : Fin 1536) :
    k0_pay17 (F := Ideal) v12 v16 v82 v86 v87 v94 v99 v106 v114 (ix3 b r c)
      = k0_pay16 (F := Ideal) v16 v82 v86 v87 v94 v99 v106 v114 (ix3 b r c) * v12 (ix3 b r c) := by
  pointwise [k0_pay17]

theorem pay1_at (v12 v131 v132 : FVec Ideal S64x768x1536 .f32) (b : Fin 64) (c : Fin 3072) :
    k0_pay1 (F := Ideal) v12 v131 v132 (ix2 b c) = if h : c.val < 1536 then ∑ r : Fin 768, v132 (ix3 b r ⟨c.val, h⟩)
      else Ideal.sqrt (∑ r : Fin 768, v131 (ix3 b r ⟨c.val - 1536, by omega⟩)
        * ((v12 (ix3 b r ⟨c.val - 1536, by omega⟩) - ∑ s : Fin 768, v132 (ix3 b s ⟨c.val - 1536, by omega⟩))
          * (v12 (ix3 b r ⟨c.val - 1536, by omega⟩) - ∑ s : Fin 768, v132 (ix3 b s ⟨c.val - 1536, by omega⟩)))) := by
  pointwise [k0_pay1]

theorem pay3_at (v72 : FVec Ideal S64x3072 .fp8e4m3) (b : Fin 64) (c : Fin 3072) : k0_pay3 (F := Ideal) v72 (ix2 b c) = v72 (ix2 b c) := by
  pointwise [k0_pay3]

theorem pay4_at (v65 : FVec Ideal S64x1 .f32) (b : Fin 64) (a : Fin 128) : k0_pay4 (F := Ideal) v65 (ix2 b a) = v65 (ix2 b 0) := by
  pointwise [k0_pay4]

variable (m : (ℓ : Loc nD τ sig) → Buf (Elt Ideal) ℓ) (ρ : Dev nD → PrngReg)

/-- The one point. -/
abbrev t0 : Fin cfg0.N := ⟨0, by decide⟩

/-- The block of a window. -/
abbrev A (w : Fin cfg0.W) := iblk m 0 w t0

theorem row_of (f : FVec Ideal S128 .f32) (a : Fin 128) : shapeCast S1x128 f shapeCasts_S128_S1x128 (ix2 0 a) = f (ix1 a) := by
  pointwise []

theorem col_of (f : IVec S64 32) (b : Fin 64) : shapeCast S64x1 f shapeCasts_S64_S64x1 (ix2 b 0) = f (ix1 b) := by
  pointwise []

theorem A0_at (b : Fin 64) (r : Fin 768) (c : Fin 1536) : A m 0 (ix3 b r c : S64x768x1536.Idx) = m ((0 : Dev nD).tc.loc main_arg0) (ix3 b r c : S64x768x1536.Idx) := by
  have hemb : (((cfg0.win 0).blk t0).view.emb (ix3 b r c : S64x768x1536.Idx) : S64x768x1536.Idx) = ix3 b r c := by
    funext (q : Fin 3)
    apply Fin.ext
    refine (Pipeline.Window.rect_emb_val (cfg0.win 0) t0 (ix3 b r c : S64x768x1536.Idx) q).trans ?_
    match q with
    | 0 => show 0 * 64 + b.val = b.val; omega
    | 1 => show 0 * 768 + r.val = r.val; omega
    | 2 => show 0 * 1536 + c.val = c.val; omega
  exact congrArg (V m 0 main_v0) hemb

theorem A1_at (b : Fin 64) (r : Fin 768) (c : Fin 12) : A m 1 (ix3 b r c : S64x768x12.Idx) = m ((0 : Dev nD).tc.loc main_arg1) (ix3 b r c : S64x768x12.Idx) := by
  have hemb : (((cfg0.win 1).blk t0).view.emb (ix3 b r c : S64x768x12.Idx) : S64x768x12.Idx) = ix3 b r c := by
    funext (q : Fin 3)
    apply Fin.ext
    refine (Pipeline.Window.rect_emb_val (cfg0.win 1) t0 (ix3 b r c : S64x768x12.Idx) q).trans ?_
    match q with
    | 0 => show 0 * 64 + b.val = b.val; omega
    | 1 => show 0 * 768 + r.val = r.val; omega
    | 2 => show 0 * 12 + c.val = c.val; omega
  exact (congrArg (V m 0 main_arg1) hemb).trans (congrFun (V_main_arg1 m 0) _)

theorem A2_at (b : Fin 64) : A m 2 (ix2 b 0 : S64x1.Idx) = m ((0 : Dev nD).tc.loc main_arg2) (ix1 b : S64.Idx) := by
  have hemb : (((cfg0.win 2).blk t0).view.emb (ix2 b 0 : S64x1.Idx) : S64x1.Idx) = ix2 b 0 := by
    funext (q : Fin 2)
    apply Fin.ext
    refine (Pipeline.Window.rect_emb_val (cfg0.win 2) t0 (ix2 b 0 : S64x1.Idx) q).trans ?_
    match q with
    | 0 => show 0 * 64 + b.val = b.val; omega
    | 1 => show 0 * 1 + (0 : Fin 1).val = (0 : Fin 1).val; omega
  refine (congrArg (V m 0 main_v1) hemb).trans ?_
  exact col_of (m ((0 : Dev nD).tc.loc main_arg2)) b

theorem A3_at (r : Fin 1536) (a : Fin 128) : A m 3 (ix2 r a : S1536x128.Idx) = m ((0 : Dev nD).tc.loc main_arg3) (ix2 r a : S1536x128.Idx) := by
  have hemb : (((cfg0.win 3).blk t0).view.emb (ix2 r a : S1536x128.Idx) : S1536x128.Idx) = ix2 r a := by
    funext (q : Fin 2)
    apply Fin.ext
    refine (Pipeline.Window.rect_emb_val (cfg0.win 3) t0 (ix2 r a : S1536x128.Idx) q).trans ?_
    match q with
    | 0 => show 0 * 1536 + r.val = r.val; omega
    | 1 => show 0 * 128 + a.val = a.val; omega
  exact (congrArg (V m 0 main_arg3) hemb).trans (congrFun (V_main_arg3 m 0) _)

theorem A5_at (r : Fin 3072) (a : Fin 128) : A m 5 (ix2 r a : S3072x128.Idx) = m ((0 : Dev nD).tc.loc main_arg5) (ix2 r a : S3072x128.Idx) := by
  have hemb : (((cfg0.win 5).blk t0).view.emb (ix2 r a : S3072x128.Idx) : S3072x128.Idx) = ix2 r a := by
    funext (q : Fin 2)
    apply Fin.ext
    refine (Pipeline.Window.rect_emb_val (cfg0.win 5) t0 (ix2 r a : S3072x128.Idx) q).trans ?_
    match q with
    | 0 => show 0 * 3072 + r.val = r.val; omega
    | 1 => show 0 * 128 + a.val = a.val; omega
  exact (congrArg (V m 0 main_arg5) hemb).trans (congrFun (V_main_arg5 m 0) _)

theorem A10_at (r : Fin 128) (a : Fin 1536) : A m 10 (ix2 r a : S128x1536.Idx) = m ((0 : Dev nD).tc.loc main_arg10) (ix2 r a : S128x1536.Idx) := by
  have hemb : (((cfg0.win 10).blk t0).view.emb (ix2 r a : S128x1536.Idx) : S128x1536.Idx) = ix2 r a := by
    funext (q : Fin 2)
    apply Fin.ext
    refine (Pipeline.Window.rect_emb_val (cfg0.win 10) t0 (ix2 r a : S128x1536.Idx) q).trans ?_
    match q with
    | 0 => show 0 * 128 + r.val = r.val; omega
    | 1 => show 0 * 1536 + a.val = a.val; omega
  exact (congrArg (V m 0 main_arg10) hemb).trans (congrFun (V_main_arg10 m 0) _)

theorem A4_at (a : Fin 128) : A m 4 (ix2 0 a : S1x128.Idx) = m ((0 : Dev nD).tc.loc main_arg4) (ix1 a : S128.Idx) := by
  have hemb : (((cfg0.win 4).blk t0).view.emb (ix2 0 a : S1x128.Idx) : S1x128.Idx) = ix2 0 a := by
    funext (q : Fin 2)
    apply Fin.ext
    refine (Pipeline.Window.rect_emb_val (cfg0.win 4) t0 (ix2 0 a : S1x128.Idx) q).trans ?_
    match q with
    | 0 => show 0 * 1 + (0 : Fin 1).val = (0 : Fin 1).val; omega
    | 1 => show 0 * 128 + a.val = a.val; omega
  refine (congrArg (V m 0 main_v2) hemb).trans ?_
  exact row_of (m ((0 : Dev nD).tc.loc main_arg4)) a

theorem A6_at (a : Fin 128) : A m 6 (ix2 0 a : S1x128.Idx) = m ((0 : Dev nD).tc.loc main_arg6) (ix1 a : S128.Idx) := by
  have hemb : (((cfg0.win 6).blk t0).view.emb (ix2 0 a : S1x128.Idx) : S1x128.Idx) = ix2 0 a := by
    funext (q : Fin 2)
    apply Fin.ext
    refine (Pipeline.Window.rect_emb_val (cfg0.win 6) t0 (ix2 0 a : S1x128.Idx) q).trans ?_
    match q with
    | 0 => show 0 * 1 + (0 : Fin 1).val = (0 : Fin 1).val; omega
    | 1 => show 0 * 128 + a.val = a.val; omega
  refine (congrArg (V m 0 main_v3) hemb).trans ?_
  exact row_of (m ((0 : Dev nD).tc.loc main_arg6)) a

theorem A7_at (a : Fin 128) : A m 7 (ix2 0 a : S1x128.Idx) = m ((0 : Dev nD).tc.loc main_arg7) (ix1 a : S128.Idx) := by
  have hemb : (((cfg0.win 7).blk t0).view.emb (ix2 0 a : S1x128.Idx) : S1x128.Idx) = ix2 0 a := by
    funext (q : Fin 2)
    apply Fin.ext
    refine (Pipeline.Window.rect_emb_val (cfg0.win 7) t0 (ix2 0 a : S1x128.Idx) q).trans ?_
    match q with
    | 0 => show 0 * 1 + (0 : Fin 1).val = (0 : Fin 1).val; omega
    | 1 => show 0 * 128 + a.val = a.val; omega
  refine (congrArg (V m 0 main_v4) hemb).trans ?_
  exact row_of (m ((0 : Dev nD).tc.loc main_arg7)) a

theorem A8_at (a : Fin 128) : A m 8 (ix2 0 a : S1x128.Idx) = m ((0 : Dev nD).tc.loc main_arg8) (ix1 a : S128.Idx) := by
  have hemb : (((cfg0.win 8).blk t0).view.emb (ix2 0 a : S1x128.Idx) : S1x128.Idx) = ix2 0 a := by
    funext (q : Fin 2)
    apply Fin.ext
    refine (Pipeline.Window.rect_emb_val (cfg0.win 8) t0 (ix2 0 a : S1x128.Idx) q).trans ?_
    match q with
    | 0 => show 0 * 1 + (0 : Fin 1).val = (0 : Fin 1).val; omega
    | 1 => show 0 * 128 + a.val = a.val; omega
  refine (congrArg (V m 0 main_v5) hemb).trans ?_
  exact row_of (m ((0 : Dev nD).tc.loc main_arg8)) a

theorem A9_at (a : Fin 128) : A m 9 (ix2 0 a : S1x128.Idx) = m ((0 : Dev nD).tc.loc main_arg9) (ix1 a : S128.Idx) := by
  have hemb : (((cfg0.win 9).blk t0).view.emb (ix2 0 a : S1x128.Idx) : S1x128.Idx) = ix2 0 a := by
    funext (q : Fin 2)
    apply Fin.ext
    refine (Pipeline.Window.rect_emb_val (cfg0.win 9) t0 (ix2 0 a : S1x128.Idx) q).trans ?_
    match q with
    | 0 => show 0 * 1 + (0 : Fin 1).val = (0 : Fin 1).val; omega
    | 1 => show 0 * 128 + a.val = a.val; omega
  refine (congrArg (V m 0 main_v6) hemb).trans ?_
  exact row_of (m ((0 : Dev nD).tc.loc main_arg9)) a

theorem pool_out (x0 : Vec Ideal S64x768x1536 .fp8e4m3) (x1 : Vec Ideal S64x768x12 .f32) (x2 : Vec Ideal S64x1 .i32) (x3 : Vec Ideal S1536x128 .fp8e4m3) (x4 : Vec Ideal S1x128 .f32) (x5 : Vec Ideal S3072x128 .fp8e4m3) (x6 x7 x8 x9 : Vec Ideal S1x128 .f32) (x10 : Vec Ideal S128x1536 .bf16) : out0_11 (F := Ideal) x0 x1 x2 x3 x4 x5 x6 x7 x8 x9 x10 = k0_pay1 (k0_pay7 x0 x1) (k0_pay16 (k0_pay8 (F := Ideal) x2) (k0_pay13 (k0_pay6 x0 x1) x3 x4) (k0_pay14 (k0_pay9 (F := Ideal) x2 x0 x1) (k0_pay10 (F := Ideal) x2 x0 x1) x5) x6 x7 x8 x9 x10) (k0_pay17 (k0_pay7 x0 x1) (k0_pay8 (F := Ideal) x2) (k0_pay13 (k0_pay6 x0 x1) x3 x4) (k0_pay14 (k0_pay9 (F := Ideal) x2 x0 x1) (k0_pay10 (F := Ideal) x2 x0 x1) x5) x6 x7 x8 x9 x10) := by
  frame_out
  simp only [k0_pay18, k0_pay19, k0_pay20, k0_pay21, k0_pay22, k0_pay23]
  try frame_out

theorem z_out (x0 : Vec Ideal S64x768x1536 .fp8e4m3) (x1 : Vec Ideal S64x768x12 .f32) (x2 : Vec Ideal S64x1 .i32) (x3 : Vec Ideal S1536x128 .fp8e4m3) (x4 : Vec Ideal S1x128 .f32) (x5 : Vec Ideal S3072x128 .fp8e4m3) (x6 x7 x8 x9 : Vec Ideal S1x128 .f32) (x10 : Vec Ideal S128x1536 .bf16) : out0_12 (F := Ideal) x0 x1 x2 x3 x4 x5 x6 x7 x8 x9 x10 = k0_pay2 (k0_pay8 (F := Ideal) x2) (k0_pay15 (k0_pay13 (k0_pay6 x0 x1) x3 x4) (k0_pay14 (k0_pay9 (F := Ideal) x2 x0 x1) (k0_pay10 (F := Ideal) x2 x0 x1) x5) x6 x7 x8 x9) := by
  frame_out
  simp only [k0_pay18, k0_pay19, k0_pay20, k0_pay21, k0_pay22, k0_pay23]
  try frame_out

theorem gc_out (x0 : Vec Ideal S64x768x1536 .fp8e4m3) (x1 : Vec Ideal S64x768x12 .f32) (x2 : Vec Ideal S64x1 .i32) (x3 : Vec Ideal S1536x128 .fp8e4m3) (x4 : Vec Ideal S1x128 .f32) (x5 : Vec Ideal S3072x128 .fp8e4m3) (x6 x7 x8 x9 : Vec Ideal S1x128 .f32) (x10 : Vec Ideal S128x1536 .bf16) : out0_13 (F := Ideal) x0 x1 x2 x3 x4 x5 x6 x7 x8 x9 x10 = k0_pay3 (k0_pay12 (k0_pay9 (F := Ideal) x2 x0 x1) (k0_pay10 (F := Ideal) x2 x0 x1)) := by
  frame_out
  simp only [k0_pay18, k0_pay19, k0_pay20, k0_pay21, k0_pay22, k0_pay23]
  try frame_out

theorem gs_out (x0 : Vec Ideal S64x768x1536 .fp8e4m3) (x1 : Vec Ideal S64x768x12 .f32) (x2 : Vec Ideal S64x1 .i32) (x3 : Vec Ideal S1536x128 .fp8e4m3) (x4 : Vec Ideal S1x128 .f32) (x5 : Vec Ideal S3072x128 .fp8e4m3) (x6 x7 x8 x9 : Vec Ideal S1x128 .f32) (x10 : Vec Ideal S128x1536 .bf16) : out0_14 (F := Ideal) x0 x1 x2 x3 x4 x5 x6 x7 x8 x9 x10 = k0_pay4 (k0_pay11 (k0_pay10 (F := Ideal) x2 x0 x1)) := by
  frame_out
  simp only [k0_pay18, k0_pay19, k0_pay20, k0_pay21, k0_pay22, k0_pay23]
  try frame_out

/-- The pooled vector of a row. -/
def gR (b : Fin 64) (c : Fin 3072) : EReal :=
  if h : c.val < 1536 then meanR (A m 0) (A m 1) (A m 2 (ix2 b 0)) b ⟨c.val, h⟩ else devR (A m 0) (A m 1) (A m 2 (ix2 b 0)) b ⟨c.val - 1536, by omega⟩

/-- A row's value for its scale. -/
def qR (b : Fin 64) : EReal :=
  Finset.fold max (Ideal.ofBits FTy.f32 4286578688#32) (fun x : Fin 3072 => max (gR m b x) (-(gR m b x))) Finset.univ * Ideal.ofBits FTy.f32 991054117#32

/-- A row's code. -/
def codeR (b : Fin 64) (c : Fin 3072) : EReal :=
  min (Ideal.ofBits FTy.f32 1138753536#32) (max (Ideal.ofBits FTy.f32 3286237184#32) (Ideal.div (gR m b c) (Quantiser.least (qR m b))))

/-- The activation before the mask at a channel, over its ingredients. -/
def zH (h : Fin 1536 → EReal) (w1h : S1536x128.Idx → EReal) (w1hs : S1x128.Idx → EReal) (code : Fin 3072 → EReal) (scale : EReal)
    (w1s : S3072x128.Idx → EReal) (w1ss b1 g1 s1 : S1x128.Idx → EReal) (a : Fin 128) : EReal :=
  Ideal.tanh (g1 (ix2 0 a) * max ((∑ x : Fin 1536, h x * w1h (ix2 x a)) * w1hs (ix2 0 a)
    + (∑ x : Fin 3072, code x * w1s (ix2 x a)) * scale * w1ss (ix2 0 a) + b1 (ix2 0 a)) 0 + s1 (ix2 0 a))

/-- The activation at a frame and a channel, over its ingredients. -/
def zG (len : BitVec 32) (h : Fin 1536 → EReal) (w1h : S1536x128.Idx → EReal) (w1hs : S1x128.Idx → EReal) (code : Fin 3072 → EReal) (scale : EReal)
    (w1s : S3072x128.Idx → EReal) (w1ss b1 g1 s1 : S1x128.Idx → EReal) (r : Fin 768) (a : Fin 128) : EReal :=
  if (r.val : ℤ) < len.toInt then zH h w1h w1hs code scale w1s w1ss b1 g1 s1 a else 0

/-- The activation at a frame and a channel. -/
def zR (b : Fin 64) (r : Fin 768) (a : Fin 128) : EReal :=
  zG (A m 2 (ix2 b 0)) (hR (A m 0) (A m 1) b r) (A m 3) (A m 4) (codeR m b) (Quantiser.least (qR m b)) (A m 5) (A m 6) (A m 7) (A m 8) (A m 9) r a

/-- The logits of a channel, over its ingredients: minus infinity past the length. -/
def logit (len : BitVec 32) (z : Fin 768 → Fin 128 → EReal) (w2 : S128x1536.Idx → EReal) (c : Fin 1536) (r : Fin 768) : EReal :=
  if (r.val : ℤ) < len.toInt then ∑ a : Fin 128, z r a * w2 (ix2 a c) else low

/-- The weighted mean of the frames of a channel. -/
def muR (e h : Fin 768 → EReal) : EReal := ∑ r : Fin 768, alpha e r * h r

/-- The weighted deviation of the frames of a channel. -/
def sdR (e h : Fin 768 → EReal) : EReal := Ideal.sqrt (∑ r : Fin 768, alpha e r * ((h r - muR e h) * (h r - muR e h)))

/-- The logits of a channel. -/
def eR (b : Fin 64) (c : Fin 1536) : Fin 768 → EReal :=
  logit (A m 2 (ix2 b 0)) (fun r => zH (hR (A m 0) (A m 1) b r) (A m 3) (A m 4) (codeR m b) (Quantiser.least (qR m b)) (A m 5) (A m 6) (A m 7) (A m 8) (A m 9)) (A m 10) c

/-- The attentive pooled vector of a row. -/
def poolR (b : Fin 64) (c : Fin 3072) : EReal :=
  if h : c.val < 1536 then muR (eR m b ⟨c.val, h⟩) (fun r => hR (A m 0) (A m 1) b r ⟨c.val, h⟩)
  else sdR (eR m b ⟨c.val - 1536, by omega⟩) (fun r => hR (A m 0) (A m 1) b r ⟨c.val - 1536, by omega⟩)

/-- The four results. -/
def poolRef : S64x3072.Idx → EReal := (dats m 0 0).after 11 t0
def zRef : S64x768x128.Idx → EReal := (dats m 0 0).after 12 t0
def gcRef : S64x3072.Idx → EReal := (dats m 0 0).after 13 t0
def gsRef : S64x128.Idx → EReal := (dats m 0 0).after 14 t0

theorem scale_at (b : Fin 64) : k0_pay11 (F := Ideal) (k0_pay10 (F := Ideal) (A m 2) (A m 0) (A m 1)) (ix2 b 0) = Quantiser.least (qR m b) := by
  rw [pay11_at, pay10_at]
  simp only [pay9_at]
  rfl

theorem code_at (b : Fin 64) (c : Fin 3072) :
    k0_pay12 (F := Ideal) (k0_pay9 (F := Ideal) (A m 2) (A m 0) (A m 1)) (k0_pay10 (F := Ideal) (A m 2) (A m 0) (A m 1)) (ix2 b c) = codeR m b c := by
  rw [pay12_at, scale_at, pay9_at]
  rfl

theorem gs_at (b : Fin 64) (a : Fin 128) : gsRef m (ix2 b a) = Quantiser.least (qR m b) := by
  unfold gsRef
  rw [after0_14, gs_out]
  exact (pay4_at _ b a).trans (scale_at m b)

theorem gc_at (b : Fin 64) (c : Fin 3072) : gcRef m (ix2 b c) = codeR m b c := by
  unfold gcRef
  rw [after0_13, gc_out]
  exact (pay3_at _ b c).trans (code_at m b c)

theorem zH_at (b : Fin 64) (r : Fin 768) (a : Fin 128) :
    k0_pay15 (F := Ideal) (k0_pay13 (k0_pay6 (A m 0) (A m 1)) (A m 3) (A m 4)) (k0_pay14 (k0_pay9 (F := Ideal) (A m 2) (A m 0) (A m 1)) (k0_pay10 (F := Ideal) (A m 2) (A m 0) (A m 1)) (A m 5)) (A m 6) (A m 7) (A m 8) (A m 9) (ix3 b r a)
      = zH (hR (A m 0) (A m 1) b r) (A m 3) (A m 4) (codeR m b) (Quantiser.least (qR m b)) (A m 5) (A m 6) (A m 7) (A m 8) (A m 9) a := by
  rw [pay15_at, pay13_at, pay14_at, scale_at]
  simp only [code_at, pay6_at]
  rfl

theorem z_at (b : Fin 64) (r : Fin 768) (a : Fin 128) : zRef m (ix3 b r a) = zR m b r a := by
  unfold zRef
  rw [after0_12, z_out]
  refine (pay2_at _ _ b r a).trans ?_
  rw [pay8_at, select_row, zH_at]
  rfl

theorem alpha_at (b : Fin 64) (r : Fin 768) (c : Fin 1536) :
    k0_pay16 (F := Ideal) (k0_pay8 (F := Ideal) (A m 2)) (k0_pay13 (k0_pay6 (A m 0) (A m 1)) (A m 3) (A m 4)) (k0_pay14 (k0_pay9 (F := Ideal) (A m 2) (A m 0) (A m 1)) (k0_pay10 (F := Ideal) (A m 2) (A m 0) (A m 1)) (A m 5)) (A m 6) (A m 7) (A m 8) (A m 9) (A m 10) (ix3 b r c)
      = alpha (eR m b c) r := by
  refine (pay16_at _ _ _ _ _ _ _ _ b r c).trans (congrArg (fun e => alpha e r) (funext fun s => ?_))
  rw [pay8_at, select_row]
  simp only [zH_at]
  rfl

theorem pool_at (b : Fin 64) (c : Fin 3072) : poolRef m (ix2 b c) = poolR m b c := by
  unfold poolRef
  rw [after0_11, pool_out]
  refine (pay1_at _ _ _ b c).trans ?_
  simp only [pay17_at, alpha_at, pay7_at]
  rfl

theorem whole11 : (cfg0.win 11).WholeAt t0 := by decide +kernel
theorem whole12 : (cfg0.win 12).WholeAt t0 := by decide +kernel
theorem whole13 : (cfg0.win 13).WholeAt t0 := by decide +kernel
theorem whole14 : (cfg0.win 14).WholeAt t0 := by decide +kernel

theorem end11 : (dats m 0 0).arrAt 11 cfg0.N = poolRef m :=
  (dats m 0 0).arrAt_eq_of_after_last 11 t0 whole11 _ fun j => rfl

theorem end12 : (dats m 0 0).arrAt 12 cfg0.N = zRef m :=
  (dats m 0 0).arrAt_eq_of_after_last 12 t0 whole12 _ fun j => rfl

theorem end13 : (dats m 0 0).arrAt 13 cfg0.N = gcRef m :=
  (dats m 0 0).arrAt_eq_of_after_last 13 t0 whole13 _ fun j => rfl

theorem end14 : (dats m 0 0).arrAt 14 cfg0.N = gsRef m :=
  (dats m 0 0).arrAt_eq_of_after_last 14 t0 whole14 _ fun j => rfl

/-- The run of the reference: it ends with every argument as launched and the four results as stated. -/
theorem ref_run : θ_run (defs (F := Ideal)) (onTc (τ := τ) (main (F := Ideal))) ⟨m, fun _ => 0, ρ⟩
    (fun r => r.2.mem ((0 : Dev nD).tc.loc main_v7_0) = poolRef m ∧ r.2.mem ((0 : Dev nD).tc.loc main_v7_1) = zRef m ∧ r.2.mem ((0 : Dev nD).tc.loc main_v7_2) = gcRef m ∧ r.2.mem ((0 : Dev nD).tc.loc main_v7_3) = gsRef m) :=
  (θ_run defs _ _).mono (fun r h => ⟨((h.1 0).1 11).trans (end11 m), ((h.1 0).1 12).trans (end12 m), ((h.1 0).1 13).trans (end13 m), ((h.1 0).1 14).trans (end14 m)⟩) (run_main_quiescent m ρ)

end Cert.ReferenceIdeal.Run

end
-- ==== Proof.Moments.lean ====
module

public import Idealize.ShloMosaic.Lib.VecWindow
public import Idealize.ShloMosaic.Lib.Pipeline.ValueKit

@[expose] public section

/-!
The moments of the masked frames over the extended reals, for finite frames: the mean of the squares less the
square of the mean is the mean of the squared deviations, and both are bounded.
-/

set_option maxRecDepth 16384

noncomputable section

namespace Cert.Moments

open Idealize.ShloMosaic

/-- The number divided by: the length, or one. -/
def cnt (len : BitVec 32) : ℝ := if 0 < len.toInt then (len.toInt : ℝ) else 1

theorem one_le_cnt (len : BitVec 32) : 1 ≤ cnt len := by
  unfold cnt; split
  · rename_i h; exact_mod_cast h
  · exact le_rfl

/-- The number as the reference takes it. -/
theorem cnt_ref (len : BitVec 32) : (if (0 : EReal) < ((len.toInt : ℝ) : EReal) then ((len.toInt : ℝ) : EReal) else 1) = (cnt len : EReal) := by
  unfold cnt
  by_cases h : 0 < len.toInt
  · rw [if_pos h, if_pos (by rw [← EReal.coe_zero, EReal.coe_lt_coe_iff]; exact_mod_cast h)]
  · rw [if_neg h, if_neg (by rw [← EReal.coe_zero, EReal.coe_lt_coe_iff]; exact_mod_cast h)]; rfl

/-- The quotient by the number is the product by its inverse. -/
theorem div_cnt (len : BitVec 32) (a : EReal) : Ideal.div a (cnt len) = a * (((cnt len)⁻¹ : ℝ) : EReal) := by
  have h := one_le_cnt len
  unfold Ideal.div
  rw [if_neg (by rw [← EReal.coe_zero, EReal.coe_eq_coe_iff]; linarith), EReal.coe_inv]

theorem maxsi_one (len : BitVec 32) : (IntOp.maxsi len 1#32).toInt = if 0 < len.toInt then len.toInt else 1 := by
  unfold IntOp.maxsi
  have : (1#32 : BitVec 32).toInt = 1 := by decide
  by_cases h : (1#32 : BitVec 32).slt len = true
  · rw [if_pos h]
    have := BitVec.slt_iff_toInt_lt.mp h
    rw [if_pos (by omega)]
  · rw [if_neg h]
    have h' : ¬ (1#32 : BitVec 32).toInt < len.toInt := fun c => h (BitVec.slt_iff_toInt_lt.mpr c)
    split
    · omega
    · exact this

/-- The reciprocal as the kernel takes it. -/
theorem inv_cnt (len : BitVec 32) : Ideal.div 1 (((IntOp.maxsi len 1#32).toInt : ℝ) : EReal) = (((cnt len)⁻¹ : ℝ) : EReal) := by
  rw [maxsi_one, show (((if 0 < len.toInt then len.toInt else 1 : ℤ) : ℝ)) = cnt len by unfold cnt; split <;> norm_num, div_cnt, one_mul]

theorem card_rows (k : ℤ) (h0 : 0 < k) (h : k ≤ 768) : ∑ r : Fin 768, (if (r.val : ℤ) < k then (1 : ℝ) else 0) = k := by
  obtain ⟨n, rfl⟩ : ∃ n : ℕ, k = n := ⟨k.toNat, by omega⟩
  rw [← Finset.sum_range (fun i => if (i : ℤ) < (n : ℤ) then (1 : ℝ) else 0)]
  rw [← Finset.sum_subset (Finset.range_subset_range.mpr (show n ≤ 768 by omega)) (fun i _ hi => by
    rw [if_neg]; simp only [Finset.mem_range] at hi; omega)]
  rw [Finset.sum_congr rfl (fun i hi => if_pos (by simp only [Finset.mem_range] at hi; omega))]
  simp

/-- The variance two ways, over the reals. -/
theorem variance (len : BitVec 32) (hlen : len.toInt ≤ 768) (H : Fin 768 → ℝ) (μ : ℝ)
    (hμ : μ = (∑ r : Fin 768, if (r.val : ℤ) < len.toInt then H r else 0) * (cnt len)⁻¹) :
    (∑ r : Fin 768, if (r.val : ℤ) < len.toInt then H r * H r else 0) * (cnt len)⁻¹ - μ * μ
      = (∑ r : Fin 768, if (r.val : ℤ) < len.toInt then (H r - μ) * (H r - μ) else 0) * (cnt len)⁻¹ := by
  have hc := one_le_cnt len
  by_cases h0 : 0 < len.toInt
  · have e : (∑ r : Fin 768, if (r.val : ℤ) < len.toInt then (H r - μ) * (H r - μ) else 0)
        = (∑ r : Fin 768, if (r.val : ℤ) < len.toInt then H r * H r else 0) - 2 * μ * (∑ r : Fin 768, if (r.val : ℤ) < len.toInt then H r else 0)
          + μ * μ * ∑ r : Fin 768, (if (r.val : ℤ) < len.toInt then (1 : ℝ) else 0) := by
      rw [Finset.mul_sum, Finset.mul_sum, ← Finset.sum_sub_distrib, ← Finset.sum_add_distrib]
      refine Finset.sum_congr rfl fun r _ => ?_
      split <;> ring
    rw [e, card_rows _ h0 hlen]
    have e1 : (∑ r : Fin 768, if (r.val : ℤ) < len.toInt then H r else 0) = μ * cnt len := by rw [hμ]; field_simp
    have e2 : (len.toInt : ℝ) = cnt len := by unfold cnt; rw [if_pos h0]
    rw [e1, e2]
    field_simp
    ring
  · have z : ∀ f : Fin 768 → ℝ, (∑ r : Fin 768, if (r.val : ℤ) < len.toInt then f r else 0) = 0 := fun f =>
      Finset.sum_eq_zero fun r _ => if_neg (by omega)
    rw [z, zero_mul] at hμ
    rw [z, z, hμ]; ring

theorem sum_le (p : Fin 768 → Prop) [DecidablePred p] (f : Fin 768 → ℝ) (M : ℝ) (hM : 0 ≤ M) (h : ∀ r, |f r| ≤ M) :
    |∑ r : Fin 768, if p r then f r else 0| ≤ 768 * M := by
  refine (Finset.abs_sum_le_sum_abs _ _).trans ?_
  refine (Finset.sum_le_card_nsmul _ _ M fun r _ => ?_).trans (by simp)
  split
  · exact h r
  · simpa using hM

theorem inv_le (len : BitVec 32) : 0 ≤ (cnt len)⁻¹ ∧ (cnt len)⁻¹ ≤ 1 :=
  ⟨inv_nonneg.mpr (by linarith [one_le_cnt len]), inv_le_one_of_one_le₀ (one_le_cnt len)⟩

theorem coe_sum (f : Fin 768 → ℝ) : ∑ r : Fin 768, (f r : EReal) = ((∑ r : Fin 768, f r : ℝ) : EReal) := by
  induction (Finset.univ : Finset (Fin 768)) using Finset.induction_on with
  | empty => simp
  | insert a s ha ih => rw [Finset.sum_insert ha, Finset.sum_insert ha, ih, EReal.coe_add]

theorem sqrt_of (v : ℝ) (h : 0 ≤ v) : Ideal.sqrt (v : EReal) = (Real.sqrt v : EReal) := by
  show (if v < 0 then (⊥ : EReal) else (Real.sqrt v : EReal)) = _
  rw [if_neg (by linarith)]

/-- The mean and the deviation of a channel, two ways, and their bounds. -/
theorem moments (len : BitVec 32) (hlen : len.toInt ≤ 768) (h : Fin 768 → EReal) (H : Fin 768 → ℝ) (M : ℝ) (hM : 0 ≤ M)
    (hH : ∀ r, h r = (H r : EReal)) (hb : ∀ r, |H r| ≤ M) (hk : Fin 768 → EReal) (hhk : ∀ r, hk r = if (r.val : ℤ) < len.toInt then h r else 0) :
    ∃ μ σ : ℝ, |μ| ≤ 21532 * M ∧ |σ| ≤ 21532 * M
      ∧ (∑ r, hk r) * (((cnt len)⁻¹ : ℝ) : EReal) = μ
      ∧ Ideal.sqrt (max ((∑ r, hk r * hk r) * (((cnt len)⁻¹ : ℝ) : EReal) - (μ : EReal) * (μ : EReal)) 0) = σ
      ∧ Ideal.div (∑ r : Fin 768, if (r.val : ℤ) < len.toInt then h r else 0) (cnt len : EReal) = μ
      ∧ Ideal.sqrt (Ideal.div (∑ r : Fin 768, if (r.val : ℤ) < len.toInt then (h r - (μ : EReal)) * (h r - (μ : EReal)) else 0) (cnt len : EReal)) = σ := by
  have hi := inv_le len
  set i := (cnt len)⁻¹ with hidef
  have e0 : ∀ r, hk r = ((if (r.val : ℤ) < len.toInt then H r else 0 : ℝ) : EReal) := fun r => by
    rw [hhk, hH]; split <;> simp
  have e0' : ∀ r : Fin 768, (if (r.val : ℤ) < len.toInt then h r else 0) = ((if (r.val : ℤ) < len.toInt then H r else 0 : ℝ) : EReal) := fun r => by
    rw [hH]; split <;> simp
  set μ : ℝ := (∑ r : Fin 768, if (r.val : ℤ) < len.toInt then H r else 0) * i with hμ
  have hv := variance len hlen H μ hμ
  set v : ℝ := (∑ r : Fin 768, if (r.val : ℤ) < len.toInt then (H r - μ) * (H r - μ) else 0) * i with hvd
  have hμb : |μ| ≤ 768 * M := by
    rw [hμ, abs_mul, abs_of_nonneg hi.1]
    have := sum_le (fun r => (r.val : ℤ) < len.toInt) H M hM hb
    calc _ ≤ (768 * M) * 1 := mul_le_mul this hi.2 hi.1 (by positivity)
      _ = _ := by ring
  have hv0 : 0 ≤ v := by
    rw [hvd]
    refine mul_nonneg (Finset.sum_nonneg fun r _ => ?_) hi.1
    split
    · exact mul_self_nonneg _
    · exact le_rfl
  have hvb : v ≤ (21532 * M) ^ 2 := by
    have hd : ∀ r, |(H r - μ) * (H r - μ)| ≤ (769 * M) * (769 * M) := fun r => by
      have : |H r - μ| ≤ 769 * M := (abs_sub _ _).trans (by linarith [hb r])
      rw [abs_mul]; exact mul_le_mul this this (abs_nonneg _) (by positivity)
    have := sum_le (fun r => (r.val : ℤ) < len.toInt) (fun r => (H r - μ) * (H r - μ)) _ (by positivity) hd
    have h1 := (le_abs_self _).trans this
    calc v ≤ (768 * ((769 * M) * (769 * M))) * 1 := mul_le_mul h1 hi.2 hi.1 (by positivity)
      _ ≤ _ := by nlinarith [mul_self_nonneg M]
  refine ⟨μ, Real.sqrt v, by linarith, ?_, ?_, ?_, ?_, ?_⟩
  · rw [abs_of_nonneg (Real.sqrt_nonneg _)]
    exact (Real.sqrt_le_sqrt hvb).trans (by rw [Real.sqrt_sq (by positivity)])
  · simp only [e0]; rw [coe_sum, ← EReal.coe_mul]
  · have e2 : ∀ r, hk r * hk r = ((if (r.val : ℤ) < len.toInt then H r * H r else 0 : ℝ) : EReal) := fun r => by
      rw [e0, ← EReal.coe_mul]; congr 1; split <;> ring
    simp only [e2]
    rw [coe_sum, ← EReal.coe_mul, ← EReal.coe_mul, ← EReal.coe_sub, hv, max_eq_left (by rw [← EReal.coe_zero, EReal.coe_le_coe_iff]; exact hv0), sqrt_of v hv0]
  · simp only [e0']; rw [coe_sum, div_cnt, ← EReal.coe_mul]
  · have e3 : ∀ r : Fin 768, (if (r.val : ℤ) < len.toInt then (h r - (μ : EReal)) * (h r - (μ : EReal)) else 0) = ((if (r.val : ℤ) < len.toInt then (H r - μ) * (H r - μ) else 0 : ℝ) : EReal) := fun r => by
      rw [hH]; split
      · rw [← EReal.coe_sub, ← EReal.coe_mul]
      · simp
    simp only [e3]
    rw [coe_sum, div_cnt, ← EReal.coe_mul, ← hidef, ← hvd, sqrt_of v hv0]

theorem third_bits : ∃ c : ℝ, 0 ≤ c ∧ c ≤ 1 ∧ Ideal.ofBits FTy.f32 991054117#32 = (c : EReal) := by
  refine ⟨(9586981 : ℝ) * 2 ^ (-32 : ℤ), by positivity, by norm_num, ?_⟩
  simp [Ideal.ofBits, Ideal.ieee, -EReal.coe_mul]

theorem one_bits : Ideal.ofBits FTy.f32 1065353216#32 = 1 := by
  rw [show (1 : EReal) = ((1 : ℝ) : EReal) by norm_cast]
  simp [Ideal.ofBits, Ideal.ieee, -EReal.coe_mul]; norm_num

theorem bot_bits : Ideal.ofBits FTy.f32 4286578688#32 = ⊥ := by
  simp [Ideal.ofBits, Ideal.ieee]

/-- The largest magnitude over 448, for a bounded row: it is below 2^100. -/
theorem amax (g : Fin 3072 → EReal) (K : ℝ) (hK : K < 2 ^ (100 : ℤ)) (h : ∀ c, ∃ G : ℝ, g c = G ∧ |G| ≤ K) :
    ∃ q : ℝ, q < 2 ^ (100 : ℤ) ∧ Finset.fold max (Ideal.ofBits FTy.f32 4286578688#32) (fun x => max (g x) (-(g x))) Finset.univ * Ideal.ofBits FTy.f32 991054117#32 = (q : EReal) := by
  obtain ⟨c, hc0, hc1, hc⟩ := third_bits
  rw [bot_bits, hc]
  have hmag : ∀ x, ∃ G : ℝ, max (g x) (-(g x)) = ((|G| : ℝ) : EReal) ∧ |G| ≤ K := fun x => by
    obtain ⟨G, e, hG⟩ := h x
    refine ⟨G, ?_, hG⟩
    rw [e, ← EReal.coe_neg, abs]
    exact (EReal.coe_strictMono.monotone.map_max).symm
  have hup : Finset.fold max (⊥ : EReal) (fun x => max (g x) (-(g x))) Finset.univ ≤ (K : EReal) := by
    rw [Finset.fold_max_le]
    refine ⟨bot_le, fun x _ => ?_⟩
    obtain ⟨G, e, hG⟩ := hmag x
    rw [e, EReal.coe_le_coe_iff]; exact hG
  have hlo : (0 : EReal) ≤ Finset.fold max (⊥ : EReal) (fun x => max (g x) (-(g x))) Finset.univ := by
    rw [Finset.le_fold_max]
    obtain ⟨G, e, hG⟩ := hmag 0
    exact Or.inr ⟨0, Finset.mem_univ _, by rw [e, ← EReal.coe_zero, EReal.coe_le_coe_iff]; exact abs_nonneg _⟩
  generalize Finset.fold max (⊥ : EReal) (fun x => max (g x) (-(g x))) Finset.univ = A at hup hlo ⊢
  induction A with
  | bot => exact absurd hlo (by simp)
  | top => exact absurd hup (by simp)
  | coe A =>
    have h1 : A ≤ K := EReal.coe_le_coe_iff.mp hup
    have h2 : 0 ≤ A := EReal.coe_nonneg.mp hlo
    exact ⟨A * c, by nlinarith, (EReal.coe_mul _ _).symm⟩

end Cert.Moments

end
-- ==== Proof.Softmax.lean ====
module

public import proofs.«01_k».proof.Proof.ReferenceIdealValue
public import proofs.«01_k».proof.Proof.Moments

@[expose] public section

/-!
The weighted moments of a channel over the extended reals, for finite logits and frames: the kernel's weights are
the bare exponentials, divided by their sum at the end; the reference's are a softmax with its largest logit taken
off. The means and the deviations are equal.
-/

set_option maxRecDepth 16384

noncomputable section

namespace Cert.Softmax

open Idealize.ShloMosaic
open Cert.ReferenceIdeal.Run (low peak alpha muR sdR)

theorem sum_coe {n : ℕ} (f : Fin n → ℝ) : ∑ r : Fin n, (f r : EReal) = ((∑ r : Fin n, f r : ℝ) : EReal) := by
  induction (Finset.univ : Finset (Fin n)) using Finset.induction_on with
  | empty => simp
  | insert a s ha ih => rw [Finset.sum_insert ha, Finset.sum_insert ha, ih, EReal.coe_add]

theorem tanh_real (x : EReal) : ∃ t : ℝ, Ideal.tanh x = (t : EReal) := by
  induction x with
  | bot => exact ⟨-1, by show (-1 : EReal) = _; simp⟩
  | top => exact ⟨1, by show (1 : EReal) = _; simp⟩
  | coe X => exact ⟨Real.tanh X, rfl⟩

theorem div_real (a b : ℝ) (hb : b ≠ 0) : Ideal.div (a : EReal) (b : EReal) = ((a * b⁻¹ : ℝ) : EReal) := by
  unfold Ideal.div
  rw [if_neg (by rw [← EReal.coe_zero, EReal.coe_eq_coe_iff]; exact hb), EReal.coe_mul, EReal.coe_inv]

/-- The weighted variance two ways, over the reals. -/
theorem variance (P H : Fin 768 → ℝ) (T μ : ℝ) (hT : T ≠ 0) (hs : ∑ r, P r = T) (hμ : (∑ r, P r * H r) * T⁻¹ = μ) :
    (∑ r, P r * H r * H r) * T⁻¹ - μ * μ = ∑ r, P r * T⁻¹ * ((H r - μ) * (H r - μ)) := by
  have e : ∑ r, P r * T⁻¹ * ((H r - μ) * (H r - μ)) = (∑ r, P r * H r * H r) * T⁻¹ - 2 * μ * ((∑ r, P r * H r) * T⁻¹) + μ * μ * ((∑ r, P r) * T⁻¹) := by
    simp only [Finset.sum_mul, Finset.mul_sum]
    rw [← Finset.sum_sub_distrib, ← Finset.sum_add_distrib]
    exact Finset.sum_congr rfl fun r _ => by ring
  rw [e, hμ, hs, mul_inv_cancel₀ hT]
  ring

section
variable (len : BitVec 32) (h1 : 0 < len.toInt) (S H : Fin 768 → ℝ) (e h p hk : Fin 768 → EReal)
  (he : ∀ r : Fin 768, e r = if (r.val : ℤ) < len.toInt then (S r : EReal) else low)
  (hh : ∀ r, h r = (H r : EReal))
  (hp : ∀ r : Fin 768, p r = if (r.val : ℤ) < len.toInt then ((Real.exp (S r) : ℝ) : EReal) else 0)
  (hhk : ∀ r : Fin 768, hk r = if (r.val : ℤ) < len.toInt then h r else 0)

/-- The weight of a frame, a real number. -/
def wt (r : Fin 768) : ℝ := if (r.val : ℤ) < len.toInt then Real.exp (S r) else 0

theorem wt_nonneg (r : Fin 768) : 0 ≤ wt len S r := by
  unfold wt; split
  · exact (Real.exp_pos _).le
  · exact le_rfl

include h1 in
theorem total_pos : 0 < ∑ r, wt len S r := by
  refine Finset.sum_pos' (fun r _ => wt_nonneg len S r) ⟨0, Finset.mem_univ _, ?_⟩
  unfold wt
  rw [if_pos (by simpa using h1)]
  exact Real.exp_pos _

include h1 he in
theorem peak_real : ∃ K : ℝ, peak e = (K : EReal) := by
  unfold peak
  rw [show (low : EReal) = ⊥ from Moments.bot_bits]
  have hup : max ⊥ (Finset.fold max (⊥ : EReal) e Finset.univ) ≤ ((∑ r, |S r| : ℝ) : EReal) := by
    refine max_le bot_le ?_
    rw [Finset.fold_max_le]
    refine ⟨bot_le, fun r _ => ?_⟩
    rw [he]
    split
    · rw [EReal.coe_le_coe_iff]
      exact (le_abs_self _).trans (Finset.single_le_sum (f := fun r => |S r|) (fun i _ => abs_nonneg _) (Finset.mem_univ r))
    · exact (show (low : EReal) = ⊥ from Moments.bot_bits) ▸ bot_le
  have hlo : ((S 0 : ℝ) : EReal) ≤ max ⊥ (Finset.fold max (⊥ : EReal) e Finset.univ) := by
    refine le_trans ?_ (le_max_right _ _)
    rw [Finset.le_fold_max]
    exact Or.inr ⟨0, Finset.mem_univ _, by rw [he, if_pos (by simpa using h1)]⟩
  generalize max ⊥ (Finset.fold max (⊥ : EReal) e Finset.univ) = A at hup hlo ⊢
  induction A with
  | bot => exact absurd hlo (by simp)
  | top => exact absurd hup (by simp)
  | coe A => exact ⟨A, rfl⟩

include h1 he in
theorem alpha_real (r : Fin 768) : alpha e r = ((wt len S r * (∑ s, wt len S s)⁻¹ : ℝ) : EReal) := by
  obtain ⟨K, hK⟩ := peak_real len h1 S e he
  have hx : ∀ s, Ideal.exp (e s - peak e) = ((wt len S s * Real.exp (-K) : ℝ) : EReal) := fun s => by
    rw [hK, he]
    unfold wt
    split
    · rw [← EReal.coe_sub, ← Real.exp_add]; rfl
    · rw [show (low : EReal) = ⊥ from Moments.bot_bits, zero_mul]
      rw [show (⊥ : EReal) - (K : EReal) = ⊥ from EReal.bot_sub _]
      exact EReal.coe_zero.symm
  have hT := total_pos len h1 S
  unfold alpha
  simp only [hx]
  rw [sum_coe, ← Finset.sum_mul, div_real _ _ (mul_pos hT (Real.exp_pos _)).ne']
  congr 1
  have := Real.exp_pos (-K)
  field_simp

include h1 he hh hp hhk in
/-- The moments agree. -/
theorem attend : (∑ r, p r * hk r) * Ideal.div (Ideal.ofBits .f32 1065353216#32) (∑ r, p r) = muR e h
    ∧ Ideal.sqrt (max ((∑ r, p r * hk r * hk r) * Ideal.div (Ideal.ofBits .f32 1065353216#32) (∑ r, p r) - muR e h * muR e h) 0) = sdR e h := by
  have hT := total_pos len h1 S
  have hp' : ∀ r, p r = ((wt len S r : ℝ) : EReal) := fun r => by
    rw [hp]; unfold wt; split <;> simp
  have h2 : ∀ r, p r * hk r = ((wt len S r * H r : ℝ) : EReal) := fun r => by
    rw [hp, hhk, hh]; unfold wt; split
    · rw [← EReal.coe_mul]
    · simp
  have h3 : ∀ r, p r * hk r * hk r = ((wt len S r * H r * H r : ℝ) : EReal) := fun r => by
    rw [h2, hhk, hh]; unfold wt; split
    · rw [← EReal.coe_mul]
    · simp
  have hd : Ideal.div (Ideal.ofBits .f32 1065353216#32) (∑ r, p r) = (((∑ r, wt len S r)⁻¹ : ℝ) : EReal) := by
    simp only [hp']
    rw [sum_coe, Moments.one_bits, ← EReal.coe_one, div_real _ _ hT.ne', one_mul]
  have hm : muR e h = (((∑ r, wt len S r * H r) * (∑ r, wt len S r)⁻¹ : ℝ) : EReal) := by
    unfold muR
    simp only [alpha_real len h1 S e he, hh, ← EReal.coe_mul]
    rw [sum_coe, Finset.sum_mul]
    exact congrArg _ (Finset.sum_congr rfl fun r _ => by ring)
  refine ⟨?_, ?_⟩
  · rw [hd, hm]
    simp only [h2]
    rw [sum_coe, ← EReal.coe_mul]
  · rw [hd]
    unfold sdR
    simp only [h3, hm, alpha_real len h1 S e he, hh, ← EReal.coe_mul, ← EReal.coe_sub]
    rw [sum_coe, sum_coe, ← EReal.coe_mul, ← EReal.coe_sub, variance (wt len S) H _ _ hT.ne' rfl rfl, max_eq_left]
    rw [← EReal.coe_zero, EReal.coe_le_coe_iff]
    exact Finset.sum_nonneg fun r _ => mul_nonneg (mul_nonneg (wt_nonneg len S r) (inv_nonneg.mpr hT.le)) (mul_self_nonneg _)
end

end Cert.Softmax

end
-- ==== Proof.Match.lean ====
module

public import proofs.«01_k».proof.Proof.KernelIdealEnd
public import proofs.«01_k».proof.Proof.ReferenceIdealValue
public import proofs.«01_k».proof.Proof.Moments
public import proofs.«01_k».proof.Proof.Softmax

@[expose] public section

/-!
One row of the batch, both ways: for finite frames the kernel's statistics, scale, codes, activation and pooled vector are
the reference's.
-/

set_option maxRecDepth 16384

noncomputable section

namespace Cert.Match

open Idealize.ShloMosaic Idealize.ShloMosaic.TcCoe Idealize.ShloMosaic.Pointwise
open Cert.KernelIdeal.Run (V25 V28 SC GX codeRow scaleRow zAt hv zf hvV zU poolRow muK sdK accK accT pAt)
open Cert.KernelIdeal.Gen (k0_pay313 k0_pay322 k0_pay323 k0_pay324 k0_pay325 k0_pay326 k0_pay327 k0_pay328 k0_pay329 k0_pay330)
open Cert.ReferenceIdeal.Run (hR gR qR codeR zR zG zH A meanR devR logit muR sdR low)

/-- The group of a channel. -/
def grp (c : Fin 1536) : Fin 12 := ⟨c.val / 128, by omega⟩

theorem inv_at (len : BitVec 32) : k0_pay313 (F := Ideal) len = (((Moments.cnt len)⁻¹ : ℝ) : EReal) := by
  unfold k0_pay313
  show Ideal.div (Ideal.ofBits .f32 1065353216#32) (((IntOp.maxsi len 1#32).toInt : ℝ) : EReal) = _
  rw [Moments.one_bits]
  exact Moments.inv_cnt len

theorem pay322_at (v6 : EReal) (v25 : FVec Ideal KernelIdeal.S1x1536 .f32) (v28 : FVec Ideal KernelIdeal.S1536 .f32) (c : Fin 3072) :
    k0_pay322 (F := Ideal) v6 v25 v28 (ix2 0 c) = if h : c.val < 1536 then v25 (ix2 0 ⟨c.val, h⟩)
      else Ideal.sqrt (max (v28 (ix1 ⟨c.val - 1536, by omega⟩) * v6 - v25 (ix2 0 ⟨c.val - 1536, by omega⟩) * v25 (ix2 0 ⟨c.val - 1536, by omega⟩)) 0) := by
  pointwise [k0_pay322]

/-- A row's value for its scale, as the kernel takes it. -/
def qK (v6 : EReal) (v25 : FVec Ideal KernelIdeal.S1x1536 .f32) (v28 : FVec Ideal KernelIdeal.S1536 .f32) : EReal :=
  Finset.fold max (Ideal.ofBits FTy.f32 4286578688#32) (fun x : Fin 3072 => max (k0_pay322 (F := Ideal) v6 v25 v28 (ix2 0 x)) (-(k0_pay322 (F := Ideal) v6 v25 v28 (ix2 0 x)))) Finset.univ
    * Ideal.ofBits FTy.f32 991054117#32

theorem pay323_at (v6 : EReal) (v25 : FVec Ideal KernelIdeal.S1x1536 .f32) (v28 : FVec Ideal KernelIdeal.S1536 .f32) :
    k0_pay323 (F := Ideal) v6 v25 v28 (ix2 0 0) = Quantiser.expo (qK v6 v25 v28) := by
  pointwise [k0_pay323]
  rfl

theorem pay324_at (v6 : EReal) (v25 : FVec Ideal KernelIdeal.S1x1536 .f32) (v28 : FVec Ideal KernelIdeal.S1536 .f32) :
    k0_pay324 (F := Ideal) v6 v25 v28 (ix2 0 0) = Quantiser.pw (IntOp.addi (Quantiser.expo (qK v6 v25 v28)) 127#32) := by
  pointwise [k0_pay324]
  rw [pay323_at]

theorem pay325_at (v6 : EReal) (v25 : FVec Ideal KernelIdeal.S1x1536 .f32) (v28 : FVec Ideal KernelIdeal.S1536 .f32) (c : Fin 3072) :
    k0_pay325 (F := Ideal) v6 v25 v28 (ix2 0 c) = k0_pay322 (F := Ideal) v6 v25 v28 (ix2 0 c) * Quantiser.pw (IntOp.subi 127#32 (Quantiser.expo (qK v6 v25 v28))) := by
  pointwise [k0_pay325]
  rw [pay323_at]

theorem pay328_at (a b : FVec Ideal KernelIdeal.S1x3072 .f32) (c : Fin 3072) :
    k0_pay328 (F := Ideal) a KernelIdeal.Run.top b (ix2 0 c) = min (Ideal.ofBits FTy.f32 1138753536#32) (max (b (ix2 0 c)) (a (ix2 0 c))) := by
  pointwise [k0_pay328, k0_pay327]

theorem pay329_at (a : FVec Ideal KernelIdeal.S1x1 .f32) (c : Fin 128) : k0_pay329 (F := Ideal) a (ix2 0 c) = a (ix2 0 0) := by
  pointwise [k0_pay329]

theorem pay326_at (c : Fin 3072) : k0_pay326 (F := Ideal) (ix2 0 c) = Ideal.ofBits FTy.f32 3286237184#32 := by
  pointwise [k0_pay326]

theorem pay330_at (v65 : FVec Ideal KernelIdeal.S1x1 .f32) (v72 v73 : FVec Ideal KernelIdeal.S1x3072 .f32) (v85 : KernelIdeal.S3072x128.Idx → EReal) (v89 v92 : KernelIdeal.S1x128.Idx → EReal) (a : Fin 128) :
    k0_pay330 (F := Ideal) v65 v72 KernelIdeal.Run.top v73 v85 v89 v92 (ix2 0 a)
      = (∑ x : Fin 3072, min (Ideal.ofBits FTy.f32 1138753536#32) (max (v73 (ix2 0 x)) (v72 (ix2 0 x))) * v85 (ix2 x a)) * v65 (ix2 0 0) * v89 (ix2 0 a) + v92 (ix2 0 a) := by
  pointwise [k0_pay330, k0_pay327]

section
variable (m : (ℓ : Loc ReferenceIdeal.nD ReferenceIdeal.τ ReferenceIdeal.sig) → Buf (Elt Ideal) ℓ) (b : Fin 64)
  (len : BitVec 32) (hlen : len.toInt ≤ 768) (hL : (A m 2 (ix2 b 0) : BitVec 32) = len)
  (x : KernelIdeal.S1x768x1536.Idx → EReal) (xs : KernelIdeal.S1x768x12.Idx → EReal)
  (hx : ∀ r c, hR (A m 0) (A m 1) b r c = x (ix3 0 r c) * xs (ix3 0 r (grp c)))
  (hfin : ∀ r c, ∃ H : ℝ, hR (A m 0) (A m 1) b r c = (H : EReal) ∧ |H| ≤ 448 * 2 ^ 60)

include hx in
theorem hv_at (r : Fin 768) (c : Fin 1536) : hv len x xs r c = if (r.val : ℤ) < len.toInt then hR (A m 0) (A m 1) b r c else 0 := by
  rw [hx]; unfold hv
  split
  · rfl
  · rw [mul_zero]

include hx hfin hlen hL in
/-- The moments of a channel agree and are bounded. -/
theorem channel (c : Fin 1536) : ∃ μ σ : ℝ, |μ| ≤ 21532 * (448 * 2 ^ 60) ∧ |σ| ≤ 21532 * (448 * 2 ^ 60)
    ∧ V25 len x xs (ix2 0 c) = (μ : EReal)
    ∧ Ideal.sqrt (max (V28 len x xs (ix1 c) * k0_pay313 (F := Ideal) len - V25 len x xs (ix2 0 c) * V25 len x xs (ix2 0 c)) 0) = (σ : EReal)
    ∧ meanR (A m 0) (A m 1) (A m 2 (ix2 b 0)) b c = (μ : EReal) ∧ devR (A m 0) (A m 1) (A m 2 (ix2 b 0)) b c = (σ : EReal) := by
  choose H hH using fun r => hfin r c
  obtain ⟨μ, σ, h1, h2, h3, h4, h5, h6⟩ := Moments.moments len hlen (fun r => hR (A m 0) (A m 1) b r c) H (448 * 2 ^ 60) (by positivity)
    (fun r => (hH r).1) (fun r => (hH r).2) (fun r => hv len x xs r c) (fun r => hv_at m b len x xs hx r c)
  have e1 : V25 len x xs (ix2 0 c) = (μ : EReal) := by
    refine Eq.trans ?_ h3
    show (∑ r : Fin 768, hv len x xs r c) * k0_pay313 (F := Ideal) len = _
    rw [inv_at]
  have e3 : meanR (A m 0) (A m 1) (A m 2 (ix2 b 0)) b c = (μ : EReal) := by
    rw [hL]; unfold meanR
    rw [Moments.cnt_ref]; exact h5
  refine ⟨μ, σ, h1, h2, e1, ?_, e3, ?_⟩
  · rw [e1, inv_at]
    exact h4
  · unfold devR
    rw [e3, hL, Moments.cnt_ref]; exact h6

include hx hfin hlen hL in
theorem g_at (c : Fin 3072) : k0_pay322 (F := Ideal) (k0_pay313 (F := Ideal) len) (V25 len x xs) (V28 len x xs) (ix2 0 c) = gR m b c
    ∧ ∃ G : ℝ, gR m b c = (G : EReal) ∧ |G| ≤ 21532 * (448 * 2 ^ 60) := by
  rw [pay322_at]
  unfold gR
  split
  · rename_i h
    obtain ⟨μ, σ, h1, h2, h3, h4, h5, h6⟩ := channel m b len hlen hL x xs hx hfin ⟨c.val, h⟩
    exact ⟨h3.trans h5.symm, μ, h5, h1⟩
  · rename_i h
    obtain ⟨μ, σ, h1, h2, h3, h4, h5, h6⟩ := channel m b len hlen hL x xs hx hfin ⟨c.val - 1536, by omega⟩
    exact ⟨h4.trans h6.symm, σ, h6, h2⟩

include hx hfin hlen hL in
theorem q_at : qK (k0_pay313 (F := Ideal) len) (V25 len x xs) (V28 len x xs) = qR m b := by
  unfold qK qR
  simp only [fun c => (g_at m b len hlen hL x xs hx hfin c).1]

include hx hfin hlen hL in
theorem q_real : ∃ q : ℝ, q < 2 ^ (100 : ℤ) ∧ qR m b = (q : EReal) :=
  Moments.amax (gR m b) (21532 * (448 * 2 ^ 60)) (by norm_num) fun c => (g_at m b len hlen hL x xs hx hfin c).2

include hx hfin hlen hL in
theorem SC_at : SC len x xs (ix2 0 0) = Quantiser.least (qR m b) := by
  obtain ⟨q, h, e⟩ := q_real m b len hlen hL x xs hx hfin
  unfold SC
  rw [pay324_at, q_at m b len hlen hL x xs hx hfin, e]
  exact (Quantiser.scales q h).1

include hx hfin hlen hL in
theorem GX_at (c : Fin 3072) : GX len x xs (ix2 0 c) = Ideal.div (gR m b c) (Quantiser.least (qR m b)) := by
  obtain ⟨q, h, e⟩ := q_real m b len hlen hL x xs hx hfin
  unfold GX
  rw [pay325_at, q_at m b len hlen hL x xs hx hfin, (g_at m b len hlen hL x xs hx hfin c).1, e]
  exact (Quantiser.scales q h).2 _

include hx hfin hlen hL in
theorem scale_eq (a : Fin 128) : scaleRow len x xs (ix2 0 a) = Quantiser.least (qR m b) := by
  unfold scaleRow
  rw [pay329_at]; exact SC_at m b len hlen hL x xs hx hfin

include hx hfin hlen hL in
theorem code_eq (c : Fin 3072) : codeRow len x xs (ix2 0 c) = codeR m b c := by
  unfold codeRow codeR
  rw [pay328_at, pay326_at, GX_at m b len hlen hL x xs hx hfin]

include hx hfin hlen hL in
theorem z_eq (w1h : KernelIdeal.S1536x128.Idx → EReal) (w1hs : KernelIdeal.S1x128.Idx → EReal) (w1s : KernelIdeal.S3072x128.Idx → EReal)
    (w1ss b1 g1 s1 : KernelIdeal.S1x128.Idx → EReal) (r : Fin 768) (a : Fin 128) :
    zAt len x xs w1h w1hs w1s w1ss b1 g1 s1 r a
      = zG len (hR (A m 0) (A m 1) b r) w1h w1hs (codeR m b) (Quantiser.least (qR m b)) w1s w1ss b1 g1 s1 r a := by
  unfold zAt zG
  by_cases h : (r.val : ℤ) < len.toInt
  · rw [if_pos h, if_pos h, pay330_at, SC_at m b len hlen hL x xs hx hfin]
    simp only [GX_at m b len hlen hL x xs hx hfin, pay326_at, fun c => hv_at m b len x xs hx r c, if_pos h]
    unfold zf
    rw [← add_assoc]
    rfl
  · rw [if_neg h, if_neg h]

include hx hfin hlen hL in
theorem zU_eq (w1h : KernelIdeal.S1536x128.Idx → EReal) (w1hs : KernelIdeal.S1x128.Idx → EReal) (w1s : KernelIdeal.S3072x128.Idx → EReal)
    (w1ss b1 g1 s1 : KernelIdeal.S1x128.Idx → EReal) (r : Fin 768) (h : (r.val : ℤ) < len.toInt) (a : Fin 128) :
    zU len x xs w1h w1hs w1s w1ss b1 g1 s1 r a = zH (hR (A m 0) (A m 1) b r) w1h w1hs (codeR m b) (Quantiser.least (qR m b)) w1s w1ss b1 g1 s1 a := by
  unfold zU zH
  rw [pay330_at, SC_at m b len hlen hL x xs hx hfin]
  simp only [GX_at m b len hlen hL x xs hx hfin, pay326_at, fun c => hv_at m b len x xs hx r c, if_pos h]
  unfold zf
  rw [← add_assoc]
  rfl

include hx hfin hlen hL in
/-- The weighted moments of a channel agree. -/
theorem att_eq (hpos : 0 < len.toInt) (w1h : KernelIdeal.S1536x128.Idx → EReal) (w1hs : KernelIdeal.S1x128.Idx → EReal) (w1s : KernelIdeal.S3072x128.Idx → EReal)
    (w1ss b1 g1 s1 : KernelIdeal.S1x128.Idx → EReal) (w2 : KernelIdeal.S128x1536.Idx → EReal) (hw : ∀ y, ∃ W : ℝ, w2 y = (W : EReal)) (c : Fin 1536) :
    muK len (hvV len x xs) (zU len x xs w1h w1hs w1s w1ss b1 g1 s1) w2 c
        = muR (logit len (fun r => zH (hR (A m 0) (A m 1) b r) w1h w1hs (codeR m b) (Quantiser.least (qR m b)) w1s w1ss b1 g1 s1) w2 c) (fun r => hR (A m 0) (A m 1) b r c)
      ∧ sdK len (hvV len x xs) (zU len x xs w1h w1hs w1s w1ss b1 g1 s1) w2 c
        = sdR (logit len (fun r => zH (hR (A m 0) (A m 1) b r) w1h w1hs (codeR m b) (Quantiser.least (qR m b)) w1s w1ss b1 g1 s1) w2 c) (fun r => hR (A m 0) (A m 1) b r c) := by
  choose H hH using fun r => hfin r c
  choose W hW using hw
  have hZ : ∀ (r : Fin 768) (a : Fin 128), ∃ t : ℝ, zH (hR (A m 0) (A m 1) b r) w1h w1hs (codeR m b) (Quantiser.least (qR m b)) w1s w1ss b1 g1 s1 a = (t : EReal) := fun r a => Softmax.tanh_real _
  choose Z hZ using hZ
  have hS : ∀ r : Fin 768, ∑ a : Fin 128, zH (hR (A m 0) (A m 1) b r) w1h w1hs (codeR m b) (Quantiser.least (qR m b)) w1s w1ss b1 g1 s1 a * w2 (ix2 a c) = ((∑ a : Fin 128, Z r a * W (ix2 a c) : ℝ) : EReal) := fun r => by
    rw [← Softmax.sum_coe]
    exact Finset.sum_congr rfl fun a _ => by rw [hZ, hW, EReal.coe_mul]
  have att := Softmax.attend len hpos (fun r => ∑ a : Fin 128, Z r a * W (ix2 a c)) H
    (logit len (fun r => zH (hR (A m 0) (A m 1) b r) w1h w1hs (codeR m b) (Quantiser.least (qR m b)) w1s w1ss b1 g1 s1) w2 c)
    (fun r => hR (A m 0) (A m 1) b r c)
    (fun r => pAt len (zU len x xs w1h w1hs w1s w1ss b1 g1 s1) w2 r c) (fun r => hv len x xs r c)
    (fun r => by
      unfold logit
      split
      · exact hS r
      · rfl)
    (fun r => (hH r).1)
    (fun r => by
      unfold pAt
      by_cases h : (r.val : ℤ) < len.toInt
      · rw [if_pos h, if_pos h]
        simp only [zU_eq m b len hlen hL x xs hx hfin w1h w1hs w1s w1ss b1 g1 s1 r h]
        rw [hS]
        rfl
      · rw [if_neg h, if_neg h])
    (fun r => hv_at m b len x xs hx r c)
  have e1 : muK len (hvV len x xs) (zU len x xs w1h w1hs w1s w1ss b1 g1 s1) w2 c = _ := att.1
  refine ⟨e1, ?_⟩
  refine Eq.trans ?_ att.2
  unfold sdK
  rw [e1]
  rfl

include hx hfin hlen hL in
/-- The pooled row agrees. -/
theorem pool_eq (hpos : 0 < len.toInt) (w1h : KernelIdeal.S1536x128.Idx → EReal) (w1hs : KernelIdeal.S1x128.Idx → EReal) (w1s : KernelIdeal.S3072x128.Idx → EReal)
    (w1ss b1 g1 s1 : KernelIdeal.S1x128.Idx → EReal) (w2 : KernelIdeal.S128x1536.Idx → EReal) (hw : ∀ y, ∃ W : ℝ, w2 y = (W : EReal)) (c : Fin 3072) :
    poolRow len x xs w1h w1hs w1s w1ss b1 g1 s1 w2 c
      = if h : c.val < 1536 then muR (logit len (fun r => zH (hR (A m 0) (A m 1) b r) w1h w1hs (codeR m b) (Quantiser.least (qR m b)) w1s w1ss b1 g1 s1) w2 ⟨c.val, h⟩) (fun r => hR (A m 0) (A m 1) b r ⟨c.val, h⟩)
        else sdR (logit len (fun r => zH (hR (A m 0) (A m 1) b r) w1h w1hs (codeR m b) (Quantiser.least (qR m b)) w1s w1ss b1 g1 s1) w2 ⟨c.val - 1536, by omega⟩) (fun r => hR (A m 0) (A m 1) b r ⟨c.val - 1536, by omega⟩) := by
  unfold poolRow
  split
  · exact (att_eq m b len hlen hL x xs hx hfin hpos w1h w1hs w1s w1ss b1 g1 s1 w2 hw _).1
  · exact (att_eq m b len hlen hL x xs hx hfin hpos w1h w1hs w1s w1ss b1 g1 s1 w2 hw _).2
end

end Cert.Match

end
-- ==== Proof.Equal.lean ====
module

public import proofs.«01_k».proof.Proof.Match

@[expose] public section

/-!
The four results, both ways, from memories agreeing on the arguments: the arrays are equal.
-/

set_option maxRecDepth 16384

noncomputable section

namespace Cert.Match

open Idealize.ShloMosaic Idealize.ShloMosaic.TcCoe Idealize.ShloMosaic.Pointwise
open Cert.KernelIdeal.Run (lenAt B pt split3 poolArr zArr gcArr gsArr B9_at B0_at B1_at B2_at B3_at B4_at B5_at B6_at B7_at B8_at len_at)
open Cert.ReferenceIdeal.Run (hR gR qR codeR zR zG A poolRef zRef gcRef gsRef poolR eR A10_at A0_at A1_at A2_at A3_at A4_at A5_at A6_at A7_at A8_at A9_at)

theorem split2 {a b : ℕ} (y : (⟨2, ![a, b]⟩ : Shape).Idx) : ∃ (r : Fin a) (c : Fin b), y = ix2 r c :=
  ⟨y 0, y 1, by funext (q : Fin 2); match q with | 0 => rfl | 1 => rfl⟩

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (h0 : m' ((0 : Dev ReferenceIdeal.nD).tc.loc ReferenceIdeal.main_arg0) = m ((0 : Dev KernelIdeal.nD).tc.loc KernelIdeal.main_arg0))
  (h1 : m' ((0 : Dev ReferenceIdeal.nD).tc.loc ReferenceIdeal.main_arg1) = m ((0 : Dev KernelIdeal.nD).tc.loc KernelIdeal.main_arg1))
  (h2 : m' ((0 : Dev ReferenceIdeal.nD).tc.loc ReferenceIdeal.main_arg2) = m ((0 : Dev KernelIdeal.nD).tc.loc KernelIdeal.main_arg2))
  (h3 : m' ((0 : Dev ReferenceIdeal.nD).tc.loc ReferenceIdeal.main_arg3) = m ((0 : Dev KernelIdeal.nD).tc.loc KernelIdeal.main_arg3))
  (h4 : m' ((0 : Dev ReferenceIdeal.nD).tc.loc ReferenceIdeal.main_arg4) = m ((0 : Dev KernelIdeal.nD).tc.loc KernelIdeal.main_arg4))
  (h5 : m' ((0 : Dev ReferenceIdeal.nD).tc.loc ReferenceIdeal.main_arg5) = m ((0 : Dev KernelIdeal.nD).tc.loc KernelIdeal.main_arg5))
  (h6 : m' ((0 : Dev ReferenceIdeal.nD).tc.loc ReferenceIdeal.main_arg6) = m ((0 : Dev KernelIdeal.nD).tc.loc KernelIdeal.main_arg6))
  (h7 : m' ((0 : Dev ReferenceIdeal.nD).tc.loc ReferenceIdeal.main_arg7) = m ((0 : Dev KernelIdeal.nD).tc.loc KernelIdeal.main_arg7))
  (h8 : m' ((0 : Dev ReferenceIdeal.nD).tc.loc ReferenceIdeal.main_arg8) = m ((0 : Dev KernelIdeal.nD).tc.loc KernelIdeal.main_arg8))
  (h9 : m' ((0 : Dev ReferenceIdeal.nD).tc.loc ReferenceIdeal.main_arg9) = m ((0 : Dev KernelIdeal.nD).tc.loc KernelIdeal.main_arg9))
  (h10 : m' ((0 : Dev ReferenceIdeal.nD).tc.loc ReferenceIdeal.main_arg10) = m ((0 : Dev KernelIdeal.nD).tc.loc KernelIdeal.main_arg10))
  (hlen : ∀ x, (m ((0 : Dev KernelIdeal.nD).tc.loc KernelIdeal.main_arg2) x : BitVec 32).toInt ≤ 768)
  (hx : ∀ x, ∃ X : ℝ, (m ((0 : Dev KernelIdeal.nD).tc.loc KernelIdeal.main_arg0) x : EReal) = (X : EReal) ∧ |X| ≤ 448)
  (hs : ∀ x, ∃ X : ℝ, (m ((0 : Dev KernelIdeal.nD).tc.loc KernelIdeal.main_arg1) x : EReal) = (X : EReal) ∧ |X| ≤ 2 ^ 60)
  (hone : ∀ x, 1 ≤ (m ((0 : Dev KernelIdeal.nD).tc.loc KernelIdeal.main_arg2) x : BitVec 32).toInt)
  (hw2 : ∀ x, ∃ X : ℝ, (m ((0 : Dev KernelIdeal.nD).tc.loc KernelIdeal.main_arg10) x : EReal) = (X : EReal))

include h4 in
theorem row4 (b : Fin 64) : (A m' 4 : ReferenceIdeal.S1x128.Idx → EReal) = B m 3 (pt b) := by
  funext y
  obtain ⟨r, a, rfl⟩ := split2 y
  obtain rfl : r = 0 := Subsingleton.elim _ _
  exact (A4_at m' a).trans ((congrFun h4 _).trans (B3_at m (pt b) 0 a).symm)

include h6 in
theorem row6 (b : Fin 64) : (A m' 6 : ReferenceIdeal.S1x128.Idx → EReal) = B m 5 (pt b) := by
  funext y
  obtain ⟨r, a, rfl⟩ := split2 y
  obtain rfl : r = 0 := Subsingleton.elim _ _
  exact (A6_at m' a).trans ((congrFun h6 _).trans (B5_at m (pt b) 0 a).symm)

include h7 in
theorem row7 (b : Fin 64) : (A m' 7 : ReferenceIdeal.S1x128.Idx → EReal) = B m 6 (pt b) := by
  funext y
  obtain ⟨r, a, rfl⟩ := split2 y
  obtain rfl : r = 0 := Subsingleton.elim _ _
  exact (A7_at m' a).trans ((congrFun h7 _).trans (B6_at m (pt b) 0 a).symm)

include h8 in
theorem row8 (b : Fin 64) : (A m' 8 : ReferenceIdeal.S1x128.Idx → EReal) = B m 7 (pt b) := by
  funext y
  obtain ⟨r, a, rfl⟩ := split2 y
  obtain rfl : r = 0 := Subsingleton.elim _ _
  exact (A8_at m' a).trans ((congrFun h8 _).trans (B7_at m (pt b) 0 a).symm)

include h9 in
theorem row9 (b : Fin 64) : (A m' 9 : ReferenceIdeal.S1x128.Idx → EReal) = B m 8 (pt b) := by
  funext y
  obtain ⟨r, a, rfl⟩ := split2 y
  obtain rfl : r = 0 := Subsingleton.elim _ _
  exact (A9_at m' a).trans ((congrFun h9 _).trans (B8_at m (pt b) 0 a).symm)

include h3 in
theorem mat3 (b : Fin 64) : (A m' 3 : _ → EReal) = B m 2 (pt b) := by
  funext y
  obtain ⟨r, a, rfl⟩ := split2 y
  exact (A3_at m' r a).trans ((congrFun h3 _).trans (B2_at m (pt b) r a).symm)

include h5 in
theorem mat5 (b : Fin 64) : (A m' 5 : _ → EReal) = B m 4 (pt b) := by
  funext y
  obtain ⟨r, a, rfl⟩ := split2 y
  exact (A5_at m' r a).trans ((congrFun h5 _).trans (B4_at m (pt b) r a).symm)

include h10 in
theorem mat10 (b : Fin 64) : (A m' 10 : _ → EReal) = B m 9 (pt b) := by
  funext y
  obtain ⟨r, a, rfl⟩ := split2 y
  exact (A10_at m' r a).trans ((congrFun h10 _).trans (B9_at m (pt b) r a).symm)

include hw2 in
theorem fin10 (b : Fin 64) (y : KernelIdeal.S128x1536.Idx) : ∃ W : ℝ, B m 9 (pt b) y = (W : EReal) := by
  obtain ⟨r, a, rfl⟩ := split2 y
  obtain ⟨X, e⟩ := hw2 (ix2 r a)
  exact ⟨X, (B9_at m (pt b) r a).trans e⟩

include hone in
theorem len_one (b : Fin 64) : 0 < (lenAt m (pt b)).toInt := by
  rw [len_at]; exact Int.lt_of_lt_of_le Int.zero_lt_one (hone _)

include hlen in
theorem len_fit (b : Fin 64) : (lenAt m (pt b)).toInt ≤ 768 := by
  rw [len_at]; exact hlen _

include h2 in
theorem len_eq (b : Fin 64) : (A m' 2 (ix2 b 0) : BitVec 32) = lenAt m (pt b) :=
  (A2_at m' b).trans ((congrFun h2 _).trans (len_at m b).symm)

include h0 h1 in
theorem frame_eq (b : Fin 64) (r : Fin 768) (c : Fin 1536) : hR (A m' 0) (A m' 1) b r c
    = (fun (u : KernelIdeal.S1x768x1536.Idx → EReal) (v : KernelIdeal.S1x768x12.Idx → EReal) => u (ix3 0 r c) * v (ix3 0 r (grp c))) (B m 0 (pt b)) (B m 1 (pt b)) :=
  congrArg₂ (fun u v : EReal => u * v) ((A0_at m' b r c).trans ((congrFun h0 _).trans (B0_at m b r c).symm))
    ((A1_at m' b r _).trans ((congrFun h1 _).trans (B1_at m b r _).symm))

include h0 h1 hx hs in
theorem frame_fin (b : Fin 64) (r : Fin 768) (c : Fin 1536) : ∃ H : ℝ, hR (A m' 0) (A m' 1) b r c = (H : EReal) ∧ |H| ≤ 448 * 2 ^ 60 := by
  obtain ⟨X, e1, b1⟩ := hx (ix3 b r c)
  obtain ⟨Y, e2, b2⟩ := hs (ix3 b r (grp c))
  refine ⟨X * Y, ?_, ?_⟩
  · rw [EReal.coe_mul]
    exact congrArg₂ (fun u v : EReal => u * v) ((A0_at m' b r c).trans ((congrFun h0 _).trans e1))
      ((A1_at m' b r _).trans ((congrFun h1 _).trans e2))
  · rw [abs_mul]; exact mul_le_mul b1 b2 (abs_nonneg _) (by norm_num)

include h0 h1 h2 hlen hx hs in
/-- The scales are equal. -/
theorem scales_arr : gsRef m' = gsArr m := by
  funext y
  obtain ⟨b, a, rfl⟩ := split2 y
  exact (ReferenceIdeal.Run.gs_at m' b a).trans (scale_eq m' b _ (len_fit m hlen b) (len_eq m m' h2 b) _ _ (frame_eq m m' h0 h1 b) (frame_fin m m' h0 h1 hx hs b) a).symm

include h0 h1 h2 hlen hx hs in
/-- The codes are equal. -/
theorem codes_arr : gcRef m' = gcArr m := by
  funext y
  obtain ⟨b, c, rfl⟩ := split2 y
  exact (ReferenceIdeal.Run.gc_at m' b c).trans (code_eq m' b _ (len_fit m hlen b) (len_eq m m' h2 b) _ _ (frame_eq m m' h0 h1 b) (frame_fin m m' h0 h1 hx hs b) c).symm

include h0 h1 h2 h3 h4 h5 h6 h7 h8 h9 hlen hx hs in
/-- The activations are equal. -/
theorem z_arr : zRef m' = zArr m := by
  funext y
  obtain ⟨b, r, a, rfl⟩ := split3 y
  refine (ReferenceIdeal.Run.z_at m' b r a).trans (Eq.trans ?_ (z_eq m' b _ (len_fit m hlen b) (len_eq m m' h2 b) _ _ (frame_eq m m' h0 h1 b) (frame_fin m m' h0 h1 hx hs b)
    (B m 2 (pt b)) (B m 3 (pt b)) (B m 4 (pt b)) (B m 5 (pt b)) (B m 6 (pt b)) (B m 7 (pt b)) (B m 8 (pt b)) r a).symm)
  unfold zR
  rw [mat3 m m' h3 b, row4 m m' h4 b, mat5 m m' h5 b, row6 m m' h6 b, row7 m m' h7 b, row8 m m' h8 b, row9 m m' h9 b, len_eq m m' h2 b]

include h0 h1 h2 h3 h4 h5 h6 h7 h8 h9 h10 hlen hx hs hone hw2 in
/-- The pooled vectors are equal. -/
theorem pool_arr : poolRef m' = poolArr m := by
  funext y
  obtain ⟨b, c, rfl⟩ := split2 y
  refine (ReferenceIdeal.Run.pool_at m' b c).trans (Eq.trans ?_ (pool_eq m' b _ (len_fit m hlen b) (len_eq m m' h2 b) _ _ (frame_eq m m' h0 h1 b) (frame_fin m m' h0 h1 hx hs b) (len_one m hone b)
    (B m 2 (pt b)) (B m 3 (pt b)) (B m 4 (pt b)) (B m 5 (pt b)) (B m 6 (pt b)) (B m 7 (pt b)) (B m 8 (pt b)) (B m 9 (pt b)) (fin10 m hw2 b) c).symm)
  unfold poolR eR
  rw [mat3 m m' h3 b, row4 m m' h4 b, mat5 m m' h5 b, row6 m m' h6 b, row7 m m' h7 b, row8 m m' h8 b, row9 m m' h9 b, mat10 m m' h10 b, len_eq m m' h2 b]

end Cert.Match

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lengths_fit
public import proofs.«01_k».proof.Proof.Gen.Pre_inputs_fit
public import proofs.«01_k».proof.Proof.Lengths
public import proofs.«01_k».proof.Proof.Inputs
public import proofs.«01_k».proof.Proof.KernelRun
public import proofs.«01_k».proof.Proof.KernelIdealRun
public import proofs.«01_k».proof.Proof.Equal

@[expose] public section

noncomputable section

namespace Cert.Proof

open Idealize.ShloMosaic Idealize.SL.Sem Cert.Kernel

theorem value : Cert.algebraic_KernelIdeal_ReferenceIdeal_pre_inputs_fit (hKernelIdeal := Cert.KernelIdeal.Gen.facts)
    (hReferenceIdeal := Cert.ReferenceIdeal.Gen.facts) (hPre_inputs_fit := Cert.Pre_inputs_fit.Gen.facts) := by
  intro m g m' g' hp hag
  haveI := Cert.Pre_inputs_fit.Gen.facts
  obtain ⟨h0, h1, h2, h3, h4, h5, h6, h7, h8, h9, h10, _⟩ := hag 0
  have hl := Cert.Run.lengths_of_inputs m hp
  have hx := Cert.Run.codes_of_inputs m hp
  have hs := Cert.Run.scales_of_inputs m hp
  have ho := Cert.Run.ones_of_inputs m hp
  have hw := Cert.Run.w2_of_inputs m hp
  have ep := Cert.Match.pool_arr m m' h0 h1 h2 h3 h4 h5 h6 h7 h8 h9 h10 hl hx hs ho hw
  have ez := Cert.Match.z_arr m m' h0 h1 h2 h3 h4 h5 h6 h7 h8 h9 hl hx hs
  have ec := Cert.Match.codes_arr m m' h0 h1 h2 hl hx hs
  have es := Cert.Match.scales_arr m m' h0 h1 h2 hl hx hs
  refine ⟨fun _ => Cert.KernelIdeal.Run.poolArr m, fun _ => Cert.KernelIdeal.Run.zArr m, fun _ => Cert.KernelIdeal.Run.gcArr m, fun _ => Cert.KernelIdeal.Run.gsArr m, ?_, ?_⟩
  · refine (θ_run Cert.KernelIdeal.defs _ _).mono (fun r h c => ?_) (Cert.KernelIdeal.Run.val_run m g hl)
    obtain rfl : c = 0 := Subsingleton.elim _ _
    exact ⟨h.2.2.1, h.2.2.2.1, h.2.2.2.2.1, h.2.2.2.2.2, h.1 0⟩
  · refine (θ_run Cert.ReferenceIdeal.defs _ _).mono (fun r h c => ?_)
      (θ_run_and (Cert.ReferenceIdeal.Gen.unchanged m' g') (Cert.ReferenceIdeal.Run.ref_run m' g'))
    obtain rfl : c = 0 := Subsingleton.elim _ _
    exact ⟨h.2.1.trans ep, h.2.2.1.trans ez, h.2.2.2.1.trans ec, h.2.2.2.2.trans es, h.1 0⟩

theorem claim : Cert.Claim := ⟨Cert.Kernel.Gen.facts, Cert.KernelIdeal.Gen.facts, Cert.ReferenceIdeal.Gen.facts,
  Cert.Pre_lengths_fit.Gen.facts, Cert.Pre_inputs_fit.Gen.facts,
  fun m g h => Cert.Kernel.Run.frame_run m g (Cert.Run.lengths_of_pre_Kernel m h),
  fun m g h => Cert.KernelIdeal.Run.frame_run m g (Cert.Run.lengths_of_pre_KernelIdeal m h),
  fun m g h => Cert.KernelIdeal.Run.frame_run m g
    (haveI := Cert.Pre_inputs_fit.Gen.facts; Cert.Run.lengths_of_inputs m h),
  fun m g _ => Cert.ReferenceIdeal.Gen.frame m g,
  fun m g _ => Cert.ReferenceIdeal.Gen.frame m g,
  trivial, value⟩

end Cert.Proof

end
